-- ==== Defs.lean ====
def Pre_Kernel [hPre_ids_named : Cert.Pre_ids_named.Facts] (m : (ℓ : Loc Cert.Kernel.nD Cert.Kernel.τ Cert.Kernel.sig) → Buf (Elt Bits) ℓ) : Prop :=
  ∀ c : Dev Cert.Kernel.nD,
    (Cert.Pre_ids_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).1 = (fun _ => 1#1)
    ∧ (Cert.Pre_ids_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))).2 = (fun _ => 1#1)

def Pre_KernelIdeal [hPre_ids_named : Cert.Pre_ids_named.Facts] (m : (ℓ : Loc Cert.KernelIdeal.nD Cert.KernelIdeal.τ Cert.KernelIdeal.sig) → Buf (Elt Ideal) ℓ) : Prop :=
  ∀ c : Dev Cert.KernelIdeal.nD,
    (Cert.Pre_ids_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_ids_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_KernelIdeal_ids_named_hist [hPre_ids_named_hist : Cert.Pre_ids_named_hist.Facts] (m : (ℓ : Loc Cert.KernelIdeal.nD Cert.KernelIdeal.τ Cert.KernelIdeal.sig) → Buf (Elt Ideal) ℓ) : Prop :=
  ∀ c : Dev Cert.KernelIdeal.nD,
    (Cert.Pre_ids_named_hist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_ids_named_hist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_ids_named_hist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_named_hist [hPre_ids_named_hist : Cert.Pre_ids_named_hist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_named_hist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_ids_named_hist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_ids_named_hist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def quiescent_Kernel [hKernel : Cert.Kernel.Facts] [hPre_ids_named : Cert.Pre_ids_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ids_named : Cert.Pre_ids_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_ids_named_hist [hKernelIdeal : Cert.KernelIdeal.Facts] [hPre_ids_named_hist : Cert.Pre_ids_named_hist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_named_hist m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_named_hist [hReferenceIdeal : Cert.ReferenceIdeal.Facts] [hPre_ids_named_hist : Cert.Pre_ids_named_hist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_named_hist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_on_finished_pre_ids_named_hist [hKernelIdeal : Cert.KernelIdeal.Facts] [hReferenceIdeal : Cert.ReferenceIdeal.Facts] [hPre_ids_named_hist : Cert.Pre_ids_named_hist.Facts] [hOn_finished : Cert.On_finished.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_named_hist m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![6]⟩ : Shape).Idx, (Cert.On_finished.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v3) i = v0 c i)
          ∧ (∀ i : (⟨2, ![6, 4]⟩ : Shape).Idx, (Cert.On_finished.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v4) i = v1 c i)
          ∧ (∀ i : (⟨2, ![6, 32000]⟩ : Shape).Idx, (Cert.On_finished.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 i = 1#1 → r.2.mem ((c.tc : Thread Cert.KernelIdeal.nD Cert.KernelIdeal.τ).loc Cert.KernelIdeal.main_v2_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![6]⟩ : Shape).Idx, (Cert.On_finished.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v87) i = v0 c i)
          ∧ (∀ i : (⟨2, ![6, 4]⟩ : Shape).Idx, (Cert.On_finished.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v91) i = v1 c i)
          ∧ (∀ i : (⟨2, ![6, 32000]⟩ : Shape).Idx, (Cert.On_finished.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 i = 1#1 → r.2.mem ((c.tc : Thread Cert.ReferenceIdeal.nD Cert.ReferenceIdeal.τ).loc Cert.ReferenceIdeal.main_v75) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_named : Cert.Pre_ids_named.Facts) (hPre_ids_named_hist : Cert.Pre_ids_named_hist.Facts) (hOn_finished : Cert.On_finished.Facts),
    quiescent_Kernel (hKernel := hKernel) (hPre_ids_named := hPre_ids_named)
    ∧ quiescent_KernelIdeal (hKernelIdeal := hKernelIdeal) (hPre_ids_named := hPre_ids_named)
    ∧ quiescent_KernelIdeal_pre_ids_named_hist (hKernelIdeal := hKernelIdeal) (hPre_ids_named_hist := hPre_ids_named_hist)
    ∧ quiescent_ReferenceIdeal (hReferenceIdeal := hReferenceIdeal)
    ∧ quiescent_ReferenceIdeal_pre_ids_named_hist (hReferenceIdeal := hReferenceIdeal) (hPre_ids_named_hist := hPre_ids_named_hist)
    ∧ preserves_Kernel_KernelIdeal
    ∧ algebraic_KernelIdeal_ReferenceIdeal_on_finished_pre_ids_named_hist (hKernelIdeal := hKernelIdeal) (hReferenceIdeal := hReferenceIdeal) (hPre_ids_named_hist := hPre_ids_named_hist) (hOn_finished := hOn_finished)
-- ==== On_finished.lean ====
abbrev S6x8192 : Shape := ⟨2, ![6, 8192]⟩
abbrev S6 : Shape := ⟨1, ![6]⟩
abbrev S8192x32000 : Shape := ⟨2, ![8192, 32000]⟩
abbrev S32000 : Shape := ⟨1, ![32000]⟩
abbrev S6x4096 : Shape := ⟨2, ![6, 4096]⟩
abbrev S6x4 : Shape := ⟨2, ![6, 4]⟩
abbrev S6x36 : Shape := ⟨2, ![6, 36]⟩
abbrev S_ : Shape := ⟨0, ![]⟩
abbrev S1x32000 : Shape := ⟨2, ![1, 32000]⟩
abbrev S6x32000 : Shape := ⟨2, ![6, 32000]⟩

class Facts : Prop where
  bcast_S_S6 : S_.BroadcastsInDim S6 (![] : Fin 0 → Fin S6.rank)
  bcast_S_S6x4 : S_.BroadcastsInDim S6x4 (![] : Fin 0 → Fin S6x4.rank)
  bcast_S32000_S1x32000_1 : S32000.BroadcastsInDim S1x32000 (![1] : Fin 1 → Fin S1x32000.rank)
  bcast_S_S1x32000 : S_.BroadcastsInDim S1x32000 (![] : Fin 0 → Fin S1x32000.rank)
  bcast_S1x32000_S6x32000_0_1 : S1x32000.BroadcastsInDim S6x32000 (![0, 1] : Fin 2 → Fin S6x32000.rank)

variable [Facts]

def fn {F : FTy → Type} [FloatOps F] (main_arg0 : FVec F S6x8192 .fp8e4m3) (main_arg1 : FVec F S6 .f32) (main_arg2 : FVec F S8192x32000 .fp8e4m3) (main_arg3 : FVec F S32000 .f32) (main_arg4 : IVec S6x4096 32) (main_arg5 : IVec S6 32) (main_arg6 : FVec F S6 .f32) (main_arg7 : FVec F S6 .f32) (main_arg8 : FVec F S6 .f32) (main_arg9 : IVec S6x4 32) (main_arg10 : IVec S6x36 32) (main_arg11 : FVec F S6x36 .f32) : IVec S6 1 × IVec S6x4 1 × IVec S6x32000 1 :=
  let main_c : IVec S_ 1 := constantI S_ 1 0#1
  let main_v0 : IVec S6 1 := broadcastInDim S6 ![] bcast_S_S6 main_c
  let main_c_0 : IVec S_ 1 := constantI S_ 1 0#1
  let main_v1 : IVec S6x4 1 := broadcastInDim S6x4 ![] bcast_S_S6x4 main_c_0
  let main_v2 : IVec S32000 32 := iotaInDim S32000 32 0
  let main_v3 : IVec S1x32000 32 := broadcastInDim S1x32000 ![1] bcast_S32000_S1x32000_1 main_v2
  let main_c_1 : IVec S_ 32 := constantI S_ 32 29952#32
  let main_v4 : IVec S1x32000 32 := broadcastInDim S1x32000 ![] bcast_S_S1x32000 main_c_1
  let main_v5 : IVec S1x32000 1 := cmpi .slt main_v3 main_v4
  let main_v6 : IVec S6x32000 1 := broadcastInDim S6x32000 ![0, 1] bcast_S1x32000_S6x32000_0_1 main_v5
  (main_v0, main_v1, main_v6)
-- ==== Pre_ids_named.lean ====
abbrev S6x8192 : Shape := ⟨2, ![6, 8192]⟩
abbrev S6 : Shape := ⟨1, ![6]⟩
abbrev S8192x32000 : Shape := ⟨2, ![8192, 32000]⟩
abbrev S32000 : Shape := ⟨1, ![32000]⟩
abbrev S6x4096 : Shape := ⟨2, ![6, 4096]⟩
abbrev S6x4 : Shape := ⟨2, ![6, 4]⟩
abbrev S6x36 : Shape := ⟨2, ![6, 36]⟩
abbrev S_ : Shape := ⟨0, ![]⟩

class Facts : Prop where
  bcast_S_S6x4 : S_.BroadcastsInDim S6x4 (![] : Fin 0 → Fin S6x4.rank)
  bcast_S_S6x36 : S_.BroadcastsInDim S6x36 (![] : Fin 0 → Fin S6x36.rank)

variable [Facts]

def fn {F : FTy → Type} [FloatOps F] (main_arg0 : FVec F S6x8192 .fp8e4m3) (main_arg1 : FVec F S6 .f32) (main_arg2 : FVec F S8192x32000 .fp8e4m3) (main_arg3 : FVec F S32000 .f32) (main_arg4 : IVec S6x4096 32) (main_arg5 : IVec S6 32) (main_arg6 : FVec F S6 .f32) (main_arg7 : FVec F S6 .f32) (main_arg8 : FVec F S6 .f32) (main_arg9 : IVec S6x4 32) (main_arg10 : IVec S6x36 32) (main_arg11 : FVec F S6x36 .f32) : IVec S6x4 1 × IVec S6x36 1 :=
  let main_c : IVec S_ 32 := constantI S_ 32 0#32
  let main_v0 : IVec S6x4 32 := broadcastInDim S6x4 ![] bcast_S_S6x4 main_c
  let main_v1 : IVec S6x4 1 := cmpi .sge main_arg9 main_v0
  let main_c_0 : IVec S_ 32 := constantI S_ 32 32000#32
  let main_v2 : IVec S6x4 32 := broadcastInDim S6x4 ![] bcast_S_S6x4 main_c_0
  let main_v3 : IVec S6x4 1 := cmpi .slt main_arg9 main_v2
  let main_v4 : IVec S6x4 1 := andi main_v1 main_v3
  let main_c_1 : IVec S_ 32 := constantI S_ 32 0#32
  let main_v5 : IVec S6x36 32 := broadcastInDim S6x36 ![] bcast_S_S6x36 main_c_1
  let main_v6 : IVec S6x36 1 := cmpi .sge main_arg10 main_v5
  let main_c_2 : IVec S_ 32 := constantI S_ 32 32768#32
  let main_v7 : IVec S6x36 32 := broadcastInDim S6x36 ![] bcast_S_S6x36 main_c_2
  let main_v8 : IVec S6x36 1 := cmpi .slt main_arg10 main_v7
  let main_v9 : IVec S6x36 1 := andi main_v6 main_v8
  (main_v4, main_v9)
-- ==== Pre_ids_named_hist.lean ====
abbrev S6x8192 : Shape := ⟨2, ![6, 8192]⟩
abbrev S6 : Shape := ⟨1, ![6]⟩
abbrev S8192x32000 : Shape := ⟨2, ![8192, 32000]⟩
abbrev S32000 : Shape := ⟨1, ![32000]⟩
abbrev S6x4096 : Shape := ⟨2, ![6, 4096]⟩
abbrev S6x4 : Shape := ⟨2, ![6, 4]⟩
abbrev S6x36 : Shape := ⟨2, ![6, 36]⟩
abbrev S4096 : Shape := ⟨1, ![4096]⟩
abbrev S1x4096 : Shape := ⟨2, ![1, 4096]⟩
abbrev S6x1 : Shape := ⟨2, ![6, 1]⟩
abbrev S_ : Shape := ⟨0, ![]⟩

class Facts : Prop where
  bcast_S4096_S1x4096_1 : S4096.BroadcastsInDim S1x4096 (![1] : Fin 1 → Fin S1x4096.rank)
  bcast_S6_S6x1_0 : S6.BroadcastsInDim S6x1 (![0] : Fin 1 → Fin S6x1.rank)
  bcast_S1x4096_S6x4096_0_1 : S1x4096.BroadcastsInDim S6x4096 (![0, 1] : Fin 2 → Fin S6x4096.rank)
  bcast_S6x1_S6x4096_0_1 : S6x1.BroadcastsInDim S6x4096 (![0, 1] : Fin 2 → Fin S6x4096.rank)
  bcast_S_S6x4 : S_.BroadcastsInDim S6x4 (![] : Fin 0 → Fin S6x4.rank)
  bcast_S_S6x36 : S_.BroadcastsInDim S6x36 (![] : Fin 0 → Fin S6x36.rank)
  bcast_S_S6x4096 : S_.BroadcastsInDim S6x4096 (![] : Fin 0 → Fin S6x4096.rank)

variable [Facts]

def fn_part1 {F : FTy → Type} [FloatOps F] (main_v10 : IVec S6x4 1) (main_v15 : IVec S6x36 1) (main_v17 : IVec S6x4096 1) (main_v18 : IVec S6x4096 1) : IVec S6x4 1 × IVec S6x36 1 × IVec S6x4096 1 :=
  let main_v19 : IVec S6x4096 1 := ori main_v17 main_v18
  (main_v10, main_v15, main_v19)

def fn {F : FTy → Type} [FloatOps F] (main_arg0 : FVec F S6x8192 .fp8e4m3) (main_arg1 : FVec F S6 .f32) (main_arg2 : FVec F S8192x32000 .fp8e4m3) (main_arg3 : FVec F S32000 .f32) (main_arg4 : IVec S6x4096 32) (main_arg5 : IVec S6 32) (main_arg6 : FVec F S6 .f32) (main_arg7 : FVec F S6 .f32) (main_arg8 : FVec F S6 .f32) (main_arg9 : IVec S6x4 32) (main_arg10 : IVec S6x36 32) (main_arg11 : FVec F S6x36 .f32) : IVec S6x4 1 × IVec S6x36 1 × IVec S6x4096 1 :=
  let main_v0 : IVec S4096 32 := iotaInDim S4096 32 0
  let main_v1 : IVec S1x4096 32 := broadcastInDim S1x4096 ![1] bcast_S4096_S1x4096_1 main_v0
  let main_v2 : IVec S6x1 32 := broadcastInDim S6x1 ![0] bcast_S6_S6x1_0 main_arg5
  let main_v3 : IVec S6x4096 32 := broadcastInDim S6x4096 ![0, 1] bcast_S1x4096_S6x4096_0_1 main_v1
  let main_v4 : IVec S6x4096 32 := broadcastInDim S6x4096 ![0, 1] bcast_S6x1_S6x4096_0_1 main_v2
  let main_v5 : IVec S6x4096 1 := cmpi .slt main_v3 main_v4
  let main_c : IVec S_ 32 := constantI S_ 32 0#32
  let main_v6 : IVec S6x4 32 := broadcastInDim S6x4 ![] bcast_S_S6x4 main_c
  let main_v7 : IVec S6x4 1 := cmpi .sge main_arg9 main_v6
  let main_c_0 : IVec S_ 32 := constantI S_ 32 32000#32
  let main_v8 : IVec S6x4 32 := broadcastInDim S6x4 ![] bcast_S_S6x4 main_c_0
  let main_v9 : IVec S6x4 1 := cmpi .slt main_arg9 main_v8
  let main_v10 : IVec S6x4 1 := andi main_v7 main_v9
  let main_c_1 : IVec S_ 32 := constantI S_ 32 0#32
  let main_v11 : IVec S6x36 32 := broadcastInDim S6x36 ![] bcast_S_S6x36 main_c_1
  let main_v12 : IVec S6x36 1 := cmpi .sge main_arg10 main_v11
  let main_c_2 : IVec S_ 32 := constantI S_ 32 32768#32
  let main_v13 : IVec S6x36 32 := broadcastInDim S6x36 ![] bcast_S_S6x36 main_c_2
  let main_v14 : IVec S6x36 1 := cmpi .slt main_arg10 main_v13
  let main_v15 : IVec S6x36 1 := andi main_v12 main_v14
  let main_c_3 : IVec S_ 32 := constantI S_ 32 0#32
  let main_v16 : IVec S6x4096 32 := broadcastInDim S6x4096 ![] bcast_S_S6x4096 main_c_3
  let main_v17 : IVec S6x4096 1 := cmpi .sge main_arg4 main_v16
  let main_v18 : IVec S6x4096 1 := noti main_v5
  fn_part1 (F := F) main_v10 main_v15 main_v17 main_v18
-- ==== Kernel.lean ====
abbrev S6x8192 : Shape := ⟨2, ![6, 8192]⟩
abbrev S6 : Shape := ⟨1, ![6]⟩
abbrev S8192x32000 : Shape := ⟨2, ![8192, 32000]⟩
abbrev S32000 : Shape := ⟨1, ![32000]⟩
abbrev S6x4096 : Shape := ⟨2, ![6, 4096]⟩
abbrev S6x4 : Shape := ⟨2, ![6, 4]⟩
abbrev S6x36 : Shape := ⟨2, ![6, 36]⟩
abbrev S250x128 : Shape := ⟨2, ![250, 128]⟩
abbrev S4x6 : Shape := ⟨2, ![4, 6]⟩
abbrev S1x6 : Shape := ⟨2, ![1, 6]⟩
abbrev S6x32000 : Shape := ⟨2, ![6, 32000]⟩
abbrev S4x256x29952 : Shape := ⟨3, ![4, 256, 29952]⟩
abbrev S8192x2048 : Shape := ⟨2, ![8192, 2048]⟩
abbrev S32x8192 : Shape := ⟨2, ![32, 8192]⟩
abbrev S2048x128 : Shape := ⟨2, ![2048, 128]⟩
abbrev S4 : Shape := ⟨1, ![4]⟩
abbrev S11 : Shape := ⟨1, ![11]⟩
abbrev S1 : Shape := ⟨1, ![1]⟩
abbrev S_ : Shape := ⟨0, ![]⟩
abbrev S1x256x29952 : Shape := ⟨3, ![1, 256, 29952]⟩
abbrev S256x29952 : Shape := ⟨2, ![256, 29952]⟩
abbrev S8x8192 : Shape := ⟨2, ![8, 8192]⟩
abbrev S16x4096 : Shape := ⟨2, ![16, 4096]⟩
abbrev S1x4096 : Shape := ⟨2, ![1, 4096]⟩
abbrev S256x4096 : Shape := ⟨2, ![256, 4096]⟩
abbrev S128x4096 : Shape := ⟨2, ![128, 4096]⟩
abbrev S256x128 : Shape := ⟨2, ![256, 128]⟩
abbrev S1x128 : Shape := ⟨2, ![1, 128]⟩
abbrev S1x1 : Shape := ⟨2, ![1, 1]⟩
abbrev S32x256 : Shape := ⟨2, ![32, 256]⟩
abbrev S6x29952 : Shape := ⟨2, ![6, 29952]⟩
abbrev S32x29952 : Shape := ⟨2, ![32, 29952]⟩
abbrev S3072x2048 : Shape := ⟨2, ![3072, 2048]⟩
abbrev S2048x2048 : Shape := ⟨2, ![2048, 2048]⟩
abbrev S1024x2048 : Shape := ⟨2, ![1024, 2048]⟩
abbrev S512x2048 : Shape := ⟨2, ![512, 2048]⟩
abbrev S6x128 : Shape := ⟨2, ![6, 128]⟩
abbrev S6x2048 : Shape := ⟨2, ![6, 2048]⟩
abbrev S32x3072 : Shape := ⟨2, ![32, 3072]⟩
abbrev S32x2048 : Shape := ⟨2, ![32, 2048]⟩
abbrev S32x1024 : Shape := ⟨2, ![32, 1024]⟩
abbrev S32x512 : Shape := ⟨2, ![32, 512]⟩
abbrev S6x1 : Shape := ⟨2, ![6, 1]⟩
abbrev S128 : Shape := ⟨1, ![128]⟩

abbrev nBuf : Space → Nat
  | .hbm => 19
  | .vmem => 11
  | .smem => 8
  | _ => 0

abbrev bufTy : (tb : Table) → Fin (tcTables nBuf tb) → BufTy
  | .hbm, ⟨0, _⟩ => ⟨S6x8192, .fp8e4m3⟩
  | .hbm, ⟨1, _⟩ => ⟨S6, .f32⟩
  | .hbm, ⟨2, _⟩ => ⟨S8192x32000, .fp8e4m3⟩
  | .hbm, ⟨3, _⟩ => ⟨S32000, .f32⟩
  | .hbm, ⟨4, _⟩ => ⟨S6x4096, .i32⟩
  | .hbm, ⟨5, _⟩ => ⟨S6, .i32⟩
  | .hbm, ⟨6, _⟩ => ⟨S6, .f32⟩
  | .hbm, ⟨7, _⟩ => ⟨S6, .f32⟩
  | .hbm, ⟨8, _⟩ => ⟨S6, .f32⟩
  | .hbm, ⟨9, _⟩ => ⟨S6x4, .i32⟩
  | .hbm, ⟨10, _⟩ => ⟨S6x36, .i32⟩
  | .hbm, ⟨11, _⟩ => ⟨S6x36, .f32⟩
  | .hbm, ⟨12, _⟩ => ⟨S250x128, .f32⟩
  | .hbm, ⟨13, _⟩ => ⟨S4x6, .i32⟩
  | .hbm, ⟨14, _⟩ => ⟨S1x6, .f32⟩
  | .hbm, ⟨15, _⟩ => ⟨S4x6, .f32⟩
  | .hbm, ⟨16, _⟩ => ⟨S6x32000, .f32⟩
  | .hbm, ⟨17, _⟩ => ⟨S6, .f32⟩
  | .hbm, ⟨18, _⟩ => ⟨S6x4, .f32⟩
  | .local _ .vmem, ⟨0, _⟩ => ⟨S4x256x29952, .fp8e4m3⟩
  | .local _ .vmem, ⟨1, _⟩ => ⟨S8192x2048, .fp8e4m3⟩
  | .local _ .vmem, ⟨2, _⟩ => ⟨S6x8192, .fp8e4m3⟩
  | .local _ .vmem, ⟨3, _⟩ => ⟨S32x8192, .fp8e4m3⟩
  | .local _ .vmem, ⟨4, _⟩ => ⟨S250x128, .f32⟩
  | .local _ .vmem, ⟨5, _⟩ => ⟨S6x4096, .i32⟩
  | .local _ .vmem, ⟨6, _⟩ => ⟨S2048x128, .f32⟩
  | .local _ .vmem, ⟨7, _⟩ => ⟨S2048x128, .f32⟩
  | .local _ .vmem, ⟨8, _⟩ => ⟨S6x32000, .f32⟩
  | .local _ .vmem, ⟨9, _⟩ => ⟨S1x6, .f32⟩
  | .local _ .vmem, ⟨10, _⟩ => ⟨S4x6, .f32⟩
  | .local _ .smem, ⟨0, _⟩ => ⟨S6, .f32⟩
  | .local _ .smem, ⟨1, _⟩ => ⟨S6, .i32⟩
  | .local _ .smem, ⟨2, _⟩ => ⟨S6, .f32⟩
  | .local _ .smem, ⟨3, _⟩ => ⟨S6, .f32⟩
  | .local _ .smem, ⟨4, _⟩ => ⟨S6, .f32⟩
  | .local _ .smem, ⟨5, _⟩ => ⟨S4x6, .i32⟩
  | .local _ .smem, ⟨6, _⟩ => ⟨S6x36, .i32⟩
  | .local _ .smem, ⟨7, _⟩ => ⟨S6x36, .f32⟩
  | _, _ => ⟨S6x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v3 : Ref sig .tc := ⟨.hbm, 17, rfl⟩
abbrev main_v4 : Ref sig .tc := ⟨.hbm, 18, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.smem, 0, rfl⟩
abbrev cc0_scratch12 : Ref sig .tc := ⟨.smem, 1, rfl⟩
abbrev cc0_scratch13 : Ref sig .tc := ⟨.smem, 2, rfl⟩
abbrev cc0_scratch14 : Ref sig .tc := ⟨.smem, 3, rfl⟩
abbrev cc0_scratch15 : Ref sig .tc := ⟨.smem, 4, rfl⟩
abbrev cc0_scratch16 : Ref sig .tc := ⟨.smem, 5, rfl⟩
abbrev cc0_scratch17 : Ref sig .tc := ⟨.smem, 6, rfl⟩
abbrev cc0_scratch18 : Ref sig .tc := ⟨.smem, 7, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
@[reducible] def k0_t1_loop : Scf.Loop 32 :=
  let c0_i32_48 : BitVec 32 := 0#32
  let c6_i32_49 : BitVec 32 := 6#32
  let v93 : BitVec 32 := Scalar.addi c0_i32_48 c6_i32_49
  let c1_i32_50 : BitVec 32 := 1#32
  ⟨c0_i32_48, v93, c1_i32_50⟩
def k0_off1 (k0_t1 : Fin k0_t1_loop.trips) : Fin 2 → Nat :=
  let c0_i32_48 : BitVec 32 := 0#32
  let c1_i32_50 : BitVec 32 := 1#32
  let arg38 : BitVec 32 := Scf.iv c0_i32_48 c1_i32_50 k0_t1
  let v1296 : Index := Scalar.indexCast arg38
  let c0_518 : Index := 0#32
  ![v1296.toNat, 0]
def k0_off2 (k0_t1 : Fin k0_t1_loop.trips) : Fin 1 → Nat :=
  let c0_i32_48 : BitVec 32 := 0#32
  let c1_i32_50 : BitVec 32 := 1#32
  let arg38 : BitVec 32 := Scf.iv c0_i32_48 c1_i32_50 k0_t1
  let v1299 : Index := Scalar.indexCast arg38
  ![v1299.toNat]
def k0_off3 (k0_t1 : Fin k0_t1_loop.trips) : Fin 2 → Nat :=
  let c0_i32_48 : BitVec 32 := 0#32
  let c1_i32_50 : BitVec 32 := 1#32
  let arg38 : BitVec 32 := Scf.iv c0_i32_48 c1_i32_50 k0_t1
  let v1416 : Index := Scalar.indexCast arg38
  let c0_546 : Index := 0#32
  ![v1416.toNat, 0]
@[reducible] def k0_t2_loop : Scf.Loop 32 :=
  let c0_i32_52 : BitVec 32 := 0#32
  let c36_i32 : BitVec 32 := 36#32
  let v95 : BitVec 32 := Scalar.addi c0_i32_52 c36_i32
  let c1_i32_53 : BitVec 32 := 1#32
  ⟨c0_i32_52, v95, c1_i32_53⟩
def k0_off4 (k0_t2 : Fin k0_t2_loop.trips) : Fin 2 → Nat :=
  let c0_518 : Index := 0#32
  let c0_i32_52 : BitVec 32 := 0#32
  let c1_i32_53 : BitVec 32 := 1#32
  let arg38 : BitVec 32 := Scf.iv c0_i32_52 c1_i32_53 k0_t2
  let v1296 : Index := Scalar.indexCast arg38
  ![0, v1296.toNat]
def k0_off5 (k0_t2 : Fin k0_t2_loop.trips) : Fin 2 → Nat :=
  let c1_519 : Index := 1#32
  let c0_i32_52 : BitVec 32 := 0#32
  let c1_i32_53 : BitVec 32 := 1#32
  let arg38 : BitVec 32 := Scf.iv c0_i32_52 c1_i32_53 k0_t2
  let v1298 : Index := Scalar.indexCast arg38
  ![1, v1298.toNat]
def k0_off6 (k0_t2 : Fin k0_t2_loop.trips) : Fin 2 → Nat :=
  let c2_520 : Index := 2#32
  let c0_i32_52 : BitVec 32 := 0#32
  let c1_i32_53 : BitVec 32 := 1#32
  let arg38 : BitVec 32 := Scf.iv c0_i32_52 c1_i32_53 k0_t2
  let v1300 : Index := Scalar.indexCast arg38
  ![2, v1300.toNat]
def k0_off7 (k0_t2 : Fin k0_t2_loop.trips) : Fin 2 → Nat :=
  let c3_521 : Index := 3#32
  let c0_i32_52 : BitVec 32 := 0#32
  let c1_i32_53 : BitVec 32 := 1#32
  let arg38 : BitVec 32 := Scf.iv c0_i32_52 c1_i32_53 k0_t2
  let v1302 : Index := Scalar.indexCast arg38
  ![3, v1302.toNat]
def k0_off8 (k0_t2 : Fin k0_t2_loop.trips) : Fin 2 → Nat :=
  let c4_522 : Index := 4#32
  let c0_i32_52 : BitVec 32 := 0#32
  let c1_i32_53 : BitVec 32 := 1#32
  let arg38 : BitVec 32 := Scf.iv c0_i32_52 c1_i32_53 k0_t2
  let v1304 : Index := Scalar.indexCast arg38
  ![4, v1304.toNat]
def k0_off9 (k0_t2 : Fin k0_t2_loop.trips) : Fin 2 → Nat :=
  let c5_523 : Index := 5#32
  let c0_i32_52 : BitVec 32 := 0#32
  let c1_i32_53 : BitVec 32 := 1#32
  let arg38 : BitVec 32 := Scf.iv c0_i32_52 c1_i32_53 k0_t2
  let v1306 : Index := Scalar.indexCast arg38
  ![5, v1306.toNat]
def k0_off10 (v1297 : BitVec 32) : Fin 2 → Nat :=
  let c7_i32_524 : BitVec 32 := 7#32
  let v1308 : BitVec 32 := Scalar.shrsi v1297 c7_i32_524
  let c8_i32_525 : BitVec 32 := 8#32
  let v1309 : BitVec 32 := Scalar.muli v1308 c8_i32_525
  let c0_i32_526 : BitVec 32 := 0#32
  let v1310 : BitVec 32 := Scalar.addi v1309 c0_i32_526
  let v1326 : Index := Scalar.indexCast v1310
  let c0_542 : Index := 0#32
  ![v1326.toNat, 0]

def k0_off11 (k0_t2 : Fin k0_t2_loop.trips) : Fin 2 → Nat :=
  let c0_544 : Index := 0#32
  let c0_i32_52 : BitVec 32 := 0#32
  let c1_i32_53 : BitVec 32 := 1#32
  let arg38 : BitVec 32 := Scf.iv c0_i32_52 c1_i32_53 k0_t2
  let v1331 : Index := Scalar.indexCast arg38
  ![0, v1331.toNat]
def k0_off12 (v1299 : BitVec 32) : Fin 2 → Nat :=
  let c7_i32_527 : BitVec 32 := 7#32
  let v1311 : BitVec 32 := Scalar.shrsi v1299 c7_i32_527
  let c8_i32_528 : BitVec 32 := 8#32
  let v1312 : BitVec 32 := Scalar.muli v1311 c8_i32_528
  let c1_i32_529 : BitVec 32 := 1#32
  let v1313 : BitVec 32 := Scalar.addi v1312 c1_i32_529
  let v1337 : Index := Scalar.indexCast v1313
  let c0_546 : Index := 0#32
  ![v1337.toNat, 0]

def k0_off13 (k0_t2 : Fin k0_t2_loop.trips) : Fin 2 → Nat :=
  let c1_548 : Index := 1#32
  let c0_i32_52 : BitVec 32 := 0#32
  let c1_i32_53 : BitVec 32 := 1#32
  let arg38 : BitVec 32 := Scf.iv c0_i32_52 c1_i32_53 k0_t2
  let v1342 : Index := Scalar.indexCast arg38
  ![1, v1342.toNat]
def k0_off14 (v1301 : BitVec 32) : Fin 2 → Nat :=
  let c7_i32_530 : BitVec 32 := 7#32
  let v1314 : BitVec 32 := Scalar.shrsi v1301 c7_i32_530
  let c8_i32_531 : BitVec 32 := 8#32
  let v1315 : BitVec 32 := Scalar.muli v1314 c8_i32_531
  let c2_i32_532 : BitVec 32 := 2#32
  let v1316 : BitVec 32 := Scalar.addi v1315 c2_i32_532
  let v1348 : Index := Scalar.indexCast v1316
  let c0_550 : Index := 0#32
  ![v1348.toNat, 0]

def k0_off15 (k0_t2 : Fin k0_t2_loop.trips) : Fin 2 → Nat :=
  let c2_552 : Index := 2#32
  let c0_i32_52 : BitVec 32 := 0#32
  let c1_i32_53 : BitVec 32 := 1#32
  let arg38 : BitVec 32 := Scf.iv c0_i32_52 c1_i32_53 k0_t2
  let v1353 : Index := Scalar.indexCast arg38
  ![2, v1353.toNat]
def k0_off16 (v1303 : BitVec 32) : Fin 2 → Nat :=
  let c7_i32_533 : BitVec 32 := 7#32
  let v1317 : BitVec 32 := Scalar.shrsi v1303 c7_i32_533
  let c8_i32_534 : BitVec 32 := 8#32
  let v1318 : BitVec 32 := Scalar.muli v1317 c8_i32_534
  let c3_i32_535 : BitVec 32 := 3#32
  let v1319 : BitVec 32 := Scalar.addi v1318 c3_i32_535
  let v1359 : Index := Scalar.indexCast v1319
  let c0_554 : Index := 0#32
  ![v1359.toNat, 0]

def k0_off17 (k0_t2 : Fin k0_t2_loop.trips) : Fin 2 → Nat :=
  let c3_556 : Index := 3#32
  let c0_i32_52 : BitVec 32 := 0#32
  let c1_i32_53 : BitVec 32 := 1#32
  let arg38 : BitVec 32 := Scf.iv c0_i32_52 c1_i32_53 k0_t2
  let v1364 : Index := Scalar.indexCast arg38
  ![3, v1364.toNat]
def k0_off18 (v1305 : BitVec 32) : Fin 2 → Nat :=
  let c7_i32_536 : BitVec 32 := 7#32
  let v1320 : BitVec 32 := Scalar.shrsi v1305 c7_i32_536
  let c8_i32_537 : BitVec 32 := 8#32
  let v1321 : BitVec 32 := Scalar.muli v1320 c8_i32_537
  let c4_i32_538 : BitVec 32 := 4#32
  let v1322 : BitVec 32 := Scalar.addi v1321 c4_i32_538
  let v1370 : Index := Scalar.indexCast v1322
  let c0_558 : Index := 0#32
  ![v1370.toNat, 0]

def k0_off19 (k0_t2 : Fin k0_t2_loop.trips) : Fin 2 → Nat :=
  let c4_560 : Index := 4#32
  let c0_i32_52 : BitVec 32 := 0#32
  let c1_i32_53 : BitVec 32 := 1#32
  let arg38 : BitVec 32 := Scf.iv c0_i32_52 c1_i32_53 k0_t2
  let v1375 : Index := Scalar.indexCast arg38
  ![4, v1375.toNat]
def k0_off20 (v1307 : BitVec 32) : Fin 2 → Nat :=
  let c7_i32_539 : BitVec 32 := 7#32
  let v1323 : BitVec 32 := Scalar.shrsi v1307 c7_i32_539
  let c8_i32_540 : BitVec 32 := 8#32
  let v1324 : BitVec 32 := Scalar.muli v1323 c8_i32_540
  let c5_i32_541 : BitVec 32 := 5#32
  let v1325 : BitVec 32 := Scalar.addi v1324 c5_i32_541
  let v1381 : Index := Scalar.indexCast v1325
  let c0_562 : Index := 0#32
  ![v1381.toNat, 0]

def k0_chk6 (v1307 : BitVec 32) : Prop :=
  (∀ a, (k0_off20 v1307) a + S1x128.size a ≤ S2048x128.size a)
theorem k0_off20_inb : ∀ (v1307 : BitVec 32) (k0_hw6 : k0_chk6 v1307), ∀ a, (k0_off20 v1307) a + S1x128.size a ≤ S2048x128.size a := fun v1307 k0_hw6 => k0_hw6

def k0_off21 (k0_t2 : Fin k0_t2_loop.trips) : Fin 2 → Nat :=
  let c5_564 : Index := 5#32
  let c0_i32_52 : BitVec 32 := 0#32
  let c1_i32_53 : BitVec 32 := 1#32
  let arg38 : BitVec 32 := Scf.iv c0_i32_52 c1_i32_53 k0_t2
  let v1386 : Index := Scalar.indexCast arg38
  ![5, v1386.toNat]
def k0_off22 (v1297 : BitVec 32) : Fin 2 → Nat :=
  let c7_i32_524 : BitVec 32 := 7#32
  let v1308 : BitVec 32 := Scalar.shrsi v1297 c7_i32_524
  let c8_i32_525 : BitVec 32 := 8#32
  let v1309 : BitVec 32 := Scalar.muli v1308 c8_i32_525
  let c0_i32_526 : BitVec 32 := 0#32
  let v1310 : BitVec 32 := Scalar.addi v1309 c0_i32_526
  let v1392 : Index := Scalar.indexCast v1310
  let c0_566 : Index := 0#32
  ![v1392.toNat, 0]

def k0_chk1 (v1297 : BitVec 32) : Prop :=
  (∀ a, (k0_off10 v1297) a + S1x128.size a ≤ S2048x128.size a) ∧
  (∀ a, (k0_off22 v1297) a + S1x128.size a ≤ S2048x128.size a)
theorem k0_off10_inb : ∀ (v1297 : BitVec 32) (k0_hw1 : k0_chk1 v1297), ∀ a, (k0_off10 v1297) a + S1x128.size a ≤ S2048x128.size a := fun v1297 k0_hw1 => k0_hw1.1
theorem k0_off22_inb : ∀ (v1297 : BitVec 32) (k0_hw1 : k0_chk1 v1297), ∀ a, (k0_off22 v1297) a + S1x128.size a ≤ S2048x128.size a := fun v1297 k0_hw1 => k0_hw1.2

def k0_off23 (v1299 : BitVec 32) : Fin 2 → Nat :=
  let c7_i32_527 : BitVec 32 := 7#32
  let v1311 : BitVec 32 := Scalar.shrsi v1299 c7_i32_527
  let c8_i32_528 : BitVec 32 := 8#32
  let v1312 : BitVec 32 := Scalar.muli v1311 c8_i32_528
  let c1_i32_529 : BitVec 32 := 1#32
  let v1313 : BitVec 32 := Scalar.addi v1312 c1_i32_529
  let v1396 : Index := Scalar.indexCast v1313
  let c0_567 : Index := 0#32
  ![v1396.toNat, 0]

def k0_chk2 (v1299 : BitVec 32) : Prop :=
  (∀ a, (k0_off12 v1299) a + S1x128.size a ≤ S2048x128.size a) ∧
  (∀ a, (k0_off23 v1299) a + S1x128.size a ≤ S2048x128.size a)
theorem k0_off12_inb : ∀ (v1299 : BitVec 32) (k0_hw2 : k0_chk2 v1299), ∀ a, (k0_off12 v1299) a + S1x128.size a ≤ S2048x128.size a := fun v1299 k0_hw2 => k0_hw2.1
theorem k0_off23_inb : ∀ (v1299 : BitVec 32) (k0_hw2 : k0_chk2 v1299), ∀ a, (k0_off23 v1299) a + S1x128.size a ≤ S2048x128.size a := fun v1299 k0_hw2 => k0_hw2.2

def k0_off24 (v1301 : BitVec 32) : Fin 2 → Nat :=
  let c7_i32_530 : BitVec 32 := 7#32
  let v1314 : BitVec 32 := Scalar.shrsi v1301 c7_i32_530
  let c8_i32_531 : BitVec 32 := 8#32
  let v1315 : BitVec 32 := Scalar.muli v1314 c8_i32_531
  let c2_i32_532 : BitVec 32 := 2#32
  let v1316 : BitVec 32 := Scalar.addi v1315 c2_i32_532
  let v1400 : Index := Scalar.indexCast v1316
  let c0_568 : Index := 0#32
  ![v1400.toNat, 0]

def k0_chk3 (v1301 : BitVec 32) : Prop :=
  (∀ a, (k0_off14 v1301) a + S1x128.size a ≤ S2048x128.size a) ∧
  (∀ a, (k0_off24 v1301) a + S1x128.size a ≤ S2048x128.size a)
theorem k0_off14_inb : ∀ (v1301 : BitVec 32) (k0_hw3 : k0_chk3 v1301), ∀ a, (k0_off14 v1301) a + S1x128.size a ≤ S2048x128.size a := fun v1301 k0_hw3 => k0_hw3.1
theorem k0_off24_inb : ∀ (v1301 : BitVec 32) (k0_hw3 : k0_chk3 v1301), ∀ a, (k0_off24 v1301) a + S1x128.size a ≤ S2048x128.size a := fun v1301 k0_hw3 => k0_hw3.2

def k0_off25 (v1303 : BitVec 32) : Fin 2 → Nat :=
  let c7_i32_533 : BitVec 32 := 7#32
  let v1317 : BitVec 32 := Scalar.shrsi v1303 c7_i32_533
  let c8_i32_534 : BitVec 32 := 8#32
  let v1318 : BitVec 32 := Scalar.muli v1317 c8_i32_534
  let c3_i32_535 : BitVec 32 := 3#32
  let v1319 : BitVec 32 := Scalar.addi v1318 c3_i32_535
  let v1404 : Index := Scalar.indexCast v1319
  let c0_569 : Index := 0#32
  ![v1404.toNat, 0]

def k0_chk4 (v1303 : BitVec 32) : Prop :=
  (∀ a, (k0_off16 v1303) a + S1x128.size a ≤ S2048x128.size a) ∧
  (∀ a, (k0_off25 v1303) a + S1x128.size a ≤ S2048x128.size a)
theorem k0_off16_inb : ∀ (v1303 : BitVec 32) (k0_hw4 : k0_chk4 v1303), ∀ a, (k0_off16 v1303) a + S1x128.size a ≤ S2048x128.size a := fun v1303 k0_hw4 => k0_hw4.1
theorem k0_off25_inb : ∀ (v1303 : BitVec 32) (k0_hw4 : k0_chk4 v1303), ∀ a, (k0_off25 v1303) a + S1x128.size a ≤ S2048x128.size a := fun v1303 k0_hw4 => k0_hw4.2

def k0_off26 (v1305 : BitVec 32) : Fin 2 → Nat :=
  let c7_i32_536 : BitVec 32 := 7#32
  let v1320 : BitVec 32 := Scalar.shrsi v1305 c7_i32_536
  let c8_i32_537 : BitVec 32 := 8#32
  let v1321 : BitVec 32 := Scalar.muli v1320 c8_i32_537
  let c4_i32_538 : BitVec 32 := 4#32
  let v1322 : BitVec 32 := Scalar.addi v1321 c4_i32_538
  let v1408 : Index := Scalar.indexCast v1322
  let c0_570 : Index := 0#32
  ![v1408.toNat, 0]

def k0_chk5 (v1305 : BitVec 32) : Prop :=
  (∀ a, (k0_off18 v1305) a + S1x128.size a ≤ S2048x128.size a) ∧
  (∀ a, (k0_off26 v1305) a + S1x128.size a ≤ S2048x128.size a)
theorem k0_off18_inb : ∀ (v1305 : BitVec 32) (k0_hw5 : k0_chk5 v1305), ∀ a, (k0_off18 v1305) a + S1x128.size a ≤ S2048x128.size a := fun v1305 k0_hw5 => k0_hw5.1
theorem k0_off26_inb : ∀ (v1305 : BitVec 32) (k0_hw5 : k0_chk5 v1305), ∀ a, (k0_off26 v1305) a + S1x128.size a ≤ S2048x128.size a := fun v1305 k0_hw5 => k0_hw5.2

@[reducible] def k0_t3_loop : Scf.Loop 32 :=
  let c0_i32_55 : BitVec 32 := 0#32
  let c32_i32 : BitVec 32 := 32#32
  let v96 : BitVec 32 := Scalar.addi c0_i32_55 c32_i32
  let c1_i32_56 : BitVec 32 := 1#32
  ⟨c0_i32_55, v96, c1_i32_56⟩
def k0_mult5 (k0_t3 : Fin k0_t3_loop.trips) : BitVec 32 :=
  let c0_i32_55 : BitVec 32 := 0#32
  let c1_i32_56 : BitVec 32 := 1#32
  let arg38 : BitVec 32 := Scf.iv c0_i32_55 c1_i32_56 k0_t3
  let c256_i32_519 : BitVec 32 := 256#32
  let v1297 : BitVec 32 := Scalar.muli arg38 c256_i32_519
  v1297
def k0_off27 (k0_t3 : Fin k0_t3_loop.trips) : Fin 1 → Nat :=
  let c0_i32_55 : BitVec 32 := 0#32
  let c1_i32_56 : BitVec 32 := 1#32
  let arg38 : BitVec 32 := Scf.iv c0_i32_55 c1_i32_56 k0_t3
  let c4_i32_518 : BitVec 32 := 4#32
  let v1296 : BitVec 32 := Scalar.remsi arg38 c4_i32_518
  ![v1296.toNat]
def k0_off28 (k0_t3 : Fin k0_t3_loop.trips) : Fin 3 → Nat :=
  let c0_i32_55 : BitVec 32 := 0#32
  let c1_i32_56 : BitVec 32 := 1#32
  let arg38 : BitVec 32 := Scf.iv c0_i32_55 c1_i32_56 k0_t3
  let c4_i32_518 : BitVec 32 := 4#32
  let v1296 : BitVec 32 := Scalar.remsi arg38 c4_i32_518
  let c0_i32_520 : BitVec 32 := 0#32
  let c0_i32_521 : BitVec 32 := 0#32
  ![v1296.toNat, 0, 0]
def k0_off29 (k0_t3 : Fin k0_t3_loop.trips) : Fin 2 → Nat :=
  let c0_i32_55 : BitVec 32 := 0#32
  let c1_i32_56 : BitVec 32 := 1#32
  let arg38 : BitVec 32 := Scf.iv c0_i32_55 c1_i32_56 k0_t3
  let c256_i32_519 : BitVec 32 := 256#32
  let v1297 : BitVec 32 := Scalar.muli arg38 c256_i32_519
  let v1298 : BitVec 32 := v1297
  let c0_i32_522 : BitVec 32 := 0#32
  ![v1298.toNat, 0]
def k0_mult6 (k0_t3 : Fin k0_t3_loop.trips) : BitVec 32 :=
  let c0_i32_55 : BitVec 32 := 0#32
  let c1_i32_56 : BitVec 32 := 1#32
  let arg38 : BitVec 32 := Scf.iv c0_i32_55 c1_i32_56 k0_t3
  let c256_i32_523 : BitVec 32 := 256#32
  let v1304 : BitVec 32 := Scalar.muli arg38 c256_i32_523
  v1304
def k0_off30 (k0_t3 : Fin k0_t3_loop.trips) : Fin 2 → Nat :=
  let c0_524 : Index := 0#32
  let c0_i32_55 : BitVec 32 := 0#32
  let c1_i32_56 : BitVec 32 := 1#32
  let arg38 : BitVec 32 := Scf.iv c0_i32_55 c1_i32_56 k0_t3
  let c256_i32_523 : BitVec 32 := 256#32
  let v1304 : BitVec 32 := Scalar.muli arg38 c256_i32_523
  let v1305 : BitVec 32 := v1304
  let v1306 : Index := Scalar.indexCast v1305
  ![0, v1306.toNat]
def k0_off31 (k0_t3 : Fin k0_t3_loop.trips) : Fin 3 → Nat :=
  let c0_i32_55 : BitVec 32 := 0#32
  let c1_i32_56 : BitVec 32 := 1#32
  let arg38 : BitVec 32 := Scf.iv c0_i32_55 c1_i32_56 k0_t3
  let c4_i32_518 : BitVec 32 := 4#32
  let v1296 : BitVec 32 := Scalar.remsi arg38 c4_i32_518
  let v1309 : Index := Scalar.indexCast v1296
  let c0_527 : Index := 0#32
  let c0_528 : Index := 0#32
  ![v1309.toNat, 0, 0]
def k0_cond1 (k0_t3 : Fin k0_t3_loop.trips) : BitVec 1 :=
  let c0_i32_55 : BitVec 32 := 0#32
  let c1_i32_56 : BitVec 32 := 1#32
  let arg38 : BitVec 32 := Scf.iv c0_i32_55 c1_i32_56 k0_t3
  let c4_i32_532 : BitVec 32 := 4#32
  let v1318 : BitVec 32 := Scalar.addi arg38 c4_i32_532
  let c32_i32_533 : BitVec 32 := 32#32
  let v1319 : BitVec 1 := Scalar.cmpi .slt v1318 c32_i32_533
  let v1320 : BitVec 32 := Scalar.extui v1319
  let c0_i32_534 : BitVec 32 := 0#32
  let v1321 : BitVec 1 := Scalar.cmpi .ne v1320 c0_i32_534
  v1321

def k0_mult7 (k0_t3 : Fin k0_t3_loop.trips) : BitVec 32 :=
  let c0_i32_55 : BitVec 32 := 0#32
  let c1_i32_56 : BitVec 32 := 1#32
  let arg38 : BitVec 32 := Scf.iv c0_i32_55 c1_i32_56 k0_t3
  let c4_i32_532 : BitVec 32 := 4#32
  let v1318 : BitVec 32 := Scalar.addi arg38 c4_i32_532
  let c256_i32_537 : BitVec 32 := 256#32
  let v1325 : BitVec 32 := Scalar.muli v1318 c256_i32_537
  v1325
def k0_off32 (k0_t3 : Fin k0_t3_loop.trips) : Fin 1 → Nat :=
  let c0_i32_55 : BitVec 32 := 0#32
  let c1_i32_56 : BitVec 32 := 1#32
  let arg38 : BitVec 32 := Scf.iv c0_i32_55 c1_i32_56 k0_t3
  let c4_i32_518 : BitVec 32 := 4#32
  let v1296 : BitVec 32 := Scalar.remsi arg38 c4_i32_518
  ![v1296.toNat]
def k0_off33 (k0_t3 : Fin k0_t3_loop.trips) : Fin 3 → Nat :=
  let c0_i32_55 : BitVec 32 := 0#32
  let c1_i32_56 : BitVec 32 := 1#32
  let arg38 : BitVec 32 := Scf.iv c0_i32_55 c1_i32_56 k0_t3
  let c4_i32_518 : BitVec 32 := 4#32
  let v1296 : BitVec 32 := Scalar.remsi arg38 c4_i32_518
  let c0_i32_538 : BitVec 32 := 0#32
  let c0_i32_539 : BitVec 32 := 0#32
  ![v1296.toNat, 0, 0]
def k0_off34 (k0_t3 : Fin k0_t3_loop.trips) : Fin 2 → Nat :=
  let c0_i32_55 : BitVec 32 := 0#32
  let c1_i32_56 : BitVec 32 := 1#32
  let arg38 : BitVec 32 := Scf.iv c0_i32_55 c1_i32_56 k0_t3
  let c4_i32_532 : BitVec 32 := 4#32
  let v1318 : BitVec 32 := Scalar.addi arg38 c4_i32_532
  let c256_i32_537 : BitVec 32 := 256#32
  let v1325 : BitVec 32 := Scalar.muli v1318 c256_i32_537
  let v1326 : BitVec 32 := v1325
  let c0_i32_540 : BitVec 32 := 0#32
  ![v1326.toNat, 0]
@[reducible] def k0_t4_loop : Scf.Loop 32 :=
  let c0_i32_99 : BitVec 32 := 0#32
  let c13_i32 : BitVec 32 := 13#32
  let v209 : BitVec 32 := Scalar.addi c0_i32_99 c13_i32
  let c1_i32_100 : BitVec 32 := 1#32
  ⟨c0_i32_99, v209, c1_i32_100⟩
def k0_mult8 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c0_i32_518 : BitVec 32 := 0#32
  let v1297 : BitVec 32 := Scalar.addi v1296 c0_i32_518
  let c128_i32_519 : BitVec 32 := 128#32
  let v1298 : BitVec 32 := Scalar.muli v1297 c128_i32_519
  v1298
def k0_off35 (k0_t4 : Fin k0_t4_loop.trips) (c0_i32_518 : BitVec 32) : Fin 2 → Nat :=
  let c0_520 : Index := 0#32
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let v1297 : BitVec 32 := Scalar.addi v1296 c0_i32_518
  let c128_i32_519 : BitVec 32 := 128#32
  let v1298 : BitVec 32 := Scalar.muli v1297 c128_i32_519
  let v1299 : BitVec 32 := v1298
  let v1300 : Index := Scalar.indexCast v1299
  ![0, v1300.toNat]
def k0_mult9 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c1_i32_521 : BitVec 32 := 1#32
  let v1302 : BitVec 32 := Scalar.addi v1296 c1_i32_521
  let c128_i32_522 : BitVec 32 := 128#32
  let v1303 : BitVec 32 := Scalar.muli v1302 c128_i32_522
  v1303
def k0_mult10 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c2_i32_524 : BitVec 32 := 2#32
  let v1307 : BitVec 32 := Scalar.addi v1296 c2_i32_524
  let c128_i32_525 : BitVec 32 := 128#32
  let v1308 : BitVec 32 := Scalar.muli v1307 c128_i32_525
  v1308
def k0_mult11 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c3_i32_527 : BitVec 32 := 3#32
  let v1312 : BitVec 32 := Scalar.addi v1296 c3_i32_527
  let c128_i32_528 : BitVec 32 := 128#32
  let v1313 : BitVec 32 := Scalar.muli v1312 c128_i32_528
  v1313
def k0_mult12 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c4_i32_530 : BitVec 32 := 4#32
  let v1317 : BitVec 32 := Scalar.addi v1296 c4_i32_530
  let c128_i32_531 : BitVec 32 := 128#32
  let v1318 : BitVec 32 := Scalar.muli v1317 c128_i32_531
  v1318
def k0_mult13 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c5_i32_533 : BitVec 32 := 5#32
  let v1322 : BitVec 32 := Scalar.addi v1296 c5_i32_533
  let c128_i32_534 : BitVec 32 := 128#32
  let v1323 : BitVec 32 := Scalar.muli v1322 c128_i32_534
  v1323
def k0_mult14 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c6_i32_536 : BitVec 32 := 6#32
  let v1327 : BitVec 32 := Scalar.addi v1296 c6_i32_536
  let c128_i32_537 : BitVec 32 := 128#32
  let v1328 : BitVec 32 := Scalar.muli v1327 c128_i32_537
  v1328
def k0_mult15 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c7_i32_539 : BitVec 32 := 7#32
  let v1332 : BitVec 32 := Scalar.addi v1296 c7_i32_539
  let c128_i32_540 : BitVec 32 := 128#32
  let v1333 : BitVec 32 := Scalar.muli v1332 c128_i32_540
  v1333
def k0_mult16 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c8_i32_542 : BitVec 32 := 8#32
  let v1337 : BitVec 32 := Scalar.addi v1296 c8_i32_542
  let c128_i32_543 : BitVec 32 := 128#32
  let v1338 : BitVec 32 := Scalar.muli v1337 c128_i32_543
  v1338
def k0_mult17 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c9_i32_545 : BitVec 32 := 9#32
  let v1342 : BitVec 32 := Scalar.addi v1296 c9_i32_545
  let c128_i32_546 : BitVec 32 := 128#32
  let v1343 : BitVec 32 := Scalar.muli v1342 c128_i32_546
  v1343
def k0_mult18 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c10_i32_548 : BitVec 32 := 10#32
  let v1347 : BitVec 32 := Scalar.addi v1296 c10_i32_548
  let c128_i32_549 : BitVec 32 := 128#32
  let v1348 : BitVec 32 := Scalar.muli v1347 c128_i32_549
  v1348
def k0_mult19 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c11_i32 : BitVec 32 := 11#32
  let v1352 : BitVec 32 := Scalar.addi v1296 c11_i32
  let c128_i32_551 : BitVec 32 := 128#32
  let v1353 : BitVec 32 := Scalar.muli v1352 c128_i32_551
  v1353
def k0_mult20 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c12_i32 : BitVec 32 := 12#32
  let v1357 : BitVec 32 := Scalar.addi v1296 c12_i32
  let c128_i32_553 : BitVec 32 := 128#32
  let v1358 : BitVec 32 := Scalar.muli v1357 c128_i32_553
  v1358
def k0_mult21 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c13_i32_555 : BitVec 32 := 13#32
  let v1362 : BitVec 32 := Scalar.addi v1296 c13_i32_555
  let c128_i32_556 : BitVec 32 := 128#32
  let v1363 : BitVec 32 := Scalar.muli v1362 c128_i32_556
  v1363
def k0_mult22 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c14_i32 : BitVec 32 := 14#32
  let v1367 : BitVec 32 := Scalar.addi v1296 c14_i32
  let c128_i32_558 : BitVec 32 := 128#32
  let v1368 : BitVec 32 := Scalar.muli v1367 c128_i32_558
  v1368
def k0_mult23 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c15_i32 : BitVec 32 := 15#32
  let v1372 : BitVec 32 := Scalar.addi v1296 c15_i32
  let c128_i32_560 : BitVec 32 := 128#32
  let v1373 : BitVec 32 := Scalar.muli v1372 c128_i32_560
  v1373
def k0_mult24 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c16_i32 : BitVec 32 := 16#32
  let v1377 : BitVec 32 := Scalar.addi v1296 c16_i32
  let c128_i32_562 : BitVec 32 := 128#32
  let v1378 : BitVec 32 := Scalar.muli v1377 c128_i32_562
  v1378
def k0_mult25 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c17_i32 : BitVec 32 := 17#32
  let v1382 : BitVec 32 := Scalar.addi v1296 c17_i32
  let c128_i32_564 : BitVec 32 := 128#32
  let v1383 : BitVec 32 := Scalar.muli v1382 c128_i32_564
  v1383
def k0_off36 (k0_t4 : Fin k0_t4_loop.trips) (c0_i32_566 : BitVec 32) : Fin 2 → Nat :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let v1387 : BitVec 32 := Scalar.addi v1296 c0_i32_566
  let v1389 : Index := Scalar.indexCast v1387
  let c0_567 : Index := 0#32
  ![v1389.toNat, 0]
def k0_mult26 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c0_i32_566 : BitVec 32 := 0#32
  let v1387 : BitVec 32 := Scalar.addi v1296 c0_i32_566
  let c8_i32_570 : BitVec 32 := 8#32
  let v1398 : BitVec 32 := Scalar.muli v1387 c8_i32_570
  v1398
def k0_off37 (k0_t4 : Fin k0_t4_loop.trips) (c0_i32_566 : BitVec 32) : Fin 2 → Nat :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let v1387 : BitVec 32 := Scalar.addi v1296 c0_i32_566
  let c8_i32_570 : BitVec 32 := 8#32
  let v1398 : BitVec 32 := Scalar.muli v1387 c8_i32_570
  let v1399 : BitVec 32 := v1398
  let v1400 : Index := Scalar.indexCast v1399
  let c0_571 : Index := 0#32
  ![v1400.toNat, 0]
def k0_mult27 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c0_i32_566 : BitVec 32 := 0#32
  let v1387 : BitVec 32 := Scalar.addi v1296 c0_i32_566
  let c128_i32_576 : BitVec 32 := 128#32
  let v1418 : BitVec 32 := Scalar.muli v1387 c128_i32_576
  v1418
def k0_mult28 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c1_i32_578 : BitVec 32 := 1#32
  let v1424 : BitVec 32 := Scalar.addi v1296 c1_i32_578
  let c8_i32_582 : BitVec 32 := 8#32
  let v1435 : BitVec 32 := Scalar.muli v1424 c8_i32_582
  v1435
def k0_mult29 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c1_i32_578 : BitVec 32 := 1#32
  let v1424 : BitVec 32 := Scalar.addi v1296 c1_i32_578
  let c128_i32_588 : BitVec 32 := 128#32
  let v1455 : BitVec 32 := Scalar.muli v1424 c128_i32_588
  v1455
def k0_mult30 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c2_i32_590 : BitVec 32 := 2#32
  let v1461 : BitVec 32 := Scalar.addi v1296 c2_i32_590
  let c8_i32_594 : BitVec 32 := 8#32
  let v1472 : BitVec 32 := Scalar.muli v1461 c8_i32_594
  v1472
def k0_mult31 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c2_i32_590 : BitVec 32 := 2#32
  let v1461 : BitVec 32 := Scalar.addi v1296 c2_i32_590
  let c128_i32_600 : BitVec 32 := 128#32
  let v1492 : BitVec 32 := Scalar.muli v1461 c128_i32_600
  v1492
def k0_mult32 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c3_i32_602 : BitVec 32 := 3#32
  let v1498 : BitVec 32 := Scalar.addi v1296 c3_i32_602
  let c8_i32_606 : BitVec 32 := 8#32
  let v1509 : BitVec 32 := Scalar.muli v1498 c8_i32_606
  v1509
def k0_mult33 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c3_i32_602 : BitVec 32 := 3#32
  let v1498 : BitVec 32 := Scalar.addi v1296 c3_i32_602
  let c128_i32_612 : BitVec 32 := 128#32
  let v1529 : BitVec 32 := Scalar.muli v1498 c128_i32_612
  v1529
def k0_mult34 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c4_i32_614 : BitVec 32 := 4#32
  let v1535 : BitVec 32 := Scalar.addi v1296 c4_i32_614
  let c8_i32_618 : BitVec 32 := 8#32
  let v1546 : BitVec 32 := Scalar.muli v1535 c8_i32_618
  v1546
def k0_mult35 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c4_i32_614 : BitVec 32 := 4#32
  let v1535 : BitVec 32 := Scalar.addi v1296 c4_i32_614
  let c128_i32_624 : BitVec 32 := 128#32
  let v1566 : BitVec 32 := Scalar.muli v1535 c128_i32_624
  v1566
def k0_mult36 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c5_i32_626 : BitVec 32 := 5#32
  let v1572 : BitVec 32 := Scalar.addi v1296 c5_i32_626
  let c8_i32_630 : BitVec 32 := 8#32
  let v1583 : BitVec 32 := Scalar.muli v1572 c8_i32_630
  v1583
def k0_mult37 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c5_i32_626 : BitVec 32 := 5#32
  let v1572 : BitVec 32 := Scalar.addi v1296 c5_i32_626
  let c128_i32_636 : BitVec 32 := 128#32
  let v1603 : BitVec 32 := Scalar.muli v1572 c128_i32_636
  v1603
def k0_mult38 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c6_i32_638 : BitVec 32 := 6#32
  let v1609 : BitVec 32 := Scalar.addi v1296 c6_i32_638
  let c8_i32_642 : BitVec 32 := 8#32
  let v1620 : BitVec 32 := Scalar.muli v1609 c8_i32_642
  v1620
def k0_mult39 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c6_i32_638 : BitVec 32 := 6#32
  let v1609 : BitVec 32 := Scalar.addi v1296 c6_i32_638
  let c128_i32_648 : BitVec 32 := 128#32
  let v1640 : BitVec 32 := Scalar.muli v1609 c128_i32_648
  v1640
def k0_mult40 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c7_i32_650 : BitVec 32 := 7#32
  let v1646 : BitVec 32 := Scalar.addi v1296 c7_i32_650
  let c8_i32_654 : BitVec 32 := 8#32
  let v1657 : BitVec 32 := Scalar.muli v1646 c8_i32_654
  v1657
def k0_mult41 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c7_i32_650 : BitVec 32 := 7#32
  let v1646 : BitVec 32 := Scalar.addi v1296 c7_i32_650
  let c128_i32_660 : BitVec 32 := 128#32
  let v1677 : BitVec 32 := Scalar.muli v1646 c128_i32_660
  v1677
def k0_mult42 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c8_i32_662 : BitVec 32 := 8#32
  let v1683 : BitVec 32 := Scalar.addi v1296 c8_i32_662
  let c8_i32_666 : BitVec 32 := 8#32
  let v1694 : BitVec 32 := Scalar.muli v1683 c8_i32_666
  v1694
def k0_mult43 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c8_i32_662 : BitVec 32 := 8#32
  let v1683 : BitVec 32 := Scalar.addi v1296 c8_i32_662
  let c128_i32_672 : BitVec 32 := 128#32
  let v1714 : BitVec 32 := Scalar.muli v1683 c128_i32_672
  v1714
def k0_mult44 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c9_i32_674 : BitVec 32 := 9#32
  let v1720 : BitVec 32 := Scalar.addi v1296 c9_i32_674
  let c8_i32_678 : BitVec 32 := 8#32
  let v1731 : BitVec 32 := Scalar.muli v1720 c8_i32_678
  v1731
def k0_mult45 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c9_i32_674 : BitVec 32 := 9#32
  let v1720 : BitVec 32 := Scalar.addi v1296 c9_i32_674
  let c128_i32_684 : BitVec 32 := 128#32
  let v1751 : BitVec 32 := Scalar.muli v1720 c128_i32_684
  v1751
def k0_mult46 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c10_i32_686 : BitVec 32 := 10#32
  let v1757 : BitVec 32 := Scalar.addi v1296 c10_i32_686
  let c8_i32_690 : BitVec 32 := 8#32
  let v1768 : BitVec 32 := Scalar.muli v1757 c8_i32_690
  v1768
def k0_mult47 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c10_i32_686 : BitVec 32 := 10#32
  let v1757 : BitVec 32 := Scalar.addi v1296 c10_i32_686
  let c128_i32_696 : BitVec 32 := 128#32
  let v1788 : BitVec 32 := Scalar.muli v1757 c128_i32_696
  v1788
def k0_mult48 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c11_i32_698 : BitVec 32 := 11#32
  let v1794 : BitVec 32 := Scalar.addi v1296 c11_i32_698
  let c8_i32_702 : BitVec 32 := 8#32
  let v1805 : BitVec 32 := Scalar.muli v1794 c8_i32_702
  v1805
def k0_mult49 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c11_i32_698 : BitVec 32 := 11#32
  let v1794 : BitVec 32 := Scalar.addi v1296 c11_i32_698
  let c128_i32_708 : BitVec 32 := 128#32
  let v1825 : BitVec 32 := Scalar.muli v1794 c128_i32_708
  v1825
def k0_mult50 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c12_i32_710 : BitVec 32 := 12#32
  let v1831 : BitVec 32 := Scalar.addi v1296 c12_i32_710
  let c8_i32_714 : BitVec 32 := 8#32
  let v1842 : BitVec 32 := Scalar.muli v1831 c8_i32_714
  v1842
def k0_mult51 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c12_i32_710 : BitVec 32 := 12#32
  let v1831 : BitVec 32 := Scalar.addi v1296 c12_i32_710
  let c128_i32_720 : BitVec 32 := 128#32
  let v1862 : BitVec 32 := Scalar.muli v1831 c128_i32_720
  v1862
def k0_mult52 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c13_i32_722 : BitVec 32 := 13#32
  let v1868 : BitVec 32 := Scalar.addi v1296 c13_i32_722
  let c8_i32_726 : BitVec 32 := 8#32
  let v1879 : BitVec 32 := Scalar.muli v1868 c8_i32_726
  v1879
def k0_mult53 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c13_i32_722 : BitVec 32 := 13#32
  let v1868 : BitVec 32 := Scalar.addi v1296 c13_i32_722
  let c128_i32_732 : BitVec 32 := 128#32
  let v1899 : BitVec 32 := Scalar.muli v1868 c128_i32_732
  v1899
def k0_mult54 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c14_i32_734 : BitVec 32 := 14#32
  let v1905 : BitVec 32 := Scalar.addi v1296 c14_i32_734
  let c8_i32_738 : BitVec 32 := 8#32
  let v1916 : BitVec 32 := Scalar.muli v1905 c8_i32_738
  v1916
def k0_mult55 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c14_i32_734 : BitVec 32 := 14#32
  let v1905 : BitVec 32 := Scalar.addi v1296 c14_i32_734
  let c128_i32_744 : BitVec 32 := 128#32
  let v1936 : BitVec 32 := Scalar.muli v1905 c128_i32_744
  v1936
def k0_mult56 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c15_i32_746 : BitVec 32 := 15#32
  let v1942 : BitVec 32 := Scalar.addi v1296 c15_i32_746
  let c8_i32_750 : BitVec 32 := 8#32
  let v1953 : BitVec 32 := Scalar.muli v1942 c8_i32_750
  v1953
def k0_mult57 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c15_i32_746 : BitVec 32 := 15#32
  let v1942 : BitVec 32 := Scalar.addi v1296 c15_i32_746
  let c128_i32_756 : BitVec 32 := 128#32
  let v1973 : BitVec 32 := Scalar.muli v1942 c128_i32_756
  v1973
def k0_mult58 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c16_i32_758 : BitVec 32 := 16#32
  let v1979 : BitVec 32 := Scalar.addi v1296 c16_i32_758
  let c8_i32_762 : BitVec 32 := 8#32
  let v1990 : BitVec 32 := Scalar.muli v1979 c8_i32_762
  v1990
def k0_mult59 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c16_i32_758 : BitVec 32 := 16#32
  let v1979 : BitVec 32 := Scalar.addi v1296 c16_i32_758
  let c128_i32_768 : BitVec 32 := 128#32
  let v2010 : BitVec 32 := Scalar.muli v1979 c128_i32_768
  v2010
def k0_mult60 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c17_i32_770 : BitVec 32 := 17#32
  let v2016 : BitVec 32 := Scalar.addi v1296 c17_i32_770
  let c8_i32_774 : BitVec 32 := 8#32
  let v2027 : BitVec 32 := Scalar.muli v2016 c8_i32_774
  v2027
def k0_mult61 (k0_t4 : Fin k0_t4_loop.trips) : BitVec 32 :=
  let c0_i32_99 : BitVec 32 := 0#32
  let c1_i32_100 : BitVec 32 := 1#32
  let arg38 : BitVec 32 := Scf.iv c0_i32_99 c1_i32_100 k0_t4
  let c18_i32 : BitVec 32 := 18#32
  let v1296 : BitVec 32 := Scalar.muli arg38 c18_i32
  let c17_i32_770 : BitVec 32 := 17#32
  let v2016 : BitVec 32 := Scalar.addi v1296 c17_i32_770
  let c128_i32_780 : BitVec 32 := 128#32
  let v2047 : BitVec 32 := Scalar.muli v2016 c128_i32_780
  v2047
def k0_mult62 : BitVec 32 :=
  let c1872_i32 : BitVec 32 := 1872#32
  c1872_i32
def k0_mult63 : BitVec 32 :=
  let c29952_i32_165 : BitVec 32 := 29952#32
  c29952_i32_165
def k0_mult64 : BitVec 32 :=
  let c1880_i32 : BitVec 32 := 1880#32
  c1880_i32
def k0_mult65 : BitVec 32 :=
  let c30080_i32 : BitVec 32 := 30080#32
  c30080_i32
def k0_mult66 : BitVec 32 :=
  let c1888_i32 : BitVec 32 := 1888#32
  c1888_i32
def k0_mult67 : BitVec 32 :=
  let c30208_i32 : BitVec 32 := 30208#32
  c30208_i32
def k0_mult68 : BitVec 32 :=
  let c1896_i32 : BitVec 32 := 1896#32
  c1896_i32
def k0_mult69 : BitVec 32 :=
  let c30336_i32 : BitVec 32 := 30336#32
  c30336_i32
def k0_mult70 : BitVec 32 :=
  let c1904_i32 : BitVec 32 := 1904#32
  c1904_i32
def k0_mult71 : BitVec 32 :=
  let c30464_i32 : BitVec 32 := 30464#32
  c30464_i32
def k0_mult72 : BitVec 32 :=
  let c1912_i32 : BitVec 32 := 1912#32
  c1912_i32
def k0_mult73 : BitVec 32 :=
  let c30592_i32 : BitVec 32 := 30592#32
  c30592_i32
def k0_mult74 : BitVec 32 :=
  let c1920_i32 : BitVec 32 := 1920#32
  c1920_i32
def k0_mult75 : BitVec 32 :=
  let c30720_i32 : BitVec 32 := 30720#32
  c30720_i32
def k0_mult76 : BitVec 32 :=
  let c1928_i32 : BitVec 32 := 1928#32
  c1928_i32
def k0_mult77 : BitVec 32 :=
  let c30848_i32 : BitVec 32 := 30848#32
  c30848_i32
def k0_mult78 : BitVec 32 :=
  let c1936_i32 : BitVec 32 := 1936#32
  c1936_i32
def k0_mult79 : BitVec 32 :=
  let c30976_i32 : BitVec 32 := 30976#32
  c30976_i32
def k0_mult80 : BitVec 32 :=
  let c1944_i32 : BitVec 32 := 1944#32
  c1944_i32
def k0_mult81 : BitVec 32 :=
  let c31104_i32 : BitVec 32 := 31104#32
  c31104_i32
def k0_mult82 : BitVec 32 :=
  let c1952_i32 : BitVec 32 := 1952#32
  c1952_i32
def k0_mult83 : BitVec 32 :=
  let c31232_i32 : BitVec 32 := 31232#32
  c31232_i32
def k0_mult84 : BitVec 32 :=
  let c1960_i32 : BitVec 32 := 1960#32
  c1960_i32
def k0_mult85 : BitVec 32 :=
  let c31360_i32 : BitVec 32 := 31360#32
  c31360_i32
def k0_mult86 : BitVec 32 :=
  let c1968_i32 : BitVec 32 := 1968#32
  c1968_i32
def k0_mult87 : BitVec 32 :=
  let c31488_i32 : BitVec 32 := 31488#32
  c31488_i32
def k0_mult88 : BitVec 32 :=
  let c1976_i32 : BitVec 32 := 1976#32
  c1976_i32
def k0_mult89 : BitVec 32 :=
  let c31616_i32 : BitVec 32 := 31616#32
  c31616_i32
def k0_mult90 : BitVec 32 :=
  let c1984_i32 : BitVec 32 := 1984#32
  c1984_i32
def k0_mult91 : BitVec 32 :=
  let c31744_i32 : BitVec 32 := 31744#32
  c31744_i32
def k0_mult92 : BitVec 32 :=
  let c1992_i32 : BitVec 32 := 1992#32
  c1992_i32
def k0_mult93 : BitVec 32 :=
  let c31872_i32 : BitVec 32 := 31872#32
  c31872_i32
def k0_mult94 (v909 : BitVec 32) : BitVec 32 :=
  let c7_i32_317 : BitVec 32 := 7#32
  let v910 : BitVec 32 := Scalar.shrsi v909 c7_i32_317
  let c128_i32 : BitVec 32 := 128#32
  let v911 : BitVec 32 := Scalar.muli v910 c128_i32
  v911

def k0_off38 (v909 : BitVec 32) : Fin 2 → Nat :=
  let c0_318 : Index := 0#32
  let c7_i32_317 : BitVec 32 := 7#32
  let v910 : BitVec 32 := Scalar.shrsi v909 c7_i32_317
  let c128_i32 : BitVec 32 := 128#32
  let v911 : BitVec 32 := Scalar.muli v910 c128_i32
  let v912 : BitVec 32 := v911
  let v913 : Index := Scalar.indexCast v912
  ![0, v913.toNat]

def k0_chk7 (v909 : BitVec 32) : Prop :=
  (128 ∣ (k0_mult94 v909).toNat) ∧
  (∀ a, (k0_off38 v909) a + S6x128.size a ≤ S6x32000.size a)
theorem k0_mult94_dvd : ∀ (v909 : BitVec 32) (k0_hw7 : k0_chk7 v909), 128 ∣ (k0_mult94 v909).toNat := fun v909 k0_hw7 => k0_hw7.1
theorem k0_off38_inb : ∀ (v909 : BitVec 32) (k0_hw7 : k0_chk7 v909), ∀ a, (k0_off38 v909) a + S6x128.size a ≤ S6x32000.size a := fun v909 k0_hw7 => k0_hw7.2

def k0_mult95 (v922 : BitVec 32) : BitVec 32 :=
  let c7_i32_322 : BitVec 32 := 7#32
  let v923 : BitVec 32 := Scalar.shrsi v922 c7_i32_322
  let c128_i32_323 : BitVec 32 := 128#32
  let v924 : BitVec 32 := Scalar.muli v923 c128_i32_323
  v924

def k0_off39 (v922 : BitVec 32) : Fin 2 → Nat :=
  let c0_324 : Index := 0#32
  let c7_i32_322 : BitVec 32 := 7#32
  let v923 : BitVec 32 := Scalar.shrsi v922 c7_i32_322
  let c128_i32_323 : BitVec 32 := 128#32
  let v924 : BitVec 32 := Scalar.muli v923 c128_i32_323
  let v925 : BitVec 32 := v924
  let v926 : Index := Scalar.indexCast v925
  ![0, v926.toNat]

def k0_chk8 (v922 : BitVec 32) : Prop :=
  (128 ∣ (k0_mult95 v922).toNat) ∧
  (∀ a, (k0_off39 v922) a + S6x128.size a ≤ S6x32000.size a)
theorem k0_mult95_dvd : ∀ (v922 : BitVec 32) (k0_hw8 : k0_chk8 v922), 128 ∣ (k0_mult95 v922).toNat := fun v922 k0_hw8 => k0_hw8.1
theorem k0_off39_inb : ∀ (v922 : BitVec 32) (k0_hw8 : k0_chk8 v922), ∀ a, (k0_off39 v922) a + S6x128.size a ≤ S6x32000.size a := fun v922 k0_hw8 => k0_hw8.2

def k0_mult96 (v935 : BitVec 32) : BitVec 32 :=
  let c7_i32_329 : BitVec 32 := 7#32
  let v936 : BitVec 32 := Scalar.shrsi v935 c7_i32_329
  let c128_i32_330 : BitVec 32 := 128#32
  let v937 : BitVec 32 := Scalar.muli v936 c128_i32_330
  v937

def k0_off40 (v935 : BitVec 32) : Fin 2 → Nat :=
  let c0_331 : Index := 0#32
  let c7_i32_329 : BitVec 32 := 7#32
  let v936 : BitVec 32 := Scalar.shrsi v935 c7_i32_329
  let c128_i32_330 : BitVec 32 := 128#32
  let v937 : BitVec 32 := Scalar.muli v936 c128_i32_330
  let v938 : BitVec 32 := v937
  let v939 : Index := Scalar.indexCast v938
  ![0, v939.toNat]

def k0_chk9 (v935 : BitVec 32) : Prop :=
  (128 ∣ (k0_mult96 v935).toNat) ∧
  (∀ a, (k0_off40 v935) a + S6x128.size a ≤ S6x32000.size a)
theorem k0_mult96_dvd : ∀ (v935 : BitVec 32) (k0_hw9 : k0_chk9 v935), 128 ∣ (k0_mult96 v935).toNat := fun v935 k0_hw9 => k0_hw9.1
theorem k0_off40_inb : ∀ (v935 : BitVec 32) (k0_hw9 : k0_chk9 v935), ∀ a, (k0_off40 v935) a + S6x128.size a ≤ S6x32000.size a := fun v935 k0_hw9 => k0_hw9.2

def k0_mult97 (v948 : BitVec 32) : BitVec 32 :=
  let c7_i32_336 : BitVec 32 := 7#32
  let v949 : BitVec 32 := Scalar.shrsi v948 c7_i32_336
  let c128_i32_337 : BitVec 32 := 128#32
  let v950 : BitVec 32 := Scalar.muli v949 c128_i32_337
  v950

def k0_off41 (v948 : BitVec 32) : Fin 2 → Nat :=
  let c0_338 : Index := 0#32
  let c7_i32_336 : BitVec 32 := 7#32
  let v949 : BitVec 32 := Scalar.shrsi v948 c7_i32_336
  let c128_i32_337 : BitVec 32 := 128#32
  let v950 : BitVec 32 := Scalar.muli v949 c128_i32_337
  let v951 : BitVec 32 := v950
  let v952 : Index := Scalar.indexCast v951
  ![0, v952.toNat]

def k0_chk10 (v948 : BitVec 32) : Prop :=
  (128 ∣ (k0_mult97 v948).toNat) ∧
  (∀ a, (k0_off41 v948) a + S6x128.size a ≤ S6x32000.size a)
theorem k0_mult97_dvd : ∀ (v948 : BitVec 32) (k0_hw10 : k0_chk10 v948), 128 ∣ (k0_mult97 v948).toNat := fun v948 k0_hw10 => k0_hw10.1
theorem k0_off41_inb : ∀ (v948 : BitVec 32) (k0_hw10 : k0_chk10 v948), ∀ a, (k0_off41 v948) a + S6x128.size a ≤ S6x32000.size a := fun v948 k0_hw10 => k0_hw10.2

def k0_mult98 (v961 : BitVec 32) : BitVec 32 :=
  let c7_i32_343 : BitVec 32 := 7#32
  let v962 : BitVec 32 := Scalar.shrsi v961 c7_i32_343
  let c128_i32_344 : BitVec 32 := 128#32
  let v963 : BitVec 32 := Scalar.muli v962 c128_i32_344
  v963

def k0_off42 (v961 : BitVec 32) : Fin 2 → Nat :=
  let c0_345 : Index := 0#32
  let c7_i32_343 : BitVec 32 := 7#32
  let v962 : BitVec 32 := Scalar.shrsi v961 c7_i32_343
  let c128_i32_344 : BitVec 32 := 128#32
  let v963 : BitVec 32 := Scalar.muli v962 c128_i32_344
  let v964 : BitVec 32 := v963
  let v965 : Index := Scalar.indexCast v964
  ![0, v965.toNat]

def k0_chk11 (v961 : BitVec 32) : Prop :=
  (128 ∣ (k0_mult98 v961).toNat) ∧
  (∀ a, (k0_off42 v961) a + S6x128.size a ≤ S6x32000.size a)
theorem k0_mult98_dvd : ∀ (v961 : BitVec 32) (k0_hw11 : k0_chk11 v961), 128 ∣ (k0_mult98 v961).toNat := fun v961 k0_hw11 => k0_hw11.1
theorem k0_off42_inb : ∀ (v961 : BitVec 32) (k0_hw11 : k0_chk11 v961), ∀ a, (k0_off42 v961) a + S6x128.size a ≤ S6x32000.size a := fun v961 k0_hw11 => k0_hw11.2

def k0_mult99 (v974 : BitVec 32) : BitVec 32 :=
  let c7_i32_350 : BitVec 32 := 7#32
  let v975 : BitVec 32 := Scalar.shrsi v974 c7_i32_350
  let c128_i32_351 : BitVec 32 := 128#32
  let v976 : BitVec 32 := Scalar.muli v975 c128_i32_351
  v976

def k0_off43 (v974 : BitVec 32) : Fin 2 → Nat :=
  let c0_352 : Index := 0#32
  let c7_i32_350 : BitVec 32 := 7#32
  let v975 : BitVec 32 := Scalar.shrsi v974 c7_i32_350
  let c128_i32_351 : BitVec 32 := 128#32
  let v976 : BitVec 32 := Scalar.muli v975 c128_i32_351
  let v977 : BitVec 32 := v976
  let v978 : Index := Scalar.indexCast v977
  ![0, v978.toNat]

def k0_chk12 (v974 : BitVec 32) : Prop :=
  (128 ∣ (k0_mult99 v974).toNat) ∧
  (∀ a, (k0_off43 v974) a + S6x128.size a ≤ S6x32000.size a)
theorem k0_mult99_dvd : ∀ (v974 : BitVec 32) (k0_hw12 : k0_chk12 v974), 128 ∣ (k0_mult99 v974).toNat := fun v974 k0_hw12 => k0_hw12.1
theorem k0_off43_inb : ∀ (v974 : BitVec 32) (k0_hw12 : k0_chk12 v974), ∀ a, (k0_off43 v974) a + S6x128.size a ≤ S6x32000.size a := fun v974 k0_hw12 => k0_hw12.2

def k0_mult100 (v1002 : BitVec 32) : BitVec 32 :=
  let c7_i32_363 : BitVec 32 := 7#32
  let v1003 : BitVec 32 := Scalar.shrsi v1002 c7_i32_363
  let c128_i32_364 : BitVec 32 := 128#32
  let v1004 : BitVec 32 := Scalar.muli v1003 c128_i32_364
  v1004

def k0_off44 (v1002 : BitVec 32) : Fin 2 → Nat :=
  let c0_365 : Index := 0#32
  let c7_i32_363 : BitVec 32 := 7#32
  let v1003 : BitVec 32 := Scalar.shrsi v1002 c7_i32_363
  let c128_i32_364 : BitVec 32 := 128#32
  let v1004 : BitVec 32 := Scalar.muli v1003 c128_i32_364
  let v1005 : BitVec 32 := v1004
  let v1006 : Index := Scalar.indexCast v1005
  ![0, v1006.toNat]

def k0_chk13 (v1002 : BitVec 32) : Prop :=
  (128 ∣ (k0_mult100 v1002).toNat) ∧
  (∀ a, (k0_off44 v1002) a + S6x128.size a ≤ S6x32000.size a)
theorem k0_mult100_dvd : ∀ (v1002 : BitVec 32) (k0_hw13 : k0_chk13 v1002), 128 ∣ (k0_mult100 v1002).toNat := fun v1002 k0_hw13 => k0_hw13.1
theorem k0_off44_inb : ∀ (v1002 : BitVec 32) (k0_hw13 : k0_chk13 v1002), ∀ a, (k0_off44 v1002) a + S6x128.size a ≤ S6x32000.size a := fun v1002 k0_hw13 => k0_hw13.2

def k0_mult101 (v1015 : BitVec 32) : BitVec 32 :=
  let c7_i32_370 : BitVec 32 := 7#32
  let v1016 : BitVec 32 := Scalar.shrsi v1015 c7_i32_370
  let c128_i32_371 : BitVec 32 := 128#32
  let v1017 : BitVec 32 := Scalar.muli v1016 c128_i32_371
  v1017

def k0_off45 (v1015 : BitVec 32) : Fin 2 → Nat :=
  let c0_372 : Index := 0#32
  let c7_i32_370 : BitVec 32 := 7#32
  let v1016 : BitVec 32 := Scalar.shrsi v1015 c7_i32_370
  let c128_i32_371 : BitVec 32 := 128#32
  let v1017 : BitVec 32 := Scalar.muli v1016 c128_i32_371
  let v1018 : BitVec 32 := v1017
  let v1019 : Index := Scalar.indexCast v1018
  ![0, v1019.toNat]

def k0_chk14 (v1015 : BitVec 32) : Prop :=
  (128 ∣ (k0_mult101 v1015).toNat) ∧
  (∀ a, (k0_off45 v1015) a + S6x128.size a ≤ S6x32000.size a)
theorem k0_mult101_dvd : ∀ (v1015 : BitVec 32) (k0_hw14 : k0_chk14 v1015), 128 ∣ (k0_mult101 v1015).toNat := fun v1015 k0_hw14 => k0_hw14.1
theorem k0_off45_inb : ∀ (v1015 : BitVec 32) (k0_hw14 : k0_chk14 v1015), ∀ a, (k0_off45 v1015) a + S6x128.size a ≤ S6x32000.size a := fun v1015 k0_hw14 => k0_hw14.2

def k0_mult102 (v1028 : BitVec 32) : BitVec 32 :=
  let c7_i32_377 : BitVec 32 := 7#32
  let v1029 : BitVec 32 := Scalar.shrsi v1028 c7_i32_377
  let c128_i32_378 : BitVec 32 := 128#32
  let v1030 : BitVec 32 := Scalar.muli v1029 c128_i32_378
  v1030

def k0_off46 (v1028 : BitVec 32) : Fin 2 → Nat :=
  let c0_379 : Index := 0#32
  let c7_i32_377 : BitVec 32 := 7#32
  let v1029 : BitVec 32 := Scalar.shrsi v1028 c7_i32_377
  let c128_i32_378 : BitVec 32 := 128#32
  let v1030 : BitVec 32 := Scalar.muli v1029 c128_i32_378
  let v1031 : BitVec 32 := v1030
  let v1032 : Index := Scalar.indexCast v1031
  ![0, v1032.toNat]

def k0_chk15 (v1028 : BitVec 32) : Prop :=
  (128 ∣ (k0_mult102 v1028).toNat) ∧
  (∀ a, (k0_off46 v1028) a + S6x128.size a ≤ S6x32000.size a)
theorem k0_mult102_dvd : ∀ (v1028 : BitVec 32) (k0_hw15 : k0_chk15 v1028), 128 ∣ (k0_mult102 v1028).toNat := fun v1028 k0_hw15 => k0_hw15.1
theorem k0_off46_inb : ∀ (v1028 : BitVec 32) (k0_hw15 : k0_chk15 v1028), ∀ a, (k0_off46 v1028) a + S6x128.size a ≤ S6x32000.size a := fun v1028 k0_hw15 => k0_hw15.2

def k0_mult103 (v1041 : BitVec 32) : BitVec 32 :=
  let c7_i32_384 : BitVec 32 := 7#32
  let v1042 : BitVec 32 := Scalar.shrsi v1041 c7_i32_384
  let c128_i32_385 : BitVec 32 := 128#32
  let v1043 : BitVec 32 := Scalar.muli v1042 c128_i32_385
  v1043

def k0_off47 (v1041 : BitVec 32) : Fin 2 → Nat :=
  let c0_386 : Index := 0#32
  let c7_i32_384 : BitVec 32 := 7#32
  let v1042 : BitVec 32 := Scalar.shrsi v1041 c7_i32_384
  let c128_i32_385 : BitVec 32 := 128#32
  let v1043 : BitVec 32 := Scalar.muli v1042 c128_i32_385
  let v1044 : BitVec 32 := v1043
  let v1045 : Index := Scalar.indexCast v1044
  ![0, v1045.toNat]

def k0_chk16 (v1041 : BitVec 32) : Prop :=
  (128 ∣ (k0_mult103 v1041).toNat) ∧
  (∀ a, (k0_off47 v1041) a + S6x128.size a ≤ S6x32000.size a)
theorem k0_mult103_dvd : ∀ (v1041 : BitVec 32) (k0_hw16 : k0_chk16 v1041), 128 ∣ (k0_mult103 v1041).toNat := fun v1041 k0_hw16 => k0_hw16.1
theorem k0_off47_inb : ∀ (v1041 : BitVec 32) (k0_hw16 : k0_chk16 v1041), ∀ a, (k0_off47 v1041) a + S6x128.size a ≤ S6x32000.size a := fun v1041 k0_hw16 => k0_hw16.2

def k0_mult104 (v1054 : BitVec 32) : BitVec 32 :=
  let c7_i32_391 : BitVec 32 := 7#32
  let v1055 : BitVec 32 := Scalar.shrsi v1054 c7_i32_391
  let c128_i32_392 : BitVec 32 := 128#32
  let v1056 : BitVec 32 := Scalar.muli v1055 c128_i32_392
  v1056

def k0_off48 (v1054 : BitVec 32) : Fin 2 → Nat :=
  let c0_393 : Index := 0#32
  let c7_i32_391 : BitVec 32 := 7#32
  let v1055 : BitVec 32 := Scalar.shrsi v1054 c7_i32_391
  let c128_i32_392 : BitVec 32 := 128#32
  let v1056 : BitVec 32 := Scalar.muli v1055 c128_i32_392
  let v1057 : BitVec 32 := v1056
  let v1058 : Index := Scalar.indexCast v1057
  ![0, v1058.toNat]

def k0_chk17 (v1054 : BitVec 32) : Prop :=
  (128 ∣ (k0_mult104 v1054).toNat) ∧
  (∀ a, (k0_off48 v1054) a + S6x128.size a ≤ S6x32000.size a)
theorem k0_mult104_dvd : ∀ (v1054 : BitVec 32) (k0_hw17 : k0_chk17 v1054), 128 ∣ (k0_mult104 v1054).toNat := fun v1054 k0_hw17 => k0_hw17.1
theorem k0_off48_inb : ∀ (v1054 : BitVec 32) (k0_hw17 : k0_chk17 v1054), ∀ a, (k0_off48 v1054) a + S6x128.size a ≤ S6x32000.size a := fun v1054 k0_hw17 => k0_hw17.2

def k0_mult105 (v1067 : BitVec 32) : BitVec 32 :=
  let c7_i32_398 : BitVec 32 := 7#32
  let v1068 : BitVec 32 := Scalar.shrsi v1067 c7_i32_398
  let c128_i32_399 : BitVec 32 := 128#32
  let v1069 : BitVec 32 := Scalar.muli v1068 c128_i32_399
  v1069

def k0_off49 (v1067 : BitVec 32) : Fin 2 → Nat :=
  let c0_400 : Index := 0#32
  let c7_i32_398 : BitVec 32 := 7#32
  let v1068 : BitVec 32 := Scalar.shrsi v1067 c7_i32_398
  let c128_i32_399 : BitVec 32 := 128#32
  let v1069 : BitVec 32 := Scalar.muli v1068 c128_i32_399
  let v1070 : BitVec 32 := v1069
  let v1071 : Index := Scalar.indexCast v1070
  ![0, v1071.toNat]

def k0_chk18 (v1067 : BitVec 32) : Prop :=
  (128 ∣ (k0_mult105 v1067).toNat) ∧
  (∀ a, (k0_off49 v1067) a + S6x128.size a ≤ S6x32000.size a)
theorem k0_mult105_dvd : ∀ (v1067 : BitVec 32) (k0_hw18 : k0_chk18 v1067), 128 ∣ (k0_mult105 v1067).toNat := fun v1067 k0_hw18 => k0_hw18.1
theorem k0_off49_inb : ∀ (v1067 : BitVec 32) (k0_hw18 : k0_chk18 v1067), ∀ a, (k0_off49 v1067) a + S6x128.size a ≤ S6x32000.size a := fun v1067 k0_hw18 => k0_hw18.2

def k0_mult106 (v1095 : BitVec 32) : BitVec 32 :=
  let c7_i32_411 : BitVec 32 := 7#32
  let v1096 : BitVec 32 := Scalar.shrsi v1095 c7_i32_411
  let c128_i32_412 : BitVec 32 := 128#32
  let v1097 : BitVec 32 := Scalar.muli v1096 c128_i32_412
  v1097

def k0_off50 (v1095 : BitVec 32) : Fin 2 → Nat :=
  let c0_413 : Index := 0#32
  let c7_i32_411 : BitVec 32 := 7#32
  let v1096 : BitVec 32 := Scalar.shrsi v1095 c7_i32_411
  let c128_i32_412 : BitVec 32 := 128#32
  let v1097 : BitVec 32 := Scalar.muli v1096 c128_i32_412
  let v1098 : BitVec 32 := v1097
  let v1099 : Index := Scalar.indexCast v1098
  ![0, v1099.toNat]

def k0_chk19 (v1095 : BitVec 32) : Prop :=
  (128 ∣ (k0_mult106 v1095).toNat) ∧
  (∀ a, (k0_off50 v1095) a + S6x128.size a ≤ S6x32000.size a)
theorem k0_mult106_dvd : ∀ (v1095 : BitVec 32) (k0_hw19 : k0_chk19 v1095), 128 ∣ (k0_mult106 v1095).toNat := fun v1095 k0_hw19 => k0_hw19.1
theorem k0_off50_inb : ∀ (v1095 : BitVec 32) (k0_hw19 : k0_chk19 v1095), ∀ a, (k0_off50 v1095) a + S6x128.size a ≤ S6x32000.size a := fun v1095 k0_hw19 => k0_hw19.2

def k0_mult107 (v1108 : BitVec 32) : BitVec 32 :=
  let c7_i32_418 : BitVec 32 := 7#32
  let v1109 : BitVec 32 := Scalar.shrsi v1108 c7_i32_418
  let c128_i32_419 : BitVec 32 := 128#32
  let v1110 : BitVec 32 := Scalar.muli v1109 c128_i32_419
  v1110

def k0_off51 (v1108 : BitVec 32) : Fin 2 → Nat :=
  let c0_420 : Index := 0#32
  let c7_i32_418 : BitVec 32 := 7#32
  let v1109 : BitVec 32 := Scalar.shrsi v1108 c7_i32_418
  let c128_i32_419 : BitVec 32 := 128#32
  let v1110 : BitVec 32 := Scalar.muli v1109 c128_i32_419
  let v1111 : BitVec 32 := v1110
  let v1112 : Index := Scalar.indexCast v1111
  ![0, v1112.toNat]

def k0_chk20 (v1108 : BitVec 32) : Prop :=
  (128 ∣ (k0_mult107 v1108).toNat) ∧
  (∀ a, (k0_off51 v1108) a + S6x128.size a ≤ S6x32000.size a)
theorem k0_mult107_dvd : ∀ (v1108 : BitVec 32) (k0_hw20 : k0_chk20 v1108), 128 ∣ (k0_mult107 v1108).toNat := fun v1108 k0_hw20 => k0_hw20.1
theorem k0_off51_inb : ∀ (v1108 : BitVec 32) (k0_hw20 : k0_chk20 v1108), ∀ a, (k0_off51 v1108) a + S6x128.size a ≤ S6x32000.size a := fun v1108 k0_hw20 => k0_hw20.2

def k0_mult108 (v1121 : BitVec 32) : BitVec 32 :=
  let c7_i32_425 : BitVec 32 := 7#32
  let v1122 : BitVec 32 := Scalar.shrsi v1121 c7_i32_425
  let c128_i32_426 : BitVec 32 := 128#32
  let v1123 : BitVec 32 := Scalar.muli v1122 c128_i32_426
  v1123

def k0_off52 (v1121 : BitVec 32) : Fin 2 → Nat :=
  let c0_427 : Index := 0#32
  let c7_i32_425 : BitVec 32 := 7#32
  let v1122 : BitVec 32 := Scalar.shrsi v1121 c7_i32_425
  let c128_i32_426 : BitVec 32 := 128#32
  let v1123 : BitVec 32 := Scalar.muli v1122 c128_i32_426
  let v1124 : BitVec 32 := v1123
  let v1125 : Index := Scalar.indexCast v1124
  ![0, v1125.toNat]

def k0_chk21 (v1121 : BitVec 32) : Prop :=
  (128 ∣ (k0_mult108 v1121).toNat) ∧
  (∀ a, (k0_off52 v1121) a + S6x128.size a ≤ S6x32000.size a)
theorem k0_mult108_dvd : ∀ (v1121 : BitVec 32) (k0_hw21 : k0_chk21 v1121), 128 ∣ (k0_mult108 v1121).toNat := fun v1121 k0_hw21 => k0_hw21.1
theorem k0_off52_inb : ∀ (v1121 : BitVec 32) (k0_hw21 : k0_chk21 v1121), ∀ a, (k0_off52 v1121) a + S6x128.size a ≤ S6x32000.size a := fun v1121 k0_hw21 => k0_hw21.2

def k0_mult109 (v1134 : BitVec 32) : BitVec 32 :=
  let c7_i32_432 : BitVec 32 := 7#32
  let v1135 : BitVec 32 := Scalar.shrsi v1134 c7_i32_432
  let c128_i32_433 : BitVec 32 := 128#32
  let v1136 : BitVec 32 := Scalar.muli v1135 c128_i32_433
  v1136

def k0_off53 (v1134 : BitVec 32) : Fin 2 → Nat :=
  let c0_434 : Index := 0#32
  let c7_i32_432 : BitVec 32 := 7#32
  let v1135 : BitVec 32 := Scalar.shrsi v1134 c7_i32_432
  let c128_i32_433 : BitVec 32 := 128#32
  let v1136 : BitVec 32 := Scalar.muli v1135 c128_i32_433
  let v1137 : BitVec 32 := v1136
  let v1138 : Index := Scalar.indexCast v1137
  ![0, v1138.toNat]

def k0_chk22 (v1134 : BitVec 32) : Prop :=
  (128 ∣ (k0_mult109 v1134).toNat) ∧
  (∀ a, (k0_off53 v1134) a + S6x128.size a ≤ S6x32000.size a)
theorem k0_mult109_dvd : ∀ (v1134 : BitVec 32) (k0_hw22 : k0_chk22 v1134), 128 ∣ (k0_mult109 v1134).toNat := fun v1134 k0_hw22 => k0_hw22.1
theorem k0_off53_inb : ∀ (v1134 : BitVec 32) (k0_hw22 : k0_chk22 v1134), ∀ a, (k0_off53 v1134) a + S6x128.size a ≤ S6x32000.size a := fun v1134 k0_hw22 => k0_hw22.2

def k0_mult110 (v1147 : BitVec 32) : BitVec 32 :=
  let c7_i32_439 : BitVec 32 := 7#32
  let v1148 : BitVec 32 := Scalar.shrsi v1147 c7_i32_439
  let c128_i32_440 : BitVec 32 := 128#32
  let v1149 : BitVec 32 := Scalar.muli v1148 c128_i32_440
  v1149

def k0_off54 (v1147 : BitVec 32) : Fin 2 → Nat :=
  let c0_441 : Index := 0#32
  let c7_i32_439 : BitVec 32 := 7#32
  let v1148 : BitVec 32 := Scalar.shrsi v1147 c7_i32_439
  let c128_i32_440 : BitVec 32 := 128#32
  let v1149 : BitVec 32 := Scalar.muli v1148 c128_i32_440
  let v1150 : BitVec 32 := v1149
  let v1151 : Index := Scalar.indexCast v1150
  ![0, v1151.toNat]

def k0_chk23 (v1147 : BitVec 32) : Prop :=
  (128 ∣ (k0_mult110 v1147).toNat) ∧
  (∀ a, (k0_off54 v1147) a + S6x128.size a ≤ S6x32000.size a)
theorem k0_mult110_dvd : ∀ (v1147 : BitVec 32) (k0_hw23 : k0_chk23 v1147), 128 ∣ (k0_mult110 v1147).toNat := fun v1147 k0_hw23 => k0_hw23.1
theorem k0_off54_inb : ∀ (v1147 : BitVec 32) (k0_hw23 : k0_chk23 v1147), ∀ a, (k0_off54 v1147) a + S6x128.size a ≤ S6x32000.size a := fun v1147 k0_hw23 => k0_hw23.2

def k0_mult111 (v1160 : BitVec 32) : BitVec 32 :=
  let c7_i32_446 : BitVec 32 := 7#32
  let v1161 : BitVec 32 := Scalar.shrsi v1160 c7_i32_446
  let c128_i32_447 : BitVec 32 := 128#32
  let v1162 : BitVec 32 := Scalar.muli v1161 c128_i32_447
  v1162

def k0_off55 (v1160 : BitVec 32) : Fin 2 → Nat :=
  let c0_448 : Index := 0#32
  let c7_i32_446 : BitVec 32 := 7#32
  let v1161 : BitVec 32 := Scalar.shrsi v1160 c7_i32_446
  let c128_i32_447 : BitVec 32 := 128#32
  let v1162 : BitVec 32 := Scalar.muli v1161 c128_i32_447
  let v1163 : BitVec 32 := v1162
  let v1164 : Index := Scalar.indexCast v1163
  ![0, v1164.toNat]

def k0_chk24 (v1160 : BitVec 32) : Prop :=
  (128 ∣ (k0_mult111 v1160).toNat) ∧
  (∀ a, (k0_off55 v1160) a + S6x128.size a ≤ S6x32000.size a)
theorem k0_mult111_dvd : ∀ (v1160 : BitVec 32) (k0_hw24 : k0_chk24 v1160), 128 ∣ (k0_mult111 v1160).toNat := fun v1160 k0_hw24 => k0_hw24.1
theorem k0_off55_inb : ∀ (v1160 : BitVec 32) (k0_hw24 : k0_chk24 v1160), ∀ a, (k0_off55 v1160) a + S6x128.size a ≤ S6x32000.size a := fun v1160 k0_hw24 => k0_hw24.2

def k0_mult112 (v1188 : BitVec 32) : BitVec 32 :=
  let c7_i32_459 : BitVec 32 := 7#32
  let v1189 : BitVec 32 := Scalar.shrsi v1188 c7_i32_459
  let c128_i32_460 : BitVec 32 := 128#32
  let v1190 : BitVec 32 := Scalar.muli v1189 c128_i32_460
  v1190

def k0_off56 (v1188 : BitVec 32) : Fin 2 → Nat :=
  let c0_461 : Index := 0#32
  let c7_i32_459 : BitVec 32 := 7#32
  let v1189 : BitVec 32 := Scalar.shrsi v1188 c7_i32_459
  let c128_i32_460 : BitVec 32 := 128#32
  let v1190 : BitVec 32 := Scalar.muli v1189 c128_i32_460
  let v1191 : BitVec 32 := v1190
  let v1192 : Index := Scalar.indexCast v1191
  ![0, v1192.toNat]

def k0_chk25 (v1188 : BitVec 32) : Prop :=
  (128 ∣ (k0_mult112 v1188).toNat) ∧
  (∀ a, (k0_off56 v1188) a + S6x128.size a ≤ S6x32000.size a)
theorem k0_mult112_dvd : ∀ (v1188 : BitVec 32) (k0_hw25 : k0_chk25 v1188), 128 ∣ (k0_mult112 v1188).toNat := fun v1188 k0_hw25 => k0_hw25.1
theorem k0_off56_inb : ∀ (v1188 : BitVec 32) (k0_hw25 : k0_chk25 v1188), ∀ a, (k0_off56 v1188) a + S6x128.size a ≤ S6x32000.size a := fun v1188 k0_hw25 => k0_hw25.2

def k0_mult113 (v1201 : BitVec 32) : BitVec 32 :=
  let c7_i32_466 : BitVec 32 := 7#32
  let v1202 : BitVec 32 := Scalar.shrsi v1201 c7_i32_466
  let c128_i32_467 : BitVec 32 := 128#32
  let v1203 : BitVec 32 := Scalar.muli v1202 c128_i32_467
  v1203

def k0_off57 (v1201 : BitVec 32) : Fin 2 → Nat :=
  let c0_468 : Index := 0#32
  let c7_i32_466 : BitVec 32 := 7#32
  let v1202 : BitVec 32 := Scalar.shrsi v1201 c7_i32_466
  let c128_i32_467 : BitVec 32 := 128#32
  let v1203 : BitVec 32 := Scalar.muli v1202 c128_i32_467
  let v1204 : BitVec 32 := v1203
  let v1205 : Index := Scalar.indexCast v1204
  ![0, v1205.toNat]

def k0_chk26 (v1201 : BitVec 32) : Prop :=
  (128 ∣ (k0_mult113 v1201).toNat) ∧
  (∀ a, (k0_off57 v1201) a + S6x128.size a ≤ S6x32000.size a)
theorem k0_mult113_dvd : ∀ (v1201 : BitVec 32) (k0_hw26 : k0_chk26 v1201), 128 ∣ (k0_mult113 v1201).toNat := fun v1201 k0_hw26 => k0_hw26.1
theorem k0_off57_inb : ∀ (v1201 : BitVec 32) (k0_hw26 : k0_chk26 v1201), ∀ a, (k0_off57 v1201) a + S6x128.size a ≤ S6x32000.size a := fun v1201 k0_hw26 => k0_hw26.2

def k0_mult114 (v1214 : BitVec 32) : BitVec 32 :=
  let c7_i32_473 : BitVec 32 := 7#32
  let v1215 : BitVec 32 := Scalar.shrsi v1214 c7_i32_473
  let c128_i32_474 : BitVec 32 := 128#32
  let v1216 : BitVec 32 := Scalar.muli v1215 c128_i32_474
  v1216

def k0_off58 (v1214 : BitVec 32) : Fin 2 → Nat :=
  let c0_475 : Index := 0#32
  let c7_i32_473 : BitVec 32 := 7#32
  let v1215 : BitVec 32 := Scalar.shrsi v1214 c7_i32_473
  let c128_i32_474 : BitVec 32 := 128#32
  let v1216 : BitVec 32 := Scalar.muli v1215 c128_i32_474
  let v1217 : BitVec 32 := v1216
  let v1218 : Index := Scalar.indexCast v1217
  ![0, v1218.toNat]

def k0_chk27 (v1214 : BitVec 32) : Prop :=
  (128 ∣ (k0_mult114 v1214).toNat) ∧
  (∀ a, (k0_off58 v1214) a + S6x128.size a ≤ S6x32000.size a)
theorem k0_mult114_dvd : ∀ (v1214 : BitVec 32) (k0_hw27 : k0_chk27 v1214), 128 ∣ (k0_mult114 v1214).toNat := fun v1214 k0_hw27 => k0_hw27.1
theorem k0_off58_inb : ∀ (v1214 : BitVec 32) (k0_hw27 : k0_chk27 v1214), ∀ a, (k0_off58 v1214) a + S6x128.size a ≤ S6x32000.size a := fun v1214 k0_hw27 => k0_hw27.2

def k0_mult115 (v1227 : BitVec 32) : BitVec 32 :=
  let c7_i32_480 : BitVec 32 := 7#32
  let v1228 : BitVec 32 := Scalar.shrsi v1227 c7_i32_480
  let c128_i32_481 : BitVec 32 := 128#32
  let v1229 : BitVec 32 := Scalar.muli v1228 c128_i32_481
  v1229

def k0_off59 (v1227 : BitVec 32) : Fin 2 → Nat :=
  let c0_482 : Index := 0#32
  let c7_i32_480 : BitVec 32 := 7#32
  let v1228 : BitVec 32 := Scalar.shrsi v1227 c7_i32_480
  let c128_i32_481 : BitVec 32 := 128#32
  let v1229 : BitVec 32 := Scalar.muli v1228 c128_i32_481
  let v1230 : BitVec 32 := v1229
  let v1231 : Index := Scalar.indexCast v1230
  ![0, v1231.toNat]

def k0_chk28 (v1227 : BitVec 32) : Prop :=
  (128 ∣ (k0_mult115 v1227).toNat) ∧
  (∀ a, (k0_off59 v1227) a + S6x128.size a ≤ S6x32000.size a)
theorem k0_mult115_dvd : ∀ (v1227 : BitVec 32) (k0_hw28 : k0_chk28 v1227), 128 ∣ (k0_mult115 v1227).toNat := fun v1227 k0_hw28 => k0_hw28.1
theorem k0_off59_inb : ∀ (v1227 : BitVec 32) (k0_hw28 : k0_chk28 v1227), ∀ a, (k0_off59 v1227) a + S6x128.size a ≤ S6x32000.size a := fun v1227 k0_hw28 => k0_hw28.2

def k0_mult116 (v1240 : BitVec 32) : BitVec 32 :=
  let c7_i32_487 : BitVec 32 := 7#32
  let v1241 : BitVec 32 := Scalar.shrsi v1240 c7_i32_487
  let c128_i32_488 : BitVec 32 := 128#32
  let v1242 : BitVec 32 := Scalar.muli v1241 c128_i32_488
  v1242

def k0_off60 (v1240 : BitVec 32) : Fin 2 → Nat :=
  let c0_489 : Index := 0#32
  let c7_i32_487 : BitVec 32 := 7#32
  let v1241 : BitVec 32 := Scalar.shrsi v1240 c7_i32_487
  let c128_i32_488 : BitVec 32 := 128#32
  let v1242 : BitVec 32 := Scalar.muli v1241 c128_i32_488
  let v1243 : BitVec 32 := v1242
  let v1244 : Index := Scalar.indexCast v1243
  ![0, v1244.toNat]

def k0_chk29 (v1240 : BitVec 32) : Prop :=
  (128 ∣ (k0_mult116 v1240).toNat) ∧
  (∀ a, (k0_off60 v1240) a + S6x128.size a ≤ S6x32000.size a)
theorem k0_mult116_dvd : ∀ (v1240 : BitVec 32) (k0_hw29 : k0_chk29 v1240), 128 ∣ (k0_mult116 v1240).toNat := fun v1240 k0_hw29 => k0_hw29.1
theorem k0_off60_inb : ∀ (v1240 : BitVec 32) (k0_hw29 : k0_chk29 v1240), ∀ a, (k0_off60 v1240) a + S6x128.size a ≤ S6x32000.size a := fun v1240 k0_hw29 => k0_hw29.2

def k0_mult117 (v1253 : BitVec 32) : BitVec 32 :=
  let c7_i32_494 : BitVec 32 := 7#32
  let v1254 : BitVec 32 := Scalar.shrsi v1253 c7_i32_494
  let c128_i32_495 : BitVec 32 := 128#32
  let v1255 : BitVec 32 := Scalar.muli v1254 c128_i32_495
  v1255

def k0_off61 (v1253 : BitVec 32) : Fin 2 → Nat :=
  let c0_496 : Index := 0#32
  let c7_i32_494 : BitVec 32 := 7#32
  let v1254 : BitVec 32 := Scalar.shrsi v1253 c7_i32_494
  let c128_i32_495 : BitVec 32 := 128#32
  let v1255 : BitVec 32 := Scalar.muli v1254 c128_i32_495
  let v1256 : BitVec 32 := v1255
  let v1257 : Index := Scalar.indexCast v1256
  ![0, v1257.toNat]

def k0_chk30 (v1253 : BitVec 32) : Prop :=
  (128 ∣ (k0_mult117 v1253).toNat) ∧
  (∀ a, (k0_off61 v1253) a + S6x128.size a ≤ S6x32000.size a)
theorem k0_mult117_dvd : ∀ (v1253 : BitVec 32) (k0_hw30 : k0_chk30 v1253), 128 ∣ (k0_mult117 v1253).toNat := fun v1253 k0_hw30 => k0_hw30.1
theorem k0_off61_inb : ∀ (v1253 : BitVec 32) (k0_hw30 : k0_chk30 v1253), ∀ a, (k0_off61 v1253) a + S6x128.size a ≤ S6x32000.size a := fun v1253 k0_hw30 => k0_hw30.2
-- ==== ReferenceIdeal.lean ====
abbrev S6x8192 : Shape := ⟨2, ![6, 8192]⟩
abbrev S6 : Shape := ⟨1, ![6]⟩
abbrev S8192x32000 : Shape := ⟨2, ![8192, 32000]⟩
abbrev S32000 : Shape := ⟨1, ![32000]⟩
abbrev S6x4096 : Shape := ⟨2, ![6, 4096]⟩
abbrev S6x4 : Shape := ⟨2, ![6, 4]⟩
abbrev S6x36 : Shape := ⟨2, ![6, 36]⟩
abbrev S6x32000 : Shape := ⟨2, ![6, 32000]⟩
abbrev S6x1 : Shape := ⟨2, ![6, 1]⟩
abbrev S1x32000 : Shape := ⟨2, ![1, 32000]⟩
abbrev S_ : Shape := ⟨0, ![]⟩
abbrev S4096 : Shape := ⟨1, ![4096]⟩
abbrev S1x4096 : Shape := ⟨2, ![1, 4096]⟩
abbrev S6x4096x1 : Shape := ⟨3, ![6, 4096, 1]⟩
abbrev S6x4096x2 : Shape := ⟨3, ![6, 4096, 2]⟩
abbrev S6x36x1 : Shape := ⟨3, ![6, 36, 1]⟩
abbrev S6x36x2 : Shape := ⟨3, ![6, 36, 2]⟩
abbrev S6x4x1 : Shape := ⟨3, ![6, 4, 1]⟩
abbrev S1 : Shape := ⟨1, ![1]⟩
abbrev S1x1x1 : Shape := ⟨3, ![1, 1, 1]⟩

abbrev nBuf : Space → Nat
  | .hbm => 145
  | .vmem => 3
  | .smem => 0
  | _ => 0

abbrev hbmTy0_0 (i : Nat) : BufTy := match i % 128 with
  | 0 => ⟨S6x8192, .fp8e4m3⟩
  | 1 => ⟨S6, .f32⟩
  | 2 => ⟨S8192x32000, .fp8e4m3⟩
  | 3 => ⟨S32000, .f32⟩
  | 4 => ⟨S6x4096, .i32⟩
  | 5 => ⟨S6, .i32⟩
  | 6 => ⟨S6, .f32⟩
  | 7 => ⟨S6, .f32⟩
  | 8 => ⟨S6, .f32⟩
  | 9 => ⟨S6x4, .i32⟩
  | 10 => ⟨S6x36, .i32⟩
  | 11 => ⟨S6x36, .f32⟩
  | 12 => ⟨S6x32000, .f32⟩
  | 13 => ⟨S6x1, .f32⟩
  | 14 => ⟨S6x32000, .f32⟩
  | 15 => ⟨S6x32000, .f32⟩
  | 16 => ⟨S1x32000, .f32⟩
  | 17 => ⟨S6x32000, .f32⟩
  | 18 => ⟨S6x32000, .f32⟩
  | 19 => ⟨S_, .f32⟩
  | 20 => ⟨S6x32000, .f32⟩
  | 21 => ⟨S6x32000, .f32⟩
  | 22 => ⟨S6x32000, .f32⟩
  | 23 => ⟨S_, .f32⟩
  | 24 => ⟨S6x32000, .f32⟩
  | 25 => ⟨S6x32000, .f32⟩
  | 26 => ⟨S6, .i32⟩
  | 27 => ⟨S6x1, .i32⟩
  | 28 => ⟨S6x4096, .i32⟩
  | 29 => ⟨S4096, .i32⟩
  | 30 => ⟨S1x4096, .i32⟩
  | 31 => ⟨S6x1, .i32⟩
  | 32 => ⟨S6x4096, .i32⟩
  | 33 => ⟨S6x4096, .i32⟩
  | 34 => ⟨S6x4096, .i1⟩
  | 35 => ⟨S6x4096, .f32⟩
  | 36 => ⟨S_, .f32⟩
  | 37 => ⟨S6x32000, .f32⟩
  | 38 => ⟨S_, .i32⟩
  | 39 => ⟨S6x4096, .i32⟩
  | 40 => ⟨S6x4096, .i1⟩
  | 41 => ⟨S_, .i32⟩
  | 42 => ⟨S6x4096, .i32⟩
  | 43 => ⟨S6x4096, .i32⟩
  | 44 => ⟨S6x4096, .i32⟩
  | 45 => ⟨S_, .i32⟩
  | 46 => ⟨S6x4096, .i32⟩
  | 47 => ⟨S6x4096, .i1⟩
  | 48 => ⟨S_, .i32⟩
  | 49 => ⟨S6x4096, .i32⟩
  | 50 => ⟨S6x4096, .i32⟩
  | 51 => ⟨S6x4096, .i32⟩
  | 52 => ⟨S6x4096x1, .i32⟩
  | 53 => ⟨S6x4096x1, .i32⟩
  | 54 => ⟨S6x4096x2, .i32⟩
  | 55 => ⟨S6x32000, .f32⟩
  | 56 => ⟨S_, .f32⟩
  | 57 => ⟨S6x32000, .f32⟩
  | 58 => ⟨S6x32000, .i1⟩
  | 59 => ⟨S6x1, .f32⟩
  | 60 => ⟨S_, .f32⟩
  | 61 => ⟨S6x32000, .f32⟩
  | 62 => ⟨S6x32000, .i1⟩
  | 63 => ⟨S6x32000, .f32⟩
  | 64 => ⟨S6x32000, .f32⟩
  | 65 => ⟨S6x32000, .f32⟩
  | 66 => ⟨S6x32000, .f32⟩
  | 67 => ⟨S6x32000, .f32⟩
  | 68 => ⟨S6x32000, .f32⟩
  | 69 => ⟨S6x1, .f32⟩
  | 70 => ⟨S6x32000, .f32⟩
  | 71 => ⟨S6x32000, .f32⟩
  | 72 => ⟨S6x32000, .f32⟩
  | 73 => ⟨S6x32000, .f32⟩
  | 74 => ⟨S6x1, .f32⟩
  | 75 => ⟨S6x32000, .f32⟩
  | 76 => ⟨S6x32000, .f32⟩
  | 77 => ⟨S6x32000, .f32⟩
  | 78 => ⟨S6, .i32⟩
  | 79 => ⟨S6x1, .i32⟩
  | 80 => ⟨S6x36, .i32⟩
  | 81 => ⟨S_, .f32⟩
  | 82 => ⟨S6x32000, .f32⟩
  | 83 => ⟨S_, .i32⟩
  | 84 => ⟨S6x36, .i32⟩
  | 85 => ⟨S6x36, .i1⟩
  | 86 => ⟨S_, .i32⟩
  | 87 => ⟨S6x36, .i32⟩
  | 88 => ⟨S6x36, .i32⟩
  | 89 => ⟨S6x36, .i32⟩
  | 90 => ⟨S_, .i32⟩
  | 91 => ⟨S6x36, .i32⟩
  | 92 => ⟨S6x36, .i1⟩
  | 93 => ⟨S_, .i32⟩
  | 94 => ⟨S6x36, .i32⟩
  | 95 => ⟨S6x36, .i32⟩
  | 96 => ⟨S6x36, .i32⟩
  | 97 => ⟨S6x36x1, .i32⟩
  | 98 => ⟨S6x36x1, .i32⟩
  | 99 => ⟨S6x36x2, .i32⟩
  | 100 => ⟨S6x32000, .f32⟩
  | 101 => ⟨S6x32000, .f32⟩
  | 102 => ⟨S_, .f32⟩
  | 103 => ⟨S6, .f32⟩
  | 104 => ⟨S6, .f32⟩
  | 105 => ⟨S_, .f32⟩
  | 106 => ⟨S6, .f32⟩
  | 107 => ⟨S6, .i1⟩
  | 108 => ⟨S_, .f32⟩
  | 109 => ⟨S_, .f32⟩
  | 110 => ⟨S6, .f32⟩
  | 111 => ⟨S6, .f32⟩
  | 112 => ⟨S6x1, .f32⟩
  | 113 => ⟨S6x32000, .f32⟩
  | 114 => ⟨S6x32000, .f32⟩
  | 115 => ⟨S6x32000, .f32⟩
  | 116 => ⟨S_, .f32⟩
  | 117 => ⟨S6, .f32⟩
  | 118 => ⟨S6, .f32⟩
  | 119 => ⟨S6, .f32⟩
  | 120 => ⟨S_, .i32⟩
  | 121 => ⟨S6x4, .i32⟩
  | 122 => ⟨S6x4, .i1⟩
  | 123 => ⟨S_, .i32⟩
  | 124 => ⟨S6x4, .i32⟩
  | 125 => ⟨S6x4, .i32⟩
  | 126 => ⟨S6x4, .i32⟩
  | 127 => ⟨S6x4x1, .i32⟩
  | _ => ⟨S6x8192, .fp8e4m3⟩

abbrev hbmTy0_1 (i : Nat) : BufTy := match i % 128 with
  | 0 => ⟨S1, .i32⟩
  | 1 => ⟨S_, .i32⟩
  | 2 => ⟨S6x4x1, .i32⟩
  | 3 => ⟨S6x4x1, .i1⟩
  | 4 => ⟨S1x1x1, .i32⟩
  | 5 => ⟨S6x4x1, .i32⟩
  | 6 => ⟨S6x4x1, .i1⟩
  | 7 => ⟨S6x4x1, .i1⟩
  | 8 => ⟨S_, .i1⟩
  | 9 => ⟨S6x4, .i1⟩
  | 10 => ⟨S6x4, .f32⟩
  | 11 => ⟨S_, .f32⟩
  | 12 => ⟨S6x4, .f32⟩
  | 13 => ⟨S6x4, .f32⟩
  | 14 => ⟨S6x1, .f32⟩
  | 15 => ⟨S6x4, .f32⟩
  | 16 => ⟨S6x4, .f32⟩
  | _ => ⟨S6x8192, .fp8e4m3⟩

abbrev hbmTy (i : Nat) : BufTy := match i / 128 with
  | 0 => hbmTy0_0 i
  | 1 => hbmTy0_1 i
  | _ => ⟨S6x8192, .fp8e4m3⟩

abbrev bufTy : (tb : Table) → Fin (tcTables nBuf tb) → BufTy
  | .hbm, ⟨i, _⟩ => hbmTy i
  | .local _ .vmem, ⟨0, _⟩ => ⟨S6x8192, .fp8e4m3⟩
  | .local _ .vmem, ⟨1, _⟩ => ⟨S8192x32000, .fp8e4m3⟩
  | .local _ .vmem, ⟨2, _⟩ => ⟨S6x32000, .f32⟩
  | _, _ => ⟨S6x8192, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_c_8 : Ref sig .tc := ⟨.hbm, 83, rfl⟩
abbrev main_v61 : Ref sig .tc := ⟨.hbm, 84, rfl⟩
abbrev main_v62 : Ref sig .tc := ⟨.hbm, 85, rfl⟩
abbrev main_c_9 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_12 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_cst_14 : Ref sig .tc := ⟨.hbm, 108, rfl⟩
abbrev main_call2_v0 : Ref sig .tc := ⟨.hbm, 109, rfl⟩
abbrev main_call2_v1 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_15 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_cst : Ref sig .tc := ⟨.hbm, 139, rfl⟩
abbrev main_call3_v14 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Pre.lean ====
/- What the preconditions say of the ids, as naturals. -/
module

public import proofs.«01_k».proof.Pre_ids_named
public import proofs.«01_k».proof.Pre_ids_named_hist
public import proofs.«01_k».proof.On_finished
public import Idealize.ShloMosaic.Lib.WordCmp
public import Idealize.ShloMosaic.Lib.Pointwise

@[expose] public section

noncomputable section

namespace Cert.Proof

open Idealize.ShloMosaic

variable {F : FTy → Type} [FloatOps F]

theorem facts_ids : Cert.Pre_ids_named.Facts := ⟨by decide, by decide⟩
theorem facts_hist : Cert.Pre_ids_named_hist.Facts :=
  ⟨by decide, by decide, by decide, by decide, by decide, by decide, by decide⟩

/-- A word that passes `0 ≤ x < k` is below `k`. -/
theorem below {k : ℕ} (hk : k < 2 ^ 31) (x : BitVec 32)
    (h : IntOp.andi (IntOp.cmpi .sge x 0#32) (IntOp.cmpi .slt x (BitVec.ofNat 32 k)) = 1#1) : x.toNat < k := by
  rw [WordCmp.andi_sge_zero_slt_ofNat (w := 32) hk, WordCmp.ofBool_decide_eq_one_iff] at h
  exact h

section Named
variable [Cert.Pre_ids_named.Facts] {X0 : FVec F Cert.Pre_ids_named.S6x8192 .fp8e4m3} {X1 : FVec F Cert.Pre_ids_named.S6 .f32}
  {X2 : FVec F Cert.Pre_ids_named.S8192x32000 .fp8e4m3} {X3 : FVec F Cert.Pre_ids_named.S32000 .f32} {X4 : IVec Cert.Pre_ids_named.S6x4096 32}
  {X5 : IVec Cert.Pre_ids_named.S6 32} {X6 X7 X8 : FVec F Cert.Pre_ids_named.S6 .f32} {X9 : IVec Cert.Pre_ids_named.S6x4 32}
  {X10 : IVec Cert.Pre_ids_named.S6x36 32} {X11 : FVec F Cert.Pre_ids_named.S6x36 .f32}

theorem named_cand (h : (Cert.Pre_ids_named.fn (F := F) X0 X1 X2 X3 X4 X5 X6 X7 X8 X9 X10 X11).1 = fun _ => 1#1) (i) : (X9 i).toNat < 32000 :=
  below (by decide) _ (congrFun h i)
theorem named_bias (h : (Cert.Pre_ids_named.fn (F := F) X0 X1 X2 X3 X4 X5 X6 X7 X8 X9 X10 X11).2 = fun _ => 1#1) (i) : (X10 i).toNat < 32768 :=
  below (by decide) _ (congrFun h i)
end Named

section Hist
variable [Cert.Pre_ids_named_hist.Facts] {X0 : FVec F Cert.Pre_ids_named_hist.S6x8192 .fp8e4m3} {X1 : FVec F Cert.Pre_ids_named_hist.S6 .f32}
  {X2 : FVec F Cert.Pre_ids_named_hist.S8192x32000 .fp8e4m3} {X3 : FVec F Cert.Pre_ids_named_hist.S32000 .f32} {X4 : IVec Cert.Pre_ids_named_hist.S6x4096 32}
  {X5 : IVec Cert.Pre_ids_named_hist.S6 32} {X6 X7 X8 : FVec F Cert.Pre_ids_named_hist.S6 .f32} {X9 : IVec Cert.Pre_ids_named_hist.S6x4 32}
  {X10 : IVec Cert.Pre_ids_named_hist.S6x36 32} {X11 : FVec F Cert.Pre_ids_named_hist.S6x36 .f32}

theorem hist_cand (h : (Cert.Pre_ids_named_hist.fn (F := F) X0 X1 X2 X3 X4 X5 X6 X7 X8 X9 X10 X11).1 = fun _ => 1#1) (i) : (X9 i).toNat < 32000 :=
  below (by decide) _ (congrFun h i)
theorem hist_bias (h : (Cert.Pre_ids_named_hist.fn (F := F) X0 X1 X2 X3 X4 X5 X6 X7 X8 X9 X10 X11).2.1 = fun _ => 1#1) (i) : (X10 i).toNat < 32768 :=
  below (by decide) _ (congrFun h i)
theorem hist_pos (h : (Cert.Pre_ids_named_hist.fn (F := F) X0 X1 X2 X3 X4 X5 X6 X7 X8 X9 X10 X11).2.2 = fun _ => 1#1) (b : Fin 6) (j : Fin 4096)
    (hc : IntOp.cmpi .slt (BitVec.ofNat 32 j.val) (X5 (ix1 b)) = 1#1) : 0 ≤ (X4 (ix2 b j)).toInt := by
  have e : IntOp.ori (IntOp.cmpi .sge (X4 (ix2 b j)) 0#32) (~~~(IntOp.cmpi .slt (BitVec.ofNat 32 j.val) (X5 (ix1 b)))) = 1#1 := by
    refine Eq.trans ?_ (congrFun h (ix2 b j : Cert.Pre_ids_named_hist.S6x4096.Idx))
    symm
    pointwise [Cert.Pre_ids_named_hist.fn, Cert.Pre_ids_named_hist.fn_part1]
  rw [hc] at e
  have e1 : IntOp.cmpi .sge (X4 (ix2 b j)) 0#32 = 1#1 := (show ∀ x : BitVec 1, IntOp.ori x (~~~1#1) = 1#1 → x = 1#1 by decide) _ e
  have e2 : BitVec.ofBool ((0#32).sle (X4 (ix2 b j))) = 1#1 := e1
  have e3 : (0#32).sle (X4 (ix2 b j)) = true := by
    cases hx : (0#32).sle (X4 (ix2 b j))
    · rw [hx] at e2; exact absurd e2 (by decide)
    · rfl
  rw [BitVec.sle_eq_decide] at e3
  simpa using e3
end Hist

theorem facts_on : Cert.On_finished.Facts := ⟨by decide, by decide, by decide, by decide, by decide⟩

section On
variable [Cert.On_finished.Facts] {X0 : FVec F Cert.On_finished.S6x8192 .fp8e4m3} {X1 : FVec F Cert.On_finished.S6 .f32}
  {X2 : FVec F Cert.On_finished.S8192x32000 .fp8e4m3} {X3 : FVec F Cert.On_finished.S32000 .f32} {X4 : IVec Cert.On_finished.S6x4096 32}
  {X5 : IVec Cert.On_finished.S6 32} {X6 X7 X8 : FVec F Cert.On_finished.S6 .f32} {X9 : IVec Cert.On_finished.S6x4 32}
  {X10 : IVec Cert.On_finished.S6x36 32} {X11 : FVec F Cert.On_finished.S6x36 .f32}

/-- The elements the claim is about: columns below 29952 of the third result, nothing of the other two. -/
theorem on_first (i) : (Cert.On_finished.fn (F := F) X0 X1 X2 X3 X4 X5 X6 X7 X8 X9 X10 X11).1 i ≠ 1#1 := by
  show (0#1 : BitVec 1) ≠ 1#1
  decide
theorem on_second (i) : (Cert.On_finished.fn (F := F) X0 X1 X2 X3 X4 X5 X6 X7 X8 X9 X10 X11).2.1 i ≠ 1#1 := by
  show (0#1 : BitVec 1) ≠ 1#1
  decide
theorem on_third (r : Fin 6) (n : Fin 32000) (h : (Cert.On_finished.fn (F := F) X0 X1 X2 X3 X4 X5 X6 X7 X8 X9 X10 X11).2.2 (ix2 r n : Cert.On_finished.S6x32000.Idx) = 1#1) :
    n.val < 29952 := by
  have e : IntOp.cmpi .slt (BitVec.ofNat 32 n.val) 29952#32 = 1#1 := by
    refine Eq.trans ?_ h
    symm
    pointwise [Cert.On_finished.fn]
  have e2 : BitVec.ofBool ((BitVec.ofNat 32 n.val).slt 29952#32) = 1#1 := e
  have e3 : (BitVec.ofNat 32 n.val).slt 29952#32 = true := by
    cases hx : (BitVec.ofNat 32 n.val).slt 29952#32
    · rw [hx] at e2; exact absurd e2 (by decide)
    · rfl
  have hn := n.isLt
  rw [BitVec.slt_eq_decide, decide_eq_true_eq, BitVec.toInt_eq_toNat_of_lt (by rw [BitVec.toNat_ofNat]; omega), BitVec.toNat_ofNat] at e3
  have e4 : (29952#32).toInt = 29952 := by decide
  omega
end On

end Cert.Proof
end
-- ==== Proof.Kernel.Names.lean ====
/- The names the kernel's proof uses for the buffers, the blocks of the weights and the slots of the ring.

   The kernel streams the weights' first 29952 columns through a ring of four slots, 256 rows at a time: block
   `b` is rows `256 b … 256 b + 255`. It streams the last 2048 columns in six pieces of rows into a buffer of
   their own. This module names a block, a slot, a slot's semaphore, a piece's source and destination, and shows
   that the slices the program computes from its induction variable are these. -/
module

public import proofs.«01_k».proof.Kernel
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameSuffixV
public import Idealize.ShloMosaic.Lib.Ring
public import Idealize.ShloMosaic.Lib.Affine
public import Idealize.ShloMosaic.Lib.Tactic

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's beside the counters the kernel's own transfers ride on. -/
abbrev UU : Type := Pipeline.UD sig nD τ
local notation "𝕄" => MT nD τ sig Unit (Elt F) ℕ UU ℕ
abbrev 𝒱₀ : Variants := Variants.none

/-- The weights, the four slots and the tail's buffer. -/
abbrev aW : Memref sig .tc .hbm S8192x32000 .fp8e4m3 := Memref.whole main_arg2
abbrev wbufM : Memref sig .tc .vmem S4x256x29952 .fp8e4m3 := Memref.whole cc0_scratch0
abbrev tbufM : Memref sig .tc .vmem S8192x2048 .fp8e4m3 := Memref.whole cc0_scratch1

/-! ## Blocks, slots, semaphores -/

abbrev blkOff (b : Fin 32) : Fin 2 → Nat := ![256 * b.val, 0]
theorem blkOff_inb (b : Fin 32) : ∀ a, blkOff b a + S256x29952.size a ≤ S8192x32000.size a := by
  have := b.isLt; intro a; fin_cases a
  · show 256 * b.val + 256 ≤ 8192; omega
  · show 0 + 29952 ≤ 32000; omega
abbrev slotOff (s : Fin 4) : Fin 3 → Nat := ![s.val, 0, 0]
theorem slotOff_inb (s : Fin 4) : ∀ a, slotOff s a + S1x256x29952.size a ≤ S4x256x29952.size a := by
  have := s.isLt; intro a; fin_cases a
  · show s.val + 1 ≤ 4; omega
  · show 0 + 256 ≤ 256; omega
  · show 0 + 29952 ≤ 29952; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Block `b` of the weights' first 29952 columns. -/
def grp (b : Fin 32) : Memref sig .tc .hbm S256x29952 .fp8e4m3 :=
  aW.slice (Rect.unit (s := S8192x32000) (blkOff b) S256x29952.size (blkOff_inb b)) (fun _ => rfl)
/-- Slot `s` of the ring's buffer. -/
def rslot (s : Fin 4) : Memref sig .tc .vmem S256x29952 .fp8e4m3 :=
  (wbufM.slice (Rect.unit (s := S4x256x29952) (slotOff s) S1x256x29952.size (slotOff_inb s)) (fun _ => rfl)).squeeze S256x29952 squeezes_S1x256x29952_S256x29952
/-- Slot `s`'s semaphore. -/
def csm (s : Fin 4) : DmaSems sig S_ := (cc0_scratch19.slice (Rect.unit (s := S4) (semOff s) S1.size (semOff_inb s))).squeeze S_ squeezes_S1_S_

instance (s : Fin 4) : ClosedOff (slotOff s) := ⟨slotOff s, rfl⟩
instance (b : Fin 32) : ClosedOff (blkOff b) := ⟨blkOff b, rfl⟩

/-! ## The program's offsets in closed form -/

theorem trips3_le (k : Fin k0_t3_loop.trips) : k.val < 32 := Nat.lt_of_lt_of_eq k.isLt (by decide)

theorem off27_eq : ∀ k : Fin k0_t3_loop.trips, k0_off27 k = semOff (Ring.sl 4 k.val) := by decide +kernel
theorem off28_eq : ∀ k : Fin k0_t3_loop.trips, k0_off28 k = slotOff (Ring.sl 4 k.val) := by decide +kernel
theorem off31_eq : ∀ k : Fin k0_t3_loop.trips, k0_off31 k = slotOff (Ring.sl 4 k.val) := by decide +kernel
theorem off32_eq : ∀ k : Fin k0_t3_loop.trips, k0_off32 k = semOff (Ring.sl 4 k.val) := by decide +kernel
theorem off33_eq : ∀ k : Fin k0_t3_loop.trips, k0_off33 k = slotOff (Ring.sl 4 k.val) := by decide +kernel
theorem off29_eq : ∀ k : Fin k0_t3_loop.trips, k0_off29 k = blkOff (Ring.bk 32 k.val) := by decide +kernel
theorem off34_eq : ∀ k : Fin k0_t3_loop.trips, k.val + 4 < 32 → k0_off34 k = blkOff (Ring.bk 32 (k.val + 4)) := by decide +kernel

/-- The first conditional is taken exactly when block `k + 4` exists, -/
theorem cond1_iff : ∀ k : Fin k0_t3_loop.trips, k0_cond1 k = 1#1 ↔ k.val + 4 < 32 := by decide +kernel
/-- the second exactly at trip 28. -/
theorem cond2_iff : ∀ k : Fin k0_t3_loop.trips,
    Scalar.cmpi .ne (Scalar.extui (Scalar.cmpi .eq (Scalar.addi (Scf.iv 0#32 1#32 k) 4#32) 32#32) : BitVec 32) 0#32 = 1#1 ↔ k.val = 28 := by decide +kernel

instance (k : Fin k0_t3_loop.trips) : ClosedOff (k0_off31 k) := ⟨slotOff (Ring.sl 4 k.val), off31_eq k⟩
instance (k : Fin k0_t3_loop.trips) : ClosedOff (k0_off28 k) := ⟨slotOff (Ring.sl 4 k.val), off28_eq k⟩

/-! ## The program's slices are these -/

theorem csm_congr {off : Fin 1 → Nat} {s : Fin 4} (e : off = semOff s) (hh) :
    (cc0_scratch19.slice (Rect.unit (s := S4) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 4} (e : off = slotOff s) (hh hs) :
    (wbufM.slice (Rect.unit (s := S4x256x29952) off S1x256x29952.size hh) hs).squeeze S256x29952 squeezes_S1x256x29952_S256x29952 = rslot s :=
  congrArg (fun M : Memref sig .tc .vmem S1x256x29952 .fp8e4m3 => M.squeeze S256x29952 squeezes_S1x256x29952_S256x29952) (Memref.slice_unit_congr _ e _ _ _ _)
theorem grp_congr {off : Fin 2 → Nat} {b : Fin 32} (e : off = blkOff b) (hh hs) :
    aW.slice (Rect.unit (s := S8192x32000) off S256x29952.size hh) hs = grp b :=
  Memref.slice_unit_congr _ e _ _ hs (fun _ => rfl)

@[sl_canon] theorem semL0 (hh) : (cc0_scratch19.slice (Rect.unit (s := S4) ![0] S1.size hh)).squeeze S_ squeezes_S1_S_ = csm 0 := csm_congr (by decide) _
@[sl_canon] theorem slotL0 (hh hs) : (wbufM.slice (Rect.unit (s := S4x256x29952) ![0, 0, 0] S1x256x29952.size hh) hs).squeeze S256x29952 squeezes_S1x256x29952_S256x29952 = rslot 0 := rslot_congr (by decide) _ _
@[sl_canon] theorem grpL0 (hh hs) : aW.slice (Rect.unit (s := S8192x32000) ![0, 0] S256x29952.size hh) hs = grp 0 := grp_congr (by decide) _ _

@[sl_canon] theorem semL1 (hh) : (cc0_scratch19.slice (Rect.unit (s := S4) ![1] S1.size hh)).squeeze S_ squeezes_S1_S_ = csm 1 := csm_congr (by decide) _
@[sl_canon] theorem slotL1 (hh hs) : (wbufM.slice (Rect.unit (s := S4x256x29952) ![1, 0, 0] S1x256x29952.size hh) hs).squeeze S256x29952 squeezes_S1x256x29952_S256x29952 = rslot 1 := rslot_congr (by decide) _ _
@[sl_canon] theorem grpL1 (hh hs) : aW.slice (Rect.unit (s := S8192x32000) ![256, 0] S256x29952.size hh) hs = grp 1 := grp_congr (by decide) _ _

@[sl_canon] theorem semL2 (hh) : (cc0_scratch19.slice (Rect.unit (s := S4) ![2] S1.size hh)).squeeze S_ squeezes_S1_S_ = csm 2 := csm_congr (by decide) _
@[sl_canon] theorem slotL2 (hh hs) : (wbufM.slice (Rect.unit (s := S4x256x29952) ![2, 0, 0] S1x256x29952.size hh) hs).squeeze S256x29952 squeezes_S1x256x29952_S256x29952 = rslot 2 := rslot_congr (by decide) _ _
@[sl_canon] theorem grpL2 (hh hs) : aW.slice (Rect.unit (s := S8192x32000) ![512, 0] S256x29952.size hh) hs = grp 2 := grp_congr (by decide) _ _

@[sl_canon] theorem semL3 (hh) : (cc0_scratch19.slice (Rect.unit (s := S4) ![3] S1.size hh)).squeeze S_ squeezes_S1_S_ = csm 3 := csm_congr (by decide) _
@[sl_canon] theorem slotL3 (hh hs) : (wbufM.slice (Rect.unit (s := S4x256x29952) ![3, 0, 0] S1x256x29952.size hh) hs).squeeze S256x29952 squeezes_S1x256x29952_S256x29952 = rslot 3 := rslot_congr (by decide) _ _
@[sl_canon] theorem grpL3 (hh hs) : aW.slice (Rect.unit (s := S8192x32000) ![768, 0] S256x29952.size hh) hs = grp 3 := grp_congr (by decide) _ _

/-- Trip `k`: semaphore and slot `k % 4`, block `k` waited for, block `k + 4` issued. -/
@[sl_canon] theorem semK (k : Fin k0_t3_loop.trips) (hh) :
    (cc0_scratch19.slice (Rect.unit (s := S4) (k0_off27 k) S1.size hh)).squeeze S_ squeezes_S1_S_ = csm (Ring.sl 4 k.val) := csm_congr (off27_eq k) _
@[sl_canon] theorem slotK (k : Fin k0_t3_loop.trips) (hh hs) :
    (wbufM.slice (Rect.unit (s := S4x256x29952) (k0_off28 k) S1x256x29952.size hh) hs).squeeze S256x29952 squeezes_S1x256x29952_S256x29952 = rslot (Ring.sl 4 k.val) := rslot_congr (off28_eq k) _ _
@[sl_canon] theorem semI (k : Fin k0_t3_loop.trips) (hh) :
    (cc0_scratch19.slice (Rect.unit (s := S4) (k0_off32 k) S1.size hh)).squeeze S_ squeezes_S1_S_ = csm (Ring.sl 4 k.val) := csm_congr (off32_eq k) _
@[sl_canon] theorem slotI (k : Fin k0_t3_loop.trips) (hh hs) :
    (wbufM.slice (Rect.unit (s := S4x256x29952) (k0_off33 k) S1x256x29952.size hh) hs).squeeze S256x29952 squeezes_S1x256x29952_S256x29952 = rslot (Ring.sl 4 k.val) := rslot_congr (off33_eq k) _ _
@[sl_canon] theorem grpW (k : Fin k0_t3_loop.trips) (hh hs) :
    aW.slice (Rect.unit (s := S8192x32000) (k0_off29 k) S256x29952.size hh) hs = grp (Ring.bk 32 k.val) := grp_congr (off29_eq k) _ _
@[sl_canon] theorem grpI (k : Fin k0_t3_loop.trips) (hk : k.val + 4 < 32) (hh hs) :
    aW.slice (Rect.unit (s := S8192x32000) (k0_off34 k) S256x29952.size hh) hs = grp (Ring.bk 32 (k.val + 4)) := grp_congr (off34_eq k hk) _ _

/-! ## The tail: six pieces of rows of the last 2048 columns -/

/-- Piece 0: rows 0 … 3071; where it comes from, where it goes, its semaphore. -/
def tsrc0 : Memref sig .tc .hbm S3072x2048 .fp8e4m3 :=
  aW.slice (Rect.unit (s := S8192x32000) ![0, 29952] S3072x2048.size inb_S8192x32000_S3072x2048_0_29952) (fun _ => rfl)
def tdst0 : Memref sig .tc .vmem S3072x2048 .fp8e4m3 :=
  tbufM.slice (Rect.unit (s := S8192x2048) ![0, 0] S3072x2048.size inb_S8192x2048_S3072x2048_0_0) (fun _ => rfl)
def tsm0 : DmaSems sig S_ := (cc0_scratch20.slice (Rect.unit (s := S6) ![0] S1.size inb_S6_S1_0)).squeeze S_ squeezes_S1_S_
@[sl_canon] theorem tsrcL0 (hh hs) : aW.slice (Rect.unit (s := S8192x32000) ![0, 29952] S3072x2048.size hh) hs = tsrc0 := rfl
@[sl_canon] theorem tdstL0 (hh hs) : tbufM.slice (Rect.unit (s := S8192x2048) ![0, 0] S3072x2048.size hh) hs = tdst0 := rfl
@[sl_canon] theorem tsmL0 (hh) : (cc0_scratch20.slice (Rect.unit (s := S6) ![0] S1.size hh)).squeeze S_ squeezes_S1_S_ = tsm0 := rfl

/-- Piece 1: rows 3072 … 5119; where it comes from, where it goes, its semaphore. -/
def tsrc1 : Memref sig .tc .hbm S2048x2048 .fp8e4m3 :=
  aW.slice (Rect.unit (s := S8192x32000) ![3072, 29952] S2048x2048.size inb_S8192x32000_S2048x2048_3072_29952) (fun _ => rfl)
def tdst1 : Memref sig .tc .vmem S2048x2048 .fp8e4m3 :=
  tbufM.slice (Rect.unit (s := S8192x2048) ![3072, 0] S2048x2048.size inb_S8192x2048_S2048x2048_3072_0) (fun _ => rfl)
def tsm1 : DmaSems sig S_ := (cc0_scratch20.slice (Rect.unit (s := S6) ![1] S1.size inb_S6_S1_1)).squeeze S_ squeezes_S1_S_
@[sl_canon] theorem tsrcL1 (hh hs) : aW.slice (Rect.unit (s := S8192x32000) ![3072, 29952] S2048x2048.size hh) hs = tsrc1 := rfl
@[sl_canon] theorem tdstL1 (hh hs) : tbufM.slice (Rect.unit (s := S8192x2048) ![3072, 0] S2048x2048.size hh) hs = tdst1 := rfl
@[sl_canon] theorem tsmL1 (hh) : (cc0_scratch20.slice (Rect.unit (s := S6) ![1] S1.size hh)).squeeze S_ squeezes_S1_S_ = tsm1 := rfl

/-- Piece 2: rows 5120 … 6143; where it comes from, where it goes, its semaphore. -/
def tsrc2 : Memref sig .tc .hbm S1024x2048 .fp8e4m3 :=
  aW.slice (Rect.unit (s := S8192x32000) ![5120, 29952] S1024x2048.size inb_S8192x32000_S1024x2048_5120_29952) (fun _ => rfl)
def tdst2 : Memref sig .tc .vmem S1024x2048 .fp8e4m3 :=
  tbufM.slice (Rect.unit (s := S8192x2048) ![5120, 0] S1024x2048.size inb_S8192x2048_S1024x2048_5120_0) (fun _ => rfl)
def tsm2 : DmaSems sig S_ := (cc0_scratch20.slice (Rect.unit (s := S6) ![2] S1.size inb_S6_S1_2)).squeeze S_ squeezes_S1_S_
@[sl_canon] theorem tsrcL2 (hh hs) : aW.slice (Rect.unit (s := S8192x32000) ![5120, 29952] S1024x2048.size hh) hs = tsrc2 := rfl
@[sl_canon] theorem tdstL2 (hh hs) : tbufM.slice (Rect.unit (s := S8192x2048) ![5120, 0] S1024x2048.size hh) hs = tdst2 := rfl
@[sl_canon] theorem tsmL2 (hh) : (cc0_scratch20.slice (Rect.unit (s := S6) ![2] S1.size hh)).squeeze S_ squeezes_S1_S_ = tsm2 := rfl

/-- Piece 3: rows 6144 … 7167; where it comes from, where it goes, its semaphore. -/
def tsrc3 : Memref sig .tc .hbm S1024x2048 .fp8e4m3 :=
  aW.slice (Rect.unit (s := S8192x32000) ![6144, 29952] S1024x2048.size inb_S8192x32000_S1024x2048_6144_29952) (fun _ => rfl)
def tdst3 : Memref sig .tc .vmem S1024x2048 .fp8e4m3 :=
  tbufM.slice (Rect.unit (s := S8192x2048) ![6144, 0] S1024x2048.size inb_S8192x2048_S1024x2048_6144_0) (fun _ => rfl)
def tsm3 : DmaSems sig S_ := (cc0_scratch20.slice (Rect.unit (s := S6) ![3] S1.size inb_S6_S1_3)).squeeze S_ squeezes_S1_S_
@[sl_canon] theorem tsrcL3 (hh hs) : aW.slice (Rect.unit (s := S8192x32000) ![6144, 29952] S1024x2048.size hh) hs = tsrc3 := rfl
@[sl_canon] theorem tdstL3 (hh hs) : tbufM.slice (Rect.unit (s := S8192x2048) ![6144, 0] S1024x2048.size hh) hs = tdst3 := rfl
@[sl_canon] theorem tsmL3 (hh) : (cc0_scratch20.slice (Rect.unit (s := S6) ![3] S1.size hh)).squeeze S_ squeezes_S1_S_ = tsm3 := rfl

/-- Piece 4: rows 7168 … 7679; where it comes from, where it goes, its semaphore. -/
def tsrc4 : Memref sig .tc .hbm S512x2048 .fp8e4m3 :=
  aW.slice (Rect.unit (s := S8192x32000) ![7168, 29952] S512x2048.size inb_S8192x32000_S512x2048_7168_29952) (fun _ => rfl)
def tdst4 : Memref sig .tc .vmem S512x2048 .fp8e4m3 :=
  tbufM.slice (Rect.unit (s := S8192x2048) ![7168, 0] S512x2048.size inb_S8192x2048_S512x2048_7168_0) (fun _ => rfl)
def tsm4 : DmaSems sig S_ := (cc0_scratch20.slice (Rect.unit (s := S6) ![4] S1.size inb_S6_S1_4)).squeeze S_ squeezes_S1_S_
@[sl_canon] theorem tsrcL4 (hh hs) : aW.slice (Rect.unit (s := S8192x32000) ![7168, 29952] S512x2048.size hh) hs = tsrc4 := rfl
@[sl_canon] theorem tdstL4 (hh hs) : tbufM.slice (Rect.unit (s := S8192x2048) ![7168, 0] S512x2048.size hh) hs = tdst4 := rfl
@[sl_canon] theorem tsmL4 (hh) : (cc0_scratch20.slice (Rect.unit (s := S6) ![4] S1.size hh)).squeeze S_ squeezes_S1_S_ = tsm4 := rfl

/-- Piece 5: rows 7680 … 8191; where it comes from, where it goes, its semaphore. -/
def tsrc5 : Memref sig .tc .hbm S512x2048 .fp8e4m3 :=
  aW.slice (Rect.unit (s := S8192x32000) ![7680, 29952] S512x2048.size inb_S8192x32000_S512x2048_7680_29952) (fun _ => rfl)
def tdst5 : Memref sig .tc .vmem S512x2048 .fp8e4m3 :=
  tbufM.slice (Rect.unit (s := S8192x2048) ![7680, 0] S512x2048.size inb_S8192x2048_S512x2048_7680_0) (fun _ => rfl)
def tsm5 : DmaSems sig S_ := (cc0_scratch20.slice (Rect.unit (s := S6) ![5] S1.size inb_S6_S1_5)).squeeze S_ squeezes_S1_S_
@[sl_canon] theorem tsrcL5 (hh hs) : aW.slice (Rect.unit (s := S8192x32000) ![7680, 29952] S512x2048.size hh) hs = tsrc5 := rfl
@[sl_canon] theorem tdstL5 (hh hs) : tbufM.slice (Rect.unit (s := S8192x2048) ![7680, 0] S512x2048.size hh) hs = tdst5 := rfl
@[sl_canon] theorem tsmL5 (hh) : (cc0_scratch20.slice (Rect.unit (s := S6) ![5] S1.size hh)).squeeze S_ squeezes_S1_S_ = tsm5 := rfl

end Cert.Proof.Kernel

end
-- ==== Proof.Kernel.Ring.lean ====
/- One trip of the loop over the ring of the weights, and the loop's invariant.

   Trip `k` waits for block `k` of the weights in slot `k % 4`, adds the product of the matching 256 columns of
   the activations with it to the logits' first 29952 columns, then starts block `k + 4` into the same slot; trip
   28 starts the tail's six pieces instead; trips 29 to 31 start nothing. -/
module

public import proofs.«01_k».proof.Proof.Kernel.Names

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev xbufM : Memref sig .tc .vmem S32x8192 .fp8e4m3 := Memref.whole cc0_scratch3
abbrev zbufM : Memref sig .tc .vmem S6x32000 .f32 := Memref.whole cc0_scratch8

section Pieces
variable (c : Dev nD) (XA : Buf (Elt F) (aW.view.loc (c : Thread nD τ)))

/-- Slot `s`'s semaphore at zero. -/
abbrev cellP (s : Fin 4) : sProp 𝕄 := semVal ((c : Thread nD τ), SemLoc.dma (csm s).sem) 0
/-- Slot `s` held at `f`. -/
abbrev slotP (s : Fin 4) (f : Buf (Elt F) ((rslot s).view.loc (c : Thread nD τ))) : sProp 𝕄 :=
  (rslot s).view.loc (c : Thread nD τ) ↦[(rslot s).view.set]{fullShare} f
/-- Block `b` at home: held at the weights' contents. -/
abbrev homeP (b : Fin 32) : sProp 𝕄 := (grp b).view.loc (c : Thread nD τ) ↦[(grp b).view.set]{fullShare} XA
/-- Block `b`'s words as a slot's payload. -/
abbrev payload (b : Fin 32) : S256x29952.Idx → Elt F .fp8e4m3 := ReadAs.same.apply ((grp b).view.read (Elt F) XA)
/-- What block `b`'s transfer leaves in slot `s` over `f`. -/
abbrev landed (s : Fin 4) (b : Fin 32) (f : Buf (Elt F) ((rslot s).view.loc (c : Thread nD τ))) : Buf (Elt F) ((rslot s).view.loc (c : Thread nD τ)) :=
  (rslot s).view.writes (Elt F) f [⟨Rect.whole S256x29952, payload c XA b⟩]
/-- The units a block's transfer moves on its semaphore. -/
abbrev NN : ℕ := 239616
/-- Slot `s` in flight with block `b`, issued over `f`. -/
abbrev flightP (s : Fin 4) (b : Fin 32) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- The flight trip `k` issues, as the run states it, is `flightP` over the slot as the previous block left it. -/
theorem flightP_after (s : Fin 4) (b b' : Fin 32) :
    flightP c XA s b' ((rslot s).view.writes (Elt F) (rslot s).view.junk [⟨Rect.whole S256x29952, payload c XA b⟩])
      = Transfers.Flight countersEmb (c : Thread nD τ) (SemLoc.dma (csm s).sem) () NN
          iprop(((rslot s).view.loc (c : Thread nD τ) ↦[(rslot s).view.set]{fullShare}
                  (rslot s).view.writes (Elt F) (rslot s).view.junk [⟨Rect.whole S256x29952, payload c XA b'⟩, ⟨Rect.whole S256x29952, payload c XA b⟩])
                ∗ homeP c XA b') := by
  simp only [flightP, landed, slotP, NN, View.writes]

/-- Piece 0: its rows at home, its window of the tail's buffer at anything, its semaphore at zero; and in flight. -/
abbrev thome0 : sProp 𝕄 := tsrc0.view.loc (c : Thread nD τ) ↦[tsrc0.view.set]{fullShare} XA
abbrev tslot0 (f : Buf (Elt F) (tdst0.view.loc (c : Thread nD τ))) : sProp 𝕄 := tdst0.view.loc (c : Thread nD τ) ↦[tdst0.view.set]{fullShare} f
abbrev tcell0 : sProp 𝕄 := semVal ((c : Thread nD τ), SemLoc.dma tsm0.sem) 0
abbrev tland0 (f : Buf (Elt F) (tdst0.view.loc (c : Thread nD τ))) : Buf (Elt F) (tdst0.view.loc (c : Thread nD τ)) :=
  tdst0.view.writes (Elt F) f [⟨Rect.whole S3072x2048, ReadAs.same.apply (tsrc0.view.read (Elt F) XA)⟩]
abbrev tflight0 (f : Buf (Elt F) (tdst0.view.loc (c : Thread nD τ))) : sProp 𝕄 :=
  Transfers.Flight countersEmb (c : Thread nD τ) (SemLoc.dma tsm0.sem) () 196608 iprop(tslot0 c (tland0 c XA f) ∗ thome0 c XA)

/-- Piece 1: its rows at home, its window of the tail's buffer at anything, its semaphore at zero; and in flight. -/
abbrev thome1 : sProp 𝕄 := tsrc1.view.loc (c : Thread nD τ) ↦[tsrc1.view.set]{fullShare} XA
abbrev tslot1 (f : Buf (Elt F) (tdst1.view.loc (c : Thread nD τ))) : sProp 𝕄 := tdst1.view.loc (c : Thread nD τ) ↦[tdst1.view.set]{fullShare} f
abbrev tcell1 : sProp 𝕄 := semVal ((c : Thread nD τ), SemLoc.dma tsm1.sem) 0
abbrev tland1 (f : Buf (Elt F) (tdst1.view.loc (c : Thread nD τ))) : Buf (Elt F) (tdst1.view.loc (c : Thread nD τ)) :=
  tdst1.view.writes (Elt F) f [⟨Rect.whole S2048x2048, ReadAs.same.apply (tsrc1.view.read (Elt F) XA)⟩]
abbrev tflight1 (f : Buf (Elt F) (tdst1.view.loc (c : Thread nD τ))) : sProp 𝕄 :=
  Transfers.Flight countersEmb (c : Thread nD τ) (SemLoc.dma tsm1.sem) () 131072 iprop(tslot1 c (tland1 c XA f) ∗ thome1 c XA)

/-- Piece 2: its rows at home, its window of the tail's buffer at anything, its semaphore at zero; and in flight. -/
abbrev thome2 : sProp 𝕄 := tsrc2.view.loc (c : Thread nD τ) ↦[tsrc2.view.set]{fullShare} XA
abbrev tslot2 (f : Buf (Elt F) (tdst2.view.loc (c : Thread nD τ))) : sProp 𝕄 := tdst2.view.loc (c : Thread nD τ) ↦[tdst2.view.set]{fullShare} f
abbrev tcell2 : sProp 𝕄 := semVal ((c : Thread nD τ), SemLoc.dma tsm2.sem) 0
abbrev tland2 (f : Buf (Elt F) (tdst2.view.loc (c : Thread nD τ))) : Buf (Elt F) (tdst2.view.loc (c : Thread nD τ)) :=
  tdst2.view.writes (Elt F) f [⟨Rect.whole S1024x2048, ReadAs.same.apply (tsrc2.view.read (Elt F) XA)⟩]
abbrev tflight2 (f : Buf (Elt F) (tdst2.view.loc (c : Thread nD τ))) : sProp 𝕄 :=
  Transfers.Flight countersEmb (c : Thread nD τ) (SemLoc.dma tsm2.sem) () 65536 iprop(tslot2 c (tland2 c XA f) ∗ thome2 c XA)

/-- Piece 3: its rows at home, its window of the tail's buffer at anything, its semaphore at zero; and in flight. -/
abbrev thome3 : sProp 𝕄 := tsrc3.view.loc (c : Thread nD τ) ↦[tsrc3.view.set]{fullShare} XA
abbrev tslot3 (f : Buf (Elt F) (tdst3.view.loc (c : Thread nD τ))) : sProp 𝕄 := tdst3.view.loc (c : Thread nD τ) ↦[tdst3.view.set]{fullShare} f
abbrev tcell3 : sProp 𝕄 := semVal ((c : Thread nD τ), SemLoc.dma tsm3.sem) 0
abbrev tland3 (f : Buf (Elt F) (tdst3.view.loc (c : Thread nD τ))) : Buf (Elt F) (tdst3.view.loc (c : Thread nD τ)) :=
  tdst3.view.writes (Elt F) f [⟨Rect.whole S1024x2048, ReadAs.same.apply (tsrc3.view.read (Elt F) XA)⟩]
abbrev tflight3 (f : Buf (Elt F) (tdst3.view.loc (c : Thread nD τ))) : sProp 𝕄 :=
  Transfers.Flight countersEmb (c : Thread nD τ) (SemLoc.dma tsm3.sem) () 65536 iprop(tslot3 c (tland3 c XA f) ∗ thome3 c XA)

/-- Piece 4: its rows at home, its window of the tail's buffer at anything, its semaphore at zero; and in flight. -/
abbrev thome4 : sProp 𝕄 := tsrc4.view.loc (c : Thread nD τ) ↦[tsrc4.view.set]{fullShare} XA
abbrev tslot4 (f : Buf (Elt F) (tdst4.view.loc (c : Thread nD τ))) : sProp 𝕄 := tdst4.view.loc (c : Thread nD τ) ↦[tdst4.view.set]{fullShare} f
abbrev tcell4 : sProp 𝕄 := semVal ((c : Thread nD τ), SemLoc.dma tsm4.sem) 0
abbrev tland4 (f : Buf (Elt F) (tdst4.view.loc (c : Thread nD τ))) : Buf (Elt F) (tdst4.view.loc (c : Thread nD τ)) :=
  tdst4.view.writes (Elt F) f [⟨Rect.whole S512x2048, ReadAs.same.apply (tsrc4.view.read (Elt F) XA)⟩]
abbrev tflight4 (f : Buf (Elt F) (tdst4.view.loc (c : Thread nD τ))) : sProp 𝕄 :=
  Transfers.Flight countersEmb (c : Thread nD τ) (SemLoc.dma tsm4.sem) () 32768 iprop(tslot4 c (tland4 c XA f) ∗ thome4 c XA)

/-- Piece 5: its rows at home, its window of the tail's buffer at anything, its semaphore at zero; and in flight. -/
abbrev thome5 : sProp 𝕄 := tsrc5.view.loc (c : Thread nD τ) ↦[tsrc5.view.set]{fullShare} XA
abbrev tslot5 (f : Buf (Elt F) (tdst5.view.loc (c : Thread nD τ))) : sProp 𝕄 := tdst5.view.loc (c : Thread nD τ) ↦[tdst5.view.set]{fullShare} f
abbrev tcell5 : sProp 𝕄 := semVal ((c : Thread nD τ), SemLoc.dma tsm5.sem) 0
abbrev tland5 (f : Buf (Elt F) (tdst5.view.loc (c : Thread nD τ))) : Buf (Elt F) (tdst5.view.loc (c : Thread nD τ)) :=
  tdst5.view.writes (Elt F) f [⟨Rect.whole S512x2048, ReadAs.same.apply (tsrc5.view.read (Elt F) XA)⟩]
abbrev tflight5 (f : Buf (Elt F) (tdst5.view.loc (c : Thread nD τ))) : sProp 𝕄 :=
  Transfers.Flight countersEmb (c : Thread nD τ) (SemLoc.dma tsm5.sem) () 32768 iprop(tslot5 c (tland5 c XA f) ∗ thome5 c XA)

/-- The tail before its pieces are started, and after. -/
def tailHome : sProp 𝕄 := iprop(thome0 c XA ∗ thome1 c XA ∗ thome2 c XA ∗ thome3 c XA ∗ thome4 c XA ∗ thome5 c XA
  ∗ (∃ f, tslot0 c f) ∗ (∃ f, tslot1 c f) ∗ (∃ f, tslot2 c f) ∗ (∃ f, tslot3 c f) ∗ (∃ f, tslot4 c f) ∗ (∃ f, tslot5 c f)
  ∗ tcell0 c ∗ tcell1 c ∗ tcell2 c ∗ tcell3 c ∗ tcell4 c ∗ tcell5 c)
def tailFlying : sProp 𝕄 := iprop((∃ f, tflight0 c XA f) ∗ (∃ f, tflight1 c XA f) ∗ (∃ f, tflight2 c XA f) ∗ (∃ f, tflight3 c XA f) ∗ (∃ f, tflight4 c XA f) ∗ (∃ f, tflight5 c XA f))

end Pieces

section Trip
variable (c : Dev nD) (XA : Buf (Elt F) (aW.view.loc (c : Thread nD τ)))
  (fx : Buf (Elt F) (xbufM.view.loc (c : Thread nD τ)))
  (v87 : FVec F S6x8192 .fp8e4m3)

/-- The activations' buffer and the logits' buffer. -/
abbrev xP : sProp 𝕄 := xbufM.view.loc (c : Thread nD τ) ↦[xbufM.view.set]{fullShare} fx
abbrev zP (fz : Buf (Elt F) (zbufM.view.loc (c : Thread nD τ))) : sProp 𝕄 := zbufM.view.loc (c : Thread nD τ) ↦[zbufM.view.set]{fullShare} fz

abbrev tripG (k : Fin k0_t3_loop.trips) : Prog (TpuEff nD τ sig (Elt F) Λ₀ .tc) Unit :=
  k0_t3_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 k ()

abbrev RZ : Rect S6x32000 := Rect.unit (s := S6x32000) ![0, 0] S6x29952.size inb_S6x32000_S6x29952_0_0

/-- What trip `k` reads from the ring's buffer: block `k`, landed in slot `k % 4`. -/
def slotRd (k : Fin k0_t3_loop.trips) : Vec F S1x256x29952 .fp8e4m3 :=
  wbufM.view.readAt (Elt F) (Rect.unit (s := S4x256x29952) (k0_off31 k) S1x256x29952.size (k0_off31_inb k)).toLoadRect
    ((rslot (Ring.sl 4 k.val)).view.writes (Elt F) (rslot (Ring.sl 4 k.val)).view.junk [⟨Rect.whole S256x29952, payload c XA (Ring.bk 32 k.val)⟩])
/-- What trip `k` stores: the columns' contents so far, plus the product of the trip's activations with the block. -/
def stepW (k : Fin k0_t3_loop.trips) (fz : Buf (Elt F) (zbufM.view.loc (c : Thread nD τ))) : (RZ).shape.Idx → Elt F .f32 :=
  k0_pay92 (xbufM.view.readAt (Elt F) (Rect.unit (s := S32x8192) (k0_off30 k) S32x256.size (k0_off30_inb k)).toLoadRect fx)
    (zbufM.view.readAt (Elt F) (RZ).toLoadRect fz) (slotRd c XA k)

/-- A trip that starts block `k + 4`. -/
theorem tripA (k : Fin k0_t3_loop.trips) (h : k.val < 28) (fz : Buf (Elt F) (zbufM.view.loc (c : Thread nD τ))) (W f) :
    iprop(xP c fx ∗ zP c fz ∗ owes (c : Thread nD τ) 0 W ∗ flightP c XA (Ring.sl 4 k) (Ring.bk 32 k) f ∗ homeP c XA (Ring.bk 32 (k.val + 4)))
      ⊢ wp frame (wpE (defs₀ (F := F)) 𝒱₀ (c : Thread nD τ) none) Set.univ (tripG v87 k)
      (fun _ => iprop(xP c fx ∗ zP c (zbufM.view.writes (Elt F) fz [⟨RZ, stepW c XA fx k fz⟩]) ∗ (∃ W, owes (c : Thread nD τ) 0 W)
        ∗ (∃ f, flightP c XA (Ring.sl 4 k) (Ring.bk 32 (k.val + 4)) f) ∗ homeP c XA (Ring.bk 32 k))) := by
  have hk : k.val + 4 < 32 := by omega
  have hc1 : k0_cond1 k = 1#1 := (cond1_iff k).2 hk
  have hc2 : ¬ (Scalar.cmpi .ne (Scalar.extui (Scalar.cmpi .eq (Scalar.addi (Scf.iv 0#32 1#32 k) 4#32) 32#32) : BitVec 32) 0#32 = 1#1) :=
    fun e => by have := (cond2_iff k).1 e; omega
  iintro ⟨HX, HZ, HW, HF, Hg⟩
  dsimp only [tripG]
  sl_unfold [k0_t3_body]
  sl_exec
  sl_step
  isplitl [HX]; · iexact HX
  isplitl [HZ]; · iexact HZ
  isplitl [HW]; · iexists _; iexact HW
  isplitl [HF]
  · iexists ((rslot (Ring.sl 4 k.val)).view.writes (Elt F) (rslot (Ring.sl 4 k.val)).view.junk [⟨Rect.whole S256x29952, payload c XA (Ring.bk 32 k.val)⟩])
    irw [flightP_after]
    iexact HF
  iexact HF_src

/-- Trip 28: nothing more for the ring, and the tail's six pieces started. -/
theorem tripB (k : Fin k0_t3_loop.trips) (h : k.val = 28) (fz : Buf (Elt F) (zbufM.view.loc (c : Thread nD τ))) (W f) :
    iprop(xP c fx ∗ zP c fz ∗ owes (c : Thread nD τ) 0 W ∗ flightP c XA (Ring.sl 4 k) (Ring.bk 32 k) f ∗ tailHome c XA)
      ⊢ wp frame (wpE (defs₀ (F := F)) 𝒱₀ (c : Thread nD τ) none) Set.univ (tripG v87 k)
      (fun _ => iprop(xP c fx ∗ zP c (zbufM.view.writes (Elt F) fz [⟨RZ, stepW c XA fx k fz⟩]) ∗ (∃ W, owes (c : Thread nD τ) 0 W)
        ∗ ((∃ f, slotP c (Ring.sl 4 k) f) ∗ cellP c (Ring.sl 4 k)) ∗ homeP c XA (Ring.bk 32 k) ∗ tailFlying c XA)) := by
  have hc1 : ¬ (k0_cond1 k = 1#1) := fun e => by have := (cond1_iff k).1 e; omega
  have hc2 : Scalar.cmpi .ne (Scalar.extui (Scalar.cmpi .eq (Scalar.addi (Scf.iv 0#32 1#32 k) 4#32) 32#32) : BitVec 32) 0#32 = 1#1 :=
    (cond2_iff k).2 h
  unfold tailHome tailFlying
  iintro ⟨HX, HZ, HW, HF, Hh0, Hh1, Hh2, Hh3, Hh4, Hh5, ⟨%g0, Hs0⟩, ⟨%g1, Hs1⟩, ⟨%g2, Hs2⟩, ⟨%g3, Hs3⟩, ⟨%g4, Hs4⟩, ⟨%g5, Hs5⟩, Ht0, Ht1, Ht2, Ht3, Ht4, Ht5⟩
  dsimp only [tripG]
  sl_unfold [k0_t3_body]
  sl_exec
  sl_step
  isplitl [HX]; · iexact HX
  isplitl [HZ]; · iexact HZ
  isplitl [HW]; · iexists _; iexact HW
  isplitl [HF HF_dst]
  · isplitl [HF_dst]; · iexists _; iexact HF_dst
    iexact HF
  isplitl [HF_src]; · iexact HF_src
  isplitl [Ht0]; · iexists _; iexact Ht0
  isplitl [Ht1]; · iexists _; iexact Ht1
  isplitl [Ht2]; · iexists _; iexact Ht2
  isplitl [Ht3]; · iexists _; iexact Ht3
  isplitl [Ht4]; · iexists _; iexact Ht4
  iexists _; iexact Ht5

/-- The last three trips start nothing. -/
theorem tripC (k : Fin k0_t3_loop.trips) (h : 28 < k.val) (fz : Buf (Elt F) (zbufM.view.loc (c : Thread nD τ))) (W f) :
    iprop(xP c fx ∗ zP c fz ∗ owes (c : Thread nD τ) 0 W ∗ flightP c XA (Ring.sl 4 k) (Ring.bk 32 k) f)
      ⊢ wp frame (wpE (defs₀ (F := F)) 𝒱₀ (c : Thread nD τ) none) Set.univ (tripG v87 k)
      (fun _ => iprop(xP c fx ∗ zP c (zbufM.view.writes (Elt F) fz [⟨RZ, stepW c XA fx k fz⟩]) ∗ (∃ W, owes (c : Thread nD τ) 0 W)
        ∗ ((∃ f, slotP c (Ring.sl 4 k) f) ∗ cellP c (Ring.sl 4 k)) ∗ homeP c XA (Ring.bk 32 k))) := by
  have hc1 : ¬ (k0_cond1 k = 1#1) := fun e => by have := (cond1_iff k).1 e; omega
  have hc2 : ¬ (Scalar.cmpi .ne (Scalar.extui (Scalar.cmpi .eq (Scalar.addi (Scf.iv 0#32 1#32 k) 4#32) 32#32) : BitVec 32) 0#32 = 1#1) :=
    fun e => by have := (cond2_iff k).1 e; omega
  iintro ⟨HX, HZ, HW, HF⟩
  dsimp only [tripG]
  sl_unfold [k0_t3_body]
  sl_exec
  sl_step
  isplitl [HX]; · iexact HX
  isplitl [HZ]; · iexact HZ
  isplitl [HW]; · iexists _; iexact HW
  isplitl [HF HF_dst]
  · isplitl [HF_dst]; · iexists _; iexact HF_dst
    iexact HF
  iexact HF_src

/-! ## The loop's invariant -/

/-- The logits' buffer before trip `k`, from `z0` at the loop's entry. -/
def zAt (z0 : Buf (Elt F) (zbufM.view.loc (c : Thread nD τ))) : ℕ → Buf (Elt F) (zbufM.view.loc (c : Thread nD τ))
  | 0 => z0
  | k + 1 => if h : k < k0_t3_loop.trips then zbufM.view.writes (Elt F) (zAt z0 k) [⟨RZ, stepW c XA fx ⟨k, h⟩ (zAt z0 k)⟩] else zAt z0 k

/-- Block `j`'s slot: in flight with the block, or free when there is no such block. -/
def roleP (j : ℕ) : sProp 𝕄 :=
  if j < 32 then iprop(∃ f, flightP c XA (Ring.sl 4 j) (Ring.bk 32 j) f) else iprop((∃ f, slotP c (Ring.sl 4 j) f) ∗ cellP c (Ring.sl 4 j))
/-- The tail before trip `k`: started by trip 28. -/
def tailSt (k : ℕ) : sProp 𝕄 := if k ≤ 28 then tailHome c XA else tailFlying c XA

/-- Everything the loop touches, before trip `k`. -/
def ringSt (z0 : Buf (Elt F) (zbufM.view.loc (c : Thread nD τ))) (k : ℕ) : sProp 𝕄 :=
  iprop(xP c fx ∗ zP c (zAt c XA fx z0 k) ∗ (∃ W, owes (c : Thread nD τ) 0 W) ∗ bigSep (Ring.homeSet 4 k) (homeP c XA)
    ∗ roleP c XA k ∗ roleP c XA (k + 1) ∗ roleP c XA (k + 2) ∗ roleP c XA (k + 3) ∗ tailSt c XA k)

theorem roleP_lt {j : ℕ} (h : j < 32) : roleP c XA j = iprop(∃ f, flightP c XA (Ring.sl 4 j) (Ring.bk 32 j) f) := by
  unfold roleP; rw [if_pos h]
theorem roleP_ge {j : ℕ} (h : 32 ≤ j) : roleP c XA j = iprop((∃ f, slotP c (Ring.sl 4 j) f) ∗ cellP c (Ring.sl 4 j)) := by
  unfold roleP; rw [if_neg (by omega)]
theorem homes_here (k : ℕ) (hk : k + 4 < 32) :
    bigSep (Ring.homeSet 4 k) (homeP c XA) = iprop(homeP c XA (Ring.bk 32 (k + 4)) ∗ bigSep ((Ring.homeSet 4 k).erase (Ring.bk 32 (k + 4))) (homeP c XA)) := by
  conv_lhs => rw [Ring.homeSet_out 4 k hk, bigSep_insert (Ring.bkL_not_mem_erase 4 k)]
  rfl
theorem homes_next (k : ℕ) (hk : k + 4 < 32) :
    bigSep (Ring.homeSet 4 (k + 1)) (homeP c XA) = iprop(homeP c XA (Ring.bk 32 k) ∗ bigSep ((Ring.homeSet 4 k).erase (Ring.bk 32 (k + 4))) (homeP c XA)) := by
  conv_lhs => rw [Ring.homeSet_succ 4 k hk, bigSep_insert (Ring.bk_not_mem_erase 4 k (by omega) (by decide))]
  rfl
theorem homes_tail (k : ℕ) (hk : 32 ≤ k + 4) (hk' : k < 32) :
    bigSep (Ring.homeSet 4 (k + 1)) (homeP c XA) = iprop(homeP c XA (Ring.bk 32 k) ∗ bigSep (Ring.homeSet 4 k) (homeP c XA)) := by
  conv_lhs => rw [Ring.homeSet_succ_tail 4 k hk hk', bigSep_insert (Ring.bk_not_mem_homeSet 4 k hk' (by decide))]
  rfl

/-- One trip takes the state before it to the state before the next. -/
theorem ringStep (z0 : Buf (Elt F) (zbufM.view.loc (c : Thread nD τ))) (k : Fin k0_t3_loop.trips) :
    ringSt c XA fx z0 k ⊢ wp frame (wpE (defs₀ (F := F)) 𝒱₀ (c : Thread nD τ) none) Set.univ (tripG v87 k) (fun _ => ringSt c XA fx z0 (k.val + 1)) := by
  have hk32 := trips3_le k
  have ez : zAt c XA fx z0 (k.val + 1) = zbufM.view.writes (Elt F) (zAt c XA fx z0 k) [⟨RZ, stepW c XA fx k (zAt c XA fx z0 k)⟩] := by
    rw [zAt, dif_pos k.isLt]
  have esl : Ring.sl 4 (k.val + 4) = Ring.sl 4 k.val := Ring.sl_add 4 k.val
  unfold ringSt
  rw [ez, show k.val + 1 + 1 = k.val + 2 from rfl, show k.val + 1 + 2 = k.val + 3 from rfl, show k.val + 1 + 3 = k.val + 4 from rfl,
    roleP_lt c XA hk32]
  rcases Nat.lt_trichotomy k.val 28 with h | h | h
  · rw [homes_here c XA k.val (by omega), homes_next c XA k.val (by omega), roleP_lt c XA (show k.val + 4 < 32 by omega), esl,
      show tailSt c XA (k.val + 1) = tailSt c XA k.val by unfold tailSt; rw [if_pos (by omega), if_pos (by omega)]]
    iintro ⟨HX, HZ, ⟨%W, HW⟩, ⟨Hg, Hr⟩, ⟨%f, HF⟩, H1, H2, H3, HT⟩
    iapply (wp_wand_r Idealize.ShloMosaic.frame (wpE (defs₀ (F := F)) 𝒱₀ (c : Thread nD τ) none) Set.univ)
    isplitl [HX HZ HW Hg HF]
    · iapply (tripA c XA fx v87 k h _ W f)
      isplitl [HX]; · iexact HX
      isplitl [HZ]; · iexact HZ
      isplitl [HW]; · iexact HW
      isplitl [HF]; · iexact HF
      iexact Hg
    · iintro %_ ⟨HX, HZ, HW, HF, Hg⟩
      isplitl [HX]; · iexact HX
      isplitl [HZ]; · iexact HZ
      isplitl [HW]; · iexact HW
      isplitl [Hg Hr]
      · isplitl [Hg]; · iexact Hg
        iexact Hr
      isplitl [H1]; · iexact H1
      isplitl [H2]; · iexact H2
      isplitl [H3]; · iexact H3
      isplitl [HF]; · iexact HF
      iexact HT
  · rw [homes_tail c XA k.val (by omega) hk32, roleP_ge c XA (show 32 ≤ k.val + 4 by omega), esl,
      show tailSt c XA (k.val + 1) = tailFlying c XA by unfold tailSt; rw [if_neg (by omega)],
      show tailSt c XA k.val = tailHome c XA by unfold tailSt; rw [if_pos (by omega)]]
    iintro ⟨HX, HZ, ⟨%W, HW⟩, Hr, ⟨%f, HF⟩, H1, H2, H3, HT⟩
    iapply (wp_wand_r Idealize.ShloMosaic.frame (wpE (defs₀ (F := F)) 𝒱₀ (c : Thread nD τ) none) Set.univ)
    isplitl [HX HZ HW HT HF]
    · iapply (tripB c XA fx v87 k h _ W f)
      isplitl [HX]; · iexact HX
      isplitl [HZ]; · iexact HZ
      isplitl [HW]; · iexact HW
      isplitl [HF]; · iexact HF
      iexact HT
    · iintro %_ ⟨HX, HZ, HW, HF, Hg, HT⟩
      isplitl [HX]; · iexact HX
      isplitl [HZ]; · iexact HZ
      isplitl [HW]; · iexact HW
      isplitl [Hg Hr]
      · isplitl [Hg]; · iexact Hg
        iexact Hr
      isplitl [H1]; · iexact H1
      isplitl [H2]; · iexact H2
      isplitl [H3]; · iexact H3
      isplitl [HF]; · iexact HF
      iexact HT
  · rw [homes_tail c XA k.val (by omega) hk32, roleP_ge c XA (show 32 ≤ k.val + 4 by omega), esl,
      show tailSt c XA (k.val + 1) = tailSt c XA k.val by unfold tailSt; rw [if_neg (by omega), if_neg (by omega)]]
    iintro ⟨HX, HZ, ⟨%W, HW⟩, Hr, ⟨%f, HF⟩, H1, H2, H3, HT⟩
    iapply (wp_wand_r Idealize.ShloMosaic.frame (wpE (defs₀ (F := F)) 𝒱₀ (c : Thread nD τ) none) Set.univ)
    isplitl [HX HZ HW HF]
    · iapply (tripC c XA fx v87 k h _ W f)
      isplitl [HX]; · iexact HX
      isplitl [HZ]; · iexact HZ
      isplitl [HW]; · iexact HW
      iexact HF
    · iintro %_ ⟨HX, HZ, HW, HF, Hg⟩
      isplitl [HX]; · iexact HX
      isplitl [HZ]; · iexact HZ
      isplitl [HW]; · iexact HW
      isplitl [Hg Hr]
      · isplitl [Hg]; · iexact Hg
        iexact Hr
      isplitl [H1]; · iexact H1
      isplitl [H2]; · iexact H2
      isplitl [H3]; · iexact H3
      isplitl [HF]; · iexact HF
      iexact HT

/-- The state at the loop's entry, slot by slot. -/
abbrev ringEntry (z0 : Buf (Elt F) (zbufM.view.loc (c : Thread nD τ))) : sProp 𝕄 :=
  iprop(xP c fx ∗ zP c z0 ∗ (∃ W, owes (c : Thread nD τ) 0 W) ∗ bigSep (Ring.homeSet 4 0) (homeP c XA)
    ∗ (∃ f, flightP c XA 0 0 f) ∗ (∃ f, flightP c XA 1 1 f) ∗ (∃ f, flightP c XA 2 2 f) ∗ (∃ f, flightP c XA 3 3 f)
    ∗ thome0 c XA ∗ thome1 c XA ∗ thome2 c XA ∗ thome3 c XA ∗ thome4 c XA ∗ thome5 c XA
    ∗ (∃ f, tslot0 c f) ∗ (∃ f, tslot1 c f) ∗ (∃ f, tslot2 c f) ∗ (∃ f, tslot3 c f) ∗ (∃ f, tslot4 c f) ∗ (∃ f, tslot5 c f)
    ∗ tcell0 c ∗ tcell1 c ∗ tcell2 c ∗ tcell3 c ∗ tcell4 c ∗ tcell5 c)
/-- The state at its exit: every block home, every slot free, the tail in flight. -/
abbrev ringExit (z0 : Buf (Elt F) (zbufM.view.loc (c : Thread nD τ))) : sProp 𝕄 :=
  iprop(xP c fx ∗ zP c (zAt c XA fx z0 32) ∗ (∃ W, owes (c : Thread nD τ) 0 W) ∗ bigSep Finset.univ (homeP c XA)
    ∗ (∃ f, slotP c 0 f) ∗ (∃ f, slotP c 1 f) ∗ (∃ f, slotP c 2 f) ∗ (∃ f, slotP c 3 f) ∗ cellP c 0 ∗ cellP c 1 ∗ cellP c 2 ∗ cellP c 3
    ∗ (∃ f, tflight0 c XA f) ∗ (∃ f, tflight1 c XA f) ∗ (∃ f, tflight2 c XA f) ∗ (∃ f, tflight3 c XA f) ∗ (∃ f, tflight4 c XA f) ∗ (∃ f, tflight5 c XA f))

theorem ringEntry_st (z0 : Buf (Elt F) (zbufM.view.loc (c : Thread nD τ))) : ringEntry c XA fx z0 ⊢ ringSt c XA fx z0 0 := by
  unfold ringSt
  rw [roleP_lt c XA (show 0 < 32 by decide), roleP_lt c XA (show 0 + 1 < 32 by decide), roleP_lt c XA (show 0 + 2 < 32 by decide), roleP_lt c XA (show 0 + 3 < 32 by decide),
    show tailSt c XA 0 = tailHome c XA by unfold tailSt; rw [if_pos (by omega)],
    show Ring.sl 4 0 = 0 by decide, show Ring.sl 4 (0 + 1) = 1 by decide, show Ring.sl 4 (0 + 2) = 2 by decide, show Ring.sl 4 (0 + 3) = 3 by decide,
    show Ring.bk 32 0 = 0 by decide, show Ring.bk 32 (0 + 1) = 1 by decide, show Ring.bk 32 (0 + 2) = 2 by decide, show Ring.bk 32 (0 + 3) = 3 by decide]
  unfold tailHome zAt
  exact .rfl

theorem ringExit_st (z0 : Buf (Elt F) (zbufM.view.loc (c : Thread nD τ))) : ringSt c XA fx z0 32 ⊢ ringExit c XA fx z0 := by
  unfold ringSt
  rw [roleP_ge c XA (show 32 ≤ 32 by decide), roleP_ge c XA (show 32 ≤ 32 + 1 by decide), roleP_ge c XA (show 32 ≤ 32 + 2 by decide), roleP_ge c XA (show 32 ≤ 32 + 3 by decide),
    show tailSt c XA 32 = tailFlying c XA by unfold tailSt; rw [if_neg (by omega)], Ring.homeSet_last 4 32 (by omega),
    show Ring.sl 4 32 = 0 by decide, show Ring.sl 4 (32 + 1) = 1 by decide, show Ring.sl 4 (32 + 2) = 2 by decide, show Ring.sl 4 (32 + 3) = 3 by decide]
  unfold tailFlying
  iintro ⟨HX, HZ, HW, Hr, ⟨H0, C0⟩, ⟨H1, C1⟩, ⟨H2, C2⟩, ⟨H3, C3⟩, HT⟩
  isplitl [HX]; · iexact HX
  isplitl [HZ]; · iexact HZ
  isplitl [HW]; · iexact HW
  isplitl [Hr]; · iexact Hr
  isplitl [H0]; · iexact H0
  isplitl [H1]; · iexact H1
  isplitl [H2]; · iexact H2
  isplitl [H3]; · iexact H3
  isplitl [C0]; · iexact C0
  isplitl [C1]; · iexact C1
  isplitl [C2]; · iexact C2
  isplitl [C3]; · iexact C3
  iexact HT

/-- The invariant: the entry state before the first trip, then the state slot by slot. -/
def ringInv (z0 : Buf (Elt F) (zbufM.view.loc (c : Thread nD τ))) : ℕ → sProp 𝕄
  | 0 => ringEntry c XA fx z0
  | k + 1 => ringSt c XA fx z0 (k + 1)

theorem ringInv_st (z0 : Buf (Elt F) (zbufM.view.loc (c : Thread nD τ))) : ∀ k, ringInv c XA fx z0 k ⊢ ringSt c XA fx z0 k
  | 0 => ringEntry_st c XA fx z0
  | k + 1 => .rfl

set_option warn.classDefReducibility false in
@[sl_loop] def loopInv3 (z0 : Buf (Elt F) (zbufM.view.loc (c : Thread nD τ))) :
    LoopInvTy_k0_t3 (F := F) Unit ℕ UU ℕ 𝒱₀ c none Set.univ (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 where
  inv k _ := ringInv c XA fx z0 k
  step k _ := (ringInv_st c XA fx z0 k).trans (ringStep c XA fx v87 z0 k)

instance loopExit3 (z0 : Buf (Elt F) (zbufM.view.loc (c : Thread nD τ))) : LoopExit (loopInv3 c XA fx v87 z0) where
  post _ := ringExit c XA fx z0
  exit _ := by
    show ringInv c XA fx z0 (Scf.trips _ _ _) ⊢ _
    rw [show Scf.trips k0_t3_loop.lb k0_t3_loop.ub k0_t3_loop.st = 32 by decide]
    exact ringExit_st c XA fx z0

end Trip
end Cert.Proof.Kernel
end
-- ==== Proof.Kernel.Loops.lean ====
/- The three loops that touch no transfer: the counts of the history (6 trips), the bias (36 trips) and the
   finish of the logits' first 29952 columns (13 trips, carrying the running maximum and sum of each lane).

   For each: one trip, run at any state of the buffer it writes, with what it writes named; the buffer before trip
   `k`; and the loop's invariant. -/
module

public import proofs.«01_k».proof.Proof.Kernel.Ring

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev wsM : Memref sig .tc .vmem S250x128 .f32 := Memref.whole cc0_scratch4
abbrev histM : Memref sig .tc .vmem S6x4096 .i32 := Memref.whole cc0_scratch5
abbrev cntM : Memref sig .tc .vmem S2048x128 .f32 := Memref.whole cc0_scratch6
abbrev biasM : Memref sig .tc .vmem S2048x128 .f32 := Memref.whole cc0_scratch7
abbrev hlenM : Memref sig .tc .smem S6 .i32 := Memref.whole cc0_scratch12
abbrev bidM : Memref sig .tc .smem S6x36 .i32 := Memref.whole cc0_scratch17
abbrev bvalM : Memref sig .tc .smem S6x36 .f32 := Memref.whole cc0_scratch18

section Held
variable (c : Dev nD)
abbrev wsP (f : Buf (Elt F) (wsM.view.loc (c : Thread nD τ))) : sProp 𝕄 := wsM.view.loc (c : Thread nD τ) ↦[wsM.view.set]{fullShare} f
abbrev histP (f : Buf (Elt F) (histM.view.loc (c : Thread nD τ))) : sProp 𝕄 := histM.view.loc (c : Thread nD τ) ↦[histM.view.set]{fullShare} f
abbrev cntP (f : Buf (Elt F) (cntM.view.loc (c : Thread nD τ))) : sProp 𝕄 := cntM.view.loc (c : Thread nD τ) ↦[cntM.view.set]{fullShare} f
abbrev biasP (f : Buf (Elt F) (biasM.view.loc (c : Thread nD τ))) : sProp 𝕄 := biasM.view.loc (c : Thread nD τ) ↦[biasM.view.set]{fullShare} f
abbrev hlenP (f : Buf (Elt F) (hlenM.view.loc (c : Thread nD τ))) : sProp 𝕄 := hlenM.view.loc (c : Thread nD τ) ↦[hlenM.view.set]{fullShare} f
abbrev bidP (f : Buf (Elt F) (bidM.view.loc (c : Thread nD τ))) : sProp 𝕄 := bidM.view.loc (c : Thread nD τ) ↦[bidM.view.set]{fullShare} f
abbrev bvalP (f : Buf (Elt F) (bvalM.view.loc (c : Thread nD τ))) : sProp 𝕄 := bvalM.view.loc (c : Thread nD τ) ↦[bvalM.view.set]{fullShare} f
end Held

section Count
variable (c : Dev nD) (v87 : FVec F S6x8192 .fp8e4m3)
  (XH : Buf (Elt F) (histM.view.loc (c : Thread nD τ))) (XL : Buf (Elt F) (hlenM.view.loc (c : Thread nD τ)))

/-- The rows trip `k` of the counts writes: every eighth row from row `k`. -/
abbrev RC (k : Fin k0_t1_loop.trips) : Rect S2048x128 := ⟨(⟨k0_off3 k, S256x128.size, ![8, 1], (k0_off3_inb k)⟩ : LoadRect S2048x128), spos_8_1⟩

set_option backward.proofsInPublic true in
/-- One trip of the counts: its rows, written whole. -/
def countTrip (k : Fin k0_t1_loop.trips) :
    { w : (RC k).shape.Idx → Elt F .f32 // ∀ f,
      iprop(histP c XH ∗ hlenP c XL ∗ cntP c f)
      ⊢ wp frame (wpE (defs₀ (F := F)) 𝒱₀ (c : Thread nD τ) none) Set.univ (k0_t1_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 k ())
        (fun _ => iprop(histP c XH ∗ hlenP c XL ∗ cntP c (cntM.view.writes (Elt F) f [⟨RC k, w⟩]))) } := by
  refine ⟨?_, fun f => ?run⟩
  case run =>
    iintro ⟨HH, HL, HC⟩
    sl_unfold [k0_t1_body]
    sl_exec
    sl_step
    isplitl [HH]; · iexact HH
    isplitl [HL]; · iexact HL
    iexact HC

/-- The counts' buffer before trip `k`. -/
def cntAt (f0 : Buf (Elt F) (cntM.view.loc (c : Thread nD τ))) : ℕ → Buf (Elt F) (cntM.view.loc (c : Thread nD τ))
  | 0 => f0
  | k + 1 => if h : k < k0_t1_loop.trips then cntM.view.writes (Elt F) (cntAt f0 k) [⟨RC ⟨k, h⟩, (countTrip c v87 XH XL ⟨k, h⟩).1⟩] else cntAt f0 k

theorem cntAt_succ (f0) (k : Fin k0_t1_loop.trips) :
    cntAt c v87 XH XL f0 (k.val + 1) = cntM.view.writes (Elt F) (cntAt c v87 XH XL f0 k) [⟨RC k, (countTrip c v87 XH XL k).1⟩] := by
  rw [cntAt, dif_pos k.isLt]

set_option warn.classDefReducibility false in
@[sl_loop] def loopInv1 (f0 : Buf (Elt F) (cntM.view.loc (c : Thread nD τ))) :
    LoopInvTy_k0_t1 (F := F) Unit ℕ UU ℕ 𝒱₀ c none Set.univ (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 where
  inv k _ := iprop(histP c XH ∗ hlenP c XL ∗ cntP c (cntAt c v87 XH XL f0 k))
  step k _ := by rw [cntAt_succ]; exact (countTrip c v87 XH XL k).2 _

end Count

section Bias
variable (c : Dev nD) (v87 : FVec F S6x8192 .fp8e4m3) (v94 : IVec S1x128 32)
  (XB : Buf (Elt F) (bidM.view.loc (c : Thread nD τ))) (XV : Buf (Elt F) (bvalM.view.loc (c : Thread nD τ)))

/-- Every bias id addresses a row of the table. -/
def BidOK : Prop := ∀ k : Fin k0_t2_loop.trips,
  k0_chk1 (bidM.view.readAt (Elt F) (Rect.unit (s := S6x36) (k0_off4 k) S1x1.size (k0_off4_inb k)).toLoadRect XB (Shape.Idx.first (numel1_S1x1.symm ▸ Nat.one_pos)))
  ∧ k0_chk2 (bidM.view.readAt (Elt F) (Rect.unit (s := S6x36) (k0_off5 k) S1x1.size (k0_off5_inb k)).toLoadRect XB (Shape.Idx.first (numel1_S1x1.symm ▸ Nat.one_pos)))
  ∧ k0_chk3 (bidM.view.readAt (Elt F) (Rect.unit (s := S6x36) (k0_off6 k) S1x1.size (k0_off6_inb k)).toLoadRect XB (Shape.Idx.first (numel1_S1x1.symm ▸ Nat.one_pos)))
  ∧ k0_chk4 (bidM.view.readAt (Elt F) (Rect.unit (s := S6x36) (k0_off7 k) S1x1.size (k0_off7_inb k)).toLoadRect XB (Shape.Idx.first (numel1_S1x1.symm ▸ Nat.one_pos)))
  ∧ k0_chk5 (bidM.view.readAt (Elt F) (Rect.unit (s := S6x36) (k0_off8 k) S1x1.size (k0_off8_inb k)).toLoadRect XB (Shape.Idx.first (numel1_S1x1.symm ▸ Nat.one_pos)))
  ∧ k0_chk6 (bidM.view.readAt (Elt F) (Rect.unit (s := S6x36) (k0_off9 k) S1x1.size (k0_off9_inb k)).toLoadRect XB (Shape.Idx.first (numel1_S1x1.symm ▸ Nat.one_pos)))

set_option backward.proofsInPublic true in
/-- One trip of the bias: six rows read, changed and written back. -/
def biasTrip (hB : BidOK c XB) (k : Fin k0_t2_loop.trips) :
    { L : Buf (Elt F) (biasM.view.loc (c : Thread nD τ)) → List (View.Piece (Elt F) S2048x128 .f32) // ∀ f,
      iprop(bidP c XB ∗ bvalP c XV ∗ biasP c f)
      ⊢ wp frame (wpE (defs₀ (F := F)) 𝒱₀ (c : Thread nD τ) none) Set.univ (k0_t2_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 v94 k ())
        (fun _ => iprop(bidP c XB ∗ bvalP c XV ∗ biasP c (biasM.view.writes (Elt F) f (L f)))) } := by
  have hk : k.val < 36 := Nat.lt_of_lt_of_le k.isLt k0_t2_abs.2.1
  obtain ⟨h1, h2, h3, h4, h5, h6⟩ := hB k
  refine ⟨?_, fun f => ?run⟩
  case run =>
    iintro ⟨HB, HV, HC⟩
    sl_unfold [k0_t2_body]
    sl_exec
    sl_step
    sl_close

/-- The bias' buffer before trip `k`. -/
def biasAt (hB : BidOK c XB) (f0 : Buf (Elt F) (biasM.view.loc (c : Thread nD τ))) : ℕ → Buf (Elt F) (biasM.view.loc (c : Thread nD τ))
  | 0 => f0
  | k + 1 => if h : k < k0_t2_loop.trips then biasM.view.writes (Elt F) (biasAt hB f0 k) ((biasTrip c v87 v94 XB XV hB ⟨k, h⟩).1 (biasAt hB f0 k)) else biasAt hB f0 k

theorem biasAt_succ (hB : BidOK c XB) (f0) (k : Fin k0_t2_loop.trips) :
    biasAt c v87 v94 XB XV hB f0 (k.val + 1)
      = biasM.view.writes (Elt F) (biasAt c v87 v94 XB XV hB f0 k) ((biasTrip c v87 v94 XB XV hB k).1 (biasAt c v87 v94 XB XV hB f0 k)) := by
  rw [biasAt, dif_pos k.isLt]

set_option warn.classDefReducibility false in
@[sl_loop] def loopInv2 (hB : BidOK c XB) (f0 : Buf (Elt F) (biasM.view.loc (c : Thread nD τ))) :
    LoopInvTy_k0_t2 (F := F) Unit ℕ UU ℕ 𝒱₀ c none Set.univ (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 v94 where
  inv k _ := iprop(bidP c XB ∗ bvalP c XV ∗ biasP c (biasAt c v87 v94 XB XV hB f0 k))
  step k _ := by rw [biasAt_succ]; exact (biasTrip c v87 v94 XB XV hB k).2 _

end Bias

section Finish
variable (c : Dev nD) (v125 v152 v179 v201 : FVec F S6x128 .f32) (v203 : IVec S6x128 1) (v205 : FVec F S6x128 .f32)
  (XS : Buf (Elt F) (wsM.view.loc (c : Thread nD τ))) (XC : Buf (Elt F) (cntM.view.loc (c : Thread nD τ))) (XI : Buf (Elt F) (biasM.view.loc (c : Thread nD τ)))

set_option backward.proofsInPublic true in
/-- One trip of the finish: eighteen groups of 128 columns read, finished and written back, the lanes' maximum and
    sum carried on. -/
def finTrip (k : Fin k0_t4_loop.trips) :
    Σ' (R : (FVec F S6x128 .f32 × FVec F S6x128 .f32) → Buf (Elt F) (zbufM.view.loc (c : Thread nD τ)) → FVec F S6x128 .f32 × FVec F S6x128 .f32),
    { L : (FVec F S6x128 .f32 × FVec F S6x128 .f32) → Buf (Elt F) (zbufM.view.loc (c : Thread nD τ)) → List (View.Piece (Elt F) S6x32000 .f32) // ∀ acc f,
      iprop(wsP c XS ∗ cntP c XC ∗ biasP c XI ∗ zP c f)
      ⊢ wp frame (wpE (defs₀ (F := F)) 𝒱₀ (c : Thread nD τ) none) Set.univ (k0_t4_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v125 v152 v179 v201 v203 v205 k acc)
        (fun y => iprop(⌜y = R acc f⌝ ∗ wsP c XS ∗ cntP c XC ∗ biasP c XI ∗ zP c (zbufM.view.writes (Elt F) f (L acc f)))) } := by
  have hk : k.val < 13 := Nat.lt_of_lt_of_le k.isLt k0_t4_abs.2.1
  refine ⟨?_, ?_, fun acc f => ?run⟩
  case run =>
    sl_unfold [k0_t4_body]
    iintro ⟨HS, HC, HI, HZ⟩
    sl_exec
    sl_step
    sl_close

/-- The carried values and the logits' buffer before trip `k`. -/
def finAt (a0 : FVec F S6x128 .f32 × FVec F S6x128 .f32) (f0 : Buf (Elt F) (zbufM.view.loc (c : Thread nD τ))) : ℕ → (FVec F S6x128 .f32 × FVec F S6x128 .f32) × Buf (Elt F) (zbufM.view.loc (c : Thread nD τ))
  | 0 => (a0, f0)
  | k + 1 => if h : k < k0_t4_loop.trips then
      ((finTrip c v125 v152 v179 v201 v203 v205 XS XC XI ⟨k, h⟩).1 (finAt a0 f0 k).1 (finAt a0 f0 k).2,
        zbufM.view.writes (Elt F) (finAt a0 f0 k).2 ((finTrip c v125 v152 v179 v201 v203 v205 XS XC XI ⟨k, h⟩).2.1 (finAt a0 f0 k).1 (finAt a0 f0 k).2))
    else finAt a0 f0 k

theorem finAt_succ (a0 f0) (k : Fin k0_t4_loop.trips) :
    finAt c v125 v152 v179 v201 v203 v205 XS XC XI a0 f0 (k.val + 1)
      = ((finTrip c v125 v152 v179 v201 v203 v205 XS XC XI k).1 (finAt c v125 v152 v179 v201 v203 v205 XS XC XI a0 f0 k).1 (finAt c v125 v152 v179 v201 v203 v205 XS XC XI a0 f0 k).2,
        zbufM.view.writes (Elt F) (finAt c v125 v152 v179 v201 v203 v205 XS XC XI a0 f0 k).2 ((finTrip c v125 v152 v179 v201 v203 v205 XS XC XI k).2.1 (finAt c v125 v152 v179 v201 v203 v205 XS XC XI a0 f0 k).1 (finAt c v125 v152 v179 v201 v203 v205 XS XC XI a0 f0 k).2)) := by
  rw [finAt, dif_pos k.isLt]

theorem finAt_zero (a0 f0) : finAt c v125 v152 v179 v201 v203 v205 XS XC XI a0 f0 0 = (a0, f0) := rfl

/-- The state before trip `k`. -/
def finSt (a0 : FVec F S6x128 .f32 × FVec F S6x128 .f32) (f0 : Buf (Elt F) (zbufM.view.loc (c : Thread nD τ))) (k : ℕ) (acc : FVec F S6x128 .f32 × FVec F S6x128 .f32) : sProp 𝕄 :=
  iprop(wsP c XS ∗ cntP c XC ∗ biasP c XI
    ∗ zP c (finAt c v125 v152 v179 v201 v203 v205 XS XC XI a0 f0 k).2 ∗ ⌜acc = (finAt c v125 v152 v179 v201 v203 v205 XS XC XI a0 f0 k).1⌝)
/-- The same, written out before the first trip. -/
def finInv (a0 : FVec F S6x128 .f32 × FVec F S6x128 .f32) (f0 : Buf (Elt F) (zbufM.view.loc (c : Thread nD τ))) : ℕ → FVec F S6x128 .f32 × FVec F S6x128 .f32 → sProp 𝕄
  | 0, acc => iprop(wsP c XS ∗ cntP c XC ∗ biasP c XI ∗ zP c f0 ∗ ⌜acc = a0⌝)
  | k + 1, acc => finSt c v125 v152 v179 v201 v203 v205 XS XC XI a0 f0 (k + 1) acc

theorem finInv_eq (a0 f0) (k : ℕ) : finInv c v125 v152 v179 v201 v203 v205 XS XC XI a0 f0 k = finSt c v125 v152 v179 v201 v203 v205 XS XC XI a0 f0 k := by
  cases k with
  | zero => funext acc; unfold finSt; rw [finAt_zero]; rfl
  | succ k => rfl

set_option warn.classDefReducibility false in
@[sl_loop] def loopInv4 (a0 : FVec F S6x128 .f32 × FVec F S6x128 .f32) (f0 : Buf (Elt F) (zbufM.view.loc (c : Thread nD τ))) :
    LoopInvTy_k0_t4 (F := F) Unit ℕ UU ℕ 𝒱₀ c none Set.univ (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v125 v152 v179 v201 v203 v205 a0 where
  inv k acc := finInv c v125 v152 v179 v201 v203 v205 XS XC XI a0 f0 k acc
  step k acc := by
    rw [finInv_eq, show finInv c v125 v152 v179 v201 v203 v205 XS XC XI a0 f0 (k.val + 1) = finSt c v125 v152 v179 v201 v203 v205 XS XC XI a0 f0 (k.val + 1) from rfl]
    unfold finSt
    iintro ⟨HS, HC, HI, HZ, %hacc⟩
    subst hacc
    iapply (wp_wand_r Idealize.ShloMosaic.frame (wpE (defs₀ (F := F)) 𝒱₀ (c : Thread nD τ) none) Set.univ)
    isplitl [HS HC HI HZ]
    · iapply ((finTrip c v125 v152 v179 v201 v203 v205 XS XC XI k).2.2 _ _)
      isplitl [HS]; · iexact HS
      isplitl [HC]; · iexact HC
      isplitl [HI]; · iexact HI
      iexact HZ
    · iintro %y ⟨%hy, HS, HC, HI, HZ⟩
      rw [finAt_succ]
      isplitl [HS]; · iexact HS
      isplitl [HC]; · iexact HC
      isplitl [HI]; · iexact HI
      isplitl [HZ]; · iexact HZ
      ipureintro; exact hy

end Finish

end Cert.Proof.Kernel
end
-- ==== Proof.Kernel.Body.lean ====
/- The kernel's body, run once: eleven input copies, the counts and the bias, the ring of weight blocks, the finish,
   the tail and the candidates, each output written back.

   `PRE` is what the body starts from, buffer by buffer; `bodyRun` its run, the three outputs named. -/
module

public import proofs.«01_k».proof.Proof.Kernel.Loops
public import Idealize.ShloMosaic.Lib.VecWindow

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

def ism0 : DmaSems sig S_ := (cc0_scratch21.slice (Rect.unit (s := S11) ![0] S1.size inb_S11_S1_0)).squeeze S_ squeezes_S1_S_
@[sl_canon] theorem ismL0 (hh) : (cc0_scratch21.slice (Rect.unit (s := S11) ![0] S1.size hh)).squeeze S_ squeezes_S1_S_ = ism0 := rfl
def ism1 : DmaSems sig S_ := (cc0_scratch21.slice (Rect.unit (s := S11) ![1] S1.size inb_S11_S1_1)).squeeze S_ squeezes_S1_S_
@[sl_canon] theorem ismL1 (hh) : (cc0_scratch21.slice (Rect.unit (s := S11) ![1] S1.size hh)).squeeze S_ squeezes_S1_S_ = ism1 := rfl
def ism2 : DmaSems sig S_ := (cc0_scratch21.slice (Rect.unit (s := S11) ![2] S1.size inb_S11_S1_2)).squeeze S_ squeezes_S1_S_
@[sl_canon] theorem ismL2 (hh) : (cc0_scratch21.slice (Rect.unit (s := S11) ![2] S1.size hh)).squeeze S_ squeezes_S1_S_ = ism2 := rfl
def ism3 : DmaSems sig S_ := (cc0_scratch21.slice (Rect.unit (s := S11) ![3] S1.size inb_S11_S1_3)).squeeze S_ squeezes_S1_S_
@[sl_canon] theorem ismL3 (hh) : (cc0_scratch21.slice (Rect.unit (s := S11) ![3] S1.size hh)).squeeze S_ squeezes_S1_S_ = ism3 := rfl
def ism4 : DmaSems sig S_ := (cc0_scratch21.slice (Rect.unit (s := S11) ![4] S1.size inb_S11_S1_4)).squeeze S_ squeezes_S1_S_
@[sl_canon] theorem ismL4 (hh) : (cc0_scratch21.slice (Rect.unit (s := S11) ![4] S1.size hh)).squeeze S_ squeezes_S1_S_ = ism4 := rfl
def ism5 : DmaSems sig S_ := (cc0_scratch21.slice (Rect.unit (s := S11) ![5] S1.size inb_S11_S1_5)).squeeze S_ squeezes_S1_S_
@[sl_canon] theorem ismL5 (hh) : (cc0_scratch21.slice (Rect.unit (s := S11) ![5] S1.size hh)).squeeze S_ squeezes_S1_S_ = ism5 := rfl
def ism6 : DmaSems sig S_ := (cc0_scratch21.slice (Rect.unit (s := S11) ![6] S1.size inb_S11_S1_6)).squeeze S_ squeezes_S1_S_
@[sl_canon] theorem ismL6 (hh) : (cc0_scratch21.slice (Rect.unit (s := S11) ![6] S1.size hh)).squeeze S_ squeezes_S1_S_ = ism6 := rfl
def ism7 : DmaSems sig S_ := (cc0_scratch21.slice (Rect.unit (s := S11) ![7] S1.size inb_S11_S1_7)).squeeze S_ squeezes_S1_S_
@[sl_canon] theorem ismL7 (hh) : (cc0_scratch21.slice (Rect.unit (s := S11) ![7] S1.size hh)).squeeze S_ squeezes_S1_S_ = ism7 := rfl
def ism8 : DmaSems sig S_ := (cc0_scratch21.slice (Rect.unit (s := S11) ![8] S1.size inb_S11_S1_8)).squeeze S_ squeezes_S1_S_
@[sl_canon] theorem ismL8 (hh) : (cc0_scratch21.slice (Rect.unit (s := S11) ![8] S1.size hh)).squeeze S_ squeezes_S1_S_ = ism8 := rfl
def ism9 : DmaSems sig S_ := (cc0_scratch21.slice (Rect.unit (s := S11) ![9] S1.size inb_S11_S1_9)).squeeze S_ squeezes_S1_S_
@[sl_canon] theorem ismL9 (hh) : (cc0_scratch21.slice (Rect.unit (s := S11) ![9] S1.size hh)).squeeze S_ squeezes_S1_S_ = ism9 := rfl
def ism10 : DmaSems sig S_ := (cc0_scratch21.slice (Rect.unit (s := S11) ![10] S1.size inb_S11_S1_10)).squeeze S_ squeezes_S1_S_
@[sl_canon] theorem ismL10 (hh) : (cc0_scratch21.slice (Rect.unit (s := S11) ![10] S1.size hh)).squeeze S_ squeezes_S1_S_ = ism10 := rfl
def osm0 : DmaSems sig S_ := (cc0_scratch22.slice (Rect.unit (s := S4) ![0] S1.size inb_S4_S1_0)).squeeze S_ squeezes_S1_S_
@[sl_canon] theorem osmL0 (hh) : (cc0_scratch22.slice (Rect.unit (s := S4) ![0] S1.size hh)).squeeze S_ squeezes_S1_S_ = osm0 := rfl
def osm1 : DmaSems sig S_ := (cc0_scratch22.slice (Rect.unit (s := S4) ![1] S1.size inb_S4_S1_1)).squeeze S_ squeezes_S1_S_
@[sl_canon] theorem osmL1 (hh) : (cc0_scratch22.slice (Rect.unit (s := S4) ![1] S1.size hh)).squeeze S_ squeezes_S1_S_ = osm1 := rfl
def osm2 : DmaSems sig S_ := (cc0_scratch22.slice (Rect.unit (s := S4) ![2] S1.size inb_S4_S1_2)).squeeze S_ squeezes_S1_S_
@[sl_canon] theorem osmL2 (hh) : (cc0_scratch22.slice (Rect.unit (s := S4) ![2] S1.size hh)).squeeze S_ squeezes_S1_S_ = osm2 := rfl
def osm3 : DmaSems sig S_ := (cc0_scratch22.slice (Rect.unit (s := S4) ![3] S1.size inb_S4_S1_3)).squeeze S_ squeezes_S1_S_
@[sl_canon] theorem osmL3 (hh) : (cc0_scratch22.slice (Rect.unit (s := S4) ![3] S1.size hh)).squeeze S_ squeezes_S1_S_ = osm3 := rfl
abbrev x6M : Memref sig .tc .vmem S6x8192 .fp8e4m3 := Memref.whole cc0_scratch2
abbrev lseM : Memref sig .tc .vmem S1x6 .f32 := Memref.whole cc0_scratch9
abbrev candM : Memref sig .tc .vmem S4x6 .f32 := Memref.whole cc0_scratch10
abbrev xsM : Memref sig .tc .smem S6 .f32 := Memref.whole cc0_scratch11
abbrev ppM : Memref sig .tc .smem S6 .f32 := Memref.whole cc0_scratch13
abbrev fpM : Memref sig .tc .smem S6 .f32 := Memref.whole cc0_scratch14
abbrev rpM : Memref sig .tc .smem S6 .f32 := Memref.whole cc0_scratch15
abbrev candsM : Memref sig .tc .smem S4x6 .i32 := Memref.whole cc0_scratch16
abbrev a0M : Memref sig .tc .hbm S6x8192 .fp8e4m3 := Memref.whole main_arg0
abbrev a1M : Memref sig .tc .hbm S6 .f32 := Memref.whole main_arg1
abbrev a3M : Memref sig .tc .hbm S250x128 .f32 := Memref.whole main_v0
abbrev a4M : Memref sig .tc .hbm S6x4096 .i32 := Memref.whole main_arg4
abbrev a5M : Memref sig .tc .hbm S6 .i32 := Memref.whole main_arg5
abbrev a6M : Memref sig .tc .hbm S6 .f32 := Memref.whole main_arg6
abbrev a7M : Memref sig .tc .hbm S6 .f32 := Memref.whole main_arg7
abbrev a8M : Memref sig .tc .hbm S6 .f32 := Memref.whole main_arg8
abbrev a9M : Memref sig .tc .hbm S4x6 .i32 := Memref.whole main_v1
abbrev a10M : Memref sig .tc .hbm S6x36 .i32 := Memref.whole main_arg10
abbrev a11M : Memref sig .tc .hbm S6x36 .f32 := Memref.whole main_arg11
abbrev o0M : Memref sig .tc .hbm S1x6 .f32 := Memref.whole main_v2_0
abbrev o1M : Memref sig .tc .hbm S4x6 .f32 := Memref.whole main_v2_1
abbrev o2M : Memref sig .tc .hbm S6x32000 .f32 := Memref.whole main_v2_2

/-- A whole buffer written whole holds what was written. -/
theorem whole_landed (b : Ref sig .tc) (f w : b.ty.Contents (Elt F)) :
    (Memref.whole b).view.writes (Elt F) f [⟨Rect.whole b.ty.shape, w⟩] = w := View.read_writes_whole (Memref.whole b).view f w

/-- The two windows of the logits' buffer that are copied out. -/
abbrev zw0 : Memref sig .tc .vmem S6x29952 .f32 := zbufM.slice (Rect.unit (s := S6x32000) ![0, 0] S6x29952.size inb_S6x32000_S6x29952_0_0) (fun _ => rfl)
abbrev zw1 : Memref sig .tc .vmem S6x2048 .f32 := zbufM.slice (Rect.unit (s := S6x32000) ![0, 29952] S6x2048.size inb_S6x32000_S6x2048_0_29952) (fun _ => rfl)

/-- The two windows of the output, likewise. -/
abbrev ow0 : Memref sig .tc .hbm S6x29952 .f32 := o2M.slice (Rect.unit (s := S6x32000) ![0, 0] S6x29952.size inb_S6x32000_S6x29952_0_0) (fun _ => rfl)
abbrev ow1 : Memref sig .tc .hbm S6x2048 .f32 := o2M.slice (Rect.unit (s := S6x32000) ![0, 29952] S6x2048.size inb_S6x32000_S6x2048_0_29952) (fun _ => rfl)

abbrev R0 : Finset S6x32000.Idx := (Rect.unit (s := S6x32000) ![0, 0] S6x29952.size inb_S6x32000_S6x29952_0_0).set
abbrev R1 : Finset S6x32000.Idx := (Rect.unit (s := S6x32000) ![0, 29952] S6x2048.size inb_S6x32000_S6x2048_0_29952).set

theorem mem_R0 (y : S6x32000.Idx) : y ∈ R0 ↔ (y 1).val < 29952 := by
  rw [Rect.mem_set_unit]
  have h0 : (y 0).val < 6 := (y 0).isLt
  constructor
  · intro H; have a1 : 0 ≤ (y 1).val ∧ (y 1).val < 0 + 29952 := H 1; omega
  · intro H i; fin_cases i
    · show 0 ≤ (y 0).val ∧ (y 0).val < 0 + 6; omega
    · show 0 ≤ (y 1).val ∧ (y 1).val < 0 + 29952; omega
theorem mem_R1 (y : S6x32000.Idx) : y ∈ R1 ↔ 29952 ≤ (y 1).val := by
  rw [Rect.mem_set_unit]
  have h0 : (y 0).val < 6 := (y 0).isLt
  have h1 : (y 1).val < 32000 := (y 1).isLt
  constructor
  · intro H; have a1 : 29952 ≤ (y 1).val ∧ (y 1).val < 29952 + 2048 := H 1; omega
  · intro H i; fin_cases i
    · show 0 ≤ (y 0).val ∧ (y 0).val < 0 + 6; omega
    · show 29952 ≤ (y 1).val ∧ (y 1).val < 29952 + 2048; omega
theorem R1_eq : Finset.univ \ R0 = R1 := by
  ext y; rw [Finset.mem_sdiff, mem_R0, mem_R1]
  exact ⟨fun h => Nat.le_of_not_lt h.2, fun h => ⟨Finset.mem_univ _, Nat.not_lt.mpr h⟩⟩
theorem zw0_set : (zw0.view.set : Finset S6x32000.Idx) = R0 := View.set_slice_whole cc0_scratch8 _
theorem zw1_set : (zw1.view.set : Finset S6x32000.Idx) = R1 := View.set_slice_whole cc0_scratch8 _
theorem ow0_set : (ow0.view.set : Finset S6x32000.Idx) = R0 := View.set_slice_whole main_v2_2 _
theorem ow1_set : (ow1.view.set : Finset S6x32000.Idx) = R1 := View.set_slice_whole main_v2_2 _
theorem zb_set : (zbufM.view.set : Finset S6x32000.Idx) = Finset.univ := View.set_whole cc0_scratch8
theorem o2_set : (o2M.view.set : Finset S6x32000.Idx) = Finset.univ := View.set_whole main_v2_2

theorem mem_zw0 (y : S6x32000.Idx) : y ∈ (zw0.view.set : Finset S6x32000.Idx) ↔ (y 1).val < 29952 := by rw [zw0_set]; exact mem_R0 y
theorem mem_zw1 (y : S6x32000.Idx) : y ∈ (zw1.view.set : Finset S6x32000.Idx) ↔ 29952 ≤ (y 1).val := by rw [zw1_set]; exact mem_R1 y
theorem mem_ow0 (y : S6x32000.Idx) : y ∈ (ow0.view.set : Finset S6x32000.Idx) ↔ (y 1).val < 29952 := by rw [ow0_set]; exact mem_R0 y
theorem mem_ow1 (y : S6x32000.Idx) : y ∈ (ow1.view.set : Finset S6x32000.Idx) ↔ 29952 ≤ (y 1).val := by rw [ow1_set]; exact mem_R1 y
theorem mem_zb (y : S6x32000.Idx) : y ∈ (zbufM.view.set : Finset S6x32000.Idx) := by rw [zb_set]; exact Finset.mem_univ y
theorem mem_o2 (y : S6x32000.Idx) : y ∈ (o2M.view.set : Finset S6x32000.Idx) := by rw [o2_set]; exact Finset.mem_univ y

/-- A table read off `f` on its first 29952 columns and off `g` on the rest. -/
def twoParts (f g : S6x32000.Idx → Elt F .f32) : S6x32000.Idx → Elt F .f32 := fun y => if (y 1).val < 29952 then f y else g y

/-- Two element sets that make up a third, joined at contents that agree with each. -/
theorem parts_join {ℓ : Loc nD τ sig} {q : PosShare TreeShare} {I J S : Finset (Idx ℓ)} (hd : ∀ i, i ∈ I → ¬ i ∈ J) (hu : ∀ i, i ∈ S ↔ i ∈ I ∨ i ∈ J)
    (f g G : Buf (Elt F) ℓ) (hI : ∀ i ∈ I, f i = G i) (hJ : ∀ i ∈ J, g i = G i) :
    iprop((ℓ ↦[I]{q} f) ∗ (ℓ ↦[J]{q} g)) ⊢ (ℓ ↦[S]{q} G : sProp 𝕄) := by
  classical
  have e : S = I ∪ J := by ext i; rw [Finset.mem_union]; exact hu i
  subst e
  rw [pointsTo_congr hI, pointsTo_congr hJ]
  exact (pointsTo_union (Finset.disjoint_left.mpr hd)).2
theorem parts_split {ℓ : Loc nD τ sig} {q : PosShare TreeShare} {I J S : Finset (Idx ℓ)} (hd : ∀ i, i ∈ I → ¬ i ∈ J) (hu : ∀ i, i ∈ S ↔ i ∈ I ∨ i ∈ J)
    (f : Buf (Elt F) ℓ) : (ℓ ↦[S]{q} f : sProp 𝕄) ⊢ iprop((ℓ ↦[I]{q} f) ∗ (ℓ ↦[J]{q} f)) := by
  classical
  have e : S = I ∪ J := by ext i; rw [Finset.mem_union]; exact hu i
  subst e
  exact (pointsTo_union (Finset.disjoint_left.mpr hd)).1

theorem twoParts_lt (f g : S6x32000.Idx → Elt F .f32) (y : S6x32000.Idx) (h : (y 1).val < 29952) : f y = twoParts f g y := (if_pos h).symm
theorem twoParts_ge (f g : S6x32000.Idx → Elt F .f32) (y : S6x32000.Idx) (h : 29952 ≤ (y 1).val) : g y = twoParts f g y := (if_neg (Nat.not_lt.mpr h)).symm
theorem lt_or_ge_iff {p a b : Prop} (hp : p) (y : S6x32000.Idx) (ha : a ↔ (y 1).val < 29952) (hb : b ↔ 29952 ≤ (y 1).val) : p ↔ a ∨ b := by
  rw [ha, hb]; exact ⟨fun _ => Nat.lt_or_ge _ _, fun _ => hp⟩

section Parts
variable (c : Dev nD)
theorem z_parts (q : PosShare TreeShare) (f g : Buf (Elt F) (zbufM.view.loc (c : Thread nD τ))) :
    iprop((zw0.view.loc (c : Thread nD τ) ↦[zw0.view.set]{q} f) ∗ (zw1.view.loc (c : Thread nD τ) ↦[zw1.view.set]{q} g))
      ⊢ (zbufM.view.loc (c : Thread nD τ) ↦[zbufM.view.set]{q} (twoParts (F := F) f g) : sProp 𝕄) :=
  parts_join (ℓ := zbufM.view.loc (c : Thread nD τ)) (I := zw0.view.set) (J := zw1.view.set) (S := zbufM.view.set) (fun (i : S6x32000.Idx) h h' => Nat.not_le.mpr ((mem_zw0 i).mp h) ((mem_zw1 i).mp h')) (fun (i : S6x32000.Idx) => lt_or_ge_iff (mem_zb i) i (mem_zw0 i) (mem_zw1 i)) f g _
    (fun (i : S6x32000.Idx) h => twoParts_lt f g i ((mem_zw0 i).mp h)) (fun (i : S6x32000.Idx) h => twoParts_ge f g i ((mem_zw1 i).mp h))
/-- Where a view was written whole, the buffer agrees with any contents that read the same there. -/
theorem landed_at {sp : Space} {s : Shape} {e : EltTy} (v : View sig .tc sp s e) (fo G : v.ty.Contents (Elt F)) (w : s.Idx → Elt F e)
    (hG : v.read (Elt F) G = w) : ∀ i ∈ v.set, v.writes (Elt F) fo [⟨Rect.whole s, w⟩] i = G i := by
  intro i hi
  obtain ⟨x, _, rfl⟩ := Finset.mem_map.mp hi
  have h := congrFun ((View.read_writes_whole v fo w).trans hG.symm) x
  rw [View.read_apply, View.read_apply] at h
  exact (cast_inj _).mp h
theorem ow0_landed (f : Buf (Elt F) (zbufM.view.loc (c : Thread nD τ))) (fo : Buf (Elt F) (o2M.view.loc (c : Thread nD τ))) (i : S6x32000.Idx)
    (hi : i ∈ (ow0.view.set : Finset S6x32000.Idx)) :
    (ow0.view.writes (Elt F) fo [⟨Rect.whole S6x29952, ReadAs.same.apply (zw0.view.read (Elt F) f)⟩] : S6x32000.Idx → Elt F .f32) i = f i :=
  landed_at ow0.view fo f _ rfl i hi
theorem ow1_landed (f : Buf (Elt F) (zbufM.view.loc (c : Thread nD τ))) (fo : Buf (Elt F) (o2M.view.loc (c : Thread nD τ))) (i : S6x32000.Idx)
    (hi : i ∈ (ow1.view.set : Finset S6x32000.Idx)) :
    (ow1.view.writes (Elt F) fo [⟨Rect.whole S6x2048, ReadAs.same.apply (zw1.view.read (Elt F) f)⟩] : S6x32000.Idx → Elt F .f32) i = f i :=
  landed_at ow1.view fo f _ rfl i hi
/-- The output whole, once both windows of the logits have landed in it. -/
theorem o2_done (fo : Buf (Elt F) (o2M.view.loc (c : Thread nD τ))) (f g : Buf (Elt F) (zbufM.view.loc (c : Thread nD τ))) :
    iprop((ow0.view.loc (c : Thread nD τ) ↦[ow0.view.set]{fullShare} ow0.view.writes (Elt F) fo [⟨Rect.whole S6x29952, ReadAs.same.apply (zw0.view.read (Elt F) f)⟩])
        ∗ (ow1.view.loc (c : Thread nD τ) ↦[ow1.view.set]{fullShare} ow1.view.writes (Elt F) fo [⟨Rect.whole S6x2048, ReadAs.same.apply (zw1.view.read (Elt F) g)⟩]))
      ⊢ (o2M.view.loc (c : Thread nD τ) ↦[o2M.view.set]{fullShare} (twoParts (F := F) f g) : sProp 𝕄) :=
  parts_join (ℓ := o2M.view.loc (c : Thread nD τ)) (I := ow0.view.set) (J := ow1.view.set) (S := o2M.view.set) (fun (i : S6x32000.Idx) h h' => Nat.not_le.mpr ((mem_ow0 i).mp h) ((mem_ow1 i).mp h')) (fun (i : S6x32000.Idx) => lt_or_ge_iff (mem_o2 i) i (mem_ow0 i) (mem_ow1 i)) _ _ _
    (fun (i : S6x32000.Idx) h => (ow0_landed c f fo i h).trans (twoParts_lt f g i ((mem_ow0 i).mp h))) (fun (i : S6x32000.Idx) h => (ow1_landed c g fo i h).trans (twoParts_ge f g i ((mem_ow1 i).mp h)))
/-- The logits' buffer whole again: the half kept and the half lent, each in two windows. -/
theorem z_halves (f : Buf (Elt F) (zbufM.view.loc (c : Thread nD τ))) :
    iprop((zbufM.view.loc (c : Thread nD τ) ↦[zbufM.view.set]{fullShare.left} f) ∗ (zbufM.view.loc (c : Thread nD τ) ↦[zbufM.view.set]{fullShare.right} f))
      ⊢ (zbufM.view.loc (c : Thread nD τ) ↦[zbufM.view.set]{fullShare} f : sProp 𝕄) := (pointsTo_share (PosShare.mem_left_op_right fullShare)).2

/-- Four rows written one by one into a table of four rows. -/
abbrev fourRows (p0 p1 p2 p3 : Vec F S1x6 .f32) : List (View.Piece (Elt F) S4x6 .f32) :=
  [⟨Rect.unit ![3, 0] S1x6.size inb_S4x6_S1x6_3_0, p3⟩, ⟨Rect.unit ![2, 0] S1x6.size inb_S4x6_S1x6_2_0, p2⟩,
   ⟨Rect.unit ![1, 0] S1x6.size inb_S4x6_S1x6_1_0, p1⟩, ⟨Rect.unit ![0, 0] S1x6.size inb_S4x6_S1x6_0_0, p0⟩]
theorem fourRows_cover (p0 p1 p2 p3 : Vec F S1x6 .f32) (y : S4x6.Idx) : ∃ p ∈ fourRows p0 p1 p2 p3, y ∈ p.1.set := by
  have hm : ∀ (r : ℕ) (inb : ∀ a, (![r, 0] : Fin 2 → ℕ) a + S1x6.size a ≤ S4x6.size a), (y 0).val = r → y ∈ (Rect.unit (s := S4x6) ![r, 0] S1x6.size inb).set := by
    intro r inb h
    rw [Rect.mem_set_unit]
    intro a; fin_cases a
    · show r ≤ (y 0).val ∧ (y 0).val < r + 1; omega
    · show 0 ≤ (y 1).val ∧ (y 1).val < 0 + 6; have h1 : (y 1).val < 6 := (y 1).isLt; omega
  have h4 : (y 0).val < 4 := (y 0).isLt
  rcases (show (y 0).val = 0 ∨ (y 0).val = 1 ∨ (y 0).val = 2 ∨ (y 0).val = 3 by omega) with h | h | h | h
  · exact ⟨_, List.mem_cons_of_mem _ (List.mem_cons_of_mem _ (List.mem_cons_of_mem _ List.mem_cons_self)), hm 0 inb_S4x6_S1x6_0_0 h⟩
  · exact ⟨_, List.mem_cons_of_mem _ (List.mem_cons_of_mem _ List.mem_cons_self), hm 1 inb_S4x6_S1x6_1_0 h⟩
  · exact ⟨_, List.mem_cons_of_mem _ List.mem_cons_self, hm 2 inb_S4x6_S1x6_2_0 h⟩
  · exact ⟨_, List.mem_cons_self, hm 3 inb_S4x6_S1x6_3_0 h⟩
theorem o0_done (fo : Buf (Elt F) (o0M.view.loc (c : Thread nD τ))) (fl : Buf (Elt F) (lseM.view.loc (c : Thread nD τ))) (w : Vec F S1x6 .f32) :
    (o0M.view.loc (c : Thread nD τ) ↦[o0M.view.set]{fullShare} o0M.view.writes (Elt F) fo [⟨Rect.whole S1x6, ReadAs.same.apply (lseM.view.read (Elt F)
        (lseM.view.writes (Elt F) fl [⟨Rect.unit ![0, 0] S1x6.size inb_S1x6_S1x6_0_0, w⟩]))⟩] : sProp 𝕄)
      ⊢ (o0M.view.loc (c : Thread nD τ) ↦[o0M.view.set]{fullShare} w) :=
  Entails.of_eq (congrArg (fun f => (o0M.view.loc (c : Thread nD τ) ↦[o0M.view.set]{fullShare} f : sProp 𝕄))
    ((whole_landed main_v2_0 fo _).trans (View.read_writes_full lseM.view fl inb_S1x6_S1x6_0_0 w [])))
theorem o1_done (fo : Buf (Elt F) (o1M.view.loc (c : Thread nD τ))) (fl : Buf (Elt F) (candM.view.loc (c : Thread nD τ))) (p0 p1 p2 p3 : Vec F S1x6 .f32) :
    (o1M.view.loc (c : Thread nD τ) ↦[o1M.view.set]{fullShare} o1M.view.writes (Elt F) fo [⟨Rect.whole S4x6, ReadAs.same.apply (candM.view.read (Elt F)
        (candM.view.writes (Elt F) fl (fourRows p0 p1 p2 p3)))⟩] : sProp 𝕄)
      ⊢ (o1M.view.loc (c : Thread nD τ) ↦[o1M.view.set]{fullShare} (View.canon (fourRows p0 p1 p2 p3))) :=
  Entails.of_eq (congrArg (fun f => (o1M.view.loc (c : Thread nD τ) ↦[o1M.view.set]{fullShare} f : sProp 𝕄))
    ((whole_landed main_v2_1 fo _).trans (View.read_writes_eq_canon candM.view fl (fourRows p0 p1 p2 p3) (fourRows_cover p0 p1 p2 p3))))
theorem o2_split (f : Buf (Elt F) (o2M.view.loc (c : Thread nD τ))) :
    (o2M.view.loc (c : Thread nD τ) ↦[o2M.view.set]{fullShare} f : sProp 𝕄)
      ⊢ iprop((ow0.view.loc (c : Thread nD τ) ↦[ow0.view.set]{fullShare} f) ∗ (ow1.view.loc (c : Thread nD τ) ↦[ow1.view.set]{fullShare} f)) :=
  parts_split (ℓ := o2M.view.loc (c : Thread nD τ)) (I := ow0.view.set) (J := ow1.view.set) (S := o2M.view.set) (fun (i : S6x32000.Idx) h h' => Nat.not_le.mpr ((mem_ow0 i).mp h) ((mem_ow1 i).mp h')) (fun (i : S6x32000.Idx) => lt_or_ge_iff (mem_o2 i) i (mem_ow0 i) (mem_ow1 i)) f
theorem zRest_eq (f : Buf (Elt F) (zbufM.view.loc (c : Thread nD τ))) :
    (zbufM.view.loc (c : Thread nD τ) ↦[Finset.univ \ zw0.view.set]{fullShare} f : sProp 𝕄)
      ⊢ iprop((zw1.view.loc (c : Thread nD τ) ↦[zw1.view.set]{fullShare.left} f) ∗ (zw1.view.loc (c : Thread nD τ) ↦[zw1.view.set]{fullShare.right} f)) := by
  have e : (Finset.univ \ zw0.view.set : Finset S6x32000.Idx) = zw1.view.set := by rw [zw0_set, zw1_set, R1_eq]
  have h := (pointsTo_share (Ix := Unit) (Val := Elt F) (Name := ℕ) (U := UU) (Lvl := ℕ) (ℓ := zbufM.view.loc (c : Thread nD τ)) (I := zw1.view.set) (f := f) (PosShare.mem_left_op_right fullShare)).1
  rw [← e] at h ⊢
  exact h
end Parts

/-- Every candidate's id addresses a column of the logits' buffer. -/
def CandOK (c : Dev nD) (X9 : Buf (Elt F) (candsM.view.loc (c : Thread nD τ))) : Prop :=
  k0_chk7 (candsM.view.readAt (Elt F) (Rect.unit (s := S4x6) ![0, 0] S1x1.size inb_S4x6_S1x1_0_0).toLoadRect X9 (Shape.Idx.first (numel1_S1x1.symm ▸ Nat.one_pos)))
  ∧ k0_chk8 (candsM.view.readAt (Elt F) (Rect.unit (s := S4x6) ![0, 1] S1x1.size inb_S4x6_S1x1_0_1).toLoadRect X9 (Shape.Idx.first (numel1_S1x1.symm ▸ Nat.one_pos)))
  ∧ k0_chk9 (candsM.view.readAt (Elt F) (Rect.unit (s := S4x6) ![0, 2] S1x1.size inb_S4x6_S1x1_0_2).toLoadRect X9 (Shape.Idx.first (numel1_S1x1.symm ▸ Nat.one_pos)))
  ∧ k0_chk10 (candsM.view.readAt (Elt F) (Rect.unit (s := S4x6) ![0, 3] S1x1.size inb_S4x6_S1x1_0_3).toLoadRect X9 (Shape.Idx.first (numel1_S1x1.symm ▸ Nat.one_pos)))
  ∧ k0_chk11 (candsM.view.readAt (Elt F) (Rect.unit (s := S4x6) ![0, 4] S1x1.size inb_S4x6_S1x1_0_4).toLoadRect X9 (Shape.Idx.first (numel1_S1x1.symm ▸ Nat.one_pos)))
  ∧ k0_chk12 (candsM.view.readAt (Elt F) (Rect.unit (s := S4x6) ![0, 5] S1x1.size inb_S4x6_S1x1_0_5).toLoadRect X9 (Shape.Idx.first (numel1_S1x1.symm ▸ Nat.one_pos)))
  ∧ k0_chk13 (candsM.view.readAt (Elt F) (Rect.unit (s := S4x6) ![1, 0] S1x1.size inb_S4x6_S1x1_1_0).toLoadRect X9 (Shape.Idx.first (numel1_S1x1.symm ▸ Nat.one_pos)))
  ∧ k0_chk14 (candsM.view.readAt (Elt F) (Rect.unit (s := S4x6) ![1, 1] S1x1.size inb_S4x6_S1x1_1_1).toLoadRect X9 (Shape.Idx.first (numel1_S1x1.symm ▸ Nat.one_pos)))
  ∧ k0_chk15 (candsM.view.readAt (Elt F) (Rect.unit (s := S4x6) ![1, 2] S1x1.size inb_S4x6_S1x1_1_2).toLoadRect X9 (Shape.Idx.first (numel1_S1x1.symm ▸ Nat.one_pos)))
  ∧ k0_chk16 (candsM.view.readAt (Elt F) (Rect.unit (s := S4x6) ![1, 3] S1x1.size inb_S4x6_S1x1_1_3).toLoadRect X9 (Shape.Idx.first (numel1_S1x1.symm ▸ Nat.one_pos)))
  ∧ k0_chk17 (candsM.view.readAt (Elt F) (Rect.unit (s := S4x6) ![1, 4] S1x1.size inb_S4x6_S1x1_1_4).toLoadRect X9 (Shape.Idx.first (numel1_S1x1.symm ▸ Nat.one_pos)))
  ∧ k0_chk18 (candsM.view.readAt (Elt F) (Rect.unit (s := S4x6) ![1, 5] S1x1.size inb_S4x6_S1x1_1_5).toLoadRect X9 (Shape.Idx.first (numel1_S1x1.symm ▸ Nat.one_pos)))
  ∧ k0_chk19 (candsM.view.readAt (Elt F) (Rect.unit (s := S4x6) ![2, 0] S1x1.size inb_S4x6_S1x1_2_0).toLoadRect X9 (Shape.Idx.first (numel1_S1x1.symm ▸ Nat.one_pos)))
  ∧ k0_chk20 (candsM.view.readAt (Elt F) (Rect.unit (s := S4x6) ![2, 1] S1x1.size inb_S4x6_S1x1_2_1).toLoadRect X9 (Shape.Idx.first (numel1_S1x1.symm ▸ Nat.one_pos)))
  ∧ k0_chk21 (candsM.view.readAt (Elt F) (Rect.unit (s := S4x6) ![2, 2] S1x1.size inb_S4x6_S1x1_2_2).toLoadRect X9 (Shape.Idx.first (numel1_S1x1.symm ▸ Nat.one_pos)))
  ∧ k0_chk22 (candsM.view.readAt (Elt F) (Rect.unit (s := S4x6) ![2, 3] S1x1.size inb_S4x6_S1x1_2_3).toLoadRect X9 (Shape.Idx.first (numel1_S1x1.symm ▸ Nat.one_pos)))
  ∧ k0_chk23 (candsM.view.readAt (Elt F) (Rect.unit (s := S4x6) ![2, 4] S1x1.size inb_S4x6_S1x1_2_4).toLoadRect X9 (Shape.Idx.first (numel1_S1x1.symm ▸ Nat.one_pos)))
  ∧ k0_chk24 (candsM.view.readAt (Elt F) (Rect.unit (s := S4x6) ![2, 5] S1x1.size inb_S4x6_S1x1_2_5).toLoadRect X9 (Shape.Idx.first (numel1_S1x1.symm ▸ Nat.one_pos)))
  ∧ k0_chk25 (candsM.view.readAt (Elt F) (Rect.unit (s := S4x6) ![3, 0] S1x1.size inb_S4x6_S1x1_3_0).toLoadRect X9 (Shape.Idx.first (numel1_S1x1.symm ▸ Nat.one_pos)))
  ∧ k0_chk26 (candsM.view.readAt (Elt F) (Rect.unit (s := S4x6) ![3, 1] S1x1.size inb_S4x6_S1x1_3_1).toLoadRect X9 (Shape.Idx.first (numel1_S1x1.symm ▸ Nat.one_pos)))
  ∧ k0_chk27 (candsM.view.readAt (Elt F) (Rect.unit (s := S4x6) ![3, 2] S1x1.size inb_S4x6_S1x1_3_2).toLoadRect X9 (Shape.Idx.first (numel1_S1x1.symm ▸ Nat.one_pos)))
  ∧ k0_chk28 (candsM.view.readAt (Elt F) (Rect.unit (s := S4x6) ![3, 3] S1x1.size inb_S4x6_S1x1_3_3).toLoadRect X9 (Shape.Idx.first (numel1_S1x1.symm ▸ Nat.one_pos)))
  ∧ k0_chk29 (candsM.view.readAt (Elt F) (Rect.unit (s := S4x6) ![3, 4] S1x1.size inb_S4x6_S1x1_3_4).toLoadRect X9 (Shape.Idx.first (numel1_S1x1.symm ▸ Nat.one_pos)))
  ∧ k0_chk30 (candsM.view.readAt (Elt F) (Rect.unit (s := S4x6) ![3, 5] S1x1.size inb_S4x6_S1x1_3_5).toLoadRect X9 (Shape.Idx.first (numel1_S1x1.symm ▸ Nat.one_pos)))

section Exit
variable (c : Dev nD) (v125 v152 v179 v201 : FVec F S6x128 .f32) (v203 : IVec S6x128 1) (v205 : FVec F S6x128 .f32)
  (XS : Buf (Elt F) (wsM.view.loc (c : Thread nD τ))) (XC : Buf (Elt F) (cntM.view.loc (c : Thread nD τ))) (XI : Buf (Elt F) (biasM.view.loc (c : Thread nD τ)))

abbrev zKeep (f : Buf (Elt F) (zbufM.view.loc (c : Thread nD τ))) : sProp 𝕄 := zw0.view.loc (c : Thread nD τ) ↦[zw0.view.set]{fullShare.left} f
abbrev zLend (f : Buf (Elt F) (zbufM.view.loc (c : Thread nD τ))) : sProp 𝕄 := zw0.view.loc (c : Thread nD τ) ↦[zw0.view.set]{fullShare.right} f
abbrev zRest (f : Buf (Elt F) (zbufM.view.loc (c : Thread nD τ))) : sProp 𝕄 := zbufM.view.loc (c : Thread nD τ) ↦[Finset.univ \ zw0.view.set]{fullShare} f

/-- The logits' buffer as its first window, in two halves, and the rest. -/
theorem z_split (f : Buf (Elt F) (zbufM.view.loc (c : Thread nD τ))) : zP c f ⊢ iprop(zKeep c f ∗ zLend c f ∗ zRest c f) := by
  have h : zw0.view.set ⊆ zbufM.view.set := by rw [zb_set]; exact Finset.subset_univ _
  refine (pointsTo_split_subset h).1.trans ?_
  rw [zb_set]
  iintro ⟨HA, HB⟩
  ihave HA' := (pointsTo_share (PosShare.mem_left_op_right fullShare)).1 $$ HA
  icases HA' with ⟨HA, HA'⟩
  isplitl [HA]; · iexact HA
  isplitl [HA']; · iexact HA'
  iexact HB

/-- After the finish the first window is held in two halves, one to be lent to its copy. -/
instance loopExit4 (a0 : FVec F S6x128 .f32 × FVec F S6x128 .f32) (f0 : Buf (Elt F) (zbufM.view.loc (c : Thread nD τ))) :
    LoopExit (loopInv4 c v125 v152 v179 v201 v203 v205 XS XC XI a0 f0) where
  post acc := iprop(wsP c XS ∗ cntP c XC ∗ biasP c XI
    ∗ zKeep c (finAt c v125 v152 v179 v201 v203 v205 XS XC XI a0 f0 13).2 ∗ zLend c (finAt c v125 v152 v179 v201 v203 v205 XS XC XI a0 f0 13).2
    ∗ zRest c (finAt c v125 v152 v179 v201 v203 v205 XS XC XI a0 f0 13).2
    ∗ ⌜acc = (finAt c v125 v152 v179 v201 v203 v205 XS XC XI a0 f0 13).1⌝)
  exit acc := by
    have e : (Scf.trips k0_t4_loop.lb k0_t4_loop.ub k0_t4_loop.st) = 13 := by decide
    rw [e]
    show finInv c v125 v152 v179 v201 v203 v205 XS XC XI a0 f0 13 acc ⊢ _
    rw [finInv_eq]
    unfold finSt
    iintro ⟨HS, HC, HI, HZ, Ha⟩
    ihave HZ' := (z_split c _) $$ HZ
    icases HZ' with ⟨HA, HB, HR⟩
    isplitl [HS]; · iexact HS
    isplitl [HC]; · iexact HC
    isplitl [HI]; · iexact HI
    isplitl [HA]; · iexact HA
    isplitl [HB]; · iexact HB
    isplitl [HR]; · iexact HR
    iexact Ha

end Exit

section Body
variable (c : Dev nD)
abbrev x6P (f : Buf (Elt F) (x6M.view.loc (c : Thread nD τ))) : sProp 𝕄 := x6M.view.loc (c : Thread nD τ) ↦[x6M.view.set]{fullShare} f
abbrev lseP (f : Buf (Elt F) (lseM.view.loc (c : Thread nD τ))) : sProp 𝕄 := lseM.view.loc (c : Thread nD τ) ↦[lseM.view.set]{fullShare} f
abbrev candP (f : Buf (Elt F) (candM.view.loc (c : Thread nD τ))) : sProp 𝕄 := candM.view.loc (c : Thread nD τ) ↦[candM.view.set]{fullShare} f
abbrev xsP (f : Buf (Elt F) (xsM.view.loc (c : Thread nD τ))) : sProp 𝕄 := xsM.view.loc (c : Thread nD τ) ↦[xsM.view.set]{fullShare} f
abbrev ppP (f : Buf (Elt F) (ppM.view.loc (c : Thread nD τ))) : sProp 𝕄 := ppM.view.loc (c : Thread nD τ) ↦[ppM.view.set]{fullShare} f
abbrev fpP (f : Buf (Elt F) (fpM.view.loc (c : Thread nD τ))) : sProp 𝕄 := fpM.view.loc (c : Thread nD τ) ↦[fpM.view.set]{fullShare} f
abbrev rpP (f : Buf (Elt F) (rpM.view.loc (c : Thread nD τ))) : sProp 𝕄 := rpM.view.loc (c : Thread nD τ) ↦[rpM.view.set]{fullShare} f
abbrev candsP (f : Buf (Elt F) (candsM.view.loc (c : Thread nD τ))) : sProp 𝕄 := candsM.view.loc (c : Thread nD τ) ↦[candsM.view.set]{fullShare} f
abbrev a0P (f : Buf (Elt F) (a0M.view.loc (c : Thread nD τ))) : sProp 𝕄 := a0M.view.loc (c : Thread nD τ) ↦[a0M.view.set]{fullShare} f
abbrev a1P (f : Buf (Elt F) (a1M.view.loc (c : Thread nD τ))) : sProp 𝕄 := a1M.view.loc (c : Thread nD τ) ↦[a1M.view.set]{fullShare} f
abbrev a3P (f : Buf (Elt F) (a3M.view.loc (c : Thread nD τ))) : sProp 𝕄 := a3M.view.loc (c : Thread nD τ) ↦[a3M.view.set]{fullShare} f
abbrev a4P (f : Buf (Elt F) (a4M.view.loc (c : Thread nD τ))) : sProp 𝕄 := a4M.view.loc (c : Thread nD τ) ↦[a4M.view.set]{fullShare} f
abbrev a5P (f : Buf (Elt F) (a5M.view.loc (c : Thread nD τ))) : sProp 𝕄 := a5M.view.loc (c : Thread nD τ) ↦[a5M.view.set]{fullShare} f
abbrev a6P (f : Buf (Elt F) (a6M.view.loc (c : Thread nD τ))) : sProp 𝕄 := a6M.view.loc (c : Thread nD τ) ↦[a6M.view.set]{fullShare} f
abbrev a7P (f : Buf (Elt F) (a7M.view.loc (c : Thread nD τ))) : sProp 𝕄 := a7M.view.loc (c : Thread nD τ) ↦[a7M.view.set]{fullShare} f
abbrev a8P (f : Buf (Elt F) (a8M.view.loc (c : Thread nD τ))) : sProp 𝕄 := a8M.view.loc (c : Thread nD τ) ↦[a8M.view.set]{fullShare} f
abbrev a9P (f : Buf (Elt F) (a9M.view.loc (c : Thread nD τ))) : sProp 𝕄 := a9M.view.loc (c : Thread nD τ) ↦[a9M.view.set]{fullShare} f
abbrev a10P (f : Buf (Elt F) (a10M.view.loc (c : Thread nD τ))) : sProp 𝕄 := a10M.view.loc (c : Thread nD τ) ↦[a10M.view.set]{fullShare} f
abbrev a11P (f : Buf (Elt F) (a11M.view.loc (c : Thread nD τ))) : sProp 𝕄 := a11M.view.loc (c : Thread nD τ) ↦[a11M.view.set]{fullShare} f
abbrev o0P (f : Buf (Elt F) (o0M.view.loc (c : Thread nD τ))) : sProp 𝕄 := o0M.view.loc (c : Thread nD τ) ↦[o0M.view.set]{fullShare} f
abbrev o1P (f : Buf (Elt F) (o1M.view.loc (c : Thread nD τ))) : sProp 𝕄 := o1M.view.loc (c : Thread nD τ) ↦[o1M.view.set]{fullShare} f
abbrev o2P (f : Buf (Elt F) (o2M.view.loc (c : Thread nD τ))) : sProp 𝕄 := o2M.view.loc (c : Thread nD τ) ↦[o2M.view.set]{fullShare} f
abbrev icell0 : sProp 𝕄 := semVal ((c : Thread nD τ), SemLoc.dma ism0.sem) 0
abbrev icell1 : sProp 𝕄 := semVal ((c : Thread nD τ), SemLoc.dma ism1.sem) 0
abbrev icell2 : sProp 𝕄 := semVal ((c : Thread nD τ), SemLoc.dma ism2.sem) 0
abbrev icell3 : sProp 𝕄 := semVal ((c : Thread nD τ), SemLoc.dma ism3.sem) 0
abbrev icell4 : sProp 𝕄 := semVal ((c : Thread nD τ), SemLoc.dma ism4.sem) 0
abbrev icell5 : sProp 𝕄 := semVal ((c : Thread nD τ), SemLoc.dma ism5.sem) 0
abbrev icell6 : sProp 𝕄 := semVal ((c : Thread nD τ), SemLoc.dma ism6.sem) 0
abbrev icell7 : sProp 𝕄 := semVal ((c : Thread nD τ), SemLoc.dma ism7.sem) 0
abbrev icell8 : sProp 𝕄 := semVal ((c : Thread nD τ), SemLoc.dma ism8.sem) 0
abbrev icell9 : sProp 𝕄 := semVal ((c : Thread nD τ), SemLoc.dma ism9.sem) 0
abbrev icell10 : sProp 𝕄 := semVal ((c : Thread nD τ), SemLoc.dma ism10.sem) 0
abbrev ocell0 : sProp 𝕄 := semVal ((c : Thread nD τ), SemLoc.dma osm0.sem) 0
abbrev ocell1 : sProp 𝕄 := semVal ((c : Thread nD τ), SemLoc.dma osm1.sem) 0
abbrev ocell2 : sProp 𝕄 := semVal ((c : Thread nD τ), SemLoc.dma osm2.sem) 0
abbrev ocell3 : sProp 𝕄 := semVal ((c : Thread nD τ), SemLoc.dma osm3.sem) 0
theorem hist_landed (f : Buf (Elt F) (histM.view.loc (c : Thread nD τ))) (X : Buf (Elt F) (a4M.view.loc (c : Thread nD τ))) :
    histP c (histM.view.writes (Elt F) f [⟨Rect.whole S6x4096, ReadAs.same.apply (a4M.view.read (Elt F) X)⟩]) ⊢ histP c X :=
  Entails.of_eq (congrArg (histP c) (whole_landed cc0_scratch5 f X))
theorem hlen_landed (f : Buf (Elt F) (hlenM.view.loc (c : Thread nD τ))) (X : Buf (Elt F) (a5M.view.loc (c : Thread nD τ))) :
    hlenP c (hlenM.view.writes (Elt F) f [⟨Rect.whole S6, ReadAs.same.apply (a5M.view.read (Elt F) X)⟩]) ⊢ hlenP c X :=
  Entails.of_eq (congrArg (hlenP c) (whole_landed cc0_scratch12 f X))
theorem bid_landed (f : Buf (Elt F) (bidM.view.loc (c : Thread nD τ))) (X : Buf (Elt F) (a10M.view.loc (c : Thread nD τ))) :
    bidP c (bidM.view.writes (Elt F) f [⟨Rect.whole S6x36, ReadAs.same.apply (a10M.view.read (Elt F) X)⟩]) ⊢ bidP c X :=
  Entails.of_eq (congrArg (bidP c) (whole_landed cc0_scratch17 f X))
theorem bval_landed (f : Buf (Elt F) (bvalM.view.loc (c : Thread nD τ))) (X : Buf (Elt F) (a11M.view.loc (c : Thread nD τ))) :
    bvalP c (bvalM.view.writes (Elt F) f [⟨Rect.whole S6x36, ReadAs.same.apply (a11M.view.read (Elt F) X)⟩]) ⊢ bvalP c X :=
  Entails.of_eq (congrArg (bvalP c) (whole_landed cc0_scratch18 f X))
theorem x6_landed (f : Buf (Elt F) (x6M.view.loc (c : Thread nD τ))) (X : Buf (Elt F) (a0M.view.loc (c : Thread nD τ))) :
    x6P c (x6M.view.writes (Elt F) f [⟨Rect.whole S6x8192, ReadAs.same.apply (a0M.view.read (Elt F) X)⟩]) ⊢ x6P c X :=
  Entails.of_eq (congrArg (x6P c) (whole_landed cc0_scratch2 f X))
theorem xs_landed (f : Buf (Elt F) (xsM.view.loc (c : Thread nD τ))) (X : Buf (Elt F) (a1M.view.loc (c : Thread nD τ))) :
    xsP c (xsM.view.writes (Elt F) f [⟨Rect.whole S6, ReadAs.same.apply (a1M.view.read (Elt F) X)⟩]) ⊢ xsP c X :=
  Entails.of_eq (congrArg (xsP c) (whole_landed cc0_scratch11 f X))
theorem ws_landed (f : Buf (Elt F) (wsM.view.loc (c : Thread nD τ))) (X : Buf (Elt F) (a3M.view.loc (c : Thread nD τ))) :
    wsP c (wsM.view.writes (Elt F) f [⟨Rect.whole S250x128, ReadAs.same.apply (a3M.view.read (Elt F) X)⟩]) ⊢ wsP c X :=
  Entails.of_eq (congrArg (wsP c) (whole_landed cc0_scratch4 f X))
theorem pp_landed (f : Buf (Elt F) (ppM.view.loc (c : Thread nD τ))) (X : Buf (Elt F) (a6M.view.loc (c : Thread nD τ))) :
    ppP c (ppM.view.writes (Elt F) f [⟨Rect.whole S6, ReadAs.same.apply (a6M.view.read (Elt F) X)⟩]) ⊢ ppP c X :=
  Entails.of_eq (congrArg (ppP c) (whole_landed cc0_scratch13 f X))
theorem fp_landed (f : Buf (Elt F) (fpM.view.loc (c : Thread nD τ))) (X : Buf (Elt F) (a7M.view.loc (c : Thread nD τ))) :
    fpP c (fpM.view.writes (Elt F) f [⟨Rect.whole S6, ReadAs.same.apply (a7M.view.read (Elt F) X)⟩]) ⊢ fpP c X :=
  Entails.of_eq (congrArg (fpP c) (whole_landed cc0_scratch14 f X))
theorem rp_landed (f : Buf (Elt F) (rpM.view.loc (c : Thread nD τ))) (X : Buf (Elt F) (a8M.view.loc (c : Thread nD τ))) :
    rpP c (rpM.view.writes (Elt F) f [⟨Rect.whole S6, ReadAs.same.apply (a8M.view.read (Elt F) X)⟩]) ⊢ rpP c X :=
  Entails.of_eq (congrArg (rpP c) (whole_landed cc0_scratch15 f X))
theorem cands_landed (f : Buf (Elt F) (candsM.view.loc (c : Thread nD τ))) (X : Buf (Elt F) (a9M.view.loc (c : Thread nD τ))) :
    candsP c (candsM.view.writes (Elt F) f [⟨Rect.whole S4x6, ReadAs.same.apply (a9M.view.read (Elt F) X)⟩]) ⊢ candsP c X :=
  Entails.of_eq (congrArg (candsP c) (whole_landed cc0_scratch16 f X))
variable (X2 : Buf (Elt F) (aW.view.loc (c : Thread nD τ)))
variable (X0 : Buf (Elt F) (a0M.view.loc (c : Thread nD τ))) (X1 : Buf (Elt F) (a1M.view.loc (c : Thread nD τ))) (X3 : Buf (Elt F) (a3M.view.loc (c : Thread nD τ))) (X4 : Buf (Elt F) (a4M.view.loc (c : Thread nD τ))) (X5 : Buf (Elt F) (a5M.view.loc (c : Thread nD τ))) (X6 : Buf (Elt F) (a6M.view.loc (c : Thread nD τ))) (X7 : Buf (Elt F) (a7M.view.loc (c : Thread nD τ))) (X8 : Buf (Elt F) (a8M.view.loc (c : Thread nD τ))) (X9 : Buf (Elt F) (a9M.view.loc (c : Thread nD τ))) (X10 : Buf (Elt F) (a10M.view.loc (c : Thread nD τ))) (X11 : Buf (Elt F) (a11M.view.loc (c : Thread nD τ)))
/-- What the body starts from. -/
abbrev PRE : sProp 𝕄 := iprop(a0P c X0
  ∗ a1P c X1
  ∗ a3P c X3
  ∗ a4P c X4
  ∗ a5P c X5
  ∗ a6P c X6
  ∗ a7P c X7
  ∗ a8P c X8
  ∗ a9P c X9
  ∗ a10P c X10
  ∗ a11P c X11
  ∗ (∃ f, o0P c f)
  ∗ (∃ f, o1P c f)
  ∗ (∃ f, o2P c f)
  ∗ (∃ f, x6P c f)
  ∗ (∃ f, lseP c f)
  ∗ (∃ f, candP c f)
  ∗ (∃ f, xsP c f)
  ∗ (∃ f, ppP c f)
  ∗ (∃ f, fpP c f)
  ∗ (∃ f, rpP c f)
  ∗ (∃ f, candsP c f)
  ∗ (∃ f, wsP c f)
  ∗ (∃ f, histP c f)
  ∗ (∃ f, cntP c f)
  ∗ (∃ f, biasP c f)
  ∗ (∃ f, hlenP c f)
  ∗ (∃ f, bidP c f)
  ∗ (∃ f, bvalP c f)
  ∗ (∃ f, xP c f)
  ∗ (∃ f, zP c f)
  ∗ icell0 c
  ∗ icell1 c
  ∗ icell2 c
  ∗ icell3 c
  ∗ icell4 c
  ∗ icell5 c
  ∗ icell6 c
  ∗ icell7 c
  ∗ icell8 c
  ∗ icell9 c
  ∗ icell10 c
  ∗ ocell0 c
  ∗ ocell1 c
  ∗ ocell2 c
  ∗ ocell3 c
  ∗ (∃ W, owes (c : Thread nD τ) 0 W)
  ∗ bigSep (Ring.homeSet 4 0) (homeP c X2)
  ∗ homeP c X2 0
  ∗ homeP c X2 1
  ∗ homeP c X2 2
  ∗ homeP c X2 3
  ∗ (∃ f, slotP c 0 f)
  ∗ (∃ f, slotP c 1 f)
  ∗ (∃ f, slotP c 2 f)
  ∗ (∃ f, slotP c 3 f)
  ∗ cellP c 0
  ∗ cellP c 1
  ∗ cellP c 2
  ∗ cellP c 3
  ∗ thome0 c X2
  ∗ thome1 c X2
  ∗ thome2 c X2
  ∗ thome3 c X2
  ∗ thome4 c X2
  ∗ thome5 c X2
  ∗ (∃ f, tslot0 c f)
  ∗ (∃ f, tslot1 c f)
  ∗ (∃ f, tslot2 c f)
  ∗ (∃ f, tslot3 c f)
  ∗ (∃ f, tslot4 c f)
  ∗ (∃ f, tslot5 c f)
  ∗ tcell0 c
  ∗ tcell1 c
  ∗ tcell2 c
  ∗ tcell3 c
  ∗ tcell4 c
  ∗ tcell5 c)
/-- What it hands back, the three outputs at `O0`, `O1`, `O2`. -/
abbrev POST (O0 : Buf (Elt F) (o0M.view.loc (c : Thread nD τ))) (O1 : Buf (Elt F) (o1M.view.loc (c : Thread nD τ))) (O2 : Buf (Elt F) (o2M.view.loc (c : Thread nD τ))) : sProp 𝕄 := iprop(a0P c X0
  ∗ a1P c X1
  ∗ a3P c X3
  ∗ a4P c X4
  ∗ a5P c X5
  ∗ a6P c X6
  ∗ a7P c X7
  ∗ a8P c X8
  ∗ a9P c X9
  ∗ a10P c X10
  ∗ a11P c X11
  ∗ o0P c O0
  ∗ o1P c O1
  ∗ o2P c O2
  ∗ (∃ f, x6P c f)
  ∗ (∃ f, lseP c f)
  ∗ (∃ f, candP c f)
  ∗ (∃ f, xsP c f)
  ∗ (∃ f, ppP c f)
  ∗ (∃ f, fpP c f)
  ∗ (∃ f, rpP c f)
  ∗ (∃ f, candsP c f)
  ∗ (∃ f, wsP c f)
  ∗ (∃ f, histP c f)
  ∗ (∃ f, cntP c f)
  ∗ (∃ f, biasP c f)
  ∗ (∃ f, hlenP c f)
  ∗ (∃ f, bidP c f)
  ∗ (∃ f, bvalP c f)
  ∗ (∃ f, xP c f)
  ∗ (∃ f, zP c f)
  ∗ icell0 c
  ∗ icell1 c
  ∗ icell2 c
  ∗ icell3 c
  ∗ icell4 c
  ∗ icell5 c
  ∗ icell6 c
  ∗ icell7 c
  ∗ icell8 c
  ∗ icell9 c
  ∗ icell10 c
  ∗ ocell0 c
  ∗ ocell1 c
  ∗ ocell2 c
  ∗ ocell3 c
  ∗ (∃ W, owes (c : Thread nD τ) 0 W)
  ∗ bigSep Finset.univ (homeP c X2)
  ∗ (∃ f, slotP c 0 f)
  ∗ (∃ f, slotP c 1 f)
  ∗ (∃ f, slotP c 2 f)
  ∗ (∃ f, slotP c 3 f)
  ∗ cellP c 0
  ∗ cellP c 1
  ∗ cellP c 2
  ∗ cellP c 3
  ∗ thome0 c X2
  ∗ thome1 c X2
  ∗ thome2 c X2
  ∗ thome3 c X2
  ∗ thome4 c X2
  ∗ thome5 c X2
  ∗ (∃ f, tslot0 c f)
  ∗ (∃ f, tslot1 c f)
  ∗ (∃ f, tslot2 c f)
  ∗ (∃ f, tslot3 c f)
  ∗ (∃ f, tslot4 c f)
  ∗ (∃ f, tslot5 c f)
  ∗ tcell0 c
  ∗ tcell1 c
  ∗ tcell2 c
  ∗ tcell3 c
  ∗ tcell4 c
  ∗ tcell5 c)
set_option backward.proofsInPublic true in
set_option sl_exec.dmaWindow true in
/-- The body's run: the three outputs, and that the body takes `PRE` to `POST` at them. -/
def bodyRun (hB : BidOK c X10)
    (hc7 : k0_chk7 (candsM.view.readAt (Elt F) (Rect.unit (s := S4x6) ![0, 0] S1x1.size inb_S4x6_S1x1_0_0).toLoadRect X9 (Shape.Idx.first (numel1_S1x1.symm ▸ Nat.one_pos))))
    (hc8 : k0_chk8 (candsM.view.readAt (Elt F) (Rect.unit (s := S4x6) ![0, 1] S1x1.size inb_S4x6_S1x1_0_1).toLoadRect X9 (Shape.Idx.first (numel1_S1x1.symm ▸ Nat.one_pos))))
    (hc9 : k0_chk9 (candsM.view.readAt (Elt F) (Rect.unit (s := S4x6) ![0, 2] S1x1.size inb_S4x6_S1x1_0_2).toLoadRect X9 (Shape.Idx.first (numel1_S1x1.symm ▸ Nat.one_pos))))
    (hc10 : k0_chk10 (candsM.view.readAt (Elt F) (Rect.unit (s := S4x6) ![0, 3] S1x1.size inb_S4x6_S1x1_0_3).toLoadRect X9 (Shape.Idx.first (numel1_S1x1.symm ▸ Nat.one_pos))))
    (hc11 : k0_chk11 (candsM.view.readAt (Elt F) (Rect.unit (s := S4x6) ![0, 4] S1x1.size inb_S4x6_S1x1_0_4).toLoadRect X9 (Shape.Idx.first (numel1_S1x1.symm ▸ Nat.one_pos))))
    (hc12 : k0_chk12 (candsM.view.readAt (Elt F) (Rect.unit (s := S4x6) ![0, 5] S1x1.size inb_S4x6_S1x1_0_5).toLoadRect X9 (Shape.Idx.first (numel1_S1x1.symm ▸ Nat.one_pos))))
    (hc13 : k0_chk13 (candsM.view.readAt (Elt F) (Rect.unit (s := S4x6) ![1, 0] S1x1.size inb_S4x6_S1x1_1_0).toLoadRect X9 (Shape.Idx.first (numel1_S1x1.symm ▸ Nat.one_pos))))
    (hc14 : k0_chk14 (candsM.view.readAt (Elt F) (Rect.unit (s := S4x6) ![1, 1] S1x1.size inb_S4x6_S1x1_1_1).toLoadRect X9 (Shape.Idx.first (numel1_S1x1.symm ▸ Nat.one_pos))))
    (hc15 : k0_chk15 (candsM.view.readAt (Elt F) (Rect.unit (s := S4x6) ![1, 2] S1x1.size inb_S4x6_S1x1_1_2).toLoadRect X9 (Shape.Idx.first (numel1_S1x1.symm ▸ Nat.one_pos))))
    (hc16 : k0_chk16 (candsM.view.readAt (Elt F) (Rect.unit (s := S4x6) ![1, 3] S1x1.size inb_S4x6_S1x1_1_3).toLoadRect X9 (Shape.Idx.first (numel1_S1x1.symm ▸ Nat.one_pos))))
    (hc17 : k0_chk17 (candsM.view.readAt (Elt F) (Rect.unit (s := S4x6) ![1, 4] S1x1.size inb_S4x6_S1x1_1_4).toLoadRect X9 (Shape.Idx.first (numel1_S1x1.symm ▸ Nat.one_pos))))
    (hc18 : k0_chk18 (candsM.view.readAt (Elt F) (Rect.unit (s := S4x6) ![1, 5] S1x1.size inb_S4x6_S1x1_1_5).toLoadRect X9 (Shape.Idx.first (numel1_S1x1.symm ▸ Nat.one_pos))))
    (hc19 : k0_chk19 (candsM.view.readAt (Elt F) (Rect.unit (s := S4x6) ![2, 0] S1x1.size inb_S4x6_S1x1_2_0).toLoadRect X9 (Shape.Idx.first (numel1_S1x1.symm ▸ Nat.one_pos))))
    (hc20 : k0_chk20 (candsM.view.readAt (Elt F) (Rect.unit (s := S4x6) ![2, 1] S1x1.size inb_S4x6_S1x1_2_1).toLoadRect X9 (Shape.Idx.first (numel1_S1x1.symm ▸ Nat.one_pos))))
    (hc21 : k0_chk21 (candsM.view.readAt (Elt F) (Rect.unit (s := S4x6) ![2, 2] S1x1.size inb_S4x6_S1x1_2_2).toLoadRect X9 (Shape.Idx.first (numel1_S1x1.symm ▸ Nat.one_pos))))
    (hc22 : k0_chk22 (candsM.view.readAt (Elt F) (Rect.unit (s := S4x6) ![2, 3] S1x1.size inb_S4x6_S1x1_2_3).toLoadRect X9 (Shape.Idx.first (numel1_S1x1.symm ▸ Nat.one_pos))))
    (hc23 : k0_chk23 (candsM.view.readAt (Elt F) (Rect.unit (s := S4x6) ![2, 4] S1x1.size inb_S4x6_S1x1_2_4).toLoadRect X9 (Shape.Idx.first (numel1_S1x1.symm ▸ Nat.one_pos))))
    (hc24 : k0_chk24 (candsM.view.readAt (Elt F) (Rect.unit (s := S4x6) ![2, 5] S1x1.size inb_S4x6_S1x1_2_5).toLoadRect X9 (Shape.Idx.first (numel1_S1x1.symm ▸ Nat.one_pos))))
    (hc25 : k0_chk25 (candsM.view.readAt (Elt F) (Rect.unit (s := S4x6) ![3, 0] S1x1.size inb_S4x6_S1x1_3_0).toLoadRect X9 (Shape.Idx.first (numel1_S1x1.symm ▸ Nat.one_pos))))
    (hc26 : k0_chk26 (candsM.view.readAt (Elt F) (Rect.unit (s := S4x6) ![3, 1] S1x1.size inb_S4x6_S1x1_3_1).toLoadRect X9 (Shape.Idx.first (numel1_S1x1.symm ▸ Nat.one_pos))))
    (hc27 : k0_chk27 (candsM.view.readAt (Elt F) (Rect.unit (s := S4x6) ![3, 2] S1x1.size inb_S4x6_S1x1_3_2).toLoadRect X9 (Shape.Idx.first (numel1_S1x1.symm ▸ Nat.one_pos))))
    (hc28 : k0_chk28 (candsM.view.readAt (Elt F) (Rect.unit (s := S4x6) ![3, 3] S1x1.size inb_S4x6_S1x1_3_3).toLoadRect X9 (Shape.Idx.first (numel1_S1x1.symm ▸ Nat.one_pos))))
    (hc29 : k0_chk29 (candsM.view.readAt (Elt F) (Rect.unit (s := S4x6) ![3, 4] S1x1.size inb_S4x6_S1x1_3_4).toLoadRect X9 (Shape.Idx.first (numel1_S1x1.symm ▸ Nat.one_pos))))
    (hc30 : k0_chk30 (candsM.view.readAt (Elt F) (Rect.unit (s := S4x6) ![3, 5] S1x1.size inb_S4x6_S1x1_3_5).toLoadRect X9 (Shape.Idx.first (numel1_S1x1.symm ▸ Nat.one_pos)))) :
    Σ' (O0 : Buf (Elt F) (o0M.view.loc (c : Thread nD τ))) (O1 : Buf (Elt F) (o1M.view.loc (c : Thread nD τ))),
    { O2 : Buf (Elt F) (o2M.view.loc (c : Thread nD τ)) // ∀ Q : PUnit → sProp 𝕄,
      iprop(PRE c X2 X0 X1 X3 X4 X5 X6 X7 X8 X9 X10 X11 ∗ (POST c X2 X0 X1 X3 X4 X5 X6 X7 X8 X9 X10 X11 O0 O1 O2 -∗ Q ⟨⟩))
        ⊢ wp frame (wpE (defs₀ (F := F)) 𝒱₀ (c : Thread nD τ) none) Set.univ (cc0_head_logits (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22) Q } := by
  refine ⟨?_, ?_, ?_, fun Q => ?run⟩
  case run =>
    iintro ⟨⟨Ha0, Ha1, Ha3, Ha4, Ha5, Ha6, Ha7, Ha8, Ha9, Ha10, Ha11, ⟨%fo0, HO0⟩, ⟨%fo1, HO1⟩, ⟨%fo2, HO2⟩, ⟨%fx6, Hx6⟩, ⟨%flse, Hlse⟩, ⟨%fcand, Hcand⟩, ⟨%fxs, Hxs⟩, ⟨%fpp, Hpp⟩, ⟨%ffp, Hfp⟩, ⟨%frp, Hrp⟩, ⟨%fcands, Hcands⟩, ⟨%fws, Hws⟩, ⟨%fhist, Hhist⟩, ⟨%fcnt, Hcnt⟩, ⟨%fbias, Hbias⟩, ⟨%fhlen, Hhlen⟩, ⟨%fbid, Hbid⟩, ⟨%fbval, Hbval⟩, ⟨%fxbuf, Hxbuf⟩, ⟨%fzbuf, Hzbuf⟩, Hi0, Hi1, Hi2, Hi3, Hi4, Hi5, Hi6, Hi7, Hi8, Hi9, Hi10, Ho0, Ho1, Ho2, Ho3, ⟨%W, HW⟩, Hh, Hg0, Hg1, Hg2, Hg3, ⟨%g0, Hs0⟩, ⟨%g1, Hs1⟩, ⟨%g2, Hs2⟩, ⟨%g3, Hs3⟩, Hc0, Hc1, Hc2, Hc3, Ht0, Ht1, Ht2, Ht3, Ht4, Ht5, ⟨%t0, Hu0⟩, ⟨%t1, Hu1⟩, ⟨%t2, Hu2⟩, ⟨%t3, Hu3⟩, ⟨%t4, Hu4⟩, ⟨%t5, Hu5⟩, Hd0, Hd1, Hd2, Hd3, Hd4, Hd5⟩, Hk⟩
    sl_unfold [cc0_head_logits]
    set_option sl_exec.stopBefore "k0_part29" in sl_exec
    ihave Hhist' := (hist_landed c fhist X4) $$ [Hhist]
    · iexact Hhist
    ihave Hhlen' := (hlen_landed c fhlen X5) $$ [Hhlen]
    · iexact Hhlen
    ihave Hbid' := (bid_landed c fbid X10) $$ [Hbid]
    · iexact Hbid
    ihave Hbval' := (bval_landed c fbval X11) $$ [Hbval]
    · iexact Hbval
    ihave Hx6' := (x6_landed c fx6 X0) $$ [Hx6]
    · iexact Hx6
    ihave Hxs' := (xs_landed c fxs X1) $$ [Hxs]
    · iexact Hxs
    ihave Hws' := (ws_landed c fws X3) $$ [Hws]
    · iexact Hws
    ihave Hpp' := (pp_landed c fpp X6) $$ [Hpp]
    · iexact Hpp
    ihave Hfp' := (fp_landed c ffp X7) $$ [Hfp]
    · iexact Hfp
    ihave Hrp' := (rp_landed c frp X8) $$ [Hrp]
    · iexact Hrp
    ihave Hcands' := (cands_landed c fcands X9) $$ [Hcands]
    · iexact Hcands
    set_option sl_exec.stopBefore "k0_part32" in sl_exec
    ihave Ho2w := (o2_split c fo2) $$ [HO2]
    · iexact HO2
    icases Ho2w with ⟨Hw0, Hw1⟩
    set_option sl_exec.stopBefore "k0_part48" in sl_exec
    ihave HZ1 := (zRest_eq c _) $$ [HL5]
    · iexact HL5
    icases HZ1 with ⟨Hzl, Hzr⟩
    ihave HZ := (z_parts c fullShare.right _ _) $$ [HL4 Hzr]
    · isplitl [HL4]
      · iexact HL4
      iexact Hzr
    sl_exec
    sl_step
    ihave HO0' := (o0_done c fo0 flse _) $$ [HO0]
    · iexact HO0
    ihave HO1' := (o1_done c fo1 fcand _ _ _ _) $$ [HO1]
    · iexact HO1
    ihave HO2' := (o2_done c fo2 _ _) $$ [Hw0 Hw1]
    · isplitl [Hw0]
      · iexact Hw0
      iexact Hw1
    ihave HZl := (z_parts c fullShare.left _ _) $$ [HL3 Hzl]
    · isplitl [HL3]
      · iexact HL3
      iexact Hzl
    ihave HZ' := (z_halves c _) $$ [HZl HZ]
    · isplitl [HZl]
      · iexact HZl
      iexact HZ
    iapply Hk
    isplitl [Ha0]; · iexact Ha0
    isplitl [Ha1]; · iexact Ha1
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [HO0']; · iexact HO0'
    isplitl [HO1']; · iexact HO1'
    isplitl [HO2']; · iexact HO2'
    isplitl [Hx6']; · iexists _; iexact Hx6'
    isplitl [Hlse]; · iexists _; iexact Hlse
    isplitl [Hcand]; · iexists _; iexact Hcand
    isplitl [Hxs']; · iexists _; iexact Hxs'
    isplitl [Hpp']; · iexists _; iexact Hpp'
    isplitl [Hfp']; · iexists _; iexact Hfp'
    isplitl [Hrp']; · iexists _; iexact Hrp'
    isplitl [Hcands']; · iexists _; iexact Hcands'
    isplitl [HL0]; · iexists _; iexact HL0
    isplitl [Hhist']; · iexists _; iexact Hhist'
    isplitl [HL1]; · iexists _; iexact HL1
    isplitl [HL2]; · iexists _; iexact HL2
    isplitl [Hhlen']; · iexists _; iexact Hhlen'
    isplitl [Hbid']; · iexists _; iexact Hbid'
    isplitl [Hbval']; · iexists _; iexact Hbval'
    isplitl [HL6]; · iexists _; iexact HL6
    isplitl [HZ']; · iexists _; iexact HZ'
    isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    isplitl [Hi8]; · iexact Hi8
    isplitl [Hi9]; · iexact Hi9
    isplitl [Hi10]; · iexact Hi10
    isplitl [Ho0]; · iexact Ho0
    isplitl [Ho1]; · iexact Ho1
    isplitl [Ho2]; · iexact Ho2
    isplitl [Ho3]; · iexact Ho3
    isplitl [HL8]; · iexists _; iexact HL8
    isplitl [HL9]; · iexact HL9
    isplitl [HL10]; · iexists _; iexact HL10
    isplitl [HL11]; · iexists _; iexact HL11
    isplitl [HL12]; · iexists _; iexact HL12
    isplitl [HL13]; · iexists _; iexact HL13
    isplitl [HL14]; · iexact HL14
    isplitl [HL15]; · iexact HL15
    isplitl [HL16]; · iexact HL16
    isplitl [HL17]; · iexact HL17
    isplitl [HL18_src]; · iexact HL18_src
    isplitl [HL19_src]; · iexact HL19_src
    isplitl [HL20_src]; · iexact HL20_src
    isplitl [HL21_src]; · iexact HL21_src
    isplitl [HL22_src]; · iexact HL22_src
    isplitl [HL23_src]; · iexact HL23_src
    isplitl [HL18_dst]; · iexists _; iexact HL18_dst
    isplitl [HL19_dst]; · iexists _; iexact HL19_dst
    isplitl [HL20_dst]; · iexists _; iexact HL20_dst
    isplitl [HL21_dst]; · iexists _; iexact HL21_dst
    isplitl [HL22_dst]; · iexists _; iexact HL22_dst
    isplitl [HL23_dst]; · iexists _; iexact HL23_dst
    isplitl [HL18]; · iexact HL18
    isplitl [HL19]; · iexact HL19
    isplitl [HL20]; · iexact HL20
    isplitl [HL21]; · iexact HL21
    isplitl [HL22]; · iexact HL22
    iexact HL23

end Body
end Cert.Proof.Kernel
end
-- ==== Proof.Kernel.Blocks.lean ====
/- The buffers cut into the parts the kernel's transfers use, and put together again.

   The weights are the 32 blocks of their first 29952 columns and the 6 pieces of their last 2048; the ring's
   buffer is its 4 slots; the tail's buffer is its 6 windows. -/
module

public import proofs.«01_k».proof.Proof.Kernel.Body

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A rectangle of a table of two axes, by its first row and column and its numbers of rows and columns. -/
theorem mem_rect2 {s : Shape} (hs : s.rank = 2) {off size : Fin s.rank → ℕ} (inb) (y : s.Idx) (r c n k : ℕ)
    (h0 : off ⟨0, by omega⟩ = r) (h1 : off ⟨1, by omega⟩ = c) (h2 : size ⟨0, by omega⟩ = n) (h3 : size ⟨1, by omega⟩ = k) :
    y ∈ (Rect.unit (s := s) off size inb).set ↔ (r ≤ (y ⟨0, by omega⟩).val ∧ (y ⟨0, by omega⟩).val < r + n) ∧ (c ≤ (y ⟨1, by omega⟩).val ∧ (y ⟨1, by omega⟩).val < c + k) := by
  rw [Rect.mem_set_unit]
  constructor
  · intro h
    have a0 := h ⟨0, by omega⟩
    have a1 := h ⟨1, by omega⟩
    rw [h0, h2] at a0; rw [h1, h3] at a1
    exact ⟨a0, a1⟩
  · rintro ⟨a0, a1⟩ ⟨i, hi⟩
    have : i = 0 ∨ i = 1 := by omega
    rcases this with rfl | rfl
    · rw [h0, h2]; exact a0
    · rw [h1, h3]; exact a1

theorem mem_of_eq {β : Type} {S T : Finset β} (h : S = T) {y : β} {p : Prop} (hT : y ∈ T ↔ p) : y ∈ S ↔ p := by rw [h]; exact hT

theorem mem_grp (b : Fin 32) (y : S8192x32000.Idx) : y ∈ ((grp b).view.set : Finset S8192x32000.Idx)
    ↔ (256 * b.val ≤ (y 0).val ∧ (y 0).val < 256 * b.val + 256) ∧ (y 1).val < 29952 := by
  refine mem_of_eq (β := S8192x32000.Idx) (T := (Rect.unit (s := S8192x32000) (blkOff b) S256x29952.size (blkOff_inb b)).set) (View.set_slice_whole _ _) ((mem_rect2 (s := S8192x32000) rfl _ y (256 * b.val) 0 256 29952 rfl rfl rfl rfl).trans ?_)
  constructor
  · rintro ⟨h, h1⟩; exact ⟨h, by have := h1.2; simpa using this⟩
  · rintro ⟨h, h1⟩; exact ⟨h, Nat.zero_le _, by simpa using h1⟩
theorem mem_tsrc0 (y : S8192x32000.Idx) : y ∈ (tsrc0.view.set : Finset S8192x32000.Idx)
    ↔ (0 ≤ (y 0).val ∧ (y 0).val < 3072) ∧ 29952 ≤ (y 1).val := by
  refine mem_of_eq (β := S8192x32000.Idx) (T := (Rect.unit (s := S8192x32000) ![0, 29952] S3072x2048.size inb_S8192x32000_S3072x2048_0_29952).set) (View.set_slice_whole _ _) ((mem_rect2 (s := S8192x32000) rfl _ y 0 29952 3072 2048 rfl rfl rfl rfl).trans ?_)
  have hy : (y 1).val < 32000 := (y 1).isLt
  exact ⟨fun h => ⟨h.1, h.2.1⟩, fun h => ⟨h.1, h.2, hy⟩⟩
theorem mem_tdst0 (y : S8192x2048.Idx) : y ∈ (tdst0.view.set : Finset S8192x2048.Idx) ↔ 0 ≤ (y 0).val ∧ (y 0).val < 3072 := by
  refine mem_of_eq (β := S8192x2048.Idx) (T := (Rect.unit (s := S8192x2048) ![0, 0] S3072x2048.size inb_S8192x2048_S3072x2048_0_0).set) (View.set_slice_whole _ _) ((mem_rect2 (s := S8192x2048) rfl _ y 0 0 3072 2048 rfl rfl rfl rfl).trans ?_)
  have hy : (y 1).val < 2048 := (y 1).isLt
  exact ⟨fun h => h.1, fun h => ⟨h, Nat.zero_le _, by simpa using hy⟩⟩
theorem mem_tsrc1 (y : S8192x32000.Idx) : y ∈ (tsrc1.view.set : Finset S8192x32000.Idx)
    ↔ (3072 ≤ (y 0).val ∧ (y 0).val < 5120) ∧ 29952 ≤ (y 1).val := by
  refine mem_of_eq (β := S8192x32000.Idx) (T := (Rect.unit (s := S8192x32000) ![3072, 29952] S2048x2048.size inb_S8192x32000_S2048x2048_3072_29952).set) (View.set_slice_whole _ _) ((mem_rect2 (s := S8192x32000) rfl _ y 3072 29952 2048 2048 rfl rfl rfl rfl).trans ?_)
  have hy : (y 1).val < 32000 := (y 1).isLt
  exact ⟨fun h => ⟨h.1, h.2.1⟩, fun h => ⟨h.1, h.2, hy⟩⟩
theorem mem_tdst1 (y : S8192x2048.Idx) : y ∈ (tdst1.view.set : Finset S8192x2048.Idx) ↔ 3072 ≤ (y 0).val ∧ (y 0).val < 5120 := by
  refine mem_of_eq (β := S8192x2048.Idx) (T := (Rect.unit (s := S8192x2048) ![3072, 0] S2048x2048.size inb_S8192x2048_S2048x2048_3072_0).set) (View.set_slice_whole _ _) ((mem_rect2 (s := S8192x2048) rfl _ y 3072 0 2048 2048 rfl rfl rfl rfl).trans ?_)
  have hy : (y 1).val < 2048 := (y 1).isLt
  exact ⟨fun h => h.1, fun h => ⟨h, Nat.zero_le _, by simpa using hy⟩⟩
theorem mem_tsrc2 (y : S8192x32000.Idx) : y ∈ (tsrc2.view.set : Finset S8192x32000.Idx)
    ↔ (5120 ≤ (y 0).val ∧ (y 0).val < 6144) ∧ 29952 ≤ (y 1).val := by
  refine mem_of_eq (β := S8192x32000.Idx) (T := (Rect.unit (s := S8192x32000) ![5120, 29952] S1024x2048.size inb_S8192x32000_S1024x2048_5120_29952).set) (View.set_slice_whole _ _) ((mem_rect2 (s := S8192x32000) rfl _ y 5120 29952 1024 2048 rfl rfl rfl rfl).trans ?_)
  have hy : (y 1).val < 32000 := (y 1).isLt
  exact ⟨fun h => ⟨h.1, h.2.1⟩, fun h => ⟨h.1, h.2, hy⟩⟩
theorem mem_tdst2 (y : S8192x2048.Idx) : y ∈ (tdst2.view.set : Finset S8192x2048.Idx) ↔ 5120 ≤ (y 0).val ∧ (y 0).val < 6144 := by
  refine mem_of_eq (β := S8192x2048.Idx) (T := (Rect.unit (s := S8192x2048) ![5120, 0] S1024x2048.size inb_S8192x2048_S1024x2048_5120_0).set) (View.set_slice_whole _ _) ((mem_rect2 (s := S8192x2048) rfl _ y 5120 0 1024 2048 rfl rfl rfl rfl).trans ?_)
  have hy : (y 1).val < 2048 := (y 1).isLt
  exact ⟨fun h => h.1, fun h => ⟨h, Nat.zero_le _, by simpa using hy⟩⟩
theorem mem_tsrc3 (y : S8192x32000.Idx) : y ∈ (tsrc3.view.set : Finset S8192x32000.Idx)
    ↔ (6144 ≤ (y 0).val ∧ (y 0).val < 7168) ∧ 29952 ≤ (y 1).val := by
  refine mem_of_eq (β := S8192x32000.Idx) (T := (Rect.unit (s := S8192x32000) ![6144, 29952] S1024x2048.size inb_S8192x32000_S1024x2048_6144_29952).set) (View.set_slice_whole _ _) ((mem_rect2 (s := S8192x32000) rfl _ y 6144 29952 1024 2048 rfl rfl rfl rfl).trans ?_)
  have hy : (y 1).val < 32000 := (y 1).isLt
  exact ⟨fun h => ⟨h.1, h.2.1⟩, fun h => ⟨h.1, h.2, hy⟩⟩
theorem mem_tdst3 (y : S8192x2048.Idx) : y ∈ (tdst3.view.set : Finset S8192x2048.Idx) ↔ 6144 ≤ (y 0).val ∧ (y 0).val < 7168 := by
  refine mem_of_eq (β := S8192x2048.Idx) (T := (Rect.unit (s := S8192x2048) ![6144, 0] S1024x2048.size inb_S8192x2048_S1024x2048_6144_0).set) (View.set_slice_whole _ _) ((mem_rect2 (s := S8192x2048) rfl _ y 6144 0 1024 2048 rfl rfl rfl rfl).trans ?_)
  have hy : (y 1).val < 2048 := (y 1).isLt
  exact ⟨fun h => h.1, fun h => ⟨h, Nat.zero_le _, by simpa using hy⟩⟩
theorem mem_tsrc4 (y : S8192x32000.Idx) : y ∈ (tsrc4.view.set : Finset S8192x32000.Idx)
    ↔ (7168 ≤ (y 0).val ∧ (y 0).val < 7680) ∧ 29952 ≤ (y 1).val := by
  refine mem_of_eq (β := S8192x32000.Idx) (T := (Rect.unit (s := S8192x32000) ![7168, 29952] S512x2048.size inb_S8192x32000_S512x2048_7168_29952).set) (View.set_slice_whole _ _) ((mem_rect2 (s := S8192x32000) rfl _ y 7168 29952 512 2048 rfl rfl rfl rfl).trans ?_)
  have hy : (y 1).val < 32000 := (y 1).isLt
  exact ⟨fun h => ⟨h.1, h.2.1⟩, fun h => ⟨h.1, h.2, hy⟩⟩
theorem mem_tdst4 (y : S8192x2048.Idx) : y ∈ (tdst4.view.set : Finset S8192x2048.Idx) ↔ 7168 ≤ (y 0).val ∧ (y 0).val < 7680 := by
  refine mem_of_eq (β := S8192x2048.Idx) (T := (Rect.unit (s := S8192x2048) ![7168, 0] S512x2048.size inb_S8192x2048_S512x2048_7168_0).set) (View.set_slice_whole _ _) ((mem_rect2 (s := S8192x2048) rfl _ y 7168 0 512 2048 rfl rfl rfl rfl).trans ?_)
  have hy : (y 1).val < 2048 := (y 1).isLt
  exact ⟨fun h => h.1, fun h => ⟨h, Nat.zero_le _, by simpa using hy⟩⟩
theorem mem_tsrc5 (y : S8192x32000.Idx) : y ∈ (tsrc5.view.set : Finset S8192x32000.Idx)
    ↔ (7680 ≤ (y 0).val ∧ (y 0).val < 8192) ∧ 29952 ≤ (y 1).val := by
  refine mem_of_eq (β := S8192x32000.Idx) (T := (Rect.unit (s := S8192x32000) ![7680, 29952] S512x2048.size inb_S8192x32000_S512x2048_7680_29952).set) (View.set_slice_whole _ _) ((mem_rect2 (s := S8192x32000) rfl _ y 7680 29952 512 2048 rfl rfl rfl rfl).trans ?_)
  have hy : (y 1).val < 32000 := (y 1).isLt
  exact ⟨fun h => ⟨h.1, h.2.1⟩, fun h => ⟨h.1, h.2, hy⟩⟩
theorem mem_tdst5 (y : S8192x2048.Idx) : y ∈ (tdst5.view.set : Finset S8192x2048.Idx) ↔ 7680 ≤ (y 0).val ∧ (y 0).val < 8192 := by
  refine mem_of_eq (β := S8192x2048.Idx) (T := (Rect.unit (s := S8192x2048) ![7680, 0] S512x2048.size inb_S8192x2048_S512x2048_7680_0).set) (View.set_slice_whole _ _) ((mem_rect2 (s := S8192x2048) rfl _ y 7680 0 512 2048 rfl rfl rfl rfl).trans ?_)
  have hy : (y 1).val < 2048 := (y 1).isLt
  exact ⟨fun h => h.1, fun h => ⟨h, Nat.zero_le _, by simpa using hy⟩⟩
theorem mem_rslot (s : Fin 4) (y : S4x256x29952.Idx) : y ∈ ((rslot s).view.set : Finset S4x256x29952.Idx) ↔ (y 0).val = s.val := by
  refine mem_of_eq (β := S4x256x29952.Idx) (T := (Rect.unit (s := S4x256x29952) (slotOff s) S1x256x29952.size (slotOff_inb s)).set)
    ((View.set_reshape _ _).trans (View.set_slice_whole _ _)) ((Rect.mem_set_unit (s := S4x256x29952)).trans ?_)
  have h1 : (y 1).val < 256 := (y 1).isLt
  have h2 : (y 2).val < 29952 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 29952; omega

/-- The weights' parts: a block each for the first 32, a piece each for the last six. -/
def aPart (k : Fin 38) : Finset S8192x32000.Idx := Finset.univ.filter fun y =>
  if k.val < 32 then (256 * k.val ≤ (y 0).val ∧ (y 0).val < 256 * k.val + 256) ∧ (y 1).val < 29952
  else (lo k.val ≤ (y 0).val ∧ (y 0).val < lo (k.val + 1)) ∧ 29952 ≤ (y 1).val
where lo (k : ℕ) : ℕ := if k ≤ 32 then 0 else if k = 33 then 3072 else if k = 34 then 5120 else if k = 35 then 6144 else if k = 36 then 7168 else if k = 37 then 7680 else 8192
def tPart (k : Fin 6) : Finset S8192x2048.Idx := Finset.univ.filter fun y => aPart.lo (32 + k.val) ≤ (y 0).val ∧ (y 0).val < aPart.lo (33 + k.val)
def rPart (k : Fin 4) : Finset S4x256x29952.Idx := Finset.univ.filter fun y => (y 0).val = k.val

theorem lo_mono {i j : ℕ} (h : i ≤ j) : aPart.lo i ≤ aPart.lo j := by unfold aPart.lo; split_ifs <;> omega

theorem aPart_disj : ∀ b b' : Fin 38, b ≠ b' → Disjoint (aPart b) (aPart b') := by
  intro b b' hne
  rw [Finset.disjoint_left]
  intro y h h'
  have hv : b.val ≠ b'.val := fun e => hne (Fin.ext e)
  simp only [aPart, Finset.mem_filter, Finset.mem_univ, true_and] at h h'
  split_ifs at h h'
  · omega
  · omega
  · omega
  · rcases Nat.lt_or_gt_of_ne hv with g | g
    · have := lo_mono (i := b.val + 1) (j := b'.val) (by omega); omega
    · have := lo_mono (i := b'.val + 1) (j := b.val) (by omega); omega
theorem tPart_disj : ∀ b b' : Fin 6, b ≠ b' → Disjoint (tPart b) (tPart b') := by
  intro b b' hne
  rw [Finset.disjoint_left]
  intro y h h'
  have hv : b.val ≠ b'.val := fun e => hne (Fin.ext e)
  simp only [tPart, Finset.mem_filter, Finset.mem_univ, true_and] at h h'
  rcases Nat.lt_or_gt_of_ne hv with g | g
  · have := lo_mono (i := 33 + b.val) (j := 32 + b'.val) (by omega); omega
  · have := lo_mono (i := 33 + b'.val) (j := 32 + b.val) (by omega); omega
theorem rPart_disj : ∀ b b' : Fin 4, b ≠ b' → Disjoint (rPart b) (rPart b') := by
  intro b b' hne
  rw [Finset.disjoint_left]
  intro y h h'
  simp only [rPart, Finset.mem_filter, Finset.mem_univ, true_and] at h h'
  exact hne (Fin.ext (h.symm.trans h'))
theorem lo_find (r : ℕ) (h : r < 8192) : ∃ k : Fin 6, aPart.lo (32 + k.val) ≤ r ∧ r < aPart.lo (33 + k.val) := by
  rcases (show r < 3072 ∨ (3072 ≤ r ∧ r < 5120) ∨ (5120 ≤ r ∧ r < 6144) ∨ (6144 ≤ r ∧ r < 7168) ∨ (7168 ≤ r ∧ r < 7680) ∨ 7680 ≤ r by omega) with g | g | g | g | g | g
  · exact ⟨0, Nat.zero_le _, g⟩
  · exact ⟨1, g⟩
  · exact ⟨2, g⟩
  · exact ⟨3, g⟩
  · exact ⟨4, g⟩
  · exact ⟨5, g, h⟩
theorem aPart_cover : (Finset.univ : Finset (Fin 38)).biUnion aPart = Finset.univ := by
  ext y
  simp only [Finset.mem_biUnion, Finset.mem_univ, true_and, iff_true, aPart, Finset.mem_filter]
  have h0 : (y 0).val < 8192 := (y 0).isLt
  by_cases hc : (y 1).val < 29952
  · refine ⟨⟨(y 0).val / 256, by omega⟩, ?_⟩
    have : (y 0).val / 256 < 32 := by omega
    rw [if_pos this]
    refine ⟨⟨?_, ?_⟩, hc⟩
    · show 256 * ((y 0).val / 256) ≤ (y 0).val; omega
    · show (y 0).val < 256 * ((y 0).val / 256) + 256; omega
  · obtain ⟨k, hk⟩ := lo_find _ h0
    refine ⟨⟨32 + k.val, by omega⟩, ?_⟩
    rw [if_neg (by show ¬ 32 + k.val < 32; omega)]
    refine ⟨?_, by omega⟩
    have e : 32 + k.val + 1 = 33 + k.val := by omega
    show aPart.lo (32 + k.val) ≤ _ ∧ _ < aPart.lo (32 + k.val + 1)
    rw [e]; exact hk
theorem tPart_cover : (Finset.univ : Finset (Fin 6)).biUnion tPart = Finset.univ := by
  ext y
  simp only [Finset.mem_biUnion, Finset.mem_univ, true_and, iff_true, tPart, Finset.mem_filter]
  exact lo_find _ (y 0).isLt
theorem rPart_cover : (Finset.univ : Finset (Fin 4)).biUnion rPart = Finset.univ := by
  ext y
  simp only [Finset.mem_biUnion, Finset.mem_univ, true_and, iff_true, rPart, Finset.mem_filter]
  exact ⟨⟨(y 0).val, (y 0).isLt⟩, rfl⟩

theorem aPart_grp (b : Fin 32) : aPart ⟨b.val, by omega⟩ = ((grp b).view.set : Finset S8192x32000.Idx) := by
  refine Finset.ext fun y => Iff.trans ?_ (mem_grp b y).symm
  simp only [aPart, Finset.mem_filter, Finset.mem_univ, true_and]; rw [if_pos b.isLt]
theorem aPart_tsrc0 : aPart 32 = (tsrc0.view.set : Finset S8192x32000.Idx) := by
  refine Finset.ext fun y => Iff.trans ?_ (mem_tsrc0 y).symm
  simp only [aPart, Finset.mem_filter, Finset.mem_univ, true_and]; exact Iff.rfl
theorem tPart_tdst0 : tPart 0 = (tdst0.view.set : Finset S8192x2048.Idx) := by
  refine Finset.ext fun y => Iff.trans ?_ (mem_tdst0 y).symm
  simp only [tPart, Finset.mem_filter, Finset.mem_univ, true_and]; exact Iff.rfl
theorem aPart_tsrc1 : aPart 33 = (tsrc1.view.set : Finset S8192x32000.Idx) := by
  refine Finset.ext fun y => Iff.trans ?_ (mem_tsrc1 y).symm
  simp only [aPart, Finset.mem_filter, Finset.mem_univ, true_and]; exact Iff.rfl
theorem tPart_tdst1 : tPart 1 = (tdst1.view.set : Finset S8192x2048.Idx) := by
  refine Finset.ext fun y => Iff.trans ?_ (mem_tdst1 y).symm
  simp only [tPart, Finset.mem_filter, Finset.mem_univ, true_and]; exact Iff.rfl
theorem aPart_tsrc2 : aPart 34 = (tsrc2.view.set : Finset S8192x32000.Idx) := by
  refine Finset.ext fun y => Iff.trans ?_ (mem_tsrc2 y).symm
  simp only [aPart, Finset.mem_filter, Finset.mem_univ, true_and]; exact Iff.rfl
theorem tPart_tdst2 : tPart 2 = (tdst2.view.set : Finset S8192x2048.Idx) := by
  refine Finset.ext fun y => Iff.trans ?_ (mem_tdst2 y).symm
  simp only [tPart, Finset.mem_filter, Finset.mem_univ, true_and]; exact Iff.rfl
theorem aPart_tsrc3 : aPart 35 = (tsrc3.view.set : Finset S8192x32000.Idx) := by
  refine Finset.ext fun y => Iff.trans ?_ (mem_tsrc3 y).symm
  simp only [aPart, Finset.mem_filter, Finset.mem_univ, true_and]; exact Iff.rfl
theorem tPart_tdst3 : tPart 3 = (tdst3.view.set : Finset S8192x2048.Idx) := by
  refine Finset.ext fun y => Iff.trans ?_ (mem_tdst3 y).symm
  simp only [tPart, Finset.mem_filter, Finset.mem_univ, true_and]; exact Iff.rfl
theorem aPart_tsrc4 : aPart 36 = (tsrc4.view.set : Finset S8192x32000.Idx) := by
  refine Finset.ext fun y => Iff.trans ?_ (mem_tsrc4 y).symm
  simp only [aPart, Finset.mem_filter, Finset.mem_univ, true_and]; exact Iff.rfl
theorem tPart_tdst4 : tPart 4 = (tdst4.view.set : Finset S8192x2048.Idx) := by
  refine Finset.ext fun y => Iff.trans ?_ (mem_tdst4 y).symm
  simp only [tPart, Finset.mem_filter, Finset.mem_univ, true_and]; exact Iff.rfl
theorem aPart_tsrc5 : aPart 37 = (tsrc5.view.set : Finset S8192x32000.Idx) := by
  refine Finset.ext fun y => Iff.trans ?_ (mem_tsrc5 y).symm
  simp only [aPart, Finset.mem_filter, Finset.mem_univ, true_and]; exact Iff.rfl
theorem tPart_tdst5 : tPart 5 = (tdst5.view.set : Finset S8192x2048.Idx) := by
  refine Finset.ext fun y => Iff.trans ?_ (mem_tdst5 y).symm
  simp only [tPart, Finset.mem_filter, Finset.mem_univ, true_and]; exact Iff.rfl
theorem rPart_rslot (s : Fin 4) : rPart s = ((rslot s).view.set : Finset S4x256x29952.Idx) := by
  refine Finset.ext fun y => Iff.trans ?_ (mem_rslot s y).symm
  simp only [rPart, Finset.mem_filter, Finset.mem_univ, true_and]

section Cut
variable (c : Dev nD)

/-- The 38 parts are the 32 blocks and the six pieces. -/
theorem bigSep_38 (Φ : Fin 38 → sProp 𝕄) :
    bigSep Finset.univ Φ = iprop(bigSep Finset.univ (fun b : Fin 32 => Φ ⟨b.val, by omega⟩) ∗ (Φ 32 ∗ Φ 33 ∗ Φ 34 ∗ Φ 35 ∗ Φ 36 ∗ Φ 37)) := by
  let e : Fin 32 ↪ Fin 38 := ⟨fun b => ⟨b.val, by omega⟩, fun a b h => Fin.ext (congrArg (fun x : Fin 38 => x.val) h)⟩
  let T : Finset (Fin 38) := [(32 : Fin 38), 33, 34, 35, 36, 37].toFinset
  have hu : (Finset.univ : Finset (Fin 38)) = (Finset.univ.map e) ∪ T := by decide
  have hd : Disjoint (Finset.univ.map e) T := by decide
  rw [hu, BI.bigSep_union hd, BI.bigSep_map, BI.bigSep_eq_bigSepL [(32 : Fin 38), 33, 34, 35, 36, 37] (by decide)]
  rfl
theorem bigSep_6 (Φ : Fin 6 → sProp 𝕄) : bigSep Finset.univ Φ = iprop(Φ 0 ∗ Φ 1 ∗ Φ 2 ∗ Φ 3 ∗ Φ 4 ∗ Φ 5) :=
  BI.bigSep_univ_eq_bigSepL [(0 : Fin 6), 1, 2, 3, 4, 5] (by decide) (by decide) Φ
theorem bigSep_4 (Φ : Fin 4 → sProp 𝕄) : bigSep Finset.univ Φ = iprop(Φ 0 ∗ Φ 1 ∗ Φ 2 ∗ Φ 3) :=
  BI.bigSep_univ_eq_bigSepL [(0 : Fin 4), 1, 2, 3] (by decide) (by decide) Φ

/-- The weights whole are the blocks and the pieces. -/
theorem a_eq (f : Buf (Elt F) ((c : Thread nD τ).loc main_arg2)) :
    (((c : Thread nD τ).loc main_arg2) ↦{fullShare} f : sProp 𝕄)
      = iprop(bigSep Finset.univ (homeP c f) ∗ (thome0 c f ∗ thome1 c f ∗ thome2 c f ∗ thome3 c f ∗ thome4 c f ∗ thome5 c f)) := by
  have e : bigSep Finset.univ (fun b : Fin 32 => (((c : Thread nD τ).loc main_arg2) ↦[aPart ⟨b.val, by omega⟩]{fullShare} f : sProp 𝕄)) = bigSep Finset.univ (homeP c f) :=
    bigSep_congr fun b _ => congrArg (fun S : Finset S8192x32000.Idx => (((c : Thread nD τ).loc main_arg2) ↦[S]{fullShare} f : sProp 𝕄)) (aPart_grp b)
  have e0 : (((c : Thread nD τ).loc main_arg2) ↦[aPart 32]{fullShare} f : sProp 𝕄) = thome0 c f :=
    congrArg (fun S : Finset S8192x32000.Idx => (((c : Thread nD τ).loc main_arg2) ↦[S]{fullShare} f : sProp 𝕄)) aPart_tsrc0
  have e1 : (((c : Thread nD τ).loc main_arg2) ↦[aPart 33]{fullShare} f : sProp 𝕄) = thome1 c f :=
    congrArg (fun S : Finset S8192x32000.Idx => (((c : Thread nD τ).loc main_arg2) ↦[S]{fullShare} f : sProp 𝕄)) aPart_tsrc1
  have e2 : (((c : Thread nD τ).loc main_arg2) ↦[aPart 34]{fullShare} f : sProp 𝕄) = thome2 c f :=
    congrArg (fun S : Finset S8192x32000.Idx => (((c : Thread nD τ).loc main_arg2) ↦[S]{fullShare} f : sProp 𝕄)) aPart_tsrc2
  have e3 : (((c : Thread nD τ).loc main_arg2) ↦[aPart 35]{fullShare} f : sProp 𝕄) = thome3 c f :=
    congrArg (fun S : Finset S8192x32000.Idx => (((c : Thread nD τ).loc main_arg2) ↦[S]{fullShare} f : sProp 𝕄)) aPart_tsrc3
  have e4 : (((c : Thread nD τ).loc main_arg2) ↦[aPart 36]{fullShare} f : sProp 𝕄) = thome4 c f :=
    congrArg (fun S : Finset S8192x32000.Idx => (((c : Thread nD τ).loc main_arg2) ↦[S]{fullShare} f : sProp 𝕄)) aPart_tsrc4
  have e5 : (((c : Thread nD τ).loc main_arg2) ↦[aPart 37]{fullShare} f : sProp 𝕄) = thome5 c f :=
    congrArg (fun S : Finset S8192x32000.Idx => (((c : Thread nD τ).loc main_arg2) ↦[S]{fullShare} f : sProp 𝕄)) aPart_tsrc5
  rw [Ring.pointsTo_blocks (ℓ := (c : Thread nD τ).loc main_arg2) aPart aPart_disj aPart_cover, bigSep_38, e, e0, e1, e2, e3, e4, e5]
/-- Blocks 0 to 3 apart from the rest. -/
theorem homes_zero (XA : Buf (Elt F) (aW.view.loc (c : Thread nD τ))) :
    bigSep Finset.univ (homeP c XA) = iprop(homeP c XA 0 ∗ homeP c XA 1 ∗ homeP c XA 2 ∗ homeP c XA 3 ∗ bigSep (Ring.homeSet 4 0) (homeP c XA)) := by
  have e : (Finset.univ : Finset (Fin 32)) = insert 0 (insert 1 (insert 2 (insert 3 (Ring.homeSet (NB := 32) 4 0)))) := by decide
  rw [e, bigSep_insert (by decide), bigSep_insert (by decide), bigSep_insert (by decide), bigSep_insert (by decide)]; rfl
theorem rslot_eq (s : Fin 4) (f : Buf (Elt F) ((c : Thread nD τ).loc cc0_scratch0)) :
    (((c : Thread nD τ).loc cc0_scratch0) ↦[rPart s]{fullShare} f : sProp 𝕄) = slotP c s f :=
  congrArg (fun S : Finset S4x256x29952.Idx => (((c : Thread nD τ).loc cc0_scratch0) ↦[S]{fullShare} f : sProp 𝕄)) (rPart_rslot s)
theorem tslot_eq0 (f : Buf (Elt F) ((c : Thread nD τ).loc cc0_scratch1)) :
    (((c : Thread nD τ).loc cc0_scratch1) ↦[tPart 0]{fullShare} f : sProp 𝕄) = tslot0 c f :=
  congrArg (fun S : Finset S8192x2048.Idx => (((c : Thread nD τ).loc cc0_scratch1) ↦[S]{fullShare} f : sProp 𝕄)) tPart_tdst0
theorem tslot_eq1 (f : Buf (Elt F) ((c : Thread nD τ).loc cc0_scratch1)) :
    (((c : Thread nD τ).loc cc0_scratch1) ↦[tPart 1]{fullShare} f : sProp 𝕄) = tslot1 c f :=
  congrArg (fun S : Finset S8192x2048.Idx => (((c : Thread nD τ).loc cc0_scratch1) ↦[S]{fullShare} f : sProp 𝕄)) tPart_tdst1
theorem tslot_eq2 (f : Buf (Elt F) ((c : Thread nD τ).loc cc0_scratch1)) :
    (((c : Thread nD τ).loc cc0_scratch1) ↦[tPart 2]{fullShare} f : sProp 𝕄) = tslot2 c f :=
  congrArg (fun S : Finset S8192x2048.Idx => (((c : Thread nD τ).loc cc0_scratch1) ↦[S]{fullShare} f : sProp 𝕄)) tPart_tdst2
theorem tslot_eq3 (f : Buf (Elt F) ((c : Thread nD τ).loc cc0_scratch1)) :
    (((c : Thread nD τ).loc cc0_scratch1) ↦[tPart 3]{fullShare} f : sProp 𝕄) = tslot3 c f :=
  congrArg (fun S : Finset S8192x2048.Idx => (((c : Thread nD τ).loc cc0_scratch1) ↦[S]{fullShare} f : sProp 𝕄)) tPart_tdst3
theorem tslot_eq4 (f : Buf (Elt F) ((c : Thread nD τ).loc cc0_scratch1)) :
    (((c : Thread nD τ).loc cc0_scratch1) ↦[tPart 4]{fullShare} f : sProp 𝕄) = tslot4 c f :=
  congrArg (fun S : Finset S8192x2048.Idx => (((c : Thread nD τ).loc cc0_scratch1) ↦[S]{fullShare} f : sProp 𝕄)) tPart_tdst4
theorem tslot_eq5 (f : Buf (Elt F) ((c : Thread nD τ).loc cc0_scratch1)) :
    (((c : Thread nD τ).loc cc0_scratch1) ↦[tPart 5]{fullShare} f : sProp 𝕄) = tslot5 c f :=
  congrArg (fun S : Finset S8192x2048.Idx => (((c : Thread nD τ).loc cc0_scratch1) ↦[S]{fullShare} f : sProp 𝕄)) tPart_tdst5
/-- The ring's buffer whole is its parts, and back. -/
theorem ring_split (f : Buf (Elt F) ((c : Thread nD τ).loc cc0_scratch0)) :
    (((c : Thread nD τ).loc cc0_scratch0) ↦{fullShare} f : sProp 𝕄) = iprop(slotP c 0 f ∗ slotP c 1 f ∗ slotP c 2 f ∗ slotP c 3 f) := by
  rw [Ring.pointsTo_blocks (ℓ := (c : Thread nD τ).loc cc0_scratch0) rPart rPart_disj rPart_cover f, bigSep_4, rslot_eq c 0 f, rslot_eq c 1 f, rslot_eq c 2 f, rslot_eq c 3 f]
theorem ring_join (d : Buf (Elt F) ((c : Thread nD τ).loc cc0_scratch0)) :
    iprop((∃ f, slotP c 0 f) ∗ (∃ f, slotP c 1 f) ∗ (∃ f, slotP c 2 f) ∗ (∃ f, slotP c 3 f))
      ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Name := ℕ) (U := UU) (Lvl := ℕ) (q := fullShare) (ℓ := (c : Thread nD τ).loc cc0_scratch0) rPart rPart_disj rPart_cover d
  rw [bigSep_4] at h
  have e0 : iprop(∃ f : Buf (Elt F) ((c : Thread nD τ).loc cc0_scratch0), ((c : Thread nD τ).loc cc0_scratch0) ↦[rPart 0]{fullShare} f) = (iprop(∃ f, slotP c 0 f) : sProp 𝕄) :=
    congrArg (fun P : Buf (Elt F) ((c : Thread nD τ).loc cc0_scratch0) → sProp 𝕄 => iprop(∃ f, P f)) (funext fun f => rslot_eq c 0 f)
  have e1 : iprop(∃ f : Buf (Elt F) ((c : Thread nD τ).loc cc0_scratch0), ((c : Thread nD τ).loc cc0_scratch0) ↦[rPart 1]{fullShare} f) = (iprop(∃ f, slotP c 1 f) : sProp 𝕄) :=
    congrArg (fun P : Buf (Elt F) ((c : Thread nD τ).loc cc0_scratch0) → sProp 𝕄 => iprop(∃ f, P f)) (funext fun f => rslot_eq c 1 f)
  have e2 : iprop(∃ f : Buf (Elt F) ((c : Thread nD τ).loc cc0_scratch0), ((c : Thread nD τ).loc cc0_scratch0) ↦[rPart 2]{fullShare} f) = (iprop(∃ f, slotP c 2 f) : sProp 𝕄) :=
    congrArg (fun P : Buf (Elt F) ((c : Thread nD τ).loc cc0_scratch0) → sProp 𝕄 => iprop(∃ f, P f)) (funext fun f => rslot_eq c 2 f)
  have e3 : iprop(∃ f : Buf (Elt F) ((c : Thread nD τ).loc cc0_scratch0), ((c : Thread nD τ).loc cc0_scratch0) ↦[rPart 3]{fullShare} f) = (iprop(∃ f, slotP c 3 f) : sProp 𝕄) :=
    congrArg (fun P : Buf (Elt F) ((c : Thread nD τ).loc cc0_scratch0) → sProp 𝕄 => iprop(∃ f, P f)) (funext fun f => rslot_eq c 3 f)
  rw [e0, e1, e2, e3] at h
  exact h
/-- The tail's buffer whole is its parts, and back. -/
theorem tail_split (f : Buf (Elt F) ((c : Thread nD τ).loc cc0_scratch1)) :
    (((c : Thread nD τ).loc cc0_scratch1) ↦{fullShare} f : sProp 𝕄) = iprop(tslot0 c f ∗ tslot1 c f ∗ tslot2 c f ∗ tslot3 c f ∗ tslot4 c f ∗ tslot5 c f) := by
  rw [Ring.pointsTo_blocks (ℓ := (c : Thread nD τ).loc cc0_scratch1) tPart tPart_disj tPart_cover f, bigSep_6, tslot_eq0 c f, tslot_eq1 c f, tslot_eq2 c f, tslot_eq3 c f, tslot_eq4 c f, tslot_eq5 c f]
theorem tail_join (d : Buf (Elt F) ((c : Thread nD τ).loc cc0_scratch1)) :
    iprop((∃ f, tslot0 c f) ∗ (∃ f, tslot1 c f) ∗ (∃ f, tslot2 c f) ∗ (∃ f, tslot3 c f) ∗ (∃ f, tslot4 c f) ∗ (∃ f, tslot5 c f))
      ⊢ (iprop(∃ f : Buf (Elt F) ((c : Thread nD τ).loc cc0_scratch1), ((c : Thread nD τ).loc cc0_scratch1) ↦{fullShare} f) : sProp 𝕄) := by
  have h := Ring.pointsTo_blocks_join_exists (Ix := Unit) (Name := ℕ) (U := UU) (Lvl := ℕ) (q := fullShare) (ℓ := (c : Thread nD τ).loc cc0_scratch1) tPart tPart_disj tPart_cover d
  rw [bigSep_6] at h
  have e0 : iprop(∃ f : Buf (Elt F) ((c : Thread nD τ).loc cc0_scratch1), ((c : Thread nD τ).loc cc0_scratch1) ↦[tPart 0]{fullShare} f) = (iprop(∃ f, tslot0 c f) : sProp 𝕄) :=
    congrArg (fun P : Buf (Elt F) ((c : Thread nD τ).loc cc0_scratch1) → sProp 𝕄 => iprop(∃ f, P f)) (funext fun f => tslot_eq0 c f)
  have e1 : iprop(∃ f : Buf (Elt F) ((c : Thread nD τ).loc cc0_scratch1), ((c : Thread nD τ).loc cc0_scratch1) ↦[tPart 1]{fullShare} f) = (iprop(∃ f, tslot1 c f) : sProp 𝕄) :=
    congrArg (fun P : Buf (Elt F) ((c : Thread nD τ).loc cc0_scratch1) → sProp 𝕄 => iprop(∃ f, P f)) (funext fun f => tslot_eq1 c f)
  have e2 : iprop(∃ f : Buf (Elt F) ((c : Thread nD τ).loc cc0_scratch1), ((c : Thread nD τ).loc cc0_scratch1) ↦[tPart 2]{fullShare} f) = (iprop(∃ f, tslot2 c f) : sProp 𝕄) :=
    congrArg (fun P : Buf (Elt F) ((c : Thread nD τ).loc cc0_scratch1) → sProp 𝕄 => iprop(∃ f, P f)) (funext fun f => tslot_eq2 c f)
  have e3 : iprop(∃ f : Buf (Elt F) ((c : Thread nD τ).loc cc0_scratch1), ((c : Thread nD τ).loc cc0_scratch1) ↦[tPart 3]{fullShare} f) = (iprop(∃ f, tslot3 c f) : sProp 𝕄) :=
    congrArg (fun P : Buf (Elt F) ((c : Thread nD τ).loc cc0_scratch1) → sProp 𝕄 => iprop(∃ f, P f)) (funext fun f => tslot_eq3 c f)
  have e4 : iprop(∃ f : Buf (Elt F) ((c : Thread nD τ).loc cc0_scratch1), ((c : Thread nD τ).loc cc0_scratch1) ↦[tPart 4]{fullShare} f) = (iprop(∃ f, tslot4 c f) : sProp 𝕄) :=
    congrArg (fun P : Buf (Elt F) ((c : Thread nD τ).loc cc0_scratch1) → sProp 𝕄 => iprop(∃ f, P f)) (funext fun f => tslot_eq4 c f)
  have e5 : iprop(∃ f : Buf (Elt F) ((c : Thread nD τ).loc cc0_scratch1), ((c : Thread nD τ).loc cc0_scratch1) ↦[tPart 5]{fullShare} f) = (iprop(∃ f, tslot5 c f) : sProp 𝕄) :=
    congrArg (fun P : Buf (Elt F) ((c : Thread nD τ).loc cc0_scratch1) → sProp 𝕄 => iprop(∃ f, P f)) (funext fun f => tslot_eq5 c f)
  rw [e0, e1, e2, e3, e4, e5] at h
  exact h
end Cut
end Cert.Proof.Kernel
end
-- ==== Proof.Kernel.Launch.lean ====
/- The launch: the kernel's one region run from any memory whose ids are in range.

   `dats` is what the region's invariant holds before and after; `body_obligation` discharges the body by
   `bodyRun`; `run_main` is the whole program's run, its arguments unchanged and its results named. -/
module

public import proofs.«01_k».proof.Proof.Kernel.Blocks
public import proofs.«01_k».proof.Proof.Gen.Kernel.Frame
public import Idealize.ShloMosaic.Lib.Pipeline.FrameSuffixV

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-- The ids the body checks are in range, on every core. -/
structure IdsOK : Prop where
  bid : ∀ c : Dev nD, BidOK c (V m c main_arg10)
  cand : ∀ c : Dev nD, CandOK c (V m c main_v1)

variable (h : IdsOK m)

/-- The body's run on core `c`, on what the region finds. -/
abbrev runAt (c : Dev nD) :=
  bodyRun c (V m c main_arg2) (V m c main_arg0) (V m c main_arg1) (V m c main_v0) (V m c main_arg4) (V m c main_arg5) (V m c main_arg6) (V m c main_arg7) (V m c main_arg8) (V m c main_v1) (V m c main_arg10) (V m c main_arg11) (h.bid c) (h.cand c).1 (h.cand c).2.1 (h.cand c).2.2.1 (h.cand c).2.2.2.1 (h.cand c).2.2.2.2.1 (h.cand c).2.2.2.2.2.1 (h.cand c).2.2.2.2.2.2.1 (h.cand c).2.2.2.2.2.2.2.1 (h.cand c).2.2.2.2.2.2.2.2.1 (h.cand c).2.2.2.2.2.2.2.2.2.1 (h.cand c).2.2.2.2.2.2.2.2.2.2.1 (h.cand c).2.2.2.2.2.2.2.2.2.2.2.1 (h.cand c).2.2.2.2.2.2.2.2.2.2.2.2.1 (h.cand c).2.2.2.2.2.2.2.2.2.2.2.2.2.1 (h.cand c).2.2.2.2.2.2.2.2.2.2.2.2.2.2.1 (h.cand c).2.2.2.2.2.2.2.2.2.2.2.2.2.2.2.1 (h.cand c).2.2.2.2.2.2.2.2.2.2.2.2.2.2.2.2.1 (h.cand c).2.2.2.2.2.2.2.2.2.2.2.2.2.2.2.2.2.1 (h.cand c).2.2.2.2.2.2.2.2.2.2.2.2.2.2.2.2.2.2.1 (h.cand c).2.2.2.2.2.2.2.2.2.2.2.2.2.2.2.2.2.2.2.1 (h.cand c).2.2.2.2.2.2.2.2.2.2.2.2.2.2.2.2.2.2.2.2.1 (h.cand c).2.2.2.2.2.2.2.2.2.2.2.2.2.2.2.2.2.2.2.2.2.1 (h.cand c).2.2.2.2.2.2.2.2.2.2.2.2.2.2.2.2.2.2.2.2.2.2.1 (h.cand c).2.2.2.2.2.2.2.2.2.2.2.2.2.2.2.2.2.2.2.2.2.2.2

/-- What the region leaves: the three outputs at the body's, every other buffer as found. -/
def G (c : Dev nD) : (b : Ref sig .tc) → Buf (Elt F) ((c : Thread nD τ).loc b) :=
  Function.update (Function.update (Function.update (V m c) main_v2_0 (runAt m h c).1) main_v2_1 (runAt m h c).2.1) main_v2_2 (runAt m h c).2.2.1
theorem G_0 (c : Dev nD) : G m h c main_v2_0 = (runAt m h c).1 := by
  unfold G; rw [Function.update_of_ne (by decide), Function.update_of_ne (by decide), Function.update_self]
theorem G_1 (c : Dev nD) : G m h c main_v2_1 = (runAt m h c).2.1 := by
  unfold G; rw [Function.update_of_ne (by decide), Function.update_self]
theorem G_2 (c : Dev nD) : G m h c main_v2_2 = (runAt m h c).2.2.1 := by
  unfold G; rw [Function.update_self]

/-- The buffers the body reads and the buffers it writes. -/
abbrev Hl : List (Ref sig .tc) := [main_arg0, main_arg1, main_arg2, main_v0, main_arg4, main_arg5, main_arg6, main_arg7, main_arg8, main_v1, main_arg10, main_arg11]
abbrev Rl : List (Ref sig .tc) := [main_v2_0, main_v2_1, main_v2_2]
abbrev HH : Finset (Ref sig .tc) := Hl.toFinset
abbrev RR : Finset (Ref sig .tc) := Rl.toFinset

/-- The kernel's own semaphores. -/
abbrev osem : Fin 25 → SemLoc sig := fun s => .dma ⟨s.val, s.isLt⟩
theorem ownSemFacts : Pipeline.OwnSemFacts (cfgs 0).spec osem := by decide

theorem ownSems0_eq (c : Dev nD) : (Pipeline.ownSems0 (Ix := Unit) (Name := ℕ) (U := UU) (Lvl := ℕ) (Val := Elt F) (τ := τ) osem c : sProp 𝕄)
    = iprop(cellP c 0 ∗ cellP c 1 ∗ cellP c 2 ∗ cellP c 3 ∗ tcell0 c ∗ tcell1 c ∗ tcell2 c ∗ tcell3 c ∗ tcell4 c ∗ tcell5 c ∗ icell0 c ∗ icell1 c ∗ icell2 c ∗ icell3 c ∗ icell4 c ∗ icell5 c ∗ icell6 c ∗ icell7 c ∗ icell8 c ∗ icell9 c ∗ icell10 c ∗ ocell0 c ∗ ocell1 c ∗ ocell2 c ∗ ocell3 c) := by
  unfold Pipeline.ownSems0
  rw [BI.bigSep_univ_eq_bigSepL [(0 : Fin 25), (1 : Fin 25), (2 : Fin 25), (3 : Fin 25), (4 : Fin 25), (5 : Fin 25), (6 : Fin 25), (7 : Fin 25), (8 : Fin 25), (9 : Fin 25), (10 : Fin 25), (11 : Fin 25), (12 : Fin 25), (13 : Fin 25), (14 : Fin 25), (15 : Fin 25), (16 : Fin 25), (17 : Fin 25), (18 : Fin 25), (19 : Fin 25), (20 : Fin 25), (21 : Fin 25), (22 : Fin 25), (23 : Fin 25), (24 : Fin 25)] (by decide) (by decide)]
  rfl
theorem reads_eq (c : Dev nD) (W : (b : Ref sig .tc) → Buf (Elt F) ((c : Thread nD τ).loc b)) :
    (bigSep HH fun b => ((c : Thread nD τ).loc b) ↦{fullShare} W b : sProp 𝕄)
      = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_v0) ↦{fullShare} W main_v0) ∗ (((c : Thread nD τ).loc main_arg4) ↦{fullShare} W main_arg4) ∗ (((c : Thread nD τ).loc main_arg5) ↦{fullShare} W main_arg5) ∗ (((c : Thread nD τ).loc main_arg6) ↦{fullShare} W main_arg6) ∗ (((c : Thread nD τ).loc main_arg7) ↦{fullShare} W main_arg7) ∗ (((c : Thread nD τ).loc main_arg8) ↦{fullShare} W main_arg8) ∗ (((c : Thread nD τ).loc main_v1) ↦{fullShare} W main_v1) ∗ (((c : Thread nD τ).loc main_arg10) ↦{fullShare} W main_arg10) ∗ (((c : Thread nD τ).loc main_arg11) ↦{fullShare} W main_arg11)) := by
  rw [BI.bigSep_eq_bigSepL Hl (by decide)]; rfl
theorem writes_eq (c : Dev nD) (W : (b : Ref sig .tc) → Buf (Elt F) ((c : Thread nD τ).loc b)) :
    (bigSep RR fun b => ((c : Thread nD τ).loc b) ↦{fullShare} W b : sProp 𝕄)
      = iprop((((c : Thread nD τ).loc main_v2_0) ↦{fullShare} W main_v2_0) ∗ (((c : Thread nD τ).loc main_v2_1) ↦{fullShare} W main_v2_1) ∗ (((c : Thread nD τ).loc main_v2_2) ↦{fullShare} W main_v2_2)) := by
  rw [BI.bigSep_eq_bigSepL Rl (by decide)]; rfl

/-- A whole buffer, as the launch and as the body hold it. -/
theorem whole_pt (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) :=
  congrArg (fun S : Finset (Idx ((c : Thread nD τ).loc b)) => (((c : Thread nD τ).loc b) ↦[S]{fullShare} f : sProp 𝕄)) (View.set_whole b).symm

/-- The region's invariant at contents `g` of the written buffers. -/
abbrev inv (g : (c : Dev nD) → (b : Ref sig .tc) → Buf (Elt F) ((c : Thread nD τ).loc b)) (c : Dev nD) : sProp 𝕄 :=
  Pipeline.ΦDRV osem (cfgs 0).spec HH RR (V m) g c

set_option maxHeartbeats 4000000 in
theorem enter (c : Dev nD) : iprop(inv m (V m) c ∗ ∃ W, owes (c : Thread nD τ) 0 W) ⊢ PRE c (V m c main_arg2) (V m c main_arg0) (V m c main_arg1) (V m c main_v0) (V m c main_arg4) (V m c main_arg5) (V m c main_arg6) (V m c main_arg7) (V m c main_arg8) (V m c main_v1) (V m c main_arg10) (V m c main_arg11) := by
  unfold inv Pipeline.ΦDRV
  rw [show Pipeline.scopedRest (Ix := Unit) (Name := ℕ) (U := UU) (Lvl := ℕ) (Val := Elt F) (τ := τ) (cfg0.spec) c = _ from scopedRest0_eq c, ownSems0_eq, reads_eq, writes_eq, a_eq, homes_zero]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s15, HS15⟩, ⟨%s16, HS16⟩, ⟨%s17, HS17⟩, ⟨%s18, HS18⟩⟩, ⟨HC0, HC1, HC2, HC3, HC4, HC5, HC6, HC7, HC8, HC9, HC10, HC11, HC12, HC13, HC14, HC15, HC16, HC17, HC18, HC19, HC20, HC21, HC22, HC23, HC24⟩, ⟨HI0, HI1, ⟨⟨Hg0, Hg1, Hg2, Hg3, Hh⟩, ⟨Ht0, Ht1, Ht2, Ht3, Ht4, Ht5⟩⟩, HI3, HI4, HI5, HI6, HI7, HI8, HI9, HI10, HI11⟩, ⟨HO0, HO1, HO2⟩⟩, HW⟩
  ihave HR := (Entails.of_eq (ring_split c _)) $$ [HS0]
  · iexact HS0
  icases HR with ⟨Hs0, Hs1, Hs2, Hs3⟩
  ihave HT := (Entails.of_eq (tail_split c _)) $$ [HS1]
  · iexact HS1
  icases HT with ⟨Hu0, Hu1, Hu2, Hu3, Hu4, Hu5⟩
  isplitl [HI0]; · iapply (Entails.of_eq (whole_pt c main_arg0 _)); iexact HI0
  isplitl [HI1]; · iapply (Entails.of_eq (whole_pt c main_arg1 _)); iexact HI1
  isplitl [HI3]; · iapply (Entails.of_eq (whole_pt c main_v0 _)); iexact HI3
  isplitl [HI4]; · iapply (Entails.of_eq (whole_pt c main_arg4 _)); iexact HI4
  isplitl [HI5]; · iapply (Entails.of_eq (whole_pt c main_arg5 _)); iexact HI5
  isplitl [HI6]; · iapply (Entails.of_eq (whole_pt c main_arg6 _)); iexact HI6
  isplitl [HI7]; · iapply (Entails.of_eq (whole_pt c main_arg7 _)); iexact HI7
  isplitl [HI8]; · iapply (Entails.of_eq (whole_pt c main_arg8 _)); iexact HI8
  isplitl [HI9]; · iapply (Entails.of_eq (whole_pt c main_v1 _)); iexact HI9
  isplitl [HI10]; · iapply (Entails.of_eq (whole_pt c main_arg10 _)); iexact HI10
  isplitl [HI11]; · iapply (Entails.of_eq (whole_pt c main_arg11 _)); iexact HI11
  isplitl [HO0]; · iexists _; iapply (Entails.of_eq (whole_pt c main_v2_0 _)); iexact HO0
  isplitl [HO1]; · iexists _; iapply (Entails.of_eq (whole_pt c main_v2_1 _)); iexact HO1
  isplitl [HO2]; · iexists _; iapply (Entails.of_eq (whole_pt c main_v2_2 _)); iexact HO2
  isplitl [HS2]; · iexists _; iapply (Entails.of_eq (whole_pt c cc0_scratch2 _)); iexact HS2
  isplitl [HS9]; · iexists _; iapply (Entails.of_eq (whole_pt c cc0_scratch9 _)); iexact HS9
  isplitl [HS10]; · iexists _; iapply (Entails.of_eq (whole_pt c cc0_scratch10 _)); iexact HS10
  isplitl [HS11]; · iexists _; iapply (Entails.of_eq (whole_pt c cc0_scratch11 _)); iexact HS11
  isplitl [HS13]; · iexists _; iapply (Entails.of_eq (whole_pt c cc0_scratch13 _)); iexact HS13
  isplitl [HS14]; · iexists _; iapply (Entails.of_eq (whole_pt c cc0_scratch14 _)); iexact HS14
  isplitl [HS15]; · iexists _; iapply (Entails.of_eq (whole_pt c cc0_scratch15 _)); iexact HS15
  isplitl [HS16]; · iexists _; iapply (Entails.of_eq (whole_pt c cc0_scratch16 _)); iexact HS16
  isplitl [HS4]; · iexists _; iapply (Entails.of_eq (whole_pt c cc0_scratch4 _)); iexact HS4
  isplitl [HS5]; · iexists _; iapply (Entails.of_eq (whole_pt c cc0_scratch5 _)); iexact HS5
  isplitl [HS6]; · iexists _; iapply (Entails.of_eq (whole_pt c cc0_scratch6 _)); iexact HS6
  isplitl [HS7]; · iexists _; iapply (Entails.of_eq (whole_pt c cc0_scratch7 _)); iexact HS7
  isplitl [HS12]; · iexists _; iapply (Entails.of_eq (whole_pt c cc0_scratch12 _)); iexact HS12
  isplitl [HS17]; · iexists _; iapply (Entails.of_eq (whole_pt c cc0_scratch17 _)); iexact HS17
  isplitl [HS18]; · iexists _; iapply (Entails.of_eq (whole_pt c cc0_scratch18 _)); iexact HS18
  isplitl [HS3]; · iexists _; iapply (Entails.of_eq (whole_pt c cc0_scratch3 _)); iexact HS3
  isplitl [HS8]; · iexists _; iapply (Entails.of_eq (whole_pt c cc0_scratch8 _)); iexact HS8
  isplitl [HC10]; · iexact HC10
  isplitl [HC11]; · iexact HC11
  isplitl [HC12]; · iexact HC12
  isplitl [HC13]; · iexact HC13
  isplitl [HC14]; · iexact HC14
  isplitl [HC15]; · iexact HC15
  isplitl [HC16]; · iexact HC16
  isplitl [HC17]; · iexact HC17
  isplitl [HC18]; · iexact HC18
  isplitl [HC19]; · iexact HC19
  isplitl [HC20]; · iexact HC20
  isplitl [HC21]; · iexact HC21
  isplitl [HC22]; · iexact HC22
  isplitl [HC23]; · iexact HC23
  isplitl [HC24]; · iexact HC24
  isplitl [HW]; · iexact HW
  isplitl [Hh]; · iexact Hh
  isplitl [Hg0]; · iexact Hg0
  isplitl [Hg1]; · iexact Hg1
  isplitl [Hg2]; · iexact Hg2
  isplitl [Hg3]; · iexact Hg3
  isplitl [Hs0]; · iexists _; iexact Hs0
  isplitl [Hs1]; · iexists _; iexact Hs1
  isplitl [Hs2]; · iexists _; iexact Hs2
  isplitl [Hs3]; · iexists _; iexact Hs3
  isplitl [HC0]; · iexact HC0
  isplitl [HC1]; · iexact HC1
  isplitl [HC2]; · iexact HC2
  isplitl [HC3]; · iexact HC3
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hu0]; · iexists _; iexact Hu0
  isplitl [Hu1]; · iexists _; iexact Hu1
  isplitl [Hu2]; · iexists _; iexact Hu2
  isplitl [Hu3]; · iexists _; iexact Hu3
  isplitl [Hu4]; · iexists _; iexact Hu4
  isplitl [Hu5]; · iexists _; iexact Hu5
  isplitl [HC4]; · iexact HC4
  isplitl [HC5]; · iexact HC5
  isplitl [HC6]; · iexact HC6
  isplitl [HC7]; · iexact HC7
  isplitl [HC8]; · iexact HC8
  iexact HC9
set_option maxHeartbeats 4000000 in
theorem leave (c : Dev nD) : POST c (V m c main_arg2) (V m c main_arg0) (V m c main_arg1) (V m c main_v0) (V m c main_arg4) (V m c main_arg5) (V m c main_arg6) (V m c main_arg7) (V m c main_arg8) (V m c main_v1) (V m c main_arg10) (V m c main_arg11) (runAt m h c).1 (runAt m h c).2.1 (runAt m h c).2.2.1
    ⊢ iprop(inv m (G m h) c ∗ ∃ W, owes (c : Thread nD τ) 0 W) := by
  unfold inv Pipeline.ΦDRV
  rw [show Pipeline.scopedRest (Ix := Unit) (Name := ℕ) (U := UU) (Lvl := ℕ) (Val := Elt F) (τ := τ) (cfg0.spec) c = _ from scopedRest0_eq c, ownSems0_eq, reads_eq, writes_eq, a_eq, G_0, G_1, G_2]
  iintro ⟨HI0, HI1, HI3, HI4, HI5, HI6, HI7, HI8, HI9, HI10, HI11, HO0, HO1, HO2, ⟨%f2, HS2⟩, ⟨%f9, HS9⟩, ⟨%f10, HS10⟩, ⟨%f11, HS11⟩, ⟨%f13, HS13⟩, ⟨%f14, HS14⟩, ⟨%f15, HS15⟩, ⟨%f16, HS16⟩, ⟨%f4, HS4⟩, ⟨%f5, HS5⟩, ⟨%f6, HS6⟩, ⟨%f7, HS7⟩, ⟨%f12, HS12⟩, ⟨%f17, HS17⟩, ⟨%f18, HS18⟩, ⟨%f3, HS3⟩, ⟨%f8, HS8⟩, HC10, HC11, HC12, HC13, HC14, HC15, HC16, HC17, HC18, HC19, HC20, HC21, HC22, HC23, HC24, HW, Hh, ⟨%g0, Hs0⟩, ⟨%g1, Hs1⟩, ⟨%g2, Hs2⟩, ⟨%g3, Hs3⟩, HC0, HC1, HC2, HC3, Ht0, Ht1, Ht2, Ht3, Ht4, Ht5, ⟨%u0, Hu0⟩, ⟨%u1, Hu1⟩, ⟨%u2, Hu2⟩, ⟨%u3, Hu3⟩, ⟨%u4, Hu4⟩, ⟨%u5, Hu5⟩, HC4, HC5, HC6, HC7, HC8, HC9⟩
  isplitr [HW]
  · isplitl [HS2 HS3 HS4 HS5 HS6 HS7 HS8 HS9 HS10 HS11 HS12 HS13 HS14 HS15 HS16 HS17 HS18 Hs0 Hs1 Hs2 Hs3 Hu0 Hu1 Hu2 Hu3 Hu4 Hu5]
    · isplitl [Hs0 Hs1 Hs2 Hs3]
      · iapply (ring_join c g0)
        isplitl [Hs0]; · iexists _; iexact Hs0
        isplitl [Hs1]; · iexists _; iexact Hs1
        isplitl [Hs2]; · iexists _; iexact Hs2
        iexists _; iexact Hs3
      isplitl [Hu0 Hu1 Hu2 Hu3 Hu4 Hu5]
      · iapply (tail_join c u0)
        isplitl [Hu0]; · iexists _; iexact Hu0
        isplitl [Hu1]; · iexists _; iexact Hu1
        isplitl [Hu2]; · iexists _; iexact Hu2
        isplitl [Hu3]; · iexists _; iexact Hu3
        isplitl [Hu4]; · iexists _; iexact Hu4
        iexists _; iexact Hu5
      isplitl [HS2]; · iexists _; iapply (Entails.of_eq (whole_pt c cc0_scratch2 _).symm); iexact HS2
      isplitl [HS3]; · iexists _; iapply (Entails.of_eq (whole_pt c cc0_scratch3 _).symm); iexact HS3
      isplitl [HS4]; · iexists _; iapply (Entails.of_eq (whole_pt c cc0_scratch4 _).symm); iexact HS4
      isplitl [HS5]; · iexists _; iapply (Entails.of_eq (whole_pt c cc0_scratch5 _).symm); iexact HS5
      isplitl [HS6]; · iexists _; iapply (Entails.of_eq (whole_pt c cc0_scratch6 _).symm); iexact HS6
      isplitl [HS7]; · iexists _; iapply (Entails.of_eq (whole_pt c cc0_scratch7 _).symm); iexact HS7
      isplitl [HS8]; · iexists _; iapply (Entails.of_eq (whole_pt c cc0_scratch8 _).symm); iexact HS8
      isplitl [HS9]; · iexists _; iapply (Entails.of_eq (whole_pt c cc0_scratch9 _).symm); iexact HS9
      isplitl [HS10]; · iexists _; iapply (Entails.of_eq (whole_pt c cc0_scratch10 _).symm); iexact HS10
      isplitl [HS11]; · iexists _; iapply (Entails.of_eq (whole_pt c cc0_scratch11 _).symm); iexact HS11
      isplitl [HS12]; · iexists _; iapply (Entails.of_eq (whole_pt c cc0_scratch12 _).symm); iexact HS12
      isplitl [HS13]; · iexists _; iapply (Entails.of_eq (whole_pt c cc0_scratch13 _).symm); iexact HS13
      isplitl [HS14]; · iexists _; iapply (Entails.of_eq (whole_pt c cc0_scratch14 _).symm); iexact HS14
      isplitl [HS15]; · iexists _; iapply (Entails.of_eq (whole_pt c cc0_scratch15 _).symm); iexact HS15
      isplitl [HS16]; · iexists _; iapply (Entails.of_eq (whole_pt c cc0_scratch16 _).symm); iexact HS16
      isplitl [HS17]; · iexists _; iapply (Entails.of_eq (whole_pt c cc0_scratch17 _).symm); iexact HS17
      iexists _; iapply (Entails.of_eq (whole_pt c cc0_scratch18 _).symm); iexact HS18
    isplitl [HC0 HC1 HC2 HC3 HC4 HC5 HC6 HC7 HC8 HC9 HC10 HC11 HC12 HC13 HC14 HC15 HC16 HC17 HC18 HC19 HC20 HC21 HC22 HC23 HC24]
    · isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      isplitl [HC7]; · iexact HC7
      isplitl [HC8]; · iexact HC8
      isplitl [HC9]; · iexact HC9
      isplitl [HC10]; · iexact HC10
      isplitl [HC11]; · iexact HC11
      isplitl [HC12]; · iexact HC12
      isplitl [HC13]; · iexact HC13
      isplitl [HC14]; · iexact HC14
      isplitl [HC15]; · iexact HC15
      isplitl [HC16]; · iexact HC16
      isplitl [HC17]; · iexact HC17
      isplitl [HC18]; · iexact HC18
      isplitl [HC19]; · iexact HC19
      isplitl [HC20]; · iexact HC20
      isplitl [HC21]; · iexact HC21
      isplitl [HC22]; · iexact HC22
      isplitl [HC23]; · iexact HC23
      iexact HC24
    isplitl [HI0 HI1 HI3 HI4 HI5 HI6 HI7 HI8 HI9 HI10 HI11 Hh Ht0 Ht1 Ht2 Ht3 Ht4 Ht5]
    · isplitl [HI0]; · iapply (Entails.of_eq (whole_pt c main_arg0 _).symm); iexact HI0
      isplitl [HI1]; · iapply (Entails.of_eq (whole_pt c main_arg1 _).symm); iexact HI1
      isplitl [Hh Ht0 Ht1 Ht2 Ht3 Ht4 Ht5]
      · isplitl [Hh]; · iexact Hh
        isplitl [Ht0]; · iexact Ht0
        isplitl [Ht1]; · iexact Ht1
        isplitl [Ht2]; · iexact Ht2
        isplitl [Ht3]; · iexact Ht3
        isplitl [Ht4]; · iexact Ht4
        iexact Ht5
      isplitl [HI3]; · iapply (Entails.of_eq (whole_pt c main_v0 _).symm); iexact HI3
      isplitl [HI4]; · iapply (Entails.of_eq (whole_pt c main_arg4 _).symm); iexact HI4
      isplitl [HI5]; · iapply (Entails.of_eq (whole_pt c main_arg5 _).symm); iexact HI5
      isplitl [HI6]; · iapply (Entails.of_eq (whole_pt c main_arg6 _).symm); iexact HI6
      isplitl [HI7]; · iapply (Entails.of_eq (whole_pt c main_arg7 _).symm); iexact HI7
      isplitl [HI8]; · iapply (Entails.of_eq (whole_pt c main_arg8 _).symm); iexact HI8
      isplitl [HI9]; · iapply (Entails.of_eq (whole_pt c main_v1 _).symm); iexact HI9
      isplitl [HI10]; · iapply (Entails.of_eq (whole_pt c main_arg10 _).symm); iexact HI10
      iapply (Entails.of_eq (whole_pt c main_arg11 _).symm); iexact HI11
    isplitl [HO0]; · iapply (Entails.of_eq (whole_pt c main_v2_0 _).symm); iexact HO0
    isplitl [HO1]; · iapply (Entails.of_eq (whole_pt c main_v2_1 _).symm); iexact HO1
    iapply (Entails.of_eq (whole_pt c main_v2_2 _).symm); iexact HO2
  iexact HW

/-- The region's proof data. -/
def dats (_ : Fin 1) (c : Dev nD) : Dat τ (Elt F) Unit ℕ UU ℕ cfg0 c where
  A w := w.elim0
  after w _ := w.elim0
  Φ k := if k.val = 0 then inv m (V m) c else inv m (G m h) c
  q _ := fullShare
  owed _ := 0

theorem Φ_eq (c : Dev nD) (k) : (dats m h 0 c).Φ k = if k.val = 0 then inv m (V m) c else inv m (G m h) c := rfl
theorem Φ_zero (c : Dev nD) : (dats m h 0 c).Φ 0 = inv m (V m) c := (Φ_eq m h c _).trans (if_pos rfl)
theorem Φ_last (c : Dev nD) : (dats m h 0 c).Φ (Fin.last cfg0.N) = inv m (G m h) c := (Φ_eq m h c _).trans (if_neg (Nat.one_ne_zero))

theorem defs_tc : (defs₀ (F := F)) .tc cfg0.body = fun a => bodyAt0 (F := F) ⟨0, by decide⟩ := rfl
theorem prog_eq (t : Fin cfg0.N) : (defs₀ (F := F)) .tc cfg0.body (cfg0.bodyArgs t (cfg0.slots t)) = bodyAt0 (F := F) ⟨0, by decide⟩ :=
  (congrFun defs_tc _).trans rfl

set_option backward.isDefEq.respectTransparency.types false in
theorem body_obligation (c : Dev nD) : BodyObligationLoose (dats m h 0 c) (defs₀ (F := F)) 𝒱₀ () Set.univ := fun t => by
  have ht : t.val = 0 := by have := t.isLt; have e : cfg0.N = 1 := rfl; omega
  rw [show (dats m h 0 c).Φ t.castSucc = inv m (V m) c from (Φ_eq m h c _).trans (if_pos ht), show (dats m h 0 c).Φ t.succ = inv m (G m h) c from (Φ_eq m h c _).trans (if_neg (Nat.succ_ne_zero _))]
  unfold Dat.owesAt Pipeline.owesWithin
  rw [show (dats m h 0 c).owed t.castSucc = 0 from rfl, show (dats m h 0 c).owed t.succ = 0 from rfl]
  iintro ⟨HΦ, ⟨%W, -, HW⟩, HB⟩
  sl_rw [prog_eq t]
  iapply ((runAt m h c).2.2.2 _)
  isplitl [HΦ HW]
  · iapply (enter m c)
    isplitl [HΦ]; · iexact HΦ
    iexists W; iexact HW
  iintro HP
  ihave HL := (leave m h c) $$ [HP]
  · iexact HP
  icases HL with ⟨HI, ⟨%W', HW'⟩⟩
  isplitl [HI]; · iexact HI
  isplitl [HW']
  · iexists W'; isplitr; · ipureintro; exact fun _ _ => Or.inl trivial
    iexact HW'
  rw [show (Finset.univ : Finset (Fin cfg0.W)) = ∅ from rfl]
  iapply (Entails.of_eq (BI.bigSep_empty (Φ := _)).symm)
  iempintro

set_option maxHeartbeats 800000 in
theorem hmainD : Pipeline.HMainK (Ix := Unit) (Name := ℕ) (U := UU) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer holds at the end. -/
abbrev atEnd (c : Dev nD) (b : Ref sig .tc) : Buf (Elt F) ((c : Thread nD τ).loc b) :=
  StableHlo.after (List.flatten [hostOps1]) (Pipeline.withArrays cfg0.spec c (Pipeline.withR (V0 m c) RR c (G m h c)) fun w => (dats m h 0 c).arrAt w cfg0.N) (Proc.devRef .tc b)

/-- The program's run: every buffer the kernel does not scope ends at `atEnd`, every semaphore at zero. -/
theorem run_rest : θ_run defs (onTc (τ := τ) (main (F := F))) (s₀ m ρ)
    (fun r => (∀ c : Dev nD, ∀ b ∈ Pipeline.restRefs sig cfg0.spec, r.2.mem ((c : Thread nD τ).loc b) = atEnd m h c b) ∧ r.2.sem = fun _ => 0) :=
  Pipeline.θ_run_frame_dmaR_aroundV cfgs (dats m h) 0 launch0 osem defs₀ 𝒱₀ ownSemFacts HH RR (by decide) (by decide) m ρ main
    (hbody := body_obligation m h) (hshare := fun c w => w.elim0) (howed := fun _ _ => rfl)
    (V₀ := V0 m) (opss := [hostOps1]) (hsub := sfx_sub) (hfresh := sfx_fresh) (hkeep := sfx_keeps) (G := G m h)
    (hmain := hmainD m) (hA := fun c w => w.elim0)
    (hin := fun c => Entails.of_eq (Φ_zero m h c).symm)
    (hout := fun c => Entails.of_eq (Φ_last m h c))
    (Q' := fun r => (∀ c : Dev nD, ∀ b ∈ Pipeline.restRefs sig cfg0.spec, r.2.mem ((c : Thread nD τ).loc b) = atEnd m h c b) ∧ r.2.sem = fun _ => 0)
    (hQ' := fun r hr => ⟨fun c b hb => (hr.1 c).2 b hb, hr.2⟩)

/-- A buffer neither the host lines after the region nor the region writes ends as the region found it. -/
theorem atEnd_of (c : Dev nD) (b : Ref sig .tc) (hb : b ∉ RR) (h3 : b ≠ main_v3) (h4 : b ≠ main_v4) : atEnd m h c b = V m c b := by
  unfold atEnd
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h3, StableHlo.devRef_ne_of_ne h4⟩)),
    Pipeline.withArrays_of_ne _ c _ _ b (fun w => w.elim0), Pipeline.withR_of_not_mem _ _ _ _ b hb]
theorem atEnd_arg0 (c : Dev nD) : atEnd m h c main_arg0 = m ((c : Thread nD τ).loc main_arg0) :=
  (atEnd_of m h c main_arg0 (by decide) (by decide) (by decide)).trans (V_main_arg0 m c)
theorem atEnd_arg1 (c : Dev nD) : atEnd m h c main_arg1 = m ((c : Thread nD τ).loc main_arg1) :=
  (atEnd_of m h c main_arg1 (by decide) (by decide) (by decide)).trans (V_main_arg1 m c)
theorem atEnd_arg2 (c : Dev nD) : atEnd m h c main_arg2 = m ((c : Thread nD τ).loc main_arg2) :=
  (atEnd_of m h c main_arg2 (by decide) (by decide) (by decide)).trans (V_main_arg2 m c)
theorem atEnd_arg3 (c : Dev nD) : atEnd m h c main_arg3 = m ((c : Thread nD τ).loc main_arg3) :=
  (atEnd_of m h c main_arg3 (by decide) (by decide) (by decide)).trans (V_main_arg3 m c)
theorem atEnd_arg4 (c : Dev nD) : atEnd m h c main_arg4 = m ((c : Thread nD τ).loc main_arg4) :=
  (atEnd_of m h c main_arg4 (by decide) (by decide) (by decide)).trans (V_main_arg4 m c)
theorem atEnd_arg5 (c : Dev nD) : atEnd m h c main_arg5 = m ((c : Thread nD τ).loc main_arg5) :=
  (atEnd_of m h c main_arg5 (by decide) (by decide) (by decide)).trans (V_main_arg5 m c)
theorem atEnd_arg6 (c : Dev nD) : atEnd m h c main_arg6 = m ((c : Thread nD τ).loc main_arg6) :=
  (atEnd_of m h c main_arg6 (by decide) (by decide) (by decide)).trans (V_main_arg6 m c)
theorem atEnd_arg7 (c : Dev nD) : atEnd m h c main_arg7 = m ((c : Thread nD τ).loc main_arg7) :=
  (atEnd_of m h c main_arg7 (by decide) (by decide) (by decide)).trans (V_main_arg7 m c)
theorem atEnd_arg8 (c : Dev nD) : atEnd m h c main_arg8 = m ((c : Thread nD τ).loc main_arg8) :=
  (atEnd_of m h c main_arg8 (by decide) (by decide) (by decide)).trans (V_main_arg8 m c)
theorem atEnd_arg9 (c : Dev nD) : atEnd m h c main_arg9 = m ((c : Thread nD τ).loc main_arg9) :=
  (atEnd_of m h c main_arg9 (by decide) (by decide) (by decide)).trans (V_main_arg9 m c)
theorem atEnd_arg10 (c : Dev nD) : atEnd m h c main_arg10 = m ((c : Thread nD τ).loc main_arg10) :=
  (atEnd_of m h c main_arg10 (by decide) (by decide) (by decide)).trans (V_main_arg10 m c)
theorem atEnd_arg11 (c : Dev nD) : atEnd m h c main_arg11 = m ((c : Thread nD τ).loc main_arg11) :=
  (atEnd_of m h c main_arg11 (by decide) (by decide) (by decide)).trans (V_main_arg11 m c)
/-- The logits end as the body left them. -/
theorem atEnd_z (c : Dev nD) : atEnd m h c main_v2_2 = (runAt m h c).2.2.1 := by
  unfold atEnd
  rw [StableHlo.after_of_forall_not_mem (b := Proc.devRef .tc main_v2_2) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne (by decide), StableHlo.devRef_ne_of_ne (by decide)⟩)),
    Pipeline.withArrays_of_ne _ c _ _ main_v2_2 (fun w => w.elim0), Pipeline.withR_of_mem _ _ _ _ main_v2_2 (by decide)]
  exact G_2 m h c

/-- The program's run: the arguments unchanged, the results named, every semaphore at zero. -/
theorem run_main : θ_run defs (onTc (τ := τ) (main (F := F))) ⟨m, fun _ => 0, ρ⟩ (fun r => (∀ c : Dev nD,
      (r.2.mem ((c.tc : Thread nD τ).loc main_v3) = atEnd m h c main_v3
      ∧ r.2.mem ((c.tc : Thread nD τ).loc main_v4) = atEnd m h c main_v4
      ∧ r.2.mem ((c.tc : Thread nD τ).loc main_v2_2) = (runAt m h c).2.2.1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r hr => ⟨fun c => ⟨⟨hr.1 c main_v3 (Pipeline.mem_restRefs_of main_v3 (by decide) (by decide)), hr.1 c main_v4 (Pipeline.mem_restRefs_of main_v4 (by decide) (by decide)),
      (hr.1 c main_v2_2 (Pipeline.mem_restRefs_of main_v2_2 (by decide) (by decide))).trans (atEnd_z m h c)⟩,
      (hr.1 c main_arg0 (Pipeline.mem_restRefs_of main_arg0 (by decide) (by decide))).trans (atEnd_arg0 m h c),
      (hr.1 c main_arg1 (Pipeline.mem_restRefs_of main_arg1 (by decide) (by decide))).trans (atEnd_arg1 m h c),
      (hr.1 c main_arg2 (Pipeline.mem_restRefs_of main_arg2 (by decide) (by decide))).trans (atEnd_arg2 m h c),
      (hr.1 c main_arg3 (Pipeline.mem_restRefs_of main_arg3 (by decide) (by decide))).trans (atEnd_arg3 m h c),
      (hr.1 c main_arg4 (Pipeline.mem_restRefs_of main_arg4 (by decide) (by decide))).trans (atEnd_arg4 m h c),
      (hr.1 c main_arg5 (Pipeline.mem_restRefs_of main_arg5 (by decide) (by decide))).trans (atEnd_arg5 m h c),
      (hr.1 c main_arg6 (Pipeline.mem_restRefs_of main_arg6 (by decide) (by decide))).trans (atEnd_arg6 m h c),
      (hr.1 c main_arg7 (Pipeline.mem_restRefs_of main_arg7 (by decide) (by decide))).trans (atEnd_arg7 m h c),
      (hr.1 c main_arg8 (Pipeline.mem_restRefs_of main_arg8 (by decide) (by decide))).trans (atEnd_arg8 m h c),
      (hr.1 c main_arg9 (Pipeline.mem_restRefs_of main_arg9 (by decide) (by decide))).trans (atEnd_arg9 m h c),
      (hr.1 c main_arg10 (Pipeline.mem_restRefs_of main_arg10 (by decide) (by decide))).trans (atEnd_arg10 m h c),
      (hr.1 c main_arg11 (Pipeline.mem_restRefs_of main_arg11 (by decide) (by decide))).trans (atEnd_arg11 m h c)⟩, hr.2⟩) (run_rest m ρ h)

end Cert.Proof.Kernel
end
-- ==== Proof.Kernel.Ids.lean ====
/- The ids the kernel checks, from the ids in range.

   The kernel divides an id by 128 for the block of the vocabulary it lies in: a candidate id below 32000 names a
   block of the logits, a bias id below 32768 a row of the table of 256 blocks. -/
module

public import proofs.«01_k».proof.Proof.Kernel.Launch
public import Idealize.ShloMosaic.Lib.WordCmp
public import Idealize.ShloMosaic.Lib.Pipeline.Value

@[expose] public section

set_option maxRecDepth 16384

noncomputable section

namespace Cert.Proof.Kernel

open Cert.Kernel Cert.Kernel.Gen
open Idealize.ShloMosaic
open Idealize.ShloMosaic.TcCoe Idealize.ShloMosaic.Tactic

variable {F : FTy → Type} [FloatOps F]

/-- The block of an id. -/
theorem shift7 (v : BitVec 32) (h : v.toNat < 32768) : (Scalar.shrsi v 7#32).toNat = v.toNat / 128 := by
  have hm : v.msb = false := by
    rw [BitVec.msb_eq_decide]; simp only [decide_eq_false_iff_not]; omega
  show (IntOp.shrsi _ v 7#32).toNat = _
  unfold IntOp.shrsi
  simp [BitVec.sshiftRight_eq_of_msb_false hm, Nat.shiftRight_eq_div_pow]
theorem blockCol (v : BitVec 32) (h : v.toNat < 32000) : (Scalar.muli (Scalar.shrsi v 7#32) 128#32).toNat = v.toNat / 128 * 128 := by
  show (Scalar.shrsi v 7#32 * 128#32).toNat = _
  rw [BitVec.toNat_mul, shift7 v (by omega), show (128#32).toNat = 128 from rfl]; omega
theorem blockRow (v : BitVec 32) (h : v.toNat < 32768) : (Scalar.muli (Scalar.shrsi v 7#32) 8#32).toNat = v.toNat / 128 * 8 := by
  show (Scalar.shrsi v 7#32 * 8#32).toNat = _
  rw [BitVec.toNat_mul, shift7 v h, show (8#32).toNat = 8 from rfl]; omega
theorem blockRowAdd (v : BitVec 32) (h : v.toNat < 32768) (r : ℕ) (hr : r < 8) :
    (Scalar.addi (Scalar.muli (Scalar.shrsi v 7#32) 8#32) (BitVec.ofNat 32 r)).toNat = v.toNat / 128 * 8 + r := by
  show (Scalar.muli (Scalar.shrsi v 7#32) 8#32 + BitVec.ofNat 32 r).toNat = _
  rw [BitVec.toNat_add, blockRow v h, BitVec.toNat_ofNat]; omega
theorem chk7 (v : BitVec 32) (h : v.toNat < 32000) : k0_chk7 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk8 (v : BitVec 32) (h : v.toNat < 32000) : k0_chk8 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk9 (v : BitVec 32) (h : v.toNat < 32000) : k0_chk9 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk10 (v : BitVec 32) (h : v.toNat < 32000) : k0_chk10 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk11 (v : BitVec 32) (h : v.toNat < 32000) : k0_chk11 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk12 (v : BitVec 32) (h : v.toNat < 32000) : k0_chk12 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk13 (v : BitVec 32) (h : v.toNat < 32000) : k0_chk13 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk14 (v : BitVec 32) (h : v.toNat < 32000) : k0_chk14 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk15 (v : BitVec 32) (h : v.toNat < 32000) : k0_chk15 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk16 (v : BitVec 32) (h : v.toNat < 32000) : k0_chk16 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk17 (v : BitVec 32) (h : v.toNat < 32000) : k0_chk17 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk18 (v : BitVec 32) (h : v.toNat < 32000) : k0_chk18 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk19 (v : BitVec 32) (h : v.toNat < 32000) : k0_chk19 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk20 (v : BitVec 32) (h : v.toNat < 32000) : k0_chk20 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk21 (v : BitVec 32) (h : v.toNat < 32000) : k0_chk21 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk22 (v : BitVec 32) (h : v.toNat < 32000) : k0_chk22 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk23 (v : BitVec 32) (h : v.toNat < 32000) : k0_chk23 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk24 (v : BitVec 32) (h : v.toNat < 32000) : k0_chk24 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk25 (v : BitVec 32) (h : v.toNat < 32000) : k0_chk25 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk26 (v : BitVec 32) (h : v.toNat < 32000) : k0_chk26 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk27 (v : BitVec 32) (h : v.toNat < 32000) : k0_chk27 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk28 (v : BitVec 32) (h : v.toNat < 32000) : k0_chk28 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk29 (v : BitVec 32) (h : v.toNat < 32000) : k0_chk29 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk30 (v : BitVec 32) (h : v.toNat < 32000) : k0_chk30 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk1 (v : BitVec 32) (h : v.toNat < 32768) : k0_chk1 v := by
  have e := blockRowAdd v h 0 (by decide)
  refine ⟨?_, ?_⟩
  · intro a
    match a with
    | 0 => show (Scalar.addi (Scalar.muli (Scalar.shrsi v 7#32) 8#32) (BitVec.ofNat 32 0)).toNat + 1 ≤ 2048; rw [e]; omega
    | 1 => exact Nat.le_refl 128
  · intro a
    match a with
    | 0 => show (Scalar.addi (Scalar.muli (Scalar.shrsi v 7#32) 8#32) (BitVec.ofNat 32 0)).toNat + 1 ≤ 2048; rw [e]; omega
    | 1 => exact Nat.le_refl 128
theorem chk2 (v : BitVec 32) (h : v.toNat < 32768) : k0_chk2 v := by
  have e := blockRowAdd v h 1 (by decide)
  refine ⟨?_, ?_⟩
  · intro a
    match a with
    | 0 => show (Scalar.addi (Scalar.muli (Scalar.shrsi v 7#32) 8#32) (BitVec.ofNat 32 1)).toNat + 1 ≤ 2048; rw [e]; omega
    | 1 => exact Nat.le_refl 128
  · intro a
    match a with
    | 0 => show (Scalar.addi (Scalar.muli (Scalar.shrsi v 7#32) 8#32) (BitVec.ofNat 32 1)).toNat + 1 ≤ 2048; rw [e]; omega
    | 1 => exact Nat.le_refl 128
theorem chk3 (v : BitVec 32) (h : v.toNat < 32768) : k0_chk3 v := by
  have e := blockRowAdd v h 2 (by decide)
  refine ⟨?_, ?_⟩
  · intro a
    match a with
    | 0 => show (Scalar.addi (Scalar.muli (Scalar.shrsi v 7#32) 8#32) (BitVec.ofNat 32 2)).toNat + 1 ≤ 2048; rw [e]; omega
    | 1 => exact Nat.le_refl 128
  · intro a
    match a with
    | 0 => show (Scalar.addi (Scalar.muli (Scalar.shrsi v 7#32) 8#32) (BitVec.ofNat 32 2)).toNat + 1 ≤ 2048; rw [e]; omega
    | 1 => exact Nat.le_refl 128
theorem chk4 (v : BitVec 32) (h : v.toNat < 32768) : k0_chk4 v := by
  have e := blockRowAdd v h 3 (by decide)
  refine ⟨?_, ?_⟩
  · intro a
    match a with
    | 0 => show (Scalar.addi (Scalar.muli (Scalar.shrsi v 7#32) 8#32) (BitVec.ofNat 32 3)).toNat + 1 ≤ 2048; rw [e]; omega
    | 1 => exact Nat.le_refl 128
  · intro a
    match a with
    | 0 => show (Scalar.addi (Scalar.muli (Scalar.shrsi v 7#32) 8#32) (BitVec.ofNat 32 3)).toNat + 1 ≤ 2048; rw [e]; omega
    | 1 => exact Nat.le_refl 128
theorem chk5 (v : BitVec 32) (h : v.toNat < 32768) : k0_chk5 v := by
  have e := blockRowAdd v h 4 (by decide)
  refine ⟨?_, ?_⟩
  · intro a
    match a with
    | 0 => show (Scalar.addi (Scalar.muli (Scalar.shrsi v 7#32) 8#32) (BitVec.ofNat 32 4)).toNat + 1 ≤ 2048; rw [e]; omega
    | 1 => exact Nat.le_refl 128
  · intro a
    match a with
    | 0 => show (Scalar.addi (Scalar.muli (Scalar.shrsi v 7#32) 8#32) (BitVec.ofNat 32 4)).toNat + 1 ≤ 2048; rw [e]; omega
    | 1 => exact Nat.le_refl 128
theorem chk6 (v : BitVec 32) (h : v.toNat < 32768) : k0_chk6 v := by
  have e := blockRowAdd v h 5 (by decide)
  · intro a
    match a with
    | 0 => show (Scalar.addi (Scalar.muli (Scalar.shrsi v 7#32) 8#32) (BitVec.ofNat 32 5)).toNat + 1 ≤ 2048; rw [e]; omega
    | 1 => exact Nat.le_refl 128

variable (m : (ℓ : Loc nD τ sig) → Buf (Elt F) ℓ)

theorem V_cands (c : Dev nD) : (V m c main_v1 : S4x6.Idx → BitVec 32)
    = transpose S4x6 [1, 0] (m ((c : Thread nD τ).loc main_arg9) : S6x4.Idx → BitVec 32) transposes_S6x4_S4x6_1_0 := by
  unfold V V0; rfl

/-- Ids in range, on every core, pass every check. -/
theorem idsOK (h9 : ∀ c : Dev nD, ∀ i : S6x4.Idx, ((m ((c : Thread nD τ).loc main_arg9) : S6x4.Idx → BitVec 32) i).toNat < 32000)
    (h10 : ∀ c : Dev nD, ∀ i : S6x36.Idx, ((m ((c : Thread nD τ).loc main_arg10) : S6x36.Idx → BitVec 32) i).toNat < 32768) : IdsOK m where
  bid c k := by
    have h : ∀ i, ((V m c main_arg10 : S6x36.Idx → BitVec 32) i).toNat < 32768 := fun i => by rw [V_main_arg10]; exact h10 c i
    exact ⟨chk1 _ (h _), chk2 _ (h _), chk3 _ (h _), chk4 _ (h _), chk5 _ (h _), chk6 _ (h _)⟩
  cand c := by
    have h : ∀ i, ((V m c main_v1 : S4x6.Idx → BitVec 32) i).toNat < 32000 := fun i => by rw [V_cands]; exact h9 c _
    exact ⟨chk7 _ (h _), chk8 _ (h _), chk9 _ (h _), chk10 _ (h _), chk11 _ (h _), chk12 _ (h _), chk13 _ (h _), chk14 _ (h _), chk15 _ (h _), chk16 _ (h _), chk17 _ (h _), chk18 _ (h _), chk19 _ (h _), chk20 _ (h _), chk21 _ (h _), chk22 _ (h _), chk23 _ (h _), chk24 _ (h _), chk25 _ (h _), chk26 _ (h _), chk27 _ (h _), chk28 _ (h _), chk29 _ (h _), chk30 _ (h _)⟩

end Cert.Proof.Kernel
end
-- ==== Proof.KernelIdeal.Names.lean ====
/- The names the kernel's proof uses for the buffers, the blocks of the weights and the slots of the ring.

   The kernel streams the weights' first 29952 columns through a ring of four slots, 256 rows at a time: block
   `b` is rows `256 b … 256 b + 255`. It streams the last 2048 columns in six pieces of rows into a buffer of
   their own. This module names a block, a slot, a slot's semaphore, a piece's source and destination, and shows
   that the slices the program computes from its induction variable are these. -/
module

public import proofs.«01_k».proof.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's beside the counters the kernel's own transfers ride on. -/
abbrev UU : Type := Pipeline.UD sig nD τ
local notation "𝕄" => MT nD τ sig Unit (Elt F) ℕ UU ℕ
abbrev 𝒱₀ : Variants := Variants.none

/-- The weights, the four slots and the tail's buffer. -/
abbrev aW : Memref sig .tc .hbm S8192x32000 .fp8e4m3 := Memref.whole main_arg2
abbrev wbufM : Memref sig .tc .vmem S4x256x29952 .fp8e4m3 := Memref.whole cc0_scratch0
abbrev tbufM : Memref sig .tc .vmem S8192x2048 .fp8e4m3 := Memref.whole cc0_scratch1

/-! ## Blocks, slots, semaphores -/

abbrev blkOff (b : Fin 32) : Fin 2 → Nat := ![256 * b.val, 0]
theorem blkOff_inb (b : Fin 32) : ∀ a, blkOff b a + S256x29952.size a ≤ S8192x32000.size a := by
  have := b.isLt; intro a; fin_cases a
  · show 256 * b.val + 256 ≤ 8192; omega
  · show 0 + 29952 ≤ 32000; omega
abbrev slotOff (s : Fin 4) : Fin 3 → Nat := ![s.val, 0, 0]
theorem slotOff_inb (s : Fin 4) : ∀ a, slotOff s a + S1x256x29952.size a ≤ S4x256x29952.size a := by
  have := s.isLt; intro a; fin_cases a
  · show s.val + 1 ≤ 4; omega
  · show 0 + 256 ≤ 256; omega
  · show 0 + 29952 ≤ 29952; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Block `b` of the weights' first 29952 columns. -/
def grp (b : Fin 32) : Memref sig .tc .hbm S256x29952 .fp8e4m3 :=
  aW.slice (Rect.unit (s := S8192x32000) (blkOff b) S256x29952.size (blkOff_inb b)) (fun _ => rfl)
/-- Slot `s` of the ring's buffer. -/
def rslot (s : Fin 4) : Memref sig .tc .vmem S256x29952 .fp8e4m3 :=
  (wbufM.slice (Rect.unit (s := S4x256x29952) (slotOff s) S1x256x29952.size (slotOff_inb s)) (fun _ => rfl)).squeeze S256x29952 squeezes_S1x256x29952_S256x29952
/-- Slot `s`'s semaphore. -/
def csm (s : Fin 4) : DmaSems sig S_ := (cc0_scratch19.slice (Rect.unit (s := S4) (semOff s) S1.size (semOff_inb s))).squeeze S_ squeezes_S1_S_

instance (s : Fin 4) : ClosedOff (slotOff s) := ⟨slotOff s, rfl⟩
instance (b : Fin 32) : ClosedOff (blkOff b) := ⟨blkOff b, rfl⟩

/-! ## The program's offsets in closed form -/

theorem trips3_le (k : Fin k0_t3_loop.trips) : k.val < 32 := Nat.lt_of_lt_of_eq k.isLt (by decide)

theorem off27_eq : ∀ k : Fin k0_t3_loop.trips, k0_off27 k = semOff (Ring.sl 4 k.val) := by decide +kernel
theorem off28_eq : ∀ k : Fin k0_t3_loop.trips, k0_off28 k = slotOff (Ring.sl 4 k.val) := by decide +kernel
theorem off31_eq : ∀ k : Fin k0_t3_loop.trips, k0_off31 k = slotOff (Ring.sl 4 k.val) := by decide +kernel
theorem off32_eq : ∀ k : Fin k0_t3_loop.trips, k0_off32 k = semOff (Ring.sl 4 k.val) := by decide +kernel
theorem off33_eq : ∀ k : Fin k0_t3_loop.trips, k0_off33 k = slotOff (Ring.sl 4 k.val) := by decide +kernel
theorem off29_eq : ∀ k : Fin k0_t3_loop.trips, k0_off29 k = blkOff (Ring.bk 32 k.val) := by decide +kernel
theorem off34_eq : ∀ k : Fin k0_t3_loop.trips, k.val + 4 < 32 → k0_off34 k = blkOff (Ring.bk 32 (k.val + 4)) := by decide +kernel

/-- The first conditional is taken exactly when block `k + 4` exists, -/
theorem cond1_iff : ∀ k : Fin k0_t3_loop.trips, k0_cond1 k = 1#1 ↔ k.val + 4 < 32 := by decide +kernel
/-- the second exactly at trip 28. -/
theorem cond2_iff : ∀ k : Fin k0_t3_loop.trips,
    Scalar.cmpi .ne (Scalar.extui (Scalar.cmpi .eq (Scalar.addi (Scf.iv 0#32 1#32 k) 4#32) 32#32) : BitVec 32) 0#32 = 1#1 ↔ k.val = 28 := by decide +kernel

instance (k : Fin k0_t3_loop.trips) : ClosedOff (k0_off31 k) := ⟨slotOff (Ring.sl 4 k.val), off31_eq k⟩
instance (k : Fin k0_t3_loop.trips) : ClosedOff (k0_off28 k) := ⟨slotOff (Ring.sl 4 k.val), off28_eq k⟩

/-! ## The program's slices are these -/

theorem csm_congr {off : Fin 1 → Nat} {s : Fin 4} (e : off = semOff s) (hh) :
    (cc0_scratch19.slice (Rect.unit (s := S4) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 4} (e : off = slotOff s) (hh hs) :
    (wbufM.slice (Rect.unit (s := S4x256x29952) off S1x256x29952.size hh) hs).squeeze S256x29952 squeezes_S1x256x29952_S256x29952 = rslot s :=
  congrArg (fun M : Memref sig .tc .vmem S1x256x29952 .fp8e4m3 => M.squeeze S256x29952 squeezes_S1x256x29952_S256x29952) (Memref.slice_unit_congr _ e _ _ _ _)
theorem grp_congr {off : Fin 2 → Nat} {b : Fin 32} (e : off = blkOff b) (hh hs) :
    aW.slice (Rect.unit (s := S8192x32000) off S256x29952.size hh) hs = grp b :=
  Memref.slice_unit_congr _ e _ _ hs (fun _ => rfl)

@[sl_canon] theorem semL0 (hh) : (cc0_scratch19.slice (Rect.unit (s := S4) ![0] S1.size hh)).squeeze S_ squeezes_S1_S_ = csm 0 := csm_congr (by decide) _
@[sl_canon] theorem slotL0 (hh hs) : (wbufM.slice (Rect.unit (s := S4x256x29952) ![0, 0, 0] S1x256x29952.size hh) hs).squeeze S256x29952 squeezes_S1x256x29952_S256x29952 = rslot 0 := rslot_congr (by decide) _ _
@[sl_canon] theorem grpL0 (hh hs) : aW.slice (Rect.unit (s := S8192x32000) ![0, 0] S256x29952.size hh) hs = grp 0 := grp_congr (by decide) _ _

@[sl_canon] theorem semL1 (hh) : (cc0_scratch19.slice (Rect.unit (s := S4) ![1] S1.size hh)).squeeze S_ squeezes_S1_S_ = csm 1 := csm_congr (by decide) _
@[sl_canon] theorem slotL1 (hh hs) : (wbufM.slice (Rect.unit (s := S4x256x29952) ![1, 0, 0] S1x256x29952.size hh) hs).squeeze S256x29952 squeezes_S1x256x29952_S256x29952 = rslot 1 := rslot_congr (by decide) _ _
@[sl_canon] theorem grpL1 (hh hs) : aW.slice (Rect.unit (s := S8192x32000) ![256, 0] S256x29952.size hh) hs = grp 1 := grp_congr (by decide) _ _

@[sl_canon] theorem semL2 (hh) : (cc0_scratch19.slice (Rect.unit (s := S4) ![2] S1.size hh)).squeeze S_ squeezes_S1_S_ = csm 2 := csm_congr (by decide) _
@[sl_canon] theorem slotL2 (hh hs) : (wbufM.slice (Rect.unit (s := S4x256x29952) ![2, 0, 0] S1x256x29952.size hh) hs).squeeze S256x29952 squeezes_S1x256x29952_S256x29952 = rslot 2 := rslot_congr (by decide) _ _
@[sl_canon] theorem grpL2 (hh hs) : aW.slice (Rect.unit (s := S8192x32000) ![512, 0] S256x29952.size hh) hs = grp 2 := grp_congr (by decide) _ _

@[sl_canon] theorem semL3 (hh) : (cc0_scratch19.slice (Rect.unit (s := S4) ![3] S1.size hh)).squeeze S_ squeezes_S1_S_ = csm 3 := csm_congr (by decide) _
@[sl_canon] theorem slotL3 (hh hs) : (wbufM.slice (Rect.unit (s := S4x256x29952) ![3, 0, 0] S1x256x29952.size hh) hs).squeeze S256x29952 squeezes_S1x256x29952_S256x29952 = rslot 3 := rslot_congr (by decide) _ _
@[sl_canon] theorem grpL3 (hh hs) : aW.slice (Rect.unit (s := S8192x32000) ![768, 0] S256x29952.size hh) hs = grp 3 := grp_congr (by decide) _ _

/-- Trip `k`: semaphore and slot `k % 4`, block `k` waited for, block `k + 4` issued. -/
@[sl_canon] theorem semK (k : Fin k0_t3_loop.trips) (hh) :
    (cc0_scratch19.slice (Rect.unit (s := S4) (k0_off27 k) S1.size hh)).squeeze S_ squeezes_S1_S_ = csm (Ring.sl 4 k.val) := csm_congr (off27_eq k) _
@[sl_canon] theorem slotK (k : Fin k0_t3_loop.trips) (hh hs) :
    (wbufM.slice (Rect.unit (s := S4x256x29952) (k0_off28 k) S1x256x29952.size hh) hs).squeeze S256x29952 squeezes_S1x256x29952_S256x29952 = rslot (Ring.sl 4 k.val) := rslot_congr (off28_eq k) _ _
@[sl_canon] theorem semI (k : Fin k0_t3_loop.trips) (hh) :
    (cc0_scratch19.slice (Rect.unit (s := S4) (k0_off32 k) S1.size hh)).squeeze S_ squeezes_S1_S_ = csm (Ring.sl 4 k.val) := csm_congr (off32_eq k) _
@[sl_canon] theorem slotI (k : Fin k0_t3_loop.trips) (hh hs) :
    (wbufM.slice (Rect.unit (s := S4x256x29952) (k0_off33 k) S1x256x29952.size hh) hs).squeeze S256x29952 squeezes_S1x256x29952_S256x29952 = rslot (Ring.sl 4 k.val) := rslot_congr (off33_eq k) _ _
@[sl_canon] theorem grpW (k : Fin k0_t3_loop.trips) (hh hs) :
    aW.slice (Rect.unit (s := S8192x32000) (k0_off29 k) S256x29952.size hh) hs = grp (Ring.bk 32 k.val) := grp_congr (off29_eq k) _ _
@[sl_canon] theorem grpI (k : Fin k0_t3_loop.trips) (hk : k.val + 4 < 32) (hh hs) :
    aW.slice (Rect.unit (s := S8192x32000) (k0_off34 k) S256x29952.size hh) hs = grp (Ring.bk 32 (k.val + 4)) := grp_congr (off34_eq k hk) _ _

/-! ## The tail: six pieces of rows of the last 2048 columns -/

/-- Piece 0: rows 0 … 3071; where it comes from, where it goes, its semaphore. -/
def tsrc0 : Memref sig .tc .hbm S3072x2048 .fp8e4m3 :=
  aW.slice (Rect.unit (s := S8192x32000) ![0, 29952] S3072x2048.size inb_S8192x32000_S3072x2048_0_29952) (fun _ => rfl)
def tdst0 : Memref sig .tc .vmem S3072x2048 .fp8e4m3 :=
  tbufM.slice (Rect.unit (s := S8192x2048) ![0, 0] S3072x2048.size inb_S8192x2048_S3072x2048_0_0) (fun _ => rfl)
def tsm0 : DmaSems sig S_ := (cc0_scratch20.slice (Rect.unit (s := S6) ![0] S1.size inb_S6_S1_0)).squeeze S_ squeezes_S1_S_
@[sl_canon] theorem tsrcL0 (hh hs) : aW.slice (Rect.unit (s := S8192x32000) ![0, 29952] S3072x2048.size hh) hs = tsrc0 := rfl
@[sl_canon] theorem tdstL0 (hh hs) : tbufM.slice (Rect.unit (s := S8192x2048) ![0, 0] S3072x2048.size hh) hs = tdst0 := rfl
@[sl_canon] theorem tsmL0 (hh) : (cc0_scratch20.slice (Rect.unit (s := S6) ![0] S1.size hh)).squeeze S_ squeezes_S1_S_ = tsm0 := rfl

/-- Piece 1: rows 3072 … 5119; where it comes from, where it goes, its semaphore. -/
def tsrc1 : Memref sig .tc .hbm S2048x2048 .fp8e4m3 :=
  aW.slice (Rect.unit (s := S8192x32000) ![3072, 29952] S2048x2048.size inb_S8192x32000_S2048x2048_3072_29952) (fun _ => rfl)
def tdst1 : Memref sig .tc .vmem S2048x2048 .fp8e4m3 :=
  tbufM.slice (Rect.unit (s := S8192x2048) ![3072, 0] S2048x2048.size inb_S8192x2048_S2048x2048_3072_0) (fun _ => rfl)
def tsm1 : DmaSems sig S_ := (cc0_scratch20.slice (Rect.unit (s := S6) ![1] S1.size inb_S6_S1_1)).squeeze S_ squeezes_S1_S_
@[sl_canon] theorem tsrcL1 (hh hs) : aW.slice (Rect.unit (s := S8192x32000) ![3072, 29952] S2048x2048.size hh) hs = tsrc1 := rfl
@[sl_canon] theorem tdstL1 (hh hs) : tbufM.slice (Rect.unit (s := S8192x2048) ![3072, 0] S2048x2048.size hh) hs = tdst1 := rfl
@[sl_canon] theorem tsmL1 (hh) : (cc0_scratch20.slice (Rect.unit (s := S6) ![1] S1.size hh)).squeeze S_ squeezes_S1_S_ = tsm1 := rfl

/-- Piece 2: rows 5120 … 6143; where it comes from, where it goes, its semaphore. -/
def tsrc2 : Memref sig .tc .hbm S1024x2048 .fp8e4m3 :=
  aW.slice (Rect.unit (s := S8192x32000) ![5120, 29952] S1024x2048.size inb_S8192x32000_S1024x2048_5120_29952) (fun _ => rfl)
def tdst2 : Memref sig .tc .vmem S1024x2048 .fp8e4m3 :=
  tbufM.slice (Rect.unit (s := S8192x2048) ![5120, 0] S1024x2048.size inb_S8192x2048_S1024x2048_5120_0) (fun _ => rfl)
def tsm2 : DmaSems sig S_ := (cc0_scratch20.slice (Rect.unit (s := S6) ![2] S1.size inb_S6_S1_2)).squeeze S_ squeezes_S1_S_
@[sl_canon] theorem tsrcL2 (hh hs) : aW.slice (Rect.unit (s := S8192x32000) ![5120, 29952] S1024x2048.size hh) hs = tsrc2 := rfl
@[sl_canon] theorem tdstL2 (hh hs) : tbufM.slice (Rect.unit (s := S8192x2048) ![5120, 0] S1024x2048.size hh) hs = tdst2 := rfl
@[sl_canon] theorem tsmL2 (hh) : (cc0_scratch20.slice (Rect.unit (s := S6) ![2] S1.size hh)).squeeze S_ squeezes_S1_S_ = tsm2 := rfl

/-- Piece 3: rows 6144 … 7167; where it comes from, where it goes, its semaphore. -/
def tsrc3 : Memref sig .tc .hbm S1024x2048 .fp8e4m3 :=
  aW.slice (Rect.unit (s := S8192x32000) ![6144, 29952] S1024x2048.size inb_S8192x32000_S1024x2048_6144_29952) (fun _ => rfl)
def tdst3 : Memref sig .tc .vmem S1024x2048 .fp8e4m3 :=
  tbufM.slice (Rect.unit (s := S8192x2048) ![6144, 0] S1024x2048.size inb_S8192x2048_S1024x2048_6144_0) (fun _ => rfl)
def tsm3 : DmaSems sig S_ := (cc0_scratch20.slice (Rect.unit (s := S6) ![3] S1.size inb_S6_S1_3)).squeeze S_ squeezes_S1_S_
@[sl_canon] theorem tsrcL3 (hh hs) : aW.slice (Rect.unit (s := S8192x32000) ![6144, 29952] S1024x2048.size hh) hs = tsrc3 := rfl
@[sl_canon] theorem tdstL3 (hh hs) : tbufM.slice (Rect.unit (s := S8192x2048) ![6144, 0] S1024x2048.size hh) hs = tdst3 := rfl
@[sl_canon] theorem tsmL3 (hh) : (cc0_scratch20.slice (Rect.unit (s := S6) ![3] S1.size hh)).squeeze S_ squeezes_S1_S_ = tsm3 := rfl

/-- Piece 4: rows 7168 … 7679; where it comes from, where it goes, its semaphore. -/
def tsrc4 : Memref sig .tc .hbm S512x2048 .fp8e4m3 :=
  aW.slice (Rect.unit (s := S8192x32000) ![7168, 29952] S512x2048.size inb_S8192x32000_S512x2048_7168_29952) (fun _ => rfl)
def tdst4 : Memref sig .tc .vmem S512x2048 .fp8e4m3 :=
  tbufM.slice (Rect.unit (s := S8192x2048) ![7168, 0] S512x2048.size inb_S8192x2048_S512x2048_7168_0) (fun _ => rfl)
def tsm4 : DmaSems sig S_ := (cc0_scratch20.slice (Rect.unit (s := S6) ![4] S1.size inb_S6_S1_4)).squeeze S_ squeezes_S1_S_
@[sl_canon] theorem tsrcL4 (hh hs) : aW.slice (Rect.unit (s := S8192x32000) ![7168, 29952] S512x2048.size hh) hs = tsrc4 := rfl
@[sl_canon] theorem tdstL4 (hh hs) : tbufM.slice (Rect.unit (s := S8192x2048) ![7168, 0] S512x2048.size hh) hs = tdst4 := rfl
@[sl_canon] theorem tsmL4 (hh) : (cc0_scratch20.slice (Rect.unit (s := S6) ![4] S1.size hh)).squeeze S_ squeezes_S1_S_ = tsm4 := rfl

/-- Piece 5: rows 7680 … 8191; where it comes from, where it goes, its semaphore. -/
def tsrc5 : Memref sig .tc .hbm S512x2048 .fp8e4m3 :=
  aW.slice (Rect.unit (s := S8192x32000) ![7680, 29952] S512x2048.size inb_S8192x32000_S512x2048_7680_29952) (fun _ => rfl)
def tdst5 : Memref sig .tc .vmem S512x2048 .fp8e4m3 :=
  tbufM.slice (Rect.unit (s := S8192x2048) ![7680, 0] S512x2048.size inb_S8192x2048_S512x2048_7680_0) (fun _ => rfl)
def tsm5 : DmaSems sig S_ := (cc0_scratch20.slice (Rect.unit (s := S6) ![5] S1.size inb_S6_S1_5)).squeeze S_ squeezes_S1_S_
@[sl_canon] theorem tsrcL5 (hh hs) : aW.slice (Rect.unit (s := S8192x32000) ![7680, 29952] S512x2048.size hh) hs = tsrc5 := rfl
@[sl_canon] theorem tdstL5 (hh hs) : tbufM.slice (Rect.unit (s := S8192x2048) ![7680, 0] S512x2048.size hh) hs = tdst5 := rfl
@[sl_canon] theorem tsmL5 (hh) : (cc0_scratch20.slice (Rect.unit (s := S6) ![5] S1.size hh)).squeeze S_ squeezes_S1_S_ = tsm5 := rfl

end Cert.Proof.KernelIdeal

end
-- ==== Proof.KernelIdeal.Ring.lean ====
/- One trip of the loop over the ring of the weights, and the loop's invariant.

   Trip `k` waits for block `k` of the weights in slot `k % 4`, adds the product of the matching 256 columns of
   the activations with it to the logits' first 29952 columns, then starts block `k + 4` into the same slot; trip
   28 starts the tail's six pieces instead; trips 29 to 31 start nothing. -/
module

public import proofs.«01_k».proof.Proof.KernelIdeal.Names

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev xbufM : Memref sig .tc .vmem S32x8192 .fp8e4m3 := Memref.whole cc0_scratch3
abbrev zbufM : Memref sig .tc .vmem S6x32000 .f32 := Memref.whole cc0_scratch8

section Pieces
variable (c : Dev nD) (XA : Buf (Elt F) (aW.view.loc (c : Thread nD τ)))

/-- Slot `s`'s semaphore at zero. -/
abbrev cellP (s : Fin 4) : sProp 𝕄 := semVal ((c : Thread nD τ), SemLoc.dma (csm s).sem) 0
/-- Slot `s` held at `f`. -/
abbrev slotP (s : Fin 4) (f : Buf (Elt F) ((rslot s).view.loc (c : Thread nD τ))) : sProp 𝕄 :=
  (rslot s).view.loc (c : Thread nD τ) ↦[(rslot s).view.set]{fullShare} f
/-- Block `b` at home: held at the weights' contents. -/
abbrev homeP (b : Fin 32) : sProp 𝕄 := (grp b).view.loc (c : Thread nD τ) ↦[(grp b).view.set]{fullShare} XA
/-- Block `b`'s words as a slot's payload. -/
abbrev payload (b : Fin 32) : S256x29952.Idx → Elt F .fp8e4m3 := ReadAs.same.apply ((grp b).view.read (Elt F) XA)
/-- What block `b`'s transfer leaves in slot `s` over `f`. -/
abbrev landed (s : Fin 4) (b : Fin 32) (f : Buf (Elt F) ((rslot s).view.loc (c : Thread nD τ))) : Buf (Elt F) ((rslot s).view.loc (c : Thread nD τ)) :=
  (rslot s).view.writes (Elt F) f [⟨Rect.whole S256x29952, payload c XA b⟩]
/-- The units a block's transfer moves on its semaphore. -/
abbrev NN : ℕ := 239616
/-- Slot `s` in flight with block `b`, issued over `f`. -/
abbrev flightP (s : Fin 4) (b : Fin 32) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- The flight trip `k` issues, as the run states it, is `flightP` over the slot as the previous block left it. -/
theorem flightP_after (s : Fin 4) (b b' : Fin 32) :
    flightP c XA s b' ((rslot s).view.writes (Elt F) (rslot s).view.junk [⟨Rect.whole S256x29952, payload c XA b⟩])
      = Transfers.Flight countersEmb (c : Thread nD τ) (SemLoc.dma (csm s).sem) () NN
          iprop(((rslot s).view.loc (c : Thread nD τ) ↦[(rslot s).view.set]{fullShare}
                  (rslot s).view.writes (Elt F) (rslot s).view.junk [⟨Rect.whole S256x29952, payload c XA b'⟩, ⟨Rect.whole S256x29952, payload c XA b⟩])
                ∗ homeP c XA b') := by
  simp only [flightP, landed, slotP, NN, View.writes]

/-- Piece 0: its rows at home, its window of the tail's buffer at anything, its semaphore at zero; and in flight. -/
abbrev thome0 : sProp 𝕄 := tsrc0.view.loc (c : Thread nD τ) ↦[tsrc0.view.set]{fullShare} XA
abbrev tslot0 (f : Buf (Elt F) (tdst0.view.loc (c : Thread nD τ))) : sProp 𝕄 := tdst0.view.loc (c : Thread nD τ) ↦[tdst0.view.set]{fullShare} f
abbrev tcell0 : sProp 𝕄 := semVal ((c : Thread nD τ), SemLoc.dma tsm0.sem) 0
abbrev tland0 (f : Buf (Elt F) (tdst0.view.loc (c : Thread nD τ))) : Buf (Elt F) (tdst0.view.loc (c : Thread nD τ)) :=
  tdst0.view.writes (Elt F) f [⟨Rect.whole S3072x2048, ReadAs.same.apply (tsrc0.view.read (Elt F) XA)⟩]
abbrev tflight0 (f : Buf (Elt F) (tdst0.view.loc (c : Thread nD τ))) : sProp 𝕄 :=
  Transfers.Flight countersEmb (c : Thread nD τ) (SemLoc.dma tsm0.sem) () 196608 iprop(tslot0 c (tland0 c XA f) ∗ thome0 c XA)

/-- Piece 1: its rows at home, its window of the tail's buffer at anything, its semaphore at zero; and in flight. -/
abbrev thome1 : sProp 𝕄 := tsrc1.view.loc (c : Thread nD τ) ↦[tsrc1.view.set]{fullShare} XA
abbrev tslot1 (f : Buf (Elt F) (tdst1.view.loc (c : Thread nD τ))) : sProp 𝕄 := tdst1.view.loc (c : Thread nD τ) ↦[tdst1.view.set]{fullShare} f
abbrev tcell1 : sProp 𝕄 := semVal ((c : Thread nD τ), SemLoc.dma tsm1.sem) 0
abbrev tland1 (f : Buf (Elt F) (tdst1.view.loc (c : Thread nD τ))) : Buf (Elt F) (tdst1.view.loc (c : Thread nD τ)) :=
  tdst1.view.writes (Elt F) f [⟨Rect.whole S2048x2048, ReadAs.same.apply (tsrc1.view.read (Elt F) XA)⟩]
abbrev tflight1 (f : Buf (Elt F) (tdst1.view.loc (c : Thread nD τ))) : sProp 𝕄 :=
  Transfers.Flight countersEmb (c : Thread nD τ) (SemLoc.dma tsm1.sem) () 131072 iprop(tslot1 c (tland1 c XA f) ∗ thome1 c XA)

/-- Piece 2: its rows at home, its window of the tail's buffer at anything, its semaphore at zero; and in flight. -/
abbrev thome2 : sProp 𝕄 := tsrc2.view.loc (c : Thread nD τ) ↦[tsrc2.view.set]{fullShare} XA
abbrev tslot2 (f : Buf (Elt F) (tdst2.view.loc (c : Thread nD τ))) : sProp 𝕄 := tdst2.view.loc (c : Thread nD τ) ↦[tdst2.view.set]{fullShare} f
abbrev tcell2 : sProp 𝕄 := semVal ((c : Thread nD τ), SemLoc.dma tsm2.sem) 0
abbrev tland2 (f : Buf (Elt F) (tdst2.view.loc (c : Thread nD τ))) : Buf (Elt F) (tdst2.view.loc (c : Thread nD τ)) :=
  tdst2.view.writes (Elt F) f [⟨Rect.whole S1024x2048, ReadAs.same.apply (tsrc2.view.read (Elt F) XA)⟩]
abbrev tflight2 (f : Buf (Elt F) (tdst2.view.loc (c : Thread nD τ))) : sProp 𝕄 :=
  Transfers.Flight countersEmb (c : Thread nD τ) (SemLoc.dma tsm2.sem) () 65536 iprop(tslot2 c (tland2 c XA f) ∗ thome2 c XA)

/-- Piece 3: its rows at home, its window of the tail's buffer at anything, its semaphore at zero; and in flight. -/
abbrev thome3 : sProp 𝕄 := tsrc3.view.loc (c : Thread nD τ) ↦[tsrc3.view.set]{fullShare} XA
abbrev tslot3 (f : Buf (Elt F) (tdst3.view.loc (c : Thread nD τ))) : sProp 𝕄 := tdst3.view.loc (c : Thread nD τ) ↦[tdst3.view.set]{fullShare} f
abbrev tcell3 : sProp 𝕄 := semVal ((c : Thread nD τ), SemLoc.dma tsm3.sem) 0
abbrev tland3 (f : Buf (Elt F) (tdst3.view.loc (c : Thread nD τ))) : Buf (Elt F) (tdst3.view.loc (c : Thread nD τ)) :=
  tdst3.view.writes (Elt F) f [⟨Rect.whole S1024x2048, ReadAs.same.apply (tsrc3.view.read (Elt F) XA)⟩]
abbrev tflight3 (f : Buf (Elt F) (tdst3.view.loc (c : Thread nD τ))) : sProp 𝕄 :=
  Transfers.Flight countersEmb (c : Thread nD τ) (SemLoc.dma tsm3.sem) () 65536 iprop(tslot3 c (tland3 c XA f) ∗ thome3 c XA)

/-- Piece 4: its rows at home, its window of the tail's buffer at anything, its semaphore at zero; and in flight. -/
abbrev thome4 : sProp 𝕄 := tsrc4.view.loc (c : Thread nD τ) ↦[tsrc4.view.set]{fullShare} XA
abbrev tslot4 (f : Buf (Elt F) (tdst4.view.loc (c : Thread nD τ))) : sProp 𝕄 := tdst4.view.loc (c : Thread nD τ) ↦[tdst4.view.set]{fullShare} f
abbrev tcell4 : sProp 𝕄 := semVal ((c : Thread nD τ), SemLoc.dma tsm4.sem) 0
abbrev tland4 (f : Buf (Elt F) (tdst4.view.loc (c : Thread nD τ))) : Buf (Elt F) (tdst4.view.loc (c : Thread nD τ)) :=
  tdst4.view.writes (Elt F) f [⟨Rect.whole S512x2048, ReadAs.same.apply (tsrc4.view.read (Elt F) XA)⟩]
abbrev tflight4 (f : Buf (Elt F) (tdst4.view.loc (c : Thread nD τ))) : sProp 𝕄 :=
  Transfers.Flight countersEmb (c : Thread nD τ) (SemLoc.dma tsm4.sem) () 32768 iprop(tslot4 c (tland4 c XA f) ∗ thome4 c XA)

/-- Piece 5: its rows at home, its window of the tail's buffer at anything, its semaphore at zero; and in flight. -/
abbrev thome5 : sProp 𝕄 := tsrc5.view.loc (c : Thread nD τ) ↦[tsrc5.view.set]{fullShare} XA
abbrev tslot5 (f : Buf (Elt F) (tdst5.view.loc (c : Thread nD τ))) : sProp 𝕄 := tdst5.view.loc (c : Thread nD τ) ↦[tdst5.view.set]{fullShare} f
abbrev tcell5 : sProp 𝕄 := semVal ((c : Thread nD τ), SemLoc.dma tsm5.sem) 0
abbrev tland5 (f : Buf (Elt F) (tdst5.view.loc (c : Thread nD τ))) : Buf (Elt F) (tdst5.view.loc (c : Thread nD τ)) :=
  tdst5.view.writes (Elt F) f [⟨Rect.whole S512x2048, ReadAs.same.apply (tsrc5.view.read (Elt F) XA)⟩]
abbrev tflight5 (f : Buf (Elt F) (tdst5.view.loc (c : Thread nD τ))) : sProp 𝕄 :=
  Transfers.Flight countersEmb (c : Thread nD τ) (SemLoc.dma tsm5.sem) () 32768 iprop(tslot5 c (tland5 c XA f) ∗ thome5 c XA)

/-- The tail before its pieces are started, and after. -/
def tailHome : sProp 𝕄 := iprop(thome0 c XA ∗ thome1 c XA ∗ thome2 c XA ∗ thome3 c XA ∗ thome4 c XA ∗ thome5 c XA
  ∗ (∃ f, tslot0 c f) ∗ (∃ f, tslot1 c f) ∗ (∃ f, tslot2 c f) ∗ (∃ f, tslot3 c f) ∗ (∃ f, tslot4 c f) ∗ (∃ f, tslot5 c f)
  ∗ tcell0 c ∗ tcell1 c ∗ tcell2 c ∗ tcell3 c ∗ tcell4 c ∗ tcell5 c)
def tailFlying : sProp 𝕄 := iprop((∃ f, tflight0 c XA f) ∗ (∃ f, tflight1 c XA f) ∗ (∃ f, tflight2 c XA f) ∗ (∃ f, tflight3 c XA f) ∗ (∃ f, tflight4 c XA f) ∗ (∃ f, tflight5 c XA f))

end Pieces

section Trip
variable (c : Dev nD) (XA : Buf (Elt F) (aW.view.loc (c : Thread nD τ)))
  (fx : Buf (Elt F) (xbufM.view.loc (c : Thread nD τ)))
  (v87 : FVec F S6x8192 .fp8e4m3)

/-- The activations' buffer and the logits' buffer. -/
abbrev xP : sProp 𝕄 := xbufM.view.loc (c : Thread nD τ) ↦[xbufM.view.set]{fullShare} fx
abbrev zP (fz : Buf (Elt F) (zbufM.view.loc (c : Thread nD τ))) : sProp 𝕄 := zbufM.view.loc (c : Thread nD τ) ↦[zbufM.view.set]{fullShare} fz

abbrev tripG (k : Fin k0_t3_loop.trips) : Prog (TpuEff nD τ sig (Elt F) Λ₀ .tc) Unit :=
  k0_t3_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 k ()

abbrev RZ : Rect S6x32000 := Rect.unit (s := S6x32000) ![0, 0] S6x29952.size inb_S6x32000_S6x29952_0_0

/-- What trip `k` reads from the ring's buffer: block `k`, landed in slot `k % 4`. -/
def slotRd (k : Fin k0_t3_loop.trips) : Vec F S1x256x29952 .fp8e4m3 :=
  wbufM.view.readAt (Elt F) (Rect.unit (s := S4x256x29952) (k0_off31 k) S1x256x29952.size (k0_off31_inb k)).toLoadRect
    ((rslot (Ring.sl 4 k.val)).view.writes (Elt F) (rslot (Ring.sl 4 k.val)).view.junk [⟨Rect.whole S256x29952, payload c XA (Ring.bk 32 k.val)⟩])
/-- What trip `k` stores: the columns' contents so far, plus the product of the trip's activations with the block. -/
def stepW (k : Fin k0_t3_loop.trips) (fz : Buf (Elt F) (zbufM.view.loc (c : Thread nD τ))) : (RZ).shape.Idx → Elt F .f32 :=
  k0_pay92 (xbufM.view.readAt (Elt F) (Rect.unit (s := S32x8192) (k0_off30 k) S32x256.size (k0_off30_inb k)).toLoadRect fx)
    (zbufM.view.readAt (Elt F) (RZ).toLoadRect fz) (slotRd c XA k)

/-- A trip that starts block `k + 4`. -/
theorem tripA (k : Fin k0_t3_loop.trips) (h : k.val < 28) (fz : Buf (Elt F) (zbufM.view.loc (c : Thread nD τ))) (W f) :
    iprop(xP c fx ∗ zP c fz ∗ owes (c : Thread nD τ) 0 W ∗ flightP c XA (Ring.sl 4 k) (Ring.bk 32 k) f ∗ homeP c XA (Ring.bk 32 (k.val + 4)))
      ⊢ wp frame (wpE (defs₀ (F := F)) 𝒱₀ (c : Thread nD τ) none) Set.univ (tripG v87 k)
      (fun _ => iprop(xP c fx ∗ zP c (zbufM.view.writes (Elt F) fz [⟨RZ, stepW c XA fx k fz⟩]) ∗ (∃ W, owes (c : Thread nD τ) 0 W)
        ∗ (∃ f, flightP c XA (Ring.sl 4 k) (Ring.bk 32 (k.val + 4)) f) ∗ homeP c XA (Ring.bk 32 k))) := by
  have hk : k.val + 4 < 32 := by omega
  have hc1 : k0_cond1 k = 1#1 := (cond1_iff k).2 hk
  have hc2 : ¬ (Scalar.cmpi .ne (Scalar.extui (Scalar.cmpi .eq (Scalar.addi (Scf.iv 0#32 1#32 k) 4#32) 32#32) : BitVec 32) 0#32 = 1#1) :=
    fun e => by have := (cond2_iff k).1 e; omega
  iintro ⟨HX, HZ, HW, HF, Hg⟩
  dsimp only [tripG]
  sl_unfold [k0_t3_body]
  sl_exec
  sl_step
  isplitl [HX]; · iexact HX
  isplitl [HZ]; · iexact HZ
  isplitl [HW]; · iexists _; iexact HW
  isplitl [HF]
  · iexists ((rslot (Ring.sl 4 k.val)).view.writes (Elt F) (rslot (Ring.sl 4 k.val)).view.junk [⟨Rect.whole S256x29952, payload c XA (Ring.bk 32 k.val)⟩])
    irw [flightP_after]
    iexact HF
  iexact HF_src

/-- Trip 28: nothing more for the ring, and the tail's six pieces started. -/
theorem tripB (k : Fin k0_t3_loop.trips) (h : k.val = 28) (fz : Buf (Elt F) (zbufM.view.loc (c : Thread nD τ))) (W f) :
    iprop(xP c fx ∗ zP c fz ∗ owes (c : Thread nD τ) 0 W ∗ flightP c XA (Ring.sl 4 k) (Ring.bk 32 k) f ∗ tailHome c XA)
      ⊢ wp frame (wpE (defs₀ (F := F)) 𝒱₀ (c : Thread nD τ) none) Set.univ (tripG v87 k)
      (fun _ => iprop(xP c fx ∗ zP c (zbufM.view.writes (Elt F) fz [⟨RZ, stepW c XA fx k fz⟩]) ∗ (∃ W, owes (c : Thread nD τ) 0 W)
        ∗ ((∃ f, slotP c (Ring.sl 4 k) f) ∗ cellP c (Ring.sl 4 k)) ∗ homeP c XA (Ring.bk 32 k) ∗ tailFlying c XA)) := by
  have hc1 : ¬ (k0_cond1 k = 1#1) := fun e => by have := (cond1_iff k).1 e; omega
  have hc2 : Scalar.cmpi .ne (Scalar.extui (Scalar.cmpi .eq (Scalar.addi (Scf.iv 0#32 1#32 k) 4#32) 32#32) : BitVec 32) 0#32 = 1#1 :=
    (cond2_iff k).2 h
  unfold tailHome tailFlying
  iintro ⟨HX, HZ, HW, HF, Hh0, Hh1, Hh2, Hh3, Hh4, Hh5, ⟨%g0, Hs0⟩, ⟨%g1, Hs1⟩, ⟨%g2, Hs2⟩, ⟨%g3, Hs3⟩, ⟨%g4, Hs4⟩, ⟨%g5, Hs5⟩, Ht0, Ht1, Ht2, Ht3, Ht4, Ht5⟩
  dsimp only [tripG]
  sl_unfold [k0_t3_body]
  sl_exec
  sl_step
  isplitl [HX]; · iexact HX
  isplitl [HZ]; · iexact HZ
  isplitl [HW]; · iexists _; iexact HW
  isplitl [HF HF_dst]
  · isplitl [HF_dst]; · iexists _; iexact HF_dst
    iexact HF
  isplitl [HF_src]; · iexact HF_src
  isplitl [Ht0]; · iexists _; iexact Ht0
  isplitl [Ht1]; · iexists _; iexact Ht1
  isplitl [Ht2]; · iexists _; iexact Ht2
  isplitl [Ht3]; · iexists _; iexact Ht3
  isplitl [Ht4]; · iexists _; iexact Ht4
  iexists _; iexact Ht5

/-- The last three trips start nothing. -/
theorem tripC (k : Fin k0_t3_loop.trips) (h : 28 < k.val) (fz : Buf (Elt F) (zbufM.view.loc (c : Thread nD τ))) (W f) :
    iprop(xP c fx ∗ zP c fz ∗ owes (c : Thread nD τ) 0 W ∗ flightP c XA (Ring.sl 4 k) (Ring.bk 32 k) f)
      ⊢ wp frame (wpE (defs₀ (F := F)) 𝒱₀ (c : Thread nD τ) none) Set.univ (tripG v87 k)
      (fun _ => iprop(xP c fx ∗ zP c (zbufM.view.writes (Elt F) fz [⟨RZ, stepW c XA fx k fz⟩]) ∗ (∃ W, owes (c : Thread nD τ) 0 W)
        ∗ ((∃ f, slotP c (Ring.sl 4 k) f) ∗ cellP c (Ring.sl 4 k)) ∗ homeP c XA (Ring.bk 32 k))) := by
  have hc1 : ¬ (k0_cond1 k = 1#1) := fun e => by have := (cond1_iff k).1 e; omega
  have hc2 : ¬ (Scalar.cmpi .ne (Scalar.extui (Scalar.cmpi .eq (Scalar.addi (Scf.iv 0#32 1#32 k) 4#32) 32#32) : BitVec 32) 0#32 = 1#1) :=
    fun e => by have := (cond2_iff k).1 e; omega
  iintro ⟨HX, HZ, HW, HF⟩
  dsimp only [tripG]
  sl_unfold [k0_t3_body]
  sl_exec
  sl_step
  isplitl [HX]; · iexact HX
  isplitl [HZ]; · iexact HZ
  isplitl [HW]; · iexists _; iexact HW
  isplitl [HF HF_dst]
  · isplitl [HF_dst]; · iexists _; iexact HF_dst
    iexact HF
  iexact HF_src

/-! ## The loop's invariant -/

/-- The logits' buffer before trip `k`, from `z0` at the loop's entry. -/
def zAt (z0 : Buf (Elt F) (zbufM.view.loc (c : Thread nD τ))) : ℕ → Buf (Elt F) (zbufM.view.loc (c : Thread nD τ))
  | 0 => z0
  | k + 1 => if h : k < k0_t3_loop.trips then zbufM.view.writes (Elt F) (zAt z0 k) [⟨RZ, stepW c XA fx ⟨k, h⟩ (zAt z0 k)⟩] else zAt z0 k

/-- Block `j`'s slot: in flight with the block, or free when there is no such block. -/
def roleP (j : ℕ) : sProp 𝕄 :=
  if j < 32 then iprop(∃ f, flightP c XA (Ring.sl 4 j) (Ring.bk 32 j) f) else iprop((∃ f, slotP c (Ring.sl 4 j) f) ∗ cellP c (Ring.sl 4 j))
/-- The tail before trip `k`: started by trip 28. -/
def tailSt (k : ℕ) : sProp 𝕄 := if k ≤ 28 then tailHome c XA else tailFlying c XA

/-- Everything the loop touches, before trip `k`. -/
def ringSt (z0 : Buf (Elt F) (zbufM.view.loc (c : Thread nD τ))) (k : ℕ) : sProp 𝕄 :=
  iprop(xP c fx ∗ zP c (zAt c XA fx z0 k) ∗ (∃ W, owes (c : Thread nD τ) 0 W) ∗ bigSep (Ring.homeSet 4 k) (homeP c XA)
    ∗ roleP c XA k ∗ roleP c XA (k + 1) ∗ roleP c XA (k + 2) ∗ roleP c XA (k + 3) ∗ tailSt c XA k)

theorem roleP_lt {j : ℕ} (h : j < 32) : roleP c XA j = iprop(∃ f, flightP c XA (Ring.sl 4 j) (Ring.bk 32 j) f) := by
  unfold roleP; rw [if_pos h]
theorem roleP_ge {j : ℕ} (h : 32 ≤ j) : roleP c XA j = iprop((∃ f, slotP c (Ring.sl 4 j) f) ∗ cellP c (Ring.sl 4 j)) := by
  unfold roleP; rw [if_neg (by omega)]
theorem homes_here (k : ℕ) (hk : k + 4 < 32) :
    bigSep (Ring.homeSet 4 k) (homeP c XA) = iprop(homeP c XA (Ring.bk 32 (k + 4)) ∗ bigSep ((Ring.homeSet 4 k).erase (Ring.bk 32 (k + 4))) (homeP c XA)) := by
  conv_lhs => rw [Ring.homeSet_out 4 k hk, bigSep_insert (Ring.bkL_not_mem_erase 4 k)]
  rfl
theorem homes_next (k : ℕ) (hk : k + 4 < 32) :
    bigSep (Ring.homeSet 4 (k + 1)) (homeP c XA) = iprop(homeP c XA (Ring.bk 32 k) ∗ bigSep ((Ring.homeSet 4 k).erase (Ring.bk 32 (k + 4))) (homeP c XA)) := by
  conv_lhs => rw [Ring.homeSet_succ 4 k hk, bigSep_insert (Ring.bk_not_mem_erase 4 k (by omega) (by decide))]
  rfl
theorem homes_tail (k : ℕ) (hk : 32 ≤ k + 4) (hk' : k < 32) :
    bigSep (Ring.homeSet 4 (k + 1)) (homeP c XA) = iprop(homeP c XA (Ring.bk 32 k) ∗ bigSep (Ring.homeSet 4 k) (homeP c XA)) := by
  conv_lhs => rw [Ring.homeSet_succ_tail 4 k hk hk', bigSep_insert (Ring.bk_not_mem_homeSet 4 k hk' (by decide))]
  rfl

/-- One trip takes the state before it to the state before the next. -/
theorem ringStep (z0 : Buf (Elt F) (zbufM.view.loc (c : Thread nD τ))) (k : Fin k0_t3_loop.trips) :
    ringSt c XA fx z0 k ⊢ wp frame (wpE (defs₀ (F := F)) 𝒱₀ (c : Thread nD τ) none) Set.univ (tripG v87 k) (fun _ => ringSt c XA fx z0 (k.val + 1)) := by
  have hk32 := trips3_le k
  have ez : zAt c XA fx z0 (k.val + 1) = zbufM.view.writes (Elt F) (zAt c XA fx z0 k) [⟨RZ, stepW c XA fx k (zAt c XA fx z0 k)⟩] := by
    rw [zAt, dif_pos k.isLt]
  have esl : Ring.sl 4 (k.val + 4) = Ring.sl 4 k.val := Ring.sl_add 4 k.val
  unfold ringSt
  rw [ez, show k.val + 1 + 1 = k.val + 2 from rfl, show k.val + 1 + 2 = k.val + 3 from rfl, show k.val + 1 + 3 = k.val + 4 from rfl,
    roleP_lt c XA hk32]
  rcases Nat.lt_trichotomy k.val 28 with h | h | h
  · rw [homes_here c XA k.val (by omega), homes_next c XA k.val (by omega), roleP_lt c XA (show k.val + 4 < 32 by omega), esl,
      show tailSt c XA (k.val + 1) = tailSt c XA k.val by unfold tailSt; rw [if_pos (by omega), if_pos (by omega)]]
    iintro ⟨HX, HZ, ⟨%W, HW⟩, ⟨Hg, Hr⟩, ⟨%f, HF⟩, H1, H2, H3, HT⟩
    iapply (wp_wand_r Idealize.ShloMosaic.frame (wpE (defs₀ (F := F)) 𝒱₀ (c : Thread nD τ) none) Set.univ)
    isplitl [HX HZ HW Hg HF]
    · iapply (tripA c XA fx v87 k h _ W f)
      isplitl [HX]; · iexact HX
      isplitl [HZ]; · iexact HZ
      isplitl [HW]; · iexact HW
      isplitl [HF]; · iexact HF
      iexact Hg
    · iintro %_ ⟨HX, HZ, HW, HF, Hg⟩
      isplitl [HX]; · iexact HX
      isplitl [HZ]; · iexact HZ
      isplitl [HW]; · iexact HW
      isplitl [Hg Hr]
      · isplitl [Hg]; · iexact Hg
        iexact Hr
      isplitl [H1]; · iexact H1
      isplitl [H2]; · iexact H2
      isplitl [H3]; · iexact H3
      isplitl [HF]; · iexact HF
      iexact HT
  · rw [homes_tail c XA k.val (by omega) hk32, roleP_ge c XA (show 32 ≤ k.val + 4 by omega), esl,
      show tailSt c XA (k.val + 1) = tailFlying c XA by unfold tailSt; rw [if_neg (by omega)],
      show tailSt c XA k.val = tailHome c XA by unfold tailSt; rw [if_pos (by omega)]]
    iintro ⟨HX, HZ, ⟨%W, HW⟩, Hr, ⟨%f, HF⟩, H1, H2, H3, HT⟩
    iapply (wp_wand_r Idealize.ShloMosaic.frame (wpE (defs₀ (F := F)) 𝒱₀ (c : Thread nD τ) none) Set.univ)
    isplitl [HX HZ HW HT HF]
    · iapply (tripB c XA fx v87 k h _ W f)
      isplitl [HX]; · iexact HX
      isplitl [HZ]; · iexact HZ
      isplitl [HW]; · iexact HW
      isplitl [HF]; · iexact HF
      iexact HT
    · iintro %_ ⟨HX, HZ, HW, HF, Hg, HT⟩
      isplitl [HX]; · iexact HX
      isplitl [HZ]; · iexact HZ
      isplitl [HW]; · iexact HW
      isplitl [Hg Hr]
      · isplitl [Hg]; · iexact Hg
        iexact Hr
      isplitl [H1]; · iexact H1
      isplitl [H2]; · iexact H2
      isplitl [H3]; · iexact H3
      isplitl [HF]; · iexact HF
      iexact HT
  · rw [homes_tail c XA k.val (by omega) hk32, roleP_ge c XA (show 32 ≤ k.val + 4 by omega), esl,
      show tailSt c XA (k.val + 1) = tailSt c XA k.val by unfold tailSt; rw [if_neg (by omega), if_neg (by omega)]]
    iintro ⟨HX, HZ, ⟨%W, HW⟩, Hr, ⟨%f, HF⟩, H1, H2, H3, HT⟩
    iapply (wp_wand_r Idealize.ShloMosaic.frame (wpE (defs₀ (F := F)) 𝒱₀ (c : Thread nD τ) none) Set.univ)
    isplitl [HX HZ HW HF]
    · iapply (tripC c XA fx v87 k h _ W f)
      isplitl [HX]; · iexact HX
      isplitl [HZ]; · iexact HZ
      isplitl [HW]; · iexact HW
      iexact HF
    · iintro %_ ⟨HX, HZ, HW, HF, Hg⟩
      isplitl [HX]; · iexact HX
      isplitl [HZ]; · iexact HZ
      isplitl [HW]; · iexact HW
      isplitl [Hg Hr]
      · isplitl [Hg]; · iexact Hg
        iexact Hr
      isplitl [H1]; · iexact H1
      isplitl [H2]; · iexact H2
      isplitl [H3]; · iexact H3
      isplitl [HF]; · iexact HF
      iexact HT

/-- The state at the loop's entry, slot by slot. -/
abbrev ringEntry (z0 : Buf (Elt F) (zbufM.view.loc (c : Thread nD τ))) : sProp 𝕄 :=
  iprop(xP c fx ∗ zP c z0 ∗ (∃ W, owes (c : Thread nD τ) 0 W) ∗ bigSep (Ring.homeSet 4 0) (homeP c XA)
    ∗ (∃ f, flightP c XA 0 0 f) ∗ (∃ f, flightP c XA 1 1 f) ∗ (∃ f, flightP c XA 2 2 f) ∗ (∃ f, flightP c XA 3 3 f)
    ∗ thome0 c XA ∗ thome1 c XA ∗ thome2 c XA ∗ thome3 c XA ∗ thome4 c XA ∗ thome5 c XA
    ∗ (∃ f, tslot0 c f) ∗ (∃ f, tslot1 c f) ∗ (∃ f, tslot2 c f) ∗ (∃ f, tslot3 c f) ∗ (∃ f, tslot4 c f) ∗ (∃ f, tslot5 c f)
    ∗ tcell0 c ∗ tcell1 c ∗ tcell2 c ∗ tcell3 c ∗ tcell4 c ∗ tcell5 c)
/-- The state at its exit: every block home, every slot free, the tail in flight. -/
abbrev ringExit (z0 : Buf (Elt F) (zbufM.view.loc (c : Thread nD τ))) : sProp 𝕄 :=
  iprop(xP c fx ∗ zP c (zAt c XA fx z0 32) ∗ (∃ W, owes (c : Thread nD τ) 0 W) ∗ bigSep Finset.univ (homeP c XA)
    ∗ (∃ f, slotP c 0 f) ∗ (∃ f, slotP c 1 f) ∗ (∃ f, slotP c 2 f) ∗ (∃ f, slotP c 3 f) ∗ cellP c 0 ∗ cellP c 1 ∗ cellP c 2 ∗ cellP c 3
    ∗ (∃ f, tflight0 c XA f) ∗ (∃ f, tflight1 c XA f) ∗ (∃ f, tflight2 c XA f) ∗ (∃ f, tflight3 c XA f) ∗ (∃ f, tflight4 c XA f) ∗ (∃ f, tflight5 c XA f))

theorem ringEntry_st (z0 : Buf (Elt F) (zbufM.view.loc (c : Thread nD τ))) : ringEntry c XA fx z0 ⊢ ringSt c XA fx z0 0 := by
  unfold ringSt
  rw [roleP_lt c XA (show 0 < 32 by decide), roleP_lt c XA (show 0 + 1 < 32 by decide), roleP_lt c XA (show 0 + 2 < 32 by decide), roleP_lt c XA (show 0 + 3 < 32 by decide),
    show tailSt c XA 0 = tailHome c XA by unfold tailSt; rw [if_pos (by omega)],
    show Ring.sl 4 0 = 0 by decide, show Ring.sl 4 (0 + 1) = 1 by decide, show Ring.sl 4 (0 + 2) = 2 by decide, show Ring.sl 4 (0 + 3) = 3 by decide,
    show Ring.bk 32 0 = 0 by decide, show Ring.bk 32 (0 + 1) = 1 by decide, show Ring.bk 32 (0 + 2) = 2 by decide, show Ring.bk 32 (0 + 3) = 3 by decide]
  unfold tailHome zAt
  exact .rfl

theorem ringExit_st (z0 : Buf (Elt F) (zbufM.view.loc (c : Thread nD τ))) : ringSt c XA fx z0 32 ⊢ ringExit c XA fx z0 := by
  unfold ringSt
  rw [roleP_ge c XA (show 32 ≤ 32 by decide), roleP_ge c XA (show 32 ≤ 32 + 1 by decide), roleP_ge c XA (show 32 ≤ 32 + 2 by decide), roleP_ge c XA (show 32 ≤ 32 + 3 by decide),
    show tailSt c XA 32 = tailFlying c XA by unfold tailSt; rw [if_neg (by omega)], Ring.homeSet_last 4 32 (by omega),
    show Ring.sl 4 32 = 0 by decide, show Ring.sl 4 (32 + 1) = 1 by decide, show Ring.sl 4 (32 + 2) = 2 by decide, show Ring.sl 4 (32 + 3) = 3 by decide]
  unfold tailFlying
  iintro ⟨HX, HZ, HW, Hr, ⟨H0, C0⟩, ⟨H1, C1⟩, ⟨H2, C2⟩, ⟨H3, C3⟩, HT⟩
  isplitl [HX]; · iexact HX
  isplitl [HZ]; · iexact HZ
  isplitl [HW]; · iexact HW
  isplitl [Hr]; · iexact Hr
  isplitl [H0]; · iexact H0
  isplitl [H1]; · iexact H1
  isplitl [H2]; · iexact H2
  isplitl [H3]; · iexact H3
  isplitl [C0]; · iexact C0
  isplitl [C1]; · iexact C1
  isplitl [C2]; · iexact C2
  isplitl [C3]; · iexact C3
  iexact HT

/-- The invariant: the entry state before the first trip, then the state slot by slot. -/
def ringInv (z0 : Buf (Elt F) (zbufM.view.loc (c : Thread nD τ))) : ℕ → sProp 𝕄
  | 0 => ringEntry c XA fx z0
  | k + 1 => ringSt c XA fx z0 (k + 1)

theorem ringInv_st (z0 : Buf (Elt F) (zbufM.view.loc (c : Thread nD τ))) : ∀ k, ringInv c XA fx z0 k ⊢ ringSt c XA fx z0 k
  | 0 => ringEntry_st c XA fx z0
  | k + 1 => .rfl

set_option warn.classDefReducibility false in
@[sl_loop] def loopInv3 (z0 : Buf (Elt F) (zbufM.view.loc (c : Thread nD τ))) :
    LoopInvTy_k0_t3 (F := F) Unit ℕ UU ℕ 𝒱₀ c none Set.univ (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 where
  inv k _ := ringInv c XA fx z0 k
  step k _ := (ringInv_st c XA fx z0 k).trans (ringStep c XA fx v87 z0 k)

instance loopExit3 (z0 : Buf (Elt F) (zbufM.view.loc (c : Thread nD τ))) : LoopExit (loopInv3 c XA fx v87 z0) where
  post _ := ringExit c XA fx z0
  exit _ := by
    show ringInv c XA fx z0 (Scf.trips _ _ _) ⊢ _
    rw [show Scf.trips k0_t3_loop.lb k0_t3_loop.ub k0_t3_loop.st = 32 by decide]
    exact ringExit_st c XA fx z0

end Trip
end Cert.Proof.KernelIdeal
end
-- ==== Proof.KernelIdeal.Loops.lean ====
/- The three loops that touch no transfer: the counts of the history (6 trips), the bias (36 trips) and the
   finish of the logits' first 29952 columns (13 trips, carrying the running maximum and sum of each lane).

   For each: one trip, run at any state of the buffer it writes, with what it writes named; the buffer before trip
   `k`; and the loop's invariant. -/
module

public import proofs.«01_k».proof.Proof.KernelIdeal.Ring

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev wsM : Memref sig .tc .vmem S250x128 .f32 := Memref.whole cc0_scratch4
abbrev histM : Memref sig .tc .vmem S6x4096 .i32 := Memref.whole cc0_scratch5
abbrev cntM : Memref sig .tc .vmem S2048x128 .f32 := Memref.whole cc0_scratch6
abbrev biasM : Memref sig .tc .vmem S2048x128 .f32 := Memref.whole cc0_scratch7
abbrev hlenM : Memref sig .tc .smem S6 .i32 := Memref.whole cc0_scratch12
abbrev bidM : Memref sig .tc .smem S6x36 .i32 := Memref.whole cc0_scratch17
abbrev bvalM : Memref sig .tc .smem S6x36 .f32 := Memref.whole cc0_scratch18

section Held
variable (c : Dev nD)
abbrev wsP (f : Buf (Elt F) (wsM.view.loc (c : Thread nD τ))) : sProp 𝕄 := wsM.view.loc (c : Thread nD τ) ↦[wsM.view.set]{fullShare} f
abbrev histP (f : Buf (Elt F) (histM.view.loc (c : Thread nD τ))) : sProp 𝕄 := histM.view.loc (c : Thread nD τ) ↦[histM.view.set]{fullShare} f
abbrev cntP (f : Buf (Elt F) (cntM.view.loc (c : Thread nD τ))) : sProp 𝕄 := cntM.view.loc (c : Thread nD τ) ↦[cntM.view.set]{fullShare} f
abbrev biasP (f : Buf (Elt F) (biasM.view.loc (c : Thread nD τ))) : sProp 𝕄 := biasM.view.loc (c : Thread nD τ) ↦[biasM.view.set]{fullShare} f
abbrev hlenP (f : Buf (Elt F) (hlenM.view.loc (c : Thread nD τ))) : sProp 𝕄 := hlenM.view.loc (c : Thread nD τ) ↦[hlenM.view.set]{fullShare} f
abbrev bidP (f : Buf (Elt F) (bidM.view.loc (c : Thread nD τ))) : sProp 𝕄 := bidM.view.loc (c : Thread nD τ) ↦[bidM.view.set]{fullShare} f
abbrev bvalP (f : Buf (Elt F) (bvalM.view.loc (c : Thread nD τ))) : sProp 𝕄 := bvalM.view.loc (c : Thread nD τ) ↦[bvalM.view.set]{fullShare} f
end Held

section Count
variable (c : Dev nD) (v87 : FVec F S6x8192 .fp8e4m3)
  (XH : Buf (Elt F) (histM.view.loc (c : Thread nD τ))) (XL : Buf (Elt F) (hlenM.view.loc (c : Thread nD τ)))

/-- The rows trip `k` of the counts writes: every eighth row from row `k`. -/
abbrev RC (k : Fin k0_t1_loop.trips) : Rect S2048x128 := ⟨(⟨k0_off3 k, S256x128.size, ![8, 1], (k0_off3_inb k)⟩ : LoadRect S2048x128), spos_8_1⟩

set_option backward.proofsInPublic true in
/-- One trip of the counts: its rows, written whole. -/
def countTrip (k : Fin k0_t1_loop.trips) :
    { w : (RC k).shape.Idx → Elt F .f32 // ∀ f,
      iprop(histP c XH ∗ hlenP c XL ∗ cntP c f)
      ⊢ wp frame (wpE (defs₀ (F := F)) 𝒱₀ (c : Thread nD τ) none) Set.univ (k0_t1_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 k ())
        (fun _ => iprop(histP c XH ∗ hlenP c XL ∗ cntP c (cntM.view.writes (Elt F) f [⟨RC k, w⟩]))) } := by
  refine ⟨?_, fun f => ?run⟩
  case run =>
    iintro ⟨HH, HL, HC⟩
    sl_unfold [k0_t1_body]
    sl_exec
    sl_step
    isplitl [HH]; · iexact HH
    isplitl [HL]; · iexact HL
    iexact HC

/-- The counts' buffer before trip `k`. -/
def cntAt (f0 : Buf (Elt F) (cntM.view.loc (c : Thread nD τ))) : ℕ → Buf (Elt F) (cntM.view.loc (c : Thread nD τ))
  | 0 => f0
  | k + 1 => if h : k < k0_t1_loop.trips then cntM.view.writes (Elt F) (cntAt f0 k) [⟨RC ⟨k, h⟩, (countTrip c v87 XH XL ⟨k, h⟩).1⟩] else cntAt f0 k

theorem cntAt_succ (f0) (k : Fin k0_t1_loop.trips) :
    cntAt c v87 XH XL f0 (k.val + 1) = cntM.view.writes (Elt F) (cntAt c v87 XH XL f0 k) [⟨RC k, (countTrip c v87 XH XL k).1⟩] := by
  rw [cntAt, dif_pos k.isLt]

set_option warn.classDefReducibility false in
@[sl_loop] def loopInv1 (f0 : Buf (Elt F) (cntM.view.loc (c : Thread nD τ))) :
    LoopInvTy_k0_t1 (F := F) Unit ℕ UU ℕ 𝒱₀ c none Set.univ (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 where
  inv k _ := iprop(histP c XH ∗ hlenP c XL ∗ cntP c (cntAt c v87 XH XL f0 k))
  step k _ := by rw [cntAt_succ]; exact (countTrip c v87 XH XL k).2 _

end Count

section Bias
variable (c : Dev nD) (v87 : FVec F S6x8192 .fp8e4m3) (v94 : IVec S1x128 32)
  (XB : Buf (Elt F) (bidM.view.loc (c : Thread nD τ))) (XV : Buf (Elt F) (bvalM.view.loc (c : Thread nD τ)))

/-- Every bias id addresses a row of the table. -/
def BidOK : Prop := ∀ k : Fin k0_t2_loop.trips,
  k0_chk1 (bidM.view.readAt (Elt F) (Rect.unit (s := S6x36) (k0_off4 k) S1x1.size (k0_off4_inb k)).toLoadRect XB (Shape.Idx.first (numel1_S1x1.symm ▸ Nat.one_pos)))
  ∧ k0_chk2 (bidM.view.readAt (Elt F) (Rect.unit (s := S6x36) (k0_off5 k) S1x1.size (k0_off5_inb k)).toLoadRect XB (Shape.Idx.first (numel1_S1x1.symm ▸ Nat.one_pos)))
  ∧ k0_chk3 (bidM.view.readAt (Elt F) (Rect.unit (s := S6x36) (k0_off6 k) S1x1.size (k0_off6_inb k)).toLoadRect XB (Shape.Idx.first (numel1_S1x1.symm ▸ Nat.one_pos)))
  ∧ k0_chk4 (bidM.view.readAt (Elt F) (Rect.unit (s := S6x36) (k0_off7 k) S1x1.size (k0_off7_inb k)).toLoadRect XB (Shape.Idx.first (numel1_S1x1.symm ▸ Nat.one_pos)))
  ∧ k0_chk5 (bidM.view.readAt (Elt F) (Rect.unit (s := S6x36) (k0_off8 k) S1x1.size (k0_off8_inb k)).toLoadRect XB (Shape.Idx.first (numel1_S1x1.symm ▸ Nat.one_pos)))
  ∧ k0_chk6 (bidM.view.readAt (Elt F) (Rect.unit (s := S6x36) (k0_off9 k) S1x1.size (k0_off9_inb k)).toLoadRect XB (Shape.Idx.first (numel1_S1x1.symm ▸ Nat.one_pos)))

set_option backward.proofsInPublic true in
/-- One trip of the bias: six rows read, changed and written back. -/
def biasTrip (hB : BidOK c XB) (k : Fin k0_t2_loop.trips) :
    { L : Buf (Elt F) (biasM.view.loc (c : Thread nD τ)) → List (View.Piece (Elt F) S2048x128 .f32) // ∀ f,
      iprop(bidP c XB ∗ bvalP c XV ∗ biasP c f)
      ⊢ wp frame (wpE (defs₀ (F := F)) 𝒱₀ (c : Thread nD τ) none) Set.univ (k0_t2_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 v94 k ())
        (fun _ => iprop(bidP c XB ∗ bvalP c XV ∗ biasP c (biasM.view.writes (Elt F) f (L f)))) } := by
  have hk : k.val < 36 := Nat.lt_of_lt_of_le k.isLt k0_t2_abs.2.1
  obtain ⟨h1, h2, h3, h4, h5, h6⟩ := hB k
  refine ⟨?_, fun f => ?run⟩
  case run =>
    iintro ⟨HB, HV, HC⟩
    sl_unfold [k0_t2_body]
    sl_exec
    sl_step
    sl_close

/-- The bias' buffer before trip `k`. -/
def biasAt (hB : BidOK c XB) (f0 : Buf (Elt F) (biasM.view.loc (c : Thread nD τ))) : ℕ → Buf (Elt F) (biasM.view.loc (c : Thread nD τ))
  | 0 => f0
  | k + 1 => if h : k < k0_t2_loop.trips then biasM.view.writes (Elt F) (biasAt hB f0 k) ((biasTrip c v87 v94 XB XV hB ⟨k, h⟩).1 (biasAt hB f0 k)) else biasAt hB f0 k

theorem biasAt_succ (hB : BidOK c XB) (f0) (k : Fin k0_t2_loop.trips) :
    biasAt c v87 v94 XB XV hB f0 (k.val + 1)
      = biasM.view.writes (Elt F) (biasAt c v87 v94 XB XV hB f0 k) ((biasTrip c v87 v94 XB XV hB k).1 (biasAt c v87 v94 XB XV hB f0 k)) := by
  rw [biasAt, dif_pos k.isLt]

set_option warn.classDefReducibility false in
@[sl_loop] def loopInv2 (hB : BidOK c XB) (f0 : Buf (Elt F) (biasM.view.loc (c : Thread nD τ))) :
    LoopInvTy_k0_t2 (F := F) Unit ℕ UU ℕ 𝒱₀ c none Set.univ (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v87 v94 where
  inv k _ := iprop(bidP c XB ∗ bvalP c XV ∗ biasP c (biasAt c v87 v94 XB XV hB f0 k))
  step k _ := by rw [biasAt_succ]; exact (biasTrip c v87 v94 XB XV hB k).2 _

end Bias

section Finish
variable (c : Dev nD) (v125 v152 v179 v201 : FVec F S6x128 .f32) (v203 : IVec S6x128 1) (v205 : FVec F S6x128 .f32)
  (XS : Buf (Elt F) (wsM.view.loc (c : Thread nD τ))) (XC : Buf (Elt F) (cntM.view.loc (c : Thread nD τ))) (XI : Buf (Elt F) (biasM.view.loc (c : Thread nD τ)))

set_option backward.proofsInPublic true in
/-- One trip of the finish: eighteen groups of 128 columns read, finished and written back, the lanes' maximum and
    sum carried on. -/
def finTrip (k : Fin k0_t4_loop.trips) :
    Σ' (R : (FVec F S6x128 .f32 × FVec F S6x128 .f32) → Buf (Elt F) (zbufM.view.loc (c : Thread nD τ)) → FVec F S6x128 .f32 × FVec F S6x128 .f32),
    { L : (FVec F S6x128 .f32 × FVec F S6x128 .f32) → Buf (Elt F) (zbufM.view.loc (c : Thread nD τ)) → List (View.Piece (Elt F) S6x32000 .f32) // ∀ acc f,
      iprop(wsP c XS ∗ cntP c XC ∗ biasP c XI ∗ zP c f)
      ⊢ wp frame (wpE (defs₀ (F := F)) 𝒱₀ (c : Thread nD τ) none) Set.univ (k0_t4_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v125 v152 v179 v201 v203 v205 k acc)
        (fun y => iprop(⌜y = R acc f⌝ ∗ wsP c XS ∗ cntP c XC ∗ biasP c XI ∗ zP c (zbufM.view.writes (Elt F) f (L acc f)))) } := by
  have hk : k.val < 13 := Nat.lt_of_lt_of_le k.isLt k0_t4_abs.2.1
  refine ⟨?_, ?_, fun acc f => ?run⟩
  case run =>
    sl_unfold [k0_t4_body]
    iintro ⟨HS, HC, HI, HZ⟩
    sl_exec
    sl_step
    sl_close

/-- The carried values and the logits' buffer before trip `k`. -/
def finAt (a0 : FVec F S6x128 .f32 × FVec F S6x128 .f32) (f0 : Buf (Elt F) (zbufM.view.loc (c : Thread nD τ))) : ℕ → (FVec F S6x128 .f32 × FVec F S6x128 .f32) × Buf (Elt F) (zbufM.view.loc (c : Thread nD τ))
  | 0 => (a0, f0)
  | k + 1 => if h : k < k0_t4_loop.trips then
      ((finTrip c v125 v152 v179 v201 v203 v205 XS XC XI ⟨k, h⟩).1 (finAt a0 f0 k).1 (finAt a0 f0 k).2,
        zbufM.view.writes (Elt F) (finAt a0 f0 k).2 ((finTrip c v125 v152 v179 v201 v203 v205 XS XC XI ⟨k, h⟩).2.1 (finAt a0 f0 k).1 (finAt a0 f0 k).2))
    else finAt a0 f0 k

theorem finAt_succ (a0 f0) (k : Fin k0_t4_loop.trips) :
    finAt c v125 v152 v179 v201 v203 v205 XS XC XI a0 f0 (k.val + 1)
      = ((finTrip c v125 v152 v179 v201 v203 v205 XS XC XI k).1 (finAt c v125 v152 v179 v201 v203 v205 XS XC XI a0 f0 k).1 (finAt c v125 v152 v179 v201 v203 v205 XS XC XI a0 f0 k).2,
        zbufM.view.writes (Elt F) (finAt c v125 v152 v179 v201 v203 v205 XS XC XI a0 f0 k).2 ((finTrip c v125 v152 v179 v201 v203 v205 XS XC XI k).2.1 (finAt c v125 v152 v179 v201 v203 v205 XS XC XI a0 f0 k).1 (finAt c v125 v152 v179 v201 v203 v205 XS XC XI a0 f0 k).2)) := by
  rw [finAt, dif_pos k.isLt]

theorem finAt_zero (a0 f0) : finAt c v125 v152 v179 v201 v203 v205 XS XC XI a0 f0 0 = (a0, f0) := rfl

/-- The state before trip `k`. -/
def finSt (a0 : FVec F S6x128 .f32 × FVec F S6x128 .f32) (f0 : Buf (Elt F) (zbufM.view.loc (c : Thread nD τ))) (k : ℕ) (acc : FVec F S6x128 .f32 × FVec F S6x128 .f32) : sProp 𝕄 :=
  iprop(wsP c XS ∗ cntP c XC ∗ biasP c XI
    ∗ zP c (finAt c v125 v152 v179 v201 v203 v205 XS XC XI a0 f0 k).2 ∗ ⌜acc = (finAt c v125 v152 v179 v201 v203 v205 XS XC XI a0 f0 k).1⌝)
/-- The same, written out before the first trip. -/
def finInv (a0 : FVec F S6x128 .f32 × FVec F S6x128 .f32) (f0 : Buf (Elt F) (zbufM.view.loc (c : Thread nD τ))) : ℕ → FVec F S6x128 .f32 × FVec F S6x128 .f32 → sProp 𝕄
  | 0, acc => iprop(wsP c XS ∗ cntP c XC ∗ biasP c XI ∗ zP c f0 ∗ ⌜acc = a0⌝)
  | k + 1, acc => finSt c v125 v152 v179 v201 v203 v205 XS XC XI a0 f0 (k + 1) acc

theorem finInv_eq (a0 f0) (k : ℕ) : finInv c v125 v152 v179 v201 v203 v205 XS XC XI a0 f0 k = finSt c v125 v152 v179 v201 v203 v205 XS XC XI a0 f0 k := by
  cases k with
  | zero => funext acc; unfold finSt; rw [finAt_zero]; rfl
  | succ k => rfl

set_option warn.classDefReducibility false in
@[sl_loop] def loopInv4 (a0 : FVec F S6x128 .f32 × FVec F S6x128 .f32) (f0 : Buf (Elt F) (zbufM.view.loc (c : Thread nD τ))) :
    LoopInvTy_k0_t4 (F := F) Unit ℕ UU ℕ 𝒱₀ c none Set.univ (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 v125 v152 v179 v201 v203 v205 a0 where
  inv k acc := finInv c v125 v152 v179 v201 v203 v205 XS XC XI a0 f0 k acc
  step k acc := by
    rw [finInv_eq, show finInv c v125 v152 v179 v201 v203 v205 XS XC XI a0 f0 (k.val + 1) = finSt c v125 v152 v179 v201 v203 v205 XS XC XI a0 f0 (k.val + 1) from rfl]
    unfold finSt
    iintro ⟨HS, HC, HI, HZ, %hacc⟩
    subst hacc
    iapply (wp_wand_r Idealize.ShloMosaic.frame (wpE (defs₀ (F := F)) 𝒱₀ (c : Thread nD τ) none) Set.univ)
    isplitl [HS HC HI HZ]
    · iapply ((finTrip c v125 v152 v179 v201 v203 v205 XS XC XI k).2.2 _ _)
      isplitl [HS]; · iexact HS
      isplitl [HC]; · iexact HC
      isplitl [HI]; · iexact HI
      iexact HZ
    · iintro %y ⟨%hy, HS, HC, HI, HZ⟩
      rw [finAt_succ]
      isplitl [HS]; · iexact HS
      isplitl [HC]; · iexact HC
      isplitl [HI]; · iexact HI
      isplitl [HZ]; · iexact HZ
      ipureintro; exact hy

end Finish

end Cert.Proof.KernelIdeal
end
-- ==== Proof.KernelIdeal.Body.lean ====
/- The kernel's body, run once: eleven input copies, the counts and the bias, the ring of weight blocks, the finish,
   the tail and the candidates, each output written back.

   `PRE` is what the body starts from, buffer by buffer; `bodyRun` its run, the three outputs named. -/
module

public import proofs.«01_k».proof.Proof.KernelIdeal.Loops
public import Idealize.ShloMosaic.Lib.VecWindow

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

def ism0 : DmaSems sig S_ := (cc0_scratch21.slice (Rect.unit (s := S11) ![0] S1.size inb_S11_S1_0)).squeeze S_ squeezes_S1_S_
@[sl_canon] theorem ismL0 (hh) : (cc0_scratch21.slice (Rect.unit (s := S11) ![0] S1.size hh)).squeeze S_ squeezes_S1_S_ = ism0 := rfl
def ism1 : DmaSems sig S_ := (cc0_scratch21.slice (Rect.unit (s := S11) ![1] S1.size inb_S11_S1_1)).squeeze S_ squeezes_S1_S_
@[sl_canon] theorem ismL1 (hh) : (cc0_scratch21.slice (Rect.unit (s := S11) ![1] S1.size hh)).squeeze S_ squeezes_S1_S_ = ism1 := rfl
def ism2 : DmaSems sig S_ := (cc0_scratch21.slice (Rect.unit (s := S11) ![2] S1.size inb_S11_S1_2)).squeeze S_ squeezes_S1_S_
@[sl_canon] theorem ismL2 (hh) : (cc0_scratch21.slice (Rect.unit (s := S11) ![2] S1.size hh)).squeeze S_ squeezes_S1_S_ = ism2 := rfl
def ism3 : DmaSems sig S_ := (cc0_scratch21.slice (Rect.unit (s := S11) ![3] S1.size inb_S11_S1_3)).squeeze S_ squeezes_S1_S_
@[sl_canon] theorem ismL3 (hh) : (cc0_scratch21.slice (Rect.unit (s := S11) ![3] S1.size hh)).squeeze S_ squeezes_S1_S_ = ism3 := rfl
def ism4 : DmaSems sig S_ := (cc0_scratch21.slice (Rect.unit (s := S11) ![4] S1.size inb_S11_S1_4)).squeeze S_ squeezes_S1_S_
@[sl_canon] theorem ismL4 (hh) : (cc0_scratch21.slice (Rect.unit (s := S11) ![4] S1.size hh)).squeeze S_ squeezes_S1_S_ = ism4 := rfl
def ism5 : DmaSems sig S_ := (cc0_scratch21.slice (Rect.unit (s := S11) ![5] S1.size inb_S11_S1_5)).squeeze S_ squeezes_S1_S_
@[sl_canon] theorem ismL5 (hh) : (cc0_scratch21.slice (Rect.unit (s := S11) ![5] S1.size hh)).squeeze S_ squeezes_S1_S_ = ism5 := rfl
def ism6 : DmaSems sig S_ := (cc0_scratch21.slice (Rect.unit (s := S11) ![6] S1.size inb_S11_S1_6)).squeeze S_ squeezes_S1_S_
@[sl_canon] theorem ismL6 (hh) : (cc0_scratch21.slice (Rect.unit (s := S11) ![6] S1.size hh)).squeeze S_ squeezes_S1_S_ = ism6 := rfl
def ism7 : DmaSems sig S_ := (cc0_scratch21.slice (Rect.unit (s := S11) ![7] S1.size inb_S11_S1_7)).squeeze S_ squeezes_S1_S_
@[sl_canon] theorem ismL7 (hh) : (cc0_scratch21.slice (Rect.unit (s := S11) ![7] S1.size hh)).squeeze S_ squeezes_S1_S_ = ism7 := rfl
def ism8 : DmaSems sig S_ := (cc0_scratch21.slice (Rect.unit (s := S11) ![8] S1.size inb_S11_S1_8)).squeeze S_ squeezes_S1_S_
@[sl_canon] theorem ismL8 (hh) : (cc0_scratch21.slice (Rect.unit (s := S11) ![8] S1.size hh)).squeeze S_ squeezes_S1_S_ = ism8 := rfl
def ism9 : DmaSems sig S_ := (cc0_scratch21.slice (Rect.unit (s := S11) ![9] S1.size inb_S11_S1_9)).squeeze S_ squeezes_S1_S_
@[sl_canon] theorem ismL9 (hh) : (cc0_scratch21.slice (Rect.unit (s := S11) ![9] S1.size hh)).squeeze S_ squeezes_S1_S_ = ism9 := rfl
def ism10 : DmaSems sig S_ := (cc0_scratch21.slice (Rect.unit (s := S11) ![10] S1.size inb_S11_S1_10)).squeeze S_ squeezes_S1_S_
@[sl_canon] theorem ismL10 (hh) : (cc0_scratch21.slice (Rect.unit (s := S11) ![10] S1.size hh)).squeeze S_ squeezes_S1_S_ = ism10 := rfl
def osm0 : DmaSems sig S_ := (cc0_scratch22.slice (Rect.unit (s := S4) ![0] S1.size inb_S4_S1_0)).squeeze S_ squeezes_S1_S_
@[sl_canon] theorem osmL0 (hh) : (cc0_scratch22.slice (Rect.unit (s := S4) ![0] S1.size hh)).squeeze S_ squeezes_S1_S_ = osm0 := rfl
def osm1 : DmaSems sig S_ := (cc0_scratch22.slice (Rect.unit (s := S4) ![1] S1.size inb_S4_S1_1)).squeeze S_ squeezes_S1_S_
@[sl_canon] theorem osmL1 (hh) : (cc0_scratch22.slice (Rect.unit (s := S4) ![1] S1.size hh)).squeeze S_ squeezes_S1_S_ = osm1 := rfl
def osm2 : DmaSems sig S_ := (cc0_scratch22.slice (Rect.unit (s := S4) ![2] S1.size inb_S4_S1_2)).squeeze S_ squeezes_S1_S_
@[sl_canon] theorem osmL2 (hh) : (cc0_scratch22.slice (Rect.unit (s := S4) ![2] S1.size hh)).squeeze S_ squeezes_S1_S_ = osm2 := rfl
def osm3 : DmaSems sig S_ := (cc0_scratch22.slice (Rect.unit (s := S4) ![3] S1.size inb_S4_S1_3)).squeeze S_ squeezes_S1_S_
@[sl_canon] theorem osmL3 (hh) : (cc0_scratch22.slice (Rect.unit (s := S4) ![3] S1.size hh)).squeeze S_ squeezes_S1_S_ = osm3 := rfl
abbrev x6M : Memref sig .tc .vmem S6x8192 .fp8e4m3 := Memref.whole cc0_scratch2
abbrev lseM : Memref sig .tc .vmem S1x6 .f32 := Memref.whole cc0_scratch9
abbrev candM : Memref sig .tc .vmem S4x6 .f32 := Memref.whole cc0_scratch10
abbrev xsM : Memref sig .tc .smem S6 .f32 := Memref.whole cc0_scratch11
abbrev ppM : Memref sig .tc .smem S6 .f32 := Memref.whole cc0_scratch13
abbrev fpM : Memref sig .tc .smem S6 .f32 := Memref.whole cc0_scratch14
abbrev rpM : Memref sig .tc .smem S6 .f32 := Memref.whole cc0_scratch15
abbrev candsM : Memref sig .tc .smem S4x6 .i32 := Memref.whole cc0_scratch16
abbrev a0M : Memref sig .tc .hbm S6x8192 .fp8e4m3 := Memref.whole main_arg0
abbrev a1M : Memref sig .tc .hbm S6 .f32 := Memref.whole main_arg1
abbrev a3M : Memref sig .tc .hbm S250x128 .f32 := Memref.whole main_v0
abbrev a4M : Memref sig .tc .hbm S6x4096 .i32 := Memref.whole main_arg4
abbrev a5M : Memref sig .tc .hbm S6 .i32 := Memref.whole main_arg5
abbrev a6M : Memref sig .tc .hbm S6 .f32 := Memref.whole main_arg6
abbrev a7M : Memref sig .tc .hbm S6 .f32 := Memref.whole main_arg7
abbrev a8M : Memref sig .tc .hbm S6 .f32 := Memref.whole main_arg8
abbrev a9M : Memref sig .tc .hbm S4x6 .i32 := Memref.whole main_v1
abbrev a10M : Memref sig .tc .hbm S6x36 .i32 := Memref.whole main_arg10
abbrev a11M : Memref sig .tc .hbm S6x36 .f32 := Memref.whole main_arg11
abbrev o0M : Memref sig .tc .hbm S1x6 .f32 := Memref.whole main_v2_0
abbrev o1M : Memref sig .tc .hbm S4x6 .f32 := Memref.whole main_v2_1
abbrev o2M : Memref sig .tc .hbm S6x32000 .f32 := Memref.whole main_v2_2

/-- A whole buffer written whole holds what was written. -/
theorem whole_landed (b : Ref sig .tc) (f w : b.ty.Contents (Elt F)) :
    (Memref.whole b).view.writes (Elt F) f [⟨Rect.whole b.ty.shape, w⟩] = w := View.read_writes_whole (Memref.whole b).view f w

/-- The two windows of the logits' buffer that are copied out. -/
abbrev zw0 : Memref sig .tc .vmem S6x29952 .f32 := zbufM.slice (Rect.unit (s := S6x32000) ![0, 0] S6x29952.size inb_S6x32000_S6x29952_0_0) (fun _ => rfl)
abbrev zw1 : Memref sig .tc .vmem S6x2048 .f32 := zbufM.slice (Rect.unit (s := S6x32000) ![0, 29952] S6x2048.size inb_S6x32000_S6x2048_0_29952) (fun _ => rfl)

/-- The two windows of the output, likewise. -/
abbrev ow0 : Memref sig .tc .hbm S6x29952 .f32 := o2M.slice (Rect.unit (s := S6x32000) ![0, 0] S6x29952.size inb_S6x32000_S6x29952_0_0) (fun _ => rfl)
abbrev ow1 : Memref sig .tc .hbm S6x2048 .f32 := o2M.slice (Rect.unit (s := S6x32000) ![0, 29952] S6x2048.size inb_S6x32000_S6x2048_0_29952) (fun _ => rfl)

abbrev R0 : Finset S6x32000.Idx := (Rect.unit (s := S6x32000) ![0, 0] S6x29952.size inb_S6x32000_S6x29952_0_0).set
abbrev R1 : Finset S6x32000.Idx := (Rect.unit (s := S6x32000) ![0, 29952] S6x2048.size inb_S6x32000_S6x2048_0_29952).set

theorem mem_R0 (y : S6x32000.Idx) : y ∈ R0 ↔ (y 1).val < 29952 := by
  rw [Rect.mem_set_unit]
  have h0 : (y 0).val < 6 := (y 0).isLt
  constructor
  · intro H; have a1 : 0 ≤ (y 1).val ∧ (y 1).val < 0 + 29952 := H 1; omega
  · intro H i; fin_cases i
    · show 0 ≤ (y 0).val ∧ (y 0).val < 0 + 6; omega
    · show 0 ≤ (y 1).val ∧ (y 1).val < 0 + 29952; omega
theorem mem_R1 (y : S6x32000.Idx) : y ∈ R1 ↔ 29952 ≤ (y 1).val := by
  rw [Rect.mem_set_unit]
  have h0 : (y 0).val < 6 := (y 0).isLt
  have h1 : (y 1).val < 32000 := (y 1).isLt
  constructor
  · intro H; have a1 : 29952 ≤ (y 1).val ∧ (y 1).val < 29952 + 2048 := H 1; omega
  · intro H i; fin_cases i
    · show 0 ≤ (y 0).val ∧ (y 0).val < 0 + 6; omega
    · show 29952 ≤ (y 1).val ∧ (y 1).val < 29952 + 2048; omega
theorem R1_eq : Finset.univ \ R0 = R1 := by
  ext y; rw [Finset.mem_sdiff, mem_R0, mem_R1]
  exact ⟨fun h => Nat.le_of_not_lt h.2, fun h => ⟨Finset.mem_univ _, Nat.not_lt.mpr h⟩⟩
theorem zw0_set : (zw0.view.set : Finset S6x32000.Idx) = R0 := View.set_slice_whole cc0_scratch8 _
theorem zw1_set : (zw1.view.set : Finset S6x32000.Idx) = R1 := View.set_slice_whole cc0_scratch8 _
theorem ow0_set : (ow0.view.set : Finset S6x32000.Idx) = R0 := View.set_slice_whole main_v2_2 _
theorem ow1_set : (ow1.view.set : Finset S6x32000.Idx) = R1 := View.set_slice_whole main_v2_2 _
theorem zb_set : (zbufM.view.set : Finset S6x32000.Idx) = Finset.univ := View.set_whole cc0_scratch8
theorem o2_set : (o2M.view.set : Finset S6x32000.Idx) = Finset.univ := View.set_whole main_v2_2

theorem mem_zw0 (y : S6x32000.Idx) : y ∈ (zw0.view.set : Finset S6x32000.Idx) ↔ (y 1).val < 29952 := by rw [zw0_set]; exact mem_R0 y
theorem mem_zw1 (y : S6x32000.Idx) : y ∈ (zw1.view.set : Finset S6x32000.Idx) ↔ 29952 ≤ (y 1).val := by rw [zw1_set]; exact mem_R1 y
theorem mem_ow0 (y : S6x32000.Idx) : y ∈ (ow0.view.set : Finset S6x32000.Idx) ↔ (y 1).val < 29952 := by rw [ow0_set]; exact mem_R0 y
theorem mem_ow1 (y : S6x32000.Idx) : y ∈ (ow1.view.set : Finset S6x32000.Idx) ↔ 29952 ≤ (y 1).val := by rw [ow1_set]; exact mem_R1 y
theorem mem_zb (y : S6x32000.Idx) : y ∈ (zbufM.view.set : Finset S6x32000.Idx) := by rw [zb_set]; exact Finset.mem_univ y
theorem mem_o2 (y : S6x32000.Idx) : y ∈ (o2M.view.set : Finset S6x32000.Idx) := by rw [o2_set]; exact Finset.mem_univ y

/-- A table read off `f` on its first 29952 columns and off `g` on the rest. -/
def twoParts (f g : S6x32000.Idx → Elt F .f32) : S6x32000.Idx → Elt F .f32 := fun y => if (y 1).val < 29952 then f y else g y

/-- Two element sets that make up a third, joined at contents that agree with each. -/
theorem parts_join {ℓ : Loc nD τ sig} {q : PosShare TreeShare} {I J S : Finset (Idx ℓ)} (hd : ∀ i, i ∈ I → ¬ i ∈ J) (hu : ∀ i, i ∈ S ↔ i ∈ I ∨ i ∈ J)
    (f g G : Buf (Elt F) ℓ) (hI : ∀ i ∈ I, f i = G i) (hJ : ∀ i ∈ J, g i = G i) :
    iprop((ℓ ↦[I]{q} f) ∗ (ℓ ↦[J]{q} g)) ⊢ (ℓ ↦[S]{q} G : sProp 𝕄) := by
  classical
  have e : S = I ∪ J := by ext i; rw [Finset.mem_union]; exact hu i
  subst e
  rw [pointsTo_congr hI, pointsTo_congr hJ]
  exact (pointsTo_union (Finset.disjoint_left.mpr hd)).2
theorem parts_split {ℓ : Loc nD τ sig} {q : PosShare TreeShare} {I J S : Finset (Idx ℓ)} (hd : ∀ i, i ∈ I → ¬ i ∈ J) (hu : ∀ i, i ∈ S ↔ i ∈ I ∨ i ∈ J)
    (f : Buf (Elt F) ℓ) : (ℓ ↦[S]{q} f : sProp 𝕄) ⊢ iprop((ℓ ↦[I]{q} f) ∗ (ℓ ↦[J]{q} f)) := by
  classical
  have e : S = I ∪ J := by ext i; rw [Finset.mem_union]; exact hu i
  subst e
  exact (pointsTo_union (Finset.disjoint_left.mpr hd)).1

theorem twoParts_lt (f g : S6x32000.Idx → Elt F .f32) (y : S6x32000.Idx) (h : (y 1).val < 29952) : f y = twoParts f g y := (if_pos h).symm
theorem twoParts_ge (f g : S6x32000.Idx → Elt F .f32) (y : S6x32000.Idx) (h : 29952 ≤ (y 1).val) : g y = twoParts f g y := (if_neg (Nat.not_lt.mpr h)).symm
theorem lt_or_ge_iff {p a b : Prop} (hp : p) (y : S6x32000.Idx) (ha : a ↔ (y 1).val < 29952) (hb : b ↔ 29952 ≤ (y 1).val) : p ↔ a ∨ b := by
  rw [ha, hb]; exact ⟨fun _ => Nat.lt_or_ge _ _, fun _ => hp⟩

section Parts
variable (c : Dev nD)
theorem z_parts (q : PosShare TreeShare) (f g : Buf (Elt F) (zbufM.view.loc (c : Thread nD τ))) :
    iprop((zw0.view.loc (c : Thread nD τ) ↦[zw0.view.set]{q} f) ∗ (zw1.view.loc (c : Thread nD τ) ↦[zw1.view.set]{q} g))
      ⊢ (zbufM.view.loc (c : Thread nD τ) ↦[zbufM.view.set]{q} (twoParts (F := F) f g) : sProp 𝕄) :=
  parts_join (ℓ := zbufM.view.loc (c : Thread nD τ)) (I := zw0.view.set) (J := zw1.view.set) (S := zbufM.view.set) (fun (i : S6x32000.Idx) h h' => Nat.not_le.mpr ((mem_zw0 i).mp h) ((mem_zw1 i).mp h')) (fun (i : S6x32000.Idx) => lt_or_ge_iff (mem_zb i) i (mem_zw0 i) (mem_zw1 i)) f g _
    (fun (i : S6x32000.Idx) h => twoParts_lt f g i ((mem_zw0 i).mp h)) (fun (i : S6x32000.Idx) h => twoParts_ge f g i ((mem_zw1 i).mp h))
/-- Where a view was written whole, the buffer agrees with any contents that read the same there. -/
theorem landed_at {sp : Space} {s : Shape} {e : EltTy} (v : View sig .tc sp s e) (fo G : v.ty.Contents (Elt F)) (w : s.Idx → Elt F e)
    (hG : v.read (Elt F) G = w) : ∀ i ∈ v.set, v.writes (Elt F) fo [⟨Rect.whole s, w⟩] i = G i := by
  intro i hi
  obtain ⟨x, _, rfl⟩ := Finset.mem_map.mp hi
  have h := congrFun ((View.read_writes_whole v fo w).trans hG.symm) x
  rw [View.read_apply, View.read_apply] at h
  exact (cast_inj _).mp h
theorem ow0_landed (f : Buf (Elt F) (zbufM.view.loc (c : Thread nD τ))) (fo : Buf (Elt F) (o2M.view.loc (c : Thread nD τ))) (i : S6x32000.Idx)
    (hi : i ∈ (ow0.view.set : Finset S6x32000.Idx)) :
    (ow0.view.writes (Elt F) fo [⟨Rect.whole S6x29952, ReadAs.same.apply (zw0.view.read (Elt F) f)⟩] : S6x32000.Idx → Elt F .f32) i = f i :=
  landed_at ow0.view fo f _ rfl i hi
theorem ow1_landed (f : Buf (Elt F) (zbufM.view.loc (c : Thread nD τ))) (fo : Buf (Elt F) (o2M.view.loc (c : Thread nD τ))) (i : S6x32000.Idx)
    (hi : i ∈ (ow1.view.set : Finset S6x32000.Idx)) :
    (ow1.view.writes (Elt F) fo [⟨Rect.whole S6x2048, ReadAs.same.apply (zw1.view.read (Elt F) f)⟩] : S6x32000.Idx → Elt F .f32) i = f i :=
  landed_at ow1.view fo f _ rfl i hi
/-- The output whole, once both windows of the logits have landed in it. -/
theorem o2_done (fo : Buf (Elt F) (o2M.view.loc (c : Thread nD τ))) (f g : Buf (Elt F) (zbufM.view.loc (c : Thread nD τ))) :
    iprop((ow0.view.loc (c : Thread nD τ) ↦[ow0.view.set]{fullShare} ow0.view.writes (Elt F) fo [⟨Rect.whole S6x29952, ReadAs.same.apply (zw0.view.read (Elt F) f)⟩])
        ∗ (ow1.view.loc (c : Thread nD τ) ↦[ow1.view.set]{fullShare} ow1.view.writes (Elt F) fo [⟨Rect.whole S6x2048, ReadAs.same.apply (zw1.view.read (Elt F) g)⟩]))
      ⊢ (o2M.view.loc (c : Thread nD τ) ↦[o2M.view.set]{fullShare} (twoParts (F := F) f g) : sProp 𝕄) :=
  parts_join (ℓ := o2M.view.loc (c : Thread nD τ)) (I := ow0.view.set) (J := ow1.view.set) (S := o2M.view.set) (fun (i : S6x32000.Idx) h h' => Nat.not_le.mpr ((mem_ow0 i).mp h) ((mem_ow1 i).mp h')) (fun (i : S6x32000.Idx) => lt_or_ge_iff (mem_o2 i) i (mem_ow0 i) (mem_ow1 i)) _ _ _
    (fun (i : S6x32000.Idx) h => (ow0_landed c f fo i h).trans (twoParts_lt f g i ((mem_ow0 i).mp h))) (fun (i : S6x32000.Idx) h => (ow1_landed c g fo i h).trans (twoParts_ge f g i ((mem_ow1 i).mp h)))
/-- The logits' buffer whole again: the half kept and the half lent, each in two windows. -/
theorem z_halves (f : Buf (Elt F) (zbufM.view.loc (c : Thread nD τ))) :
    iprop((zbufM.view.loc (c : Thread nD τ) ↦[zbufM.view.set]{fullShare.left} f) ∗ (zbufM.view.loc (c : Thread nD τ) ↦[zbufM.view.set]{fullShare.right} f))
      ⊢ (zbufM.view.loc (c : Thread nD τ) ↦[zbufM.view.set]{fullShare} f : sProp 𝕄) := (pointsTo_share (PosShare.mem_left_op_right fullShare)).2

/-- Four rows written one by one into a table of four rows. -/
abbrev fourRows (p0 p1 p2 p3 : Vec F S1x6 .f32) : List (View.Piece (Elt F) S4x6 .f32) :=
  [⟨Rect.unit ![3, 0] S1x6.size inb_S4x6_S1x6_3_0, p3⟩, ⟨Rect.unit ![2, 0] S1x6.size inb_S4x6_S1x6_2_0, p2⟩,
   ⟨Rect.unit ![1, 0] S1x6.size inb_S4x6_S1x6_1_0, p1⟩, ⟨Rect.unit ![0, 0] S1x6.size inb_S4x6_S1x6_0_0, p0⟩]
theorem fourRows_cover (p0 p1 p2 p3 : Vec F S1x6 .f32) (y : S4x6.Idx) : ∃ p ∈ fourRows p0 p1 p2 p3, y ∈ p.1.set := by
  have hm : ∀ (r : ℕ) (inb : ∀ a, (![r, 0] : Fin 2 → ℕ) a + S1x6.size a ≤ S4x6.size a), (y 0).val = r → y ∈ (Rect.unit (s := S4x6) ![r, 0] S1x6.size inb).set := by
    intro r inb h
    rw [Rect.mem_set_unit]
    intro a; fin_cases a
    · show r ≤ (y 0).val ∧ (y 0).val < r + 1; omega
    · show 0 ≤ (y 1).val ∧ (y 1).val < 0 + 6; have h1 : (y 1).val < 6 := (y 1).isLt; omega
  have h4 : (y 0).val < 4 := (y 0).isLt
  rcases (show (y 0).val = 0 ∨ (y 0).val = 1 ∨ (y 0).val = 2 ∨ (y 0).val = 3 by omega) with h | h | h | h
  · exact ⟨_, List.mem_cons_of_mem _ (List.mem_cons_of_mem _ (List.mem_cons_of_mem _ List.mem_cons_self)), hm 0 inb_S4x6_S1x6_0_0 h⟩
  · exact ⟨_, List.mem_cons_of_mem _ (List.mem_cons_of_mem _ List.mem_cons_self), hm 1 inb_S4x6_S1x6_1_0 h⟩
  · exact ⟨_, List.mem_cons_of_mem _ List.mem_cons_self, hm 2 inb_S4x6_S1x6_2_0 h⟩
  · exact ⟨_, List.mem_cons_self, hm 3 inb_S4x6_S1x6_3_0 h⟩
theorem o0_done (fo : Buf (Elt F) (o0M.view.loc (c : Thread nD τ))) (fl : Buf (Elt F) (lseM.view.loc (c : Thread nD τ))) (w : Vec F S1x6 .f32) :
    (o0M.view.loc (c : Thread nD τ) ↦[o0M.view.set]{fullShare} o0M.view.writes (Elt F) fo [⟨Rect.whole S1x6, ReadAs.same.apply (lseM.view.read (Elt F)
        (lseM.view.writes (Elt F) fl [⟨Rect.unit ![0, 0] S1x6.size inb_S1x6_S1x6_0_0, w⟩]))⟩] : sProp 𝕄)
      ⊢ (o0M.view.loc (c : Thread nD τ) ↦[o0M.view.set]{fullShare} w) :=
  Entails.of_eq (congrArg (fun f => (o0M.view.loc (c : Thread nD τ) ↦[o0M.view.set]{fullShare} f : sProp 𝕄))
    ((whole_landed main_v2_0 fo _).trans (View.read_writes_full lseM.view fl inb_S1x6_S1x6_0_0 w [])))
theorem o1_done (fo : Buf (Elt F) (o1M.view.loc (c : Thread nD τ))) (fl : Buf (Elt F) (candM.view.loc (c : Thread nD τ))) (p0 p1 p2 p3 : Vec F S1x6 .f32) :
    (o1M.view.loc (c : Thread nD τ) ↦[o1M.view.set]{fullShare} o1M.view.writes (Elt F) fo [⟨Rect.whole S4x6, ReadAs.same.apply (candM.view.read (Elt F)
        (candM.view.writes (Elt F) fl (fourRows p0 p1 p2 p3)))⟩] : sProp 𝕄)
      ⊢ (o1M.view.loc (c : Thread nD τ) ↦[o1M.view.set]{fullShare} (View.canon (fourRows p0 p1 p2 p3))) :=
  Entails.of_eq (congrArg (fun f => (o1M.view.loc (c : Thread nD τ) ↦[o1M.view.set]{fullShare} f : sProp 𝕄))
    ((whole_landed main_v2_1 fo _).trans (View.read_writes_eq_canon candM.view fl (fourRows p0 p1 p2 p3) (fourRows_cover p0 p1 p2 p3))))
theorem o2_split (f : Buf (Elt F) (o2M.view.loc (c : Thread nD τ))) :
    (o2M.view.loc (c : Thread nD τ) ↦[o2M.view.set]{fullShare} f : sProp 𝕄)
      ⊢ iprop((ow0.view.loc (c : Thread nD τ) ↦[ow0.view.set]{fullShare} f) ∗ (ow1.view.loc (c : Thread nD τ) ↦[ow1.view.set]{fullShare} f)) :=
  parts_split (ℓ := o2M.view.loc (c : Thread nD τ)) (I := ow0.view.set) (J := ow1.view.set) (S := o2M.view.set) (fun (i : S6x32000.Idx) h h' => Nat.not_le.mpr ((mem_ow0 i).mp h) ((mem_ow1 i).mp h')) (fun (i : S6x32000.Idx) => lt_or_ge_iff (mem_o2 i) i (mem_ow0 i) (mem_ow1 i)) f
theorem zRest_eq (f : Buf (Elt F) (zbufM.view.loc (c : Thread nD τ))) :
    (zbufM.view.loc (c : Thread nD τ) ↦[Finset.univ \ zw0.view.set]{fullShare} f : sProp 𝕄)
      ⊢ iprop((zw1.view.loc (c : Thread nD τ) ↦[zw1.view.set]{fullShare.left} f) ∗ (zw1.view.loc (c : Thread nD τ) ↦[zw1.view.set]{fullShare.right} f)) := by
  have e : (Finset.univ \ zw0.view.set : Finset S6x32000.Idx) = zw1.view.set := by rw [zw0_set, zw1_set, R1_eq]
  have h := (pointsTo_share (Ix := Unit) (Val := Elt F) (Name := ℕ) (U := UU) (Lvl := ℕ) (ℓ := zbufM.view.loc (c : Thread nD τ)) (I := zw1.view.set) (f := f) (PosShare.mem_left_op_right fullShare)).1
  rw [← e] at h ⊢
  exact h
end Parts

/-- Every candidate's id addresses a column of the logits' buffer. -/
def CandOK (c : Dev nD) (X9 : Buf (Elt F) (candsM.view.loc (c : Thread nD τ))) : Prop :=
  k0_chk7 (candsM.view.readAt (Elt F) (Rect.unit (s := S4x6) ![0, 0] S1x1.size inb_S4x6_S1x1_0_0).toLoadRect X9 (Shape.Idx.first (numel1_S1x1.symm ▸ Nat.one_pos)))
  ∧ k0_chk8 (candsM.view.readAt (Elt F) (Rect.unit (s := S4x6) ![0, 1] S1x1.size inb_S4x6_S1x1_0_1).toLoadRect X9 (Shape.Idx.first (numel1_S1x1.symm ▸ Nat.one_pos)))
  ∧ k0_chk9 (candsM.view.readAt (Elt F) (Rect.unit (s := S4x6) ![0, 2] S1x1.size inb_S4x6_S1x1_0_2).toLoadRect X9 (Shape.Idx.first (numel1_S1x1.symm ▸ Nat.one_pos)))
  ∧ k0_chk10 (candsM.view.readAt (Elt F) (Rect.unit (s := S4x6) ![0, 3] S1x1.size inb_S4x6_S1x1_0_3).toLoadRect X9 (Shape.Idx.first (numel1_S1x1.symm ▸ Nat.one_pos)))
  ∧ k0_chk11 (candsM.view.readAt (Elt F) (Rect.unit (s := S4x6) ![0, 4] S1x1.size inb_S4x6_S1x1_0_4).toLoadRect X9 (Shape.Idx.first (numel1_S1x1.symm ▸ Nat.one_pos)))
  ∧ k0_chk12 (candsM.view.readAt (Elt F) (Rect.unit (s := S4x6) ![0, 5] S1x1.size inb_S4x6_S1x1_0_5).toLoadRect X9 (Shape.Idx.first (numel1_S1x1.symm ▸ Nat.one_pos)))
  ∧ k0_chk13 (candsM.view.readAt (Elt F) (Rect.unit (s := S4x6) ![1, 0] S1x1.size inb_S4x6_S1x1_1_0).toLoadRect X9 (Shape.Idx.first (numel1_S1x1.symm ▸ Nat.one_pos)))
  ∧ k0_chk14 (candsM.view.readAt (Elt F) (Rect.unit (s := S4x6) ![1, 1] S1x1.size inb_S4x6_S1x1_1_1).toLoadRect X9 (Shape.Idx.first (numel1_S1x1.symm ▸ Nat.one_pos)))
  ∧ k0_chk15 (candsM.view.readAt (Elt F) (Rect.unit (s := S4x6) ![1, 2] S1x1.size inb_S4x6_S1x1_1_2).toLoadRect X9 (Shape.Idx.first (numel1_S1x1.symm ▸ Nat.one_pos)))
  ∧ k0_chk16 (candsM.view.readAt (Elt F) (Rect.unit (s := S4x6) ![1, 3] S1x1.size inb_S4x6_S1x1_1_3).toLoadRect X9 (Shape.Idx.first (numel1_S1x1.symm ▸ Nat.one_pos)))
  ∧ k0_chk17 (candsM.view.readAt (Elt F) (Rect.unit (s := S4x6) ![1, 4] S1x1.size inb_S4x6_S1x1_1_4).toLoadRect X9 (Shape.Idx.first (numel1_S1x1.symm ▸ Nat.one_pos)))
  ∧ k0_chk18 (candsM.view.readAt (Elt F) (Rect.unit (s := S4x6) ![1, 5] S1x1.size inb_S4x6_S1x1_1_5).toLoadRect X9 (Shape.Idx.first (numel1_S1x1.symm ▸ Nat.one_pos)))
  ∧ k0_chk19 (candsM.view.readAt (Elt F) (Rect.unit (s := S4x6) ![2, 0] S1x1.size inb_S4x6_S1x1_2_0).toLoadRect X9 (Shape.Idx.first (numel1_S1x1.symm ▸ Nat.one_pos)))
  ∧ k0_chk20 (candsM.view.readAt (Elt F) (Rect.unit (s := S4x6) ![2, 1] S1x1.size inb_S4x6_S1x1_2_1).toLoadRect X9 (Shape.Idx.first (numel1_S1x1.symm ▸ Nat.one_pos)))
  ∧ k0_chk21 (candsM.view.readAt (Elt F) (Rect.unit (s := S4x6) ![2, 2] S1x1.size inb_S4x6_S1x1_2_2).toLoadRect X9 (Shape.Idx.first (numel1_S1x1.symm ▸ Nat.one_pos)))
  ∧ k0_chk22 (candsM.view.readAt (Elt F) (Rect.unit (s := S4x6) ![2, 3] S1x1.size inb_S4x6_S1x1_2_3).toLoadRect X9 (Shape.Idx.first (numel1_S1x1.symm ▸ Nat.one_pos)))
  ∧ k0_chk23 (candsM.view.readAt (Elt F) (Rect.unit (s := S4x6) ![2, 4] S1x1.size inb_S4x6_S1x1_2_4).toLoadRect X9 (Shape.Idx.first (numel1_S1x1.symm ▸ Nat.one_pos)))
  ∧ k0_chk24 (candsM.view.readAt (Elt F) (Rect.unit (s := S4x6) ![2, 5] S1x1.size inb_S4x6_S1x1_2_5).toLoadRect X9 (Shape.Idx.first (numel1_S1x1.symm ▸ Nat.one_pos)))
  ∧ k0_chk25 (candsM.view.readAt (Elt F) (Rect.unit (s := S4x6) ![3, 0] S1x1.size inb_S4x6_S1x1_3_0).toLoadRect X9 (Shape.Idx.first (numel1_S1x1.symm ▸ Nat.one_pos)))
  ∧ k0_chk26 (candsM.view.readAt (Elt F) (Rect.unit (s := S4x6) ![3, 1] S1x1.size inb_S4x6_S1x1_3_1).toLoadRect X9 (Shape.Idx.first (numel1_S1x1.symm ▸ Nat.one_pos)))
  ∧ k0_chk27 (candsM.view.readAt (Elt F) (Rect.unit (s := S4x6) ![3, 2] S1x1.size inb_S4x6_S1x1_3_2).toLoadRect X9 (Shape.Idx.first (numel1_S1x1.symm ▸ Nat.one_pos)))
  ∧ k0_chk28 (candsM.view.readAt (Elt F) (Rect.unit (s := S4x6) ![3, 3] S1x1.size inb_S4x6_S1x1_3_3).toLoadRect X9 (Shape.Idx.first (numel1_S1x1.symm ▸ Nat.one_pos)))
  ∧ k0_chk29 (candsM.view.readAt (Elt F) (Rect.unit (s := S4x6) ![3, 4] S1x1.size inb_S4x6_S1x1_3_4).toLoadRect X9 (Shape.Idx.first (numel1_S1x1.symm ▸ Nat.one_pos)))
  ∧ k0_chk30 (candsM.view.readAt (Elt F) (Rect.unit (s := S4x6) ![3, 5] S1x1.size inb_S4x6_S1x1_3_5).toLoadRect X9 (Shape.Idx.first (numel1_S1x1.symm ▸ Nat.one_pos)))

section Exit
variable (c : Dev nD) (v125 v152 v179 v201 : FVec F S6x128 .f32) (v203 : IVec S6x128 1) (v205 : FVec F S6x128 .f32)
  (XS : Buf (Elt F) (wsM.view.loc (c : Thread nD τ))) (XC : Buf (Elt F) (cntM.view.loc (c : Thread nD τ))) (XI : Buf (Elt F) (biasM.view.loc (c : Thread nD τ)))

abbrev zKeep (f : Buf (Elt F) (zbufM.view.loc (c : Thread nD τ))) : sProp 𝕄 := zw0.view.loc (c : Thread nD τ) ↦[zw0.view.set]{fullShare.left} f
abbrev zLend (f : Buf (Elt F) (zbufM.view.loc (c : Thread nD τ))) : sProp 𝕄 := zw0.view.loc (c : Thread nD τ) ↦[zw0.view.set]{fullShare.right} f
abbrev zRest (f : Buf (Elt F) (zbufM.view.loc (c : Thread nD τ))) : sProp 𝕄 := zbufM.view.loc (c : Thread nD τ) ↦[Finset.univ \ zw0.view.set]{fullShare} f

/-- The logits' buffer as its first window, in two halves, and the rest. -/
theorem z_split (f : Buf (Elt F) (zbufM.view.loc (c : Thread nD τ))) : zP c f ⊢ iprop(zKeep c f ∗ zLend c f ∗ zRest c f) := by
  have h : zw0.view.set ⊆ zbufM.view.set := by rw [zb_set]; exact Finset.subset_univ _
  refine (pointsTo_split_subset h).1.trans ?_
  rw [zb_set]
  iintro ⟨HA, HB⟩
  ihave HA' := (pointsTo_share (PosShare.mem_left_op_right fullShare)).1 $$ HA
  icases HA' with ⟨HA, HA'⟩
  isplitl [HA]; · iexact HA
  isplitl [HA']; · iexact HA'
  iexact HB

/-- After the finish the first window is held in two halves, one to be lent to its copy. -/
instance loopExit4 (a0 : FVec F S6x128 .f32 × FVec F S6x128 .f32) (f0 : Buf (Elt F) (zbufM.view.loc (c : Thread nD τ))) :
    LoopExit (loopInv4 c v125 v152 v179 v201 v203 v205 XS XC XI a0 f0) where
  post acc := iprop(wsP c XS ∗ cntP c XC ∗ biasP c XI
    ∗ zKeep c (finAt c v125 v152 v179 v201 v203 v205 XS XC XI a0 f0 13).2 ∗ zLend c (finAt c v125 v152 v179 v201 v203 v205 XS XC XI a0 f0 13).2
    ∗ zRest c (finAt c v125 v152 v179 v201 v203 v205 XS XC XI a0 f0 13).2
    ∗ ⌜acc = (finAt c v125 v152 v179 v201 v203 v205 XS XC XI a0 f0 13).1⌝)
  exit acc := by
    have e : (Scf.trips k0_t4_loop.lb k0_t4_loop.ub k0_t4_loop.st) = 13 := by decide
    rw [e]
    show finInv c v125 v152 v179 v201 v203 v205 XS XC XI a0 f0 13 acc ⊢ _
    rw [finInv_eq]
    unfold finSt
    iintro ⟨HS, HC, HI, HZ, Ha⟩
    ihave HZ' := (z_split c _) $$ HZ
    icases HZ' with ⟨HA, HB, HR⟩
    isplitl [HS]; · iexact HS
    isplitl [HC]; · iexact HC
    isplitl [HI]; · iexact HI
    isplitl [HA]; · iexact HA
    isplitl [HB]; · iexact HB
    isplitl [HR]; · iexact HR
    iexact Ha

end Exit

section Body
variable (c : Dev nD)
abbrev x6P (f : Buf (Elt F) (x6M.view.loc (c : Thread nD τ))) : sProp 𝕄 := x6M.view.loc (c : Thread nD τ) ↦[x6M.view.set]{fullShare} f
abbrev lseP (f : Buf (Elt F) (lseM.view.loc (c : Thread nD τ))) : sProp 𝕄 := lseM.view.loc (c : Thread nD τ) ↦[lseM.view.set]{fullShare} f
abbrev candP (f : Buf (Elt F) (candM.view.loc (c : Thread nD τ))) : sProp 𝕄 := candM.view.loc (c : Thread nD τ) ↦[candM.view.set]{fullShare} f
abbrev xsP (f : Buf (Elt F) (xsM.view.loc (c : Thread nD τ))) : sProp 𝕄 := xsM.view.loc (c : Thread nD τ) ↦[xsM.view.set]{fullShare} f
abbrev ppP (f : Buf (Elt F) (ppM.view.loc (c : Thread nD τ))) : sProp 𝕄 := ppM.view.loc (c : Thread nD τ) ↦[ppM.view.set]{fullShare} f
abbrev fpP (f : Buf (Elt F) (fpM.view.loc (c : Thread nD τ))) : sProp 𝕄 := fpM.view.loc (c : Thread nD τ) ↦[fpM.view.set]{fullShare} f
abbrev rpP (f : Buf (Elt F) (rpM.view.loc (c : Thread nD τ))) : sProp 𝕄 := rpM.view.loc (c : Thread nD τ) ↦[rpM.view.set]{fullShare} f
abbrev candsP (f : Buf (Elt F) (candsM.view.loc (c : Thread nD τ))) : sProp 𝕄 := candsM.view.loc (c : Thread nD τ) ↦[candsM.view.set]{fullShare} f
abbrev a0P (f : Buf (Elt F) (a0M.view.loc (c : Thread nD τ))) : sProp 𝕄 := a0M.view.loc (c : Thread nD τ) ↦[a0M.view.set]{fullShare} f
abbrev a1P (f : Buf (Elt F) (a1M.view.loc (c : Thread nD τ))) : sProp 𝕄 := a1M.view.loc (c : Thread nD τ) ↦[a1M.view.set]{fullShare} f
abbrev a3P (f : Buf (Elt F) (a3M.view.loc (c : Thread nD τ))) : sProp 𝕄 := a3M.view.loc (c : Thread nD τ) ↦[a3M.view.set]{fullShare} f
abbrev a4P (f : Buf (Elt F) (a4M.view.loc (c : Thread nD τ))) : sProp 𝕄 := a4M.view.loc (c : Thread nD τ) ↦[a4M.view.set]{fullShare} f
abbrev a5P (f : Buf (Elt F) (a5M.view.loc (c : Thread nD τ))) : sProp 𝕄 := a5M.view.loc (c : Thread nD τ) ↦[a5M.view.set]{fullShare} f
abbrev a6P (f : Buf (Elt F) (a6M.view.loc (c : Thread nD τ))) : sProp 𝕄 := a6M.view.loc (c : Thread nD τ) ↦[a6M.view.set]{fullShare} f
abbrev a7P (f : Buf (Elt F) (a7M.view.loc (c : Thread nD τ))) : sProp 𝕄 := a7M.view.loc (c : Thread nD τ) ↦[a7M.view.set]{fullShare} f
abbrev a8P (f : Buf (Elt F) (a8M.view.loc (c : Thread nD τ))) : sProp 𝕄 := a8M.view.loc (c : Thread nD τ) ↦[a8M.view.set]{fullShare} f
abbrev a9P (f : Buf (Elt F) (a9M.view.loc (c : Thread nD τ))) : sProp 𝕄 := a9M.view.loc (c : Thread nD τ) ↦[a9M.view.set]{fullShare} f
abbrev a10P (f : Buf (Elt F) (a10M.view.loc (c : Thread nD τ))) : sProp 𝕄 := a10M.view.loc (c : Thread nD τ) ↦[a10M.view.set]{fullShare} f
abbrev a11P (f : Buf (Elt F) (a11M.view.loc (c : Thread nD τ))) : sProp 𝕄 := a11M.view.loc (c : Thread nD τ) ↦[a11M.view.set]{fullShare} f
abbrev o0P (f : Buf (Elt F) (o0M.view.loc (c : Thread nD τ))) : sProp 𝕄 := o0M.view.loc (c : Thread nD τ) ↦[o0M.view.set]{fullShare} f
abbrev o1P (f : Buf (Elt F) (o1M.view.loc (c : Thread nD τ))) : sProp 𝕄 := o1M.view.loc (c : Thread nD τ) ↦[o1M.view.set]{fullShare} f
abbrev o2P (f : Buf (Elt F) (o2M.view.loc (c : Thread nD τ))) : sProp 𝕄 := o2M.view.loc (c : Thread nD τ) ↦[o2M.view.set]{fullShare} f
abbrev icell0 : sProp 𝕄 := semVal ((c : Thread nD τ), SemLoc.dma ism0.sem) 0
abbrev icell1 : sProp 𝕄 := semVal ((c : Thread nD τ), SemLoc.dma ism1.sem) 0
abbrev icell2 : sProp 𝕄 := semVal ((c : Thread nD τ), SemLoc.dma ism2.sem) 0
abbrev icell3 : sProp 𝕄 := semVal ((c : Thread nD τ), SemLoc.dma ism3.sem) 0
abbrev icell4 : sProp 𝕄 := semVal ((c : Thread nD τ), SemLoc.dma ism4.sem) 0
abbrev icell5 : sProp 𝕄 := semVal ((c : Thread nD τ), SemLoc.dma ism5.sem) 0
abbrev icell6 : sProp 𝕄 := semVal ((c : Thread nD τ), SemLoc.dma ism6.sem) 0
abbrev icell7 : sProp 𝕄 := semVal ((c : Thread nD τ), SemLoc.dma ism7.sem) 0
abbrev icell8 : sProp 𝕄 := semVal ((c : Thread nD τ), SemLoc.dma ism8.sem) 0
abbrev icell9 : sProp 𝕄 := semVal ((c : Thread nD τ), SemLoc.dma ism9.sem) 0
abbrev icell10 : sProp 𝕄 := semVal ((c : Thread nD τ), SemLoc.dma ism10.sem) 0
abbrev ocell0 : sProp 𝕄 := semVal ((c : Thread nD τ), SemLoc.dma osm0.sem) 0
abbrev ocell1 : sProp 𝕄 := semVal ((c : Thread nD τ), SemLoc.dma osm1.sem) 0
abbrev ocell2 : sProp 𝕄 := semVal ((c : Thread nD τ), SemLoc.dma osm2.sem) 0
abbrev ocell3 : sProp 𝕄 := semVal ((c : Thread nD τ), SemLoc.dma osm3.sem) 0
theorem hist_landed (f : Buf (Elt F) (histM.view.loc (c : Thread nD τ))) (X : Buf (Elt F) (a4M.view.loc (c : Thread nD τ))) :
    histP c (histM.view.writes (Elt F) f [⟨Rect.whole S6x4096, ReadAs.same.apply (a4M.view.read (Elt F) X)⟩]) ⊢ histP c X :=
  Entails.of_eq (congrArg (histP c) (whole_landed cc0_scratch5 f X))
theorem hlen_landed (f : Buf (Elt F) (hlenM.view.loc (c : Thread nD τ))) (X : Buf (Elt F) (a5M.view.loc (c : Thread nD τ))) :
    hlenP c (hlenM.view.writes (Elt F) f [⟨Rect.whole S6, ReadAs.same.apply (a5M.view.read (Elt F) X)⟩]) ⊢ hlenP c X :=
  Entails.of_eq (congrArg (hlenP c) (whole_landed cc0_scratch12 f X))
theorem bid_landed (f : Buf (Elt F) (bidM.view.loc (c : Thread nD τ))) (X : Buf (Elt F) (a10M.view.loc (c : Thread nD τ))) :
    bidP c (bidM.view.writes (Elt F) f [⟨Rect.whole S6x36, ReadAs.same.apply (a10M.view.read (Elt F) X)⟩]) ⊢ bidP c X :=
  Entails.of_eq (congrArg (bidP c) (whole_landed cc0_scratch17 f X))
theorem bval_landed (f : Buf (Elt F) (bvalM.view.loc (c : Thread nD τ))) (X : Buf (Elt F) (a11M.view.loc (c : Thread nD τ))) :
    bvalP c (bvalM.view.writes (Elt F) f [⟨Rect.whole S6x36, ReadAs.same.apply (a11M.view.read (Elt F) X)⟩]) ⊢ bvalP c X :=
  Entails.of_eq (congrArg (bvalP c) (whole_landed cc0_scratch18 f X))
theorem x6_landed (f : Buf (Elt F) (x6M.view.loc (c : Thread nD τ))) (X : Buf (Elt F) (a0M.view.loc (c : Thread nD τ))) :
    x6P c (x6M.view.writes (Elt F) f [⟨Rect.whole S6x8192, ReadAs.same.apply (a0M.view.read (Elt F) X)⟩]) ⊢ x6P c X :=
  Entails.of_eq (congrArg (x6P c) (whole_landed cc0_scratch2 f X))
theorem xs_landed (f : Buf (Elt F) (xsM.view.loc (c : Thread nD τ))) (X : Buf (Elt F) (a1M.view.loc (c : Thread nD τ))) :
    xsP c (xsM.view.writes (Elt F) f [⟨Rect.whole S6, ReadAs.same.apply (a1M.view.read (Elt F) X)⟩]) ⊢ xsP c X :=
  Entails.of_eq (congrArg (xsP c) (whole_landed cc0_scratch11 f X))
theorem ws_landed (f : Buf (Elt F) (wsM.view.loc (c : Thread nD τ))) (X : Buf (Elt F) (a3M.view.loc (c : Thread nD τ))) :
    wsP c (wsM.view.writes (Elt F) f [⟨Rect.whole S250x128, ReadAs.same.apply (a3M.view.read (Elt F) X)⟩]) ⊢ wsP c X :=
  Entails.of_eq (congrArg (wsP c) (whole_landed cc0_scratch4 f X))
theorem pp_landed (f : Buf (Elt F) (ppM.view.loc (c : Thread nD τ))) (X : Buf (Elt F) (a6M.view.loc (c : Thread nD τ))) :
    ppP c (ppM.view.writes (Elt F) f [⟨Rect.whole S6, ReadAs.same.apply (a6M.view.read (Elt F) X)⟩]) ⊢ ppP c X :=
  Entails.of_eq (congrArg (ppP c) (whole_landed cc0_scratch13 f X))
theorem fp_landed (f : Buf (Elt F) (fpM.view.loc (c : Thread nD τ))) (X : Buf (Elt F) (a7M.view.loc (c : Thread nD τ))) :
    fpP c (fpM.view.writes (Elt F) f [⟨Rect.whole S6, ReadAs.same.apply (a7M.view.read (Elt F) X)⟩]) ⊢ fpP c X :=
  Entails.of_eq (congrArg (fpP c) (whole_landed cc0_scratch14 f X))
theorem rp_landed (f : Buf (Elt F) (rpM.view.loc (c : Thread nD τ))) (X : Buf (Elt F) (a8M.view.loc (c : Thread nD τ))) :
    rpP c (rpM.view.writes (Elt F) f [⟨Rect.whole S6, ReadAs.same.apply (a8M.view.read (Elt F) X)⟩]) ⊢ rpP c X :=
  Entails.of_eq (congrArg (rpP c) (whole_landed cc0_scratch15 f X))
theorem cands_landed (f : Buf (Elt F) (candsM.view.loc (c : Thread nD τ))) (X : Buf (Elt F) (a9M.view.loc (c : Thread nD τ))) :
    candsP c (candsM.view.writes (Elt F) f [⟨Rect.whole S4x6, ReadAs.same.apply (a9M.view.read (Elt F) X)⟩]) ⊢ candsP c X :=
  Entails.of_eq (congrArg (candsP c) (whole_landed cc0_scratch16 f X))
variable (X2 : Buf (Elt F) (aW.view.loc (c : Thread nD τ)))
variable (X0 : Buf (Elt F) (a0M.view.loc (c : Thread nD τ))) (X1 : Buf (Elt F) (a1M.view.loc (c : Thread nD τ))) (X3 : Buf (Elt F) (a3M.view.loc (c : Thread nD τ))) (X4 : Buf (Elt F) (a4M.view.loc (c : Thread nD τ))) (X5 : Buf (Elt F) (a5M.view.loc (c : Thread nD τ))) (X6 : Buf (Elt F) (a6M.view.loc (c : Thread nD τ))) (X7 : Buf (Elt F) (a7M.view.loc (c : Thread nD τ))) (X8 : Buf (Elt F) (a8M.view.loc (c : Thread nD τ))) (X9 : Buf (Elt F) (a9M.view.loc (c : Thread nD τ))) (X10 : Buf (Elt F) (a10M.view.loc (c : Thread nD τ))) (X11 : Buf (Elt F) (a11M.view.loc (c : Thread nD τ)))
/-- What the body starts from. -/
abbrev PRE : sProp 𝕄 := iprop(a0P c X0
  ∗ a1P c X1
  ∗ a3P c X3
  ∗ a4P c X4
  ∗ a5P c X5
  ∗ a6P c X6
  ∗ a7P c X7
  ∗ a8P c X8
  ∗ a9P c X9
  ∗ a10P c X10
  ∗ a11P c X11
  ∗ (∃ f, o0P c f)
  ∗ (∃ f, o1P c f)
  ∗ (∃ f, o2P c f)
  ∗ (∃ f, x6P c f)
  ∗ (∃ f, lseP c f)
  ∗ (∃ f, candP c f)
  ∗ (∃ f, xsP c f)
  ∗ (∃ f, ppP c f)
  ∗ (∃ f, fpP c f)
  ∗ (∃ f, rpP c f)
  ∗ (∃ f, candsP c f)
  ∗ (∃ f, wsP c f)
  ∗ (∃ f, histP c f)
  ∗ (∃ f, cntP c f)
  ∗ (∃ f, biasP c f)
  ∗ (∃ f, hlenP c f)
  ∗ (∃ f, bidP c f)
  ∗ (∃ f, bvalP c f)
  ∗ (∃ f, xP c f)
  ∗ (∃ f, zP c f)
  ∗ icell0 c
  ∗ icell1 c
  ∗ icell2 c
  ∗ icell3 c
  ∗ icell4 c
  ∗ icell5 c
  ∗ icell6 c
  ∗ icell7 c
  ∗ icell8 c
  ∗ icell9 c
  ∗ icell10 c
  ∗ ocell0 c
  ∗ ocell1 c
  ∗ ocell2 c
  ∗ ocell3 c
  ∗ (∃ W, owes (c : Thread nD τ) 0 W)
  ∗ bigSep (Ring.homeSet 4 0) (homeP c X2)
  ∗ homeP c X2 0
  ∗ homeP c X2 1
  ∗ homeP c X2 2
  ∗ homeP c X2 3
  ∗ (∃ f, slotP c 0 f)
  ∗ (∃ f, slotP c 1 f)
  ∗ (∃ f, slotP c 2 f)
  ∗ (∃ f, slotP c 3 f)
  ∗ cellP c 0
  ∗ cellP c 1
  ∗ cellP c 2
  ∗ cellP c 3
  ∗ thome0 c X2
  ∗ thome1 c X2
  ∗ thome2 c X2
  ∗ thome3 c X2
  ∗ thome4 c X2
  ∗ thome5 c X2
  ∗ (∃ f, tslot0 c f)
  ∗ (∃ f, tslot1 c f)
  ∗ (∃ f, tslot2 c f)
  ∗ (∃ f, tslot3 c f)
  ∗ (∃ f, tslot4 c f)
  ∗ (∃ f, tslot5 c f)
  ∗ tcell0 c
  ∗ tcell1 c
  ∗ tcell2 c
  ∗ tcell3 c
  ∗ tcell4 c
  ∗ tcell5 c)
/-- What it hands back, the three outputs at `O0`, `O1`, `O2`. -/
abbrev POST (O0 : Buf (Elt F) (o0M.view.loc (c : Thread nD τ))) (O1 : Buf (Elt F) (o1M.view.loc (c : Thread nD τ))) (O2 : Buf (Elt F) (o2M.view.loc (c : Thread nD τ))) : sProp 𝕄 := iprop(a0P c X0
  ∗ a1P c X1
  ∗ a3P c X3
  ∗ a4P c X4
  ∗ a5P c X5
  ∗ a6P c X6
  ∗ a7P c X7
  ∗ a8P c X8
  ∗ a9P c X9
  ∗ a10P c X10
  ∗ a11P c X11
  ∗ o0P c O0
  ∗ o1P c O1
  ∗ o2P c O2
  ∗ (∃ f, x6P c f)
  ∗ (∃ f, lseP c f)
  ∗ (∃ f, candP c f)
  ∗ (∃ f, xsP c f)
  ∗ (∃ f, ppP c f)
  ∗ (∃ f, fpP c f)
  ∗ (∃ f, rpP c f)
  ∗ (∃ f, candsP c f)
  ∗ (∃ f, wsP c f)
  ∗ (∃ f, histP c f)
  ∗ (∃ f, cntP c f)
  ∗ (∃ f, biasP c f)
  ∗ (∃ f, hlenP c f)
  ∗ (∃ f, bidP c f)
  ∗ (∃ f, bvalP c f)
  ∗ (∃ f, xP c f)
  ∗ (∃ f, zP c f)
  ∗ icell0 c
  ∗ icell1 c
  ∗ icell2 c
  ∗ icell3 c
  ∗ icell4 c
  ∗ icell5 c
  ∗ icell6 c
  ∗ icell7 c
  ∗ icell8 c
  ∗ icell9 c
  ∗ icell10 c
  ∗ ocell0 c
  ∗ ocell1 c
  ∗ ocell2 c
  ∗ ocell3 c
  ∗ (∃ W, owes (c : Thread nD τ) 0 W)
  ∗ bigSep Finset.univ (homeP c X2)
  ∗ (∃ f, slotP c 0 f)
  ∗ (∃ f, slotP c 1 f)
  ∗ (∃ f, slotP c 2 f)
  ∗ (∃ f, slotP c 3 f)
  ∗ cellP c 0
  ∗ cellP c 1
  ∗ cellP c 2
  ∗ cellP c 3
  ∗ thome0 c X2
  ∗ thome1 c X2
  ∗ thome2 c X2
  ∗ thome3 c X2
  ∗ thome4 c X2
  ∗ thome5 c X2
  ∗ (∃ f, tslot0 c f)
  ∗ (∃ f, tslot1 c f)
  ∗ (∃ f, tslot2 c f)
  ∗ (∃ f, tslot3 c f)
  ∗ (∃ f, tslot4 c f)
  ∗ (∃ f, tslot5 c f)
  ∗ tcell0 c
  ∗ tcell1 c
  ∗ tcell2 c
  ∗ tcell3 c
  ∗ tcell4 c
  ∗ tcell5 c)
set_option backward.proofsInPublic true in
set_option sl_exec.dmaWindow true in
/-- The body's run: the three outputs, and that the body takes `PRE` to `POST` at them. -/
def bodyRun (hB : BidOK c X10)
    (hc7 : k0_chk7 (candsM.view.readAt (Elt F) (Rect.unit (s := S4x6) ![0, 0] S1x1.size inb_S4x6_S1x1_0_0).toLoadRect X9 (Shape.Idx.first (numel1_S1x1.symm ▸ Nat.one_pos))))
    (hc8 : k0_chk8 (candsM.view.readAt (Elt F) (Rect.unit (s := S4x6) ![0, 1] S1x1.size inb_S4x6_S1x1_0_1).toLoadRect X9 (Shape.Idx.first (numel1_S1x1.symm ▸ Nat.one_pos))))
    (hc9 : k0_chk9 (candsM.view.readAt (Elt F) (Rect.unit (s := S4x6) ![0, 2] S1x1.size inb_S4x6_S1x1_0_2).toLoadRect X9 (Shape.Idx.first (numel1_S1x1.symm ▸ Nat.one_pos))))
    (hc10 : k0_chk10 (candsM.view.readAt (Elt F) (Rect.unit (s := S4x6) ![0, 3] S1x1.size inb_S4x6_S1x1_0_3).toLoadRect X9 (Shape.Idx.first (numel1_S1x1.symm ▸ Nat.one_pos))))
    (hc11 : k0_chk11 (candsM.view.readAt (Elt F) (Rect.unit (s := S4x6) ![0, 4] S1x1.size inb_S4x6_S1x1_0_4).toLoadRect X9 (Shape.Idx.first (numel1_S1x1.symm ▸ Nat.one_pos))))
    (hc12 : k0_chk12 (candsM.view.readAt (Elt F) (Rect.unit (s := S4x6) ![0, 5] S1x1.size inb_S4x6_S1x1_0_5).toLoadRect X9 (Shape.Idx.first (numel1_S1x1.symm ▸ Nat.one_pos))))
    (hc13 : k0_chk13 (candsM.view.readAt (Elt F) (Rect.unit (s := S4x6) ![1, 0] S1x1.size inb_S4x6_S1x1_1_0).toLoadRect X9 (Shape.Idx.first (numel1_S1x1.symm ▸ Nat.one_pos))))
    (hc14 : k0_chk14 (candsM.view.readAt (Elt F) (Rect.unit (s := S4x6) ![1, 1] S1x1.size inb_S4x6_S1x1_1_1).toLoadRect X9 (Shape.Idx.first (numel1_S1x1.symm ▸ Nat.one_pos))))
    (hc15 : k0_chk15 (candsM.view.readAt (Elt F) (Rect.unit (s := S4x6) ![1, 2] S1x1.size inb_S4x6_S1x1_1_2).toLoadRect X9 (Shape.Idx.first (numel1_S1x1.symm ▸ Nat.one_pos))))
    (hc16 : k0_chk16 (candsM.view.readAt (Elt F) (Rect.unit (s := S4x6) ![1, 3] S1x1.size inb_S4x6_S1x1_1_3).toLoadRect X9 (Shape.Idx.first (numel1_S1x1.symm ▸ Nat.one_pos))))
    (hc17 : k0_chk17 (candsM.view.readAt (Elt F) (Rect.unit (s := S4x6) ![1, 4] S1x1.size inb_S4x6_S1x1_1_4).toLoadRect X9 (Shape.Idx.first (numel1_S1x1.symm ▸ Nat.one_pos))))
    (hc18 : k0_chk18 (candsM.view.readAt (Elt F) (Rect.unit (s := S4x6) ![1, 5] S1x1.size inb_S4x6_S1x1_1_5).toLoadRect X9 (Shape.Idx.first (numel1_S1x1.symm ▸ Nat.one_pos))))
    (hc19 : k0_chk19 (candsM.view.readAt (Elt F) (Rect.unit (s := S4x6) ![2, 0] S1x1.size inb_S4x6_S1x1_2_0).toLoadRect X9 (Shape.Idx.first (numel1_S1x1.symm ▸ Nat.one_pos))))
    (hc20 : k0_chk20 (candsM.view.readAt (Elt F) (Rect.unit (s := S4x6) ![2, 1] S1x1.size inb_S4x6_S1x1_2_1).toLoadRect X9 (Shape.Idx.first (numel1_S1x1.symm ▸ Nat.one_pos))))
    (hc21 : k0_chk21 (candsM.view.readAt (Elt F) (Rect.unit (s := S4x6) ![2, 2] S1x1.size inb_S4x6_S1x1_2_2).toLoadRect X9 (Shape.Idx.first (numel1_S1x1.symm ▸ Nat.one_pos))))
    (hc22 : k0_chk22 (candsM.view.readAt (Elt F) (Rect.unit (s := S4x6) ![2, 3] S1x1.size inb_S4x6_S1x1_2_3).toLoadRect X9 (Shape.Idx.first (numel1_S1x1.symm ▸ Nat.one_pos))))
    (hc23 : k0_chk23 (candsM.view.readAt (Elt F) (Rect.unit (s := S4x6) ![2, 4] S1x1.size inb_S4x6_S1x1_2_4).toLoadRect X9 (Shape.Idx.first (numel1_S1x1.symm ▸ Nat.one_pos))))
    (hc24 : k0_chk24 (candsM.view.readAt (Elt F) (Rect.unit (s := S4x6) ![2, 5] S1x1.size inb_S4x6_S1x1_2_5).toLoadRect X9 (Shape.Idx.first (numel1_S1x1.symm ▸ Nat.one_pos))))
    (hc25 : k0_chk25 (candsM.view.readAt (Elt F) (Rect.unit (s := S4x6) ![3, 0] S1x1.size inb_S4x6_S1x1_3_0).toLoadRect X9 (Shape.Idx.first (numel1_S1x1.symm ▸ Nat.one_pos))))
    (hc26 : k0_chk26 (candsM.view.readAt (Elt F) (Rect.unit (s := S4x6) ![3, 1] S1x1.size inb_S4x6_S1x1_3_1).toLoadRect X9 (Shape.Idx.first (numel1_S1x1.symm ▸ Nat.one_pos))))
    (hc27 : k0_chk27 (candsM.view.readAt (Elt F) (Rect.unit (s := S4x6) ![3, 2] S1x1.size inb_S4x6_S1x1_3_2).toLoadRect X9 (Shape.Idx.first (numel1_S1x1.symm ▸ Nat.one_pos))))
    (hc28 : k0_chk28 (candsM.view.readAt (Elt F) (Rect.unit (s := S4x6) ![3, 3] S1x1.size inb_S4x6_S1x1_3_3).toLoadRect X9 (Shape.Idx.first (numel1_S1x1.symm ▸ Nat.one_pos))))
    (hc29 : k0_chk29 (candsM.view.readAt (Elt F) (Rect.unit (s := S4x6) ![3, 4] S1x1.size inb_S4x6_S1x1_3_4).toLoadRect X9 (Shape.Idx.first (numel1_S1x1.symm ▸ Nat.one_pos))))
    (hc30 : k0_chk30 (candsM.view.readAt (Elt F) (Rect.unit (s := S4x6) ![3, 5] S1x1.size inb_S4x6_S1x1_3_5).toLoadRect X9 (Shape.Idx.first (numel1_S1x1.symm ▸ Nat.one_pos)))) :
    Σ' (O0 : Buf (Elt F) (o0M.view.loc (c : Thread nD τ))) (O1 : Buf (Elt F) (o1M.view.loc (c : Thread nD τ))),
    { O2 : Buf (Elt F) (o2M.view.loc (c : Thread nD τ)) // ∀ Q : PUnit → sProp 𝕄,
      iprop(PRE c X2 X0 X1 X3 X4 X5 X6 X7 X8 X9 X10 X11 ∗ (POST c X2 X0 X1 X3 X4 X5 X6 X7 X8 X9 X10 X11 O0 O1 O2 -∗ Q ⟨⟩))
        ⊢ wp frame (wpE (defs₀ (F := F)) 𝒱₀ (c : Thread nD τ) none) Set.univ (cc0_head_logits (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1) (Memref.isWhole_whole _) (Memref.whole main_arg10) (Memref.isWhole_whole _) (Memref.whole main_arg11) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22) Q } := by
  refine ⟨?_, ?_, ?_, fun Q => ?run⟩
  case run =>
    iintro ⟨⟨Ha0, Ha1, Ha3, Ha4, Ha5, Ha6, Ha7, Ha8, Ha9, Ha10, Ha11, ⟨%fo0, HO0⟩, ⟨%fo1, HO1⟩, ⟨%fo2, HO2⟩, ⟨%fx6, Hx6⟩, ⟨%flse, Hlse⟩, ⟨%fcand, Hcand⟩, ⟨%fxs, Hxs⟩, ⟨%fpp, Hpp⟩, ⟨%ffp, Hfp⟩, ⟨%frp, Hrp⟩, ⟨%fcands, Hcands⟩, ⟨%fws, Hws⟩, ⟨%fhist, Hhist⟩, ⟨%fcnt, Hcnt⟩, ⟨%fbias, Hbias⟩, ⟨%fhlen, Hhlen⟩, ⟨%fbid, Hbid⟩, ⟨%fbval, Hbval⟩, ⟨%fxbuf, Hxbuf⟩, ⟨%fzbuf, Hzbuf⟩, Hi0, Hi1, Hi2, Hi3, Hi4, Hi5, Hi6, Hi7, Hi8, Hi9, Hi10, Ho0, Ho1, Ho2, Ho3, ⟨%W, HW⟩, Hh, Hg0, Hg1, Hg2, Hg3, ⟨%g0, Hs0⟩, ⟨%g1, Hs1⟩, ⟨%g2, Hs2⟩, ⟨%g3, Hs3⟩, Hc0, Hc1, Hc2, Hc3, Ht0, Ht1, Ht2, Ht3, Ht4, Ht5, ⟨%t0, Hu0⟩, ⟨%t1, Hu1⟩, ⟨%t2, Hu2⟩, ⟨%t3, Hu3⟩, ⟨%t4, Hu4⟩, ⟨%t5, Hu5⟩, Hd0, Hd1, Hd2, Hd3, Hd4, Hd5⟩, Hk⟩
    sl_unfold [cc0_head_logits]
    set_option sl_exec.stopBefore "k0_part29" in sl_exec
    ihave Hhist' := (hist_landed c fhist X4) $$ [Hhist]
    · iexact Hhist
    ihave Hhlen' := (hlen_landed c fhlen X5) $$ [Hhlen]
    · iexact Hhlen
    ihave Hbid' := (bid_landed c fbid X10) $$ [Hbid]
    · iexact Hbid
    ihave Hbval' := (bval_landed c fbval X11) $$ [Hbval]
    · iexact Hbval
    ihave Hx6' := (x6_landed c fx6 X0) $$ [Hx6]
    · iexact Hx6
    ihave Hxs' := (xs_landed c fxs X1) $$ [Hxs]
    · iexact Hxs
    ihave Hws' := (ws_landed c fws X3) $$ [Hws]
    · iexact Hws
    ihave Hpp' := (pp_landed c fpp X6) $$ [Hpp]
    · iexact Hpp
    ihave Hfp' := (fp_landed c ffp X7) $$ [Hfp]
    · iexact Hfp
    ihave Hrp' := (rp_landed c frp X8) $$ [Hrp]
    · iexact Hrp
    ihave Hcands' := (cands_landed c fcands X9) $$ [Hcands]
    · iexact Hcands
    set_option sl_exec.stopBefore "k0_part32" in sl_exec
    ihave Ho2w := (o2_split c fo2) $$ [HO2]
    · iexact HO2
    icases Ho2w with ⟨Hw0, Hw1⟩
    set_option sl_exec.stopBefore "k0_part48" in sl_exec
    ihave HZ1 := (zRest_eq c _) $$ [HL5]
    · iexact HL5
    icases HZ1 with ⟨Hzl, Hzr⟩
    ihave HZ := (z_parts c fullShare.right _ _) $$ [HL4 Hzr]
    · isplitl [HL4]
      · iexact HL4
      iexact Hzr
    sl_exec
    sl_step
    ihave HO0' := (o0_done c fo0 flse _) $$ [HO0]
    · iexact HO0
    ihave HO1' := (o1_done c fo1 fcand _ _ _ _) $$ [HO1]
    · iexact HO1
    ihave HO2' := (o2_done c fo2 _ _) $$ [Hw0 Hw1]
    · isplitl [Hw0]
      · iexact Hw0
      iexact Hw1
    ihave HZl := (z_parts c fullShare.left _ _) $$ [HL3 Hzl]
    · isplitl [HL3]
      · iexact HL3
      iexact Hzl
    ihave HZ' := (z_halves c _) $$ [HZl HZ]
    · isplitl [HZl]
      · iexact HZl
      iexact HZ
    iapply Hk
    isplitl [Ha0]; · iexact Ha0
    isplitl [Ha1]; · iexact Ha1
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [HO0']; · iexact HO0'
    isplitl [HO1']; · iexact HO1'
    isplitl [HO2']; · iexact HO2'
    isplitl [Hx6']; · iexists _; iexact Hx6'
    isplitl [Hlse]; · iexists _; iexact Hlse
    isplitl [Hcand]; · iexists _; iexact Hcand
    isplitl [Hxs']; · iexists _; iexact Hxs'
    isplitl [Hpp']; · iexists _; iexact Hpp'
    isplitl [Hfp']; · iexists _; iexact Hfp'
    isplitl [Hrp']; · iexists _; iexact Hrp'
    isplitl [Hcands']; · iexists _; iexact Hcands'
    isplitl [HL0]; · iexists _; iexact HL0
    isplitl [Hhist']; · iexists _; iexact Hhist'
    isplitl [HL1]; · iexists _; iexact HL1
    isplitl [HL2]; · iexists _; iexact HL2
    isplitl [Hhlen']; · iexists _; iexact Hhlen'
    isplitl [Hbid']; · iexists _; iexact Hbid'
    isplitl [Hbval']; · iexists _; iexact Hbval'
    isplitl [HL6]; · iexists _; iexact HL6
    isplitl [HZ']; · iexists _; iexact HZ'
    isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    isplitl [Hi8]; · iexact Hi8
    isplitl [Hi9]; · iexact Hi9
    isplitl [Hi10]; · iexact Hi10
    isplitl [Ho0]; · iexact Ho0
    isplitl [Ho1]; · iexact Ho1
    isplitl [Ho2]; · iexact Ho2
    isplitl [Ho3]; · iexact Ho3
    isplitl [HL8]; · iexists _; iexact HL8
    isplitl [HL9]; · iexact HL9
    isplitl [HL10]; · iexists _; iexact HL10
    isplitl [HL11]; · iexists _; iexact HL11
    isplitl [HL12]; · iexists _; iexact HL12
    isplitl [HL13]; · iexists _; iexact HL13
    isplitl [HL14]; · iexact HL14
    isplitl [HL15]; · iexact HL15
    isplitl [HL16]; · iexact HL16
    isplitl [HL17]; · iexact HL17
    isplitl [HL18_src]; · iexact HL18_src
    isplitl [HL19_src]; · iexact HL19_src
    isplitl [HL20_src]; · iexact HL20_src
    isplitl [HL21_src]; · iexact HL21_src
    isplitl [HL22_src]; · iexact HL22_src
    isplitl [HL23_src]; · iexact HL23_src
    isplitl [HL18_dst]; · iexists _; iexact HL18_dst
    isplitl [HL19_dst]; · iexists _; iexact HL19_dst
    isplitl [HL20_dst]; · iexists _; iexact HL20_dst
    isplitl [HL21_dst]; · iexists _; iexact HL21_dst
    isplitl [HL22_dst]; · iexists _; iexact HL22_dst
    isplitl [HL23_dst]; · iexists _; iexact HL23_dst
    isplitl [HL18]; · iexact HL18
    isplitl [HL19]; · iexact HL19
    isplitl [HL20]; · iexact HL20
    isplitl [HL21]; · iexact HL21
    isplitl [HL22]; · iexact HL22
    iexact HL23

end Body
end Cert.Proof.KernelIdeal
end
-- ==== Proof.KernelIdeal.Blocks.lean ====
/- The buffers cut into the parts the kernel's transfers use, and put together again.

   The weights are the 32 blocks of their first 29952 columns and the 6 pieces of their last 2048; the ring's
   buffer is its 4 slots; the tail's buffer is its 6 windows. -/
module

public import proofs.«01_k».proof.Proof.KernelIdeal.Body

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A rectangle of a table of two axes, by its first row and column and its numbers of rows and columns. -/
theorem mem_rect2 {s : Shape} (hs : s.rank = 2) {off size : Fin s.rank → ℕ} (inb) (y : s.Idx) (r c n k : ℕ)
    (h0 : off ⟨0, by omega⟩ = r) (h1 : off ⟨1, by omega⟩ = c) (h2 : size ⟨0, by omega⟩ = n) (h3 : size ⟨1, by omega⟩ = k) :
    y ∈ (Rect.unit (s := s) off size inb).set ↔ (r ≤ (y ⟨0, by omega⟩).val ∧ (y ⟨0, by omega⟩).val < r + n) ∧ (c ≤ (y ⟨1, by omega⟩).val ∧ (y ⟨1, by omega⟩).val < c + k) := by
  rw [Rect.mem_set_unit]
  constructor
  · intro h
    have a0 := h ⟨0, by omega⟩
    have a1 := h ⟨1, by omega⟩
    rw [h0, h2] at a0; rw [h1, h3] at a1
    exact ⟨a0, a1⟩
  · rintro ⟨a0, a1⟩ ⟨i, hi⟩
    have : i = 0 ∨ i = 1 := by omega
    rcases this with rfl | rfl
    · rw [h0, h2]; exact a0
    · rw [h1, h3]; exact a1

theorem mem_of_eq {β : Type} {S T : Finset β} (h : S = T) {y : β} {p : Prop} (hT : y ∈ T ↔ p) : y ∈ S ↔ p := by rw [h]; exact hT

theorem mem_grp (b : Fin 32) (y : S8192x32000.Idx) : y ∈ ((grp b).view.set : Finset S8192x32000.Idx)
    ↔ (256 * b.val ≤ (y 0).val ∧ (y 0).val < 256 * b.val + 256) ∧ (y 1).val < 29952 := by
  refine mem_of_eq (β := S8192x32000.Idx) (T := (Rect.unit (s := S8192x32000) (blkOff b) S256x29952.size (blkOff_inb b)).set) (View.set_slice_whole _ _) ((mem_rect2 (s := S8192x32000) rfl _ y (256 * b.val) 0 256 29952 rfl rfl rfl rfl).trans ?_)
  constructor
  · rintro ⟨h, h1⟩; exact ⟨h, by have := h1.2; simpa using this⟩
  · rintro ⟨h, h1⟩; exact ⟨h, Nat.zero_le _, by simpa using h1⟩
theorem mem_tsrc0 (y : S8192x32000.Idx) : y ∈ (tsrc0.view.set : Finset S8192x32000.Idx)
    ↔ (0 ≤ (y 0).val ∧ (y 0).val < 3072) ∧ 29952 ≤ (y 1).val := by
  refine mem_of_eq (β := S8192x32000.Idx) (T := (Rect.unit (s := S8192x32000) ![0, 29952] S3072x2048.size inb_S8192x32000_S3072x2048_0_29952).set) (View.set_slice_whole _ _) ((mem_rect2 (s := S8192x32000) rfl _ y 0 29952 3072 2048 rfl rfl rfl rfl).trans ?_)
  have hy : (y 1).val < 32000 := (y 1).isLt
  exact ⟨fun h => ⟨h.1, h.2.1⟩, fun h => ⟨h.1, h.2, hy⟩⟩
theorem mem_tdst0 (y : S8192x2048.Idx) : y ∈ (tdst0.view.set : Finset S8192x2048.Idx) ↔ 0 ≤ (y 0).val ∧ (y 0).val < 3072 := by
  refine mem_of_eq (β := S8192x2048.Idx) (T := (Rect.unit (s := S8192x2048) ![0, 0] S3072x2048.size inb_S8192x2048_S3072x2048_0_0).set) (View.set_slice_whole _ _) ((mem_rect2 (s := S8192x2048) rfl _ y 0 0 3072 2048 rfl rfl rfl rfl).trans ?_)
  have hy : (y 1).val < 2048 := (y 1).isLt
  exact ⟨fun h => h.1, fun h => ⟨h, Nat.zero_le _, by simpa using hy⟩⟩
theorem mem_tsrc1 (y : S8192x32000.Idx) : y ∈ (tsrc1.view.set : Finset S8192x32000.Idx)
    ↔ (3072 ≤ (y 0).val ∧ (y 0).val < 5120) ∧ 29952 ≤ (y 1).val := by
  refine mem_of_eq (β := S8192x32000.Idx) (T := (Rect.unit (s := S8192x32000) ![3072, 29952] S2048x2048.size inb_S8192x32000_S2048x2048_3072_29952).set) (View.set_slice_whole _ _) ((mem_rect2 (s := S8192x32000) rfl _ y 3072 29952 2048 2048 rfl rfl rfl rfl).trans ?_)
  have hy : (y 1).val < 32000 := (y 1).isLt
  exact ⟨fun h => ⟨h.1, h.2.1⟩, fun h => ⟨h.1, h.2, hy⟩⟩
theorem mem_tdst1 (y : S8192x2048.Idx) : y ∈ (tdst1.view.set : Finset S8192x2048.Idx) ↔ 3072 ≤ (y 0).val ∧ (y 0).val < 5120 := by
  refine mem_of_eq (β := S8192x2048.Idx) (T := (Rect.unit (s := S8192x2048) ![3072, 0] S2048x2048.size inb_S8192x2048_S2048x2048_3072_0).set) (View.set_slice_whole _ _) ((mem_rect2 (s := S8192x2048) rfl _ y 3072 0 2048 2048 rfl rfl rfl rfl).trans ?_)
  have hy : (y 1).val < 2048 := (y 1).isLt
  exact ⟨fun h => h.1, fun h => ⟨h, Nat.zero_le _, by simpa using hy⟩⟩
theorem mem_tsrc2 (y : S8192x32000.Idx) : y ∈ (tsrc2.view.set : Finset S8192x32000.Idx)
    ↔ (5120 ≤ (y 0).val ∧ (y 0).val < 6144) ∧ 29952 ≤ (y 1).val := by
  refine mem_of_eq (β := S8192x32000.Idx) (T := (Rect.unit (s := S8192x32000) ![5120, 29952] S1024x2048.size inb_S8192x32000_S1024x2048_5120_29952).set) (View.set_slice_whole _ _) ((mem_rect2 (s := S8192x32000) rfl _ y 5120 29952 1024 2048 rfl rfl rfl rfl).trans ?_)
  have hy : (y 1).val < 32000 := (y 1).isLt
  exact ⟨fun h => ⟨h.1, h.2.1⟩, fun h => ⟨h.1, h.2, hy⟩⟩
theorem mem_tdst2 (y : S8192x2048.Idx) : y ∈ (tdst2.view.set : Finset S8192x2048.Idx) ↔ 5120 ≤ (y 0).val ∧ (y 0).val < 6144 := by
  refine mem_of_eq (β := S8192x2048.Idx) (T := (Rect.unit (s := S8192x2048) ![5120, 0] S1024x2048.size inb_S8192x2048_S1024x2048_5120_0).set) (View.set_slice_whole _ _) ((mem_rect2 (s := S8192x2048) rfl _ y 5120 0 1024 2048 rfl rfl rfl rfl).trans ?_)
  have hy : (y 1).val < 2048 := (y 1).isLt
  exact ⟨fun h => h.1, fun h => ⟨h, Nat.zero_le _, by simpa using hy⟩⟩
theorem mem_tsrc3 (y : S8192x32000.Idx) : y ∈ (tsrc3.view.set : Finset S8192x32000.Idx)
    ↔ (6144 ≤ (y 0).val ∧ (y 0).val < 7168) ∧ 29952 ≤ (y 1).val := by
  refine mem_of_eq (β := S8192x32000.Idx) (T := (Rect.unit (s := S8192x32000) ![6144, 29952] S1024x2048.size inb_S8192x32000_S1024x2048_6144_29952).set) (View.set_slice_whole _ _) ((mem_rect2 (s := S8192x32000) rfl _ y 6144 29952 1024 2048 rfl rfl rfl rfl).trans ?_)
  have hy : (y 1).val < 32000 := (y 1).isLt
  exact ⟨fun h => ⟨h.1, h.2.1⟩, fun h => ⟨h.1, h.2, hy⟩⟩
theorem mem_tdst3 (y : S8192x2048.Idx) : y ∈ (tdst3.view.set : Finset S8192x2048.Idx) ↔ 6144 ≤ (y 0).val ∧ (y 0).val < 7168 := by
  refine mem_of_eq (β := S8192x2048.Idx) (T := (Rect.unit (s := S8192x2048) ![6144, 0] S1024x2048.size inb_S8192x2048_S1024x2048_6144_0).set) (View.set_slice_whole _ _) ((mem_rect2 (s := S8192x2048) rfl _ y 6144 0 1024 2048 rfl rfl rfl rfl).trans ?_)
  have hy : (y 1).val < 2048 := (y 1).isLt
  exact ⟨fun h => h.1, fun h => ⟨h, Nat.zero_le _, by simpa using hy⟩⟩
theorem mem_tsrc4 (y : S8192x32000.Idx) : y ∈ (tsrc4.view.set : Finset S8192x32000.Idx)
    ↔ (7168 ≤ (y 0).val ∧ (y 0).val < 7680) ∧ 29952 ≤ (y 1).val := by
  refine mem_of_eq (β := S8192x32000.Idx) (T := (Rect.unit (s := S8192x32000) ![7168, 29952] S512x2048.size inb_S8192x32000_S512x2048_7168_29952).set) (View.set_slice_whole _ _) ((mem_rect2 (s := S8192x32000) rfl _ y 7168 29952 512 2048 rfl rfl rfl rfl).trans ?_)
  have hy : (y 1).val < 32000 := (y 1).isLt
  exact ⟨fun h => ⟨h.1, h.2.1⟩, fun h => ⟨h.1, h.2, hy⟩⟩
theorem mem_tdst4 (y : S8192x2048.Idx) : y ∈ (tdst4.view.set : Finset S8192x2048.Idx) ↔ 7168 ≤ (y 0).val ∧ (y 0).val < 7680 := by
  refine mem_of_eq (β := S8192x2048.Idx) (T := (Rect.unit (s := S8192x2048) ![7168, 0] S512x2048.size inb_S8192x2048_S512x2048_7168_0).set) (View.set_slice_whole _ _) ((mem_rect2 (s := S8192x2048) rfl _ y 7168 0 512 2048 rfl rfl rfl rfl).trans ?_)
  have hy : (y 1).val < 2048 := (y 1).isLt
  exact ⟨fun h => h.1, fun h => ⟨h, Nat.zero_le _, by simpa using hy⟩⟩
theorem mem_tsrc5 (y : S8192x32000.Idx) : y ∈ (tsrc5.view.set : Finset S8192x32000.Idx)
    ↔ (7680 ≤ (y 0).val ∧ (y 0).val < 8192) ∧ 29952 ≤ (y 1).val := by
  refine mem_of_eq (β := S8192x32000.Idx) (T := (Rect.unit (s := S8192x32000) ![7680, 29952] S512x2048.size inb_S8192x32000_S512x2048_7680_29952).set) (View.set_slice_whole _ _) ((mem_rect2 (s := S8192x32000) rfl _ y 7680 29952 512 2048 rfl rfl rfl rfl).trans ?_)
  have hy : (y 1).val < 32000 := (y 1).isLt
  exact ⟨fun h => ⟨h.1, h.2.1⟩, fun h => ⟨h.1, h.2, hy⟩⟩
theorem mem_tdst5 (y : S8192x2048.Idx) : y ∈ (tdst5.view.set : Finset S8192x2048.Idx) ↔ 7680 ≤ (y 0).val ∧ (y 0).val < 8192 := by
  refine mem_of_eq (β := S8192x2048.Idx) (T := (Rect.unit (s := S8192x2048) ![7680, 0] S512x2048.size inb_S8192x2048_S512x2048_7680_0).set) (View.set_slice_whole _ _) ((mem_rect2 (s := S8192x2048) rfl _ y 7680 0 512 2048 rfl rfl rfl rfl).trans ?_)
  have hy : (y 1).val < 2048 := (y 1).isLt
  exact ⟨fun h => h.1, fun h => ⟨h, Nat.zero_le _, by simpa using hy⟩⟩
theorem mem_rslot (s : Fin 4) (y : S4x256x29952.Idx) : y ∈ ((rslot s).view.set : Finset S4x256x29952.Idx) ↔ (y 0).val = s.val := by
  refine mem_of_eq (β := S4x256x29952.Idx) (T := (Rect.unit (s := S4x256x29952) (slotOff s) S1x256x29952.size (slotOff_inb s)).set)
    ((View.set_reshape _ _).trans (View.set_slice_whole _ _)) ((Rect.mem_set_unit (s := S4x256x29952)).trans ?_)
  have h1 : (y 1).val < 256 := (y 1).isLt
  have h2 : (y 2).val < 29952 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 29952; omega

/-- The weights' parts: a block each for the first 32, a piece each for the last six. -/
def aPart (k : Fin 38) : Finset S8192x32000.Idx := Finset.univ.filter fun y =>
  if k.val < 32 then (256 * k.val ≤ (y 0).val ∧ (y 0).val < 256 * k.val + 256) ∧ (y 1).val < 29952
  else (lo k.val ≤ (y 0).val ∧ (y 0).val < lo (k.val + 1)) ∧ 29952 ≤ (y 1).val
where lo (k : ℕ) : ℕ := if k ≤ 32 then 0 else if k = 33 then 3072 else if k = 34 then 5120 else if k = 35 then 6144 else if k = 36 then 7168 else if k = 37 then 7680 else 8192
def tPart (k : Fin 6) : Finset S8192x2048.Idx := Finset.univ.filter fun y => aPart.lo (32 + k.val) ≤ (y 0).val ∧ (y 0).val < aPart.lo (33 + k.val)
def rPart (k : Fin 4) : Finset S4x256x29952.Idx := Finset.univ.filter fun y => (y 0).val = k.val

theorem lo_mono {i j : ℕ} (h : i ≤ j) : aPart.lo i ≤ aPart.lo j := by unfold aPart.lo; split_ifs <;> omega

theorem aPart_disj : ∀ b b' : Fin 38, b ≠ b' → Disjoint (aPart b) (aPart b') := by
  intro b b' hne
  rw [Finset.disjoint_left]
  intro y h h'
  have hv : b.val ≠ b'.val := fun e => hne (Fin.ext e)
  simp only [aPart, Finset.mem_filter, Finset.mem_univ, true_and] at h h'
  split_ifs at h h'
  · omega
  · omega
  · omega
  · rcases Nat.lt_or_gt_of_ne hv with g | g
    · have := lo_mono (i := b.val + 1) (j := b'.val) (by omega); omega
    · have := lo_mono (i := b'.val + 1) (j := b.val) (by omega); omega
theorem tPart_disj : ∀ b b' : Fin 6, b ≠ b' → Disjoint (tPart b) (tPart b') := by
  intro b b' hne
  rw [Finset.disjoint_left]
  intro y h h'
  have hv : b.val ≠ b'.val := fun e => hne (Fin.ext e)
  simp only [tPart, Finset.mem_filter, Finset.mem_univ, true_and] at h h'
  rcases Nat.lt_or_gt_of_ne hv with g | g
  · have := lo_mono (i := 33 + b.val) (j := 32 + b'.val) (by omega); omega
  · have := lo_mono (i := 33 + b'.val) (j := 32 + b.val) (by omega); omega
theorem rPart_disj : ∀ b b' : Fin 4, b ≠ b' → Disjoint (rPart b) (rPart b') := by
  intro b b' hne
  rw [Finset.disjoint_left]
  intro y h h'
  simp only [rPart, Finset.mem_filter, Finset.mem_univ, true_and] at h h'
  exact hne (Fin.ext (h.symm.trans h'))
theorem lo_find (r : ℕ) (h : r < 8192) : ∃ k : Fin 6, aPart.lo (32 + k.val) ≤ r ∧ r < aPart.lo (33 + k.val) := by
  rcases (show r < 3072 ∨ (3072 ≤ r ∧ r < 5120) ∨ (5120 ≤ r ∧ r < 6144) ∨ (6144 ≤ r ∧ r < 7168) ∨ (7168 ≤ r ∧ r < 7680) ∨ 7680 ≤ r by omega) with g | g | g | g | g | g
  · exact ⟨0, Nat.zero_le _, g⟩
  · exact ⟨1, g⟩
  · exact ⟨2, g⟩
  · exact ⟨3, g⟩
  · exact ⟨4, g⟩
  · exact ⟨5, g, h⟩
theorem aPart_cover : (Finset.univ : Finset (Fin 38)).biUnion aPart = Finset.univ := by
  ext y
  simp only [Finset.mem_biUnion, Finset.mem_univ, true_and, iff_true, aPart, Finset.mem_filter]
  have h0 : (y 0).val < 8192 := (y 0).isLt
  by_cases hc : (y 1).val < 29952
  · refine ⟨⟨(y 0).val / 256, by omega⟩, ?_⟩
    have : (y 0).val / 256 < 32 := by omega
    rw [if_pos this]
    refine ⟨⟨?_, ?_⟩, hc⟩
    · show 256 * ((y 0).val / 256) ≤ (y 0).val; omega
    · show (y 0).val < 256 * ((y 0).val / 256) + 256; omega
  · obtain ⟨k, hk⟩ := lo_find _ h0
    refine ⟨⟨32 + k.val, by omega⟩, ?_⟩
    rw [if_neg (by show ¬ 32 + k.val < 32; omega)]
    refine ⟨?_, by omega⟩
    have e : 32 + k.val + 1 = 33 + k.val := by omega
    show aPart.lo (32 + k.val) ≤ _ ∧ _ < aPart.lo (32 + k.val + 1)
    rw [e]; exact hk
theorem tPart_cover : (Finset.univ : Finset (Fin 6)).biUnion tPart = Finset.univ := by
  ext y
  simp only [Finset.mem_biUnion, Finset.mem_univ, true_and, iff_true, tPart, Finset.mem_filter]
  exact lo_find _ (y 0).isLt
theorem rPart_cover : (Finset.univ : Finset (Fin 4)).biUnion rPart = Finset.univ := by
  ext y
  simp only [Finset.mem_biUnion, Finset.mem_univ, true_and, iff_true, rPart, Finset.mem_filter]
  exact ⟨⟨(y 0).val, (y 0).isLt⟩, rfl⟩

theorem aPart_grp (b : Fin 32) : aPart ⟨b.val, by omega⟩ = ((grp b).view.set : Finset S8192x32000.Idx) := by
  refine Finset.ext fun y => Iff.trans ?_ (mem_grp b y).symm
  simp only [aPart, Finset.mem_filter, Finset.mem_univ, true_and]; rw [if_pos b.isLt]
theorem aPart_tsrc0 : aPart 32 = (tsrc0.view.set : Finset S8192x32000.Idx) := by
  refine Finset.ext fun y => Iff.trans ?_ (mem_tsrc0 y).symm
  simp only [aPart, Finset.mem_filter, Finset.mem_univ, true_and]; exact Iff.rfl
theorem tPart_tdst0 : tPart 0 = (tdst0.view.set : Finset S8192x2048.Idx) := by
  refine Finset.ext fun y => Iff.trans ?_ (mem_tdst0 y).symm
  simp only [tPart, Finset.mem_filter, Finset.mem_univ, true_and]; exact Iff.rfl
theorem aPart_tsrc1 : aPart 33 = (tsrc1.view.set : Finset S8192x32000.Idx) := by
  refine Finset.ext fun y => Iff.trans ?_ (mem_tsrc1 y).symm
  simp only [aPart, Finset.mem_filter, Finset.mem_univ, true_and]; exact Iff.rfl
theorem tPart_tdst1 : tPart 1 = (tdst1.view.set : Finset S8192x2048.Idx) := by
  refine Finset.ext fun y => Iff.trans ?_ (mem_tdst1 y).symm
  simp only [tPart, Finset.mem_filter, Finset.mem_univ, true_and]; exact Iff.rfl
theorem aPart_tsrc2 : aPart 34 = (tsrc2.view.set : Finset S8192x32000.Idx) := by
  refine Finset.ext fun y => Iff.trans ?_ (mem_tsrc2 y).symm
  simp only [aPart, Finset.mem_filter, Finset.mem_univ, true_and]; exact Iff.rfl
theorem tPart_tdst2 : tPart 2 = (tdst2.view.set : Finset S8192x2048.Idx) := by
  refine Finset.ext fun y => Iff.trans ?_ (mem_tdst2 y).symm
  simp only [tPart, Finset.mem_filter, Finset.mem_univ, true_and]; exact Iff.rfl
theorem aPart_tsrc3 : aPart 35 = (tsrc3.view.set : Finset S8192x32000.Idx) := by
  refine Finset.ext fun y => Iff.trans ?_ (mem_tsrc3 y).symm
  simp only [aPart, Finset.mem_filter, Finset.mem_univ, true_and]; exact Iff.rfl
theorem tPart_tdst3 : tPart 3 = (tdst3.view.set : Finset S8192x2048.Idx) := by
  refine Finset.ext fun y => Iff.trans ?_ (mem_tdst3 y).symm
  simp only [tPart, Finset.mem_filter, Finset.mem_univ, true_and]; exact Iff.rfl
theorem aPart_tsrc4 : aPart 36 = (tsrc4.view.set : Finset S8192x32000.Idx) := by
  refine Finset.ext fun y => Iff.trans ?_ (mem_tsrc4 y).symm
  simp only [aPart, Finset.mem_filter, Finset.mem_univ, true_and]; exact Iff.rfl
theorem tPart_tdst4 : tPart 4 = (tdst4.view.set : Finset S8192x2048.Idx) := by
  refine Finset.ext fun y => Iff.trans ?_ (mem_tdst4 y).symm
  simp only [tPart, Finset.mem_filter, Finset.mem_univ, true_and]; exact Iff.rfl
theorem aPart_tsrc5 : aPart 37 = (tsrc5.view.set : Finset S8192x32000.Idx) := by
  refine Finset.ext fun y => Iff.trans ?_ (mem_tsrc5 y).symm
  simp only [aPart, Finset.mem_filter, Finset.mem_univ, true_and]; exact Iff.rfl
theorem tPart_tdst5 : tPart 5 = (tdst5.view.set : Finset S8192x2048.Idx) := by
  refine Finset.ext fun y => Iff.trans ?_ (mem_tdst5 y).symm
  simp only [tPart, Finset.mem_filter, Finset.mem_univ, true_and]; exact Iff.rfl
theorem rPart_rslot (s : Fin 4) : rPart s = ((rslot s).view.set : Finset S4x256x29952.Idx) := by
  refine Finset.ext fun y => Iff.trans ?_ (mem_rslot s y).symm
  simp only [rPart, Finset.mem_filter, Finset.mem_univ, true_and]

section Cut
variable (c : Dev nD)

/-- The 38 parts are the 32 blocks and the six pieces. -/
theorem bigSep_38 (Φ : Fin 38 → sProp 𝕄) :
    bigSep Finset.univ Φ = iprop(bigSep Finset.univ (fun b : Fin 32 => Φ ⟨b.val, by omega⟩) ∗ (Φ 32 ∗ Φ 33 ∗ Φ 34 ∗ Φ 35 ∗ Φ 36 ∗ Φ 37)) := by
  let e : Fin 32 ↪ Fin 38 := ⟨fun b => ⟨b.val, by omega⟩, fun a b h => Fin.ext (congrArg (fun x : Fin 38 => x.val) h)⟩
  let T : Finset (Fin 38) := [(32 : Fin 38), 33, 34, 35, 36, 37].toFinset
  have hu : (Finset.univ : Finset (Fin 38)) = (Finset.univ.map e) ∪ T := by decide
  have hd : Disjoint (Finset.univ.map e) T := by decide
  rw [hu, BI.bigSep_union hd, BI.bigSep_map, BI.bigSep_eq_bigSepL [(32 : Fin 38), 33, 34, 35, 36, 37] (by decide)]
  rfl
theorem bigSep_6 (Φ : Fin 6 → sProp 𝕄) : bigSep Finset.univ Φ = iprop(Φ 0 ∗ Φ 1 ∗ Φ 2 ∗ Φ 3 ∗ Φ 4 ∗ Φ 5) :=
  BI.bigSep_univ_eq_bigSepL [(0 : Fin 6), 1, 2, 3, 4, 5] (by decide) (by decide) Φ
theorem bigSep_4 (Φ : Fin 4 → sProp 𝕄) : bigSep Finset.univ Φ = iprop(Φ 0 ∗ Φ 1 ∗ Φ 2 ∗ Φ 3) :=
  BI.bigSep_univ_eq_bigSepL [(0 : Fin 4), 1, 2, 3] (by decide) (by decide) Φ

/-- The weights whole are the blocks and the pieces. -/
theorem a_eq (f : Buf (Elt F) ((c : Thread nD τ).loc main_arg2)) :
    (((c : Thread nD τ).loc main_arg2) ↦{fullShare} f : sProp 𝕄)
      = iprop(bigSep Finset.univ (homeP c f) ∗ (thome0 c f ∗ thome1 c f ∗ thome2 c f ∗ thome3 c f ∗ thome4 c f ∗ thome5 c f)) := by
  have e : bigSep Finset.univ (fun b : Fin 32 => (((c : Thread nD τ).loc main_arg2) ↦[aPart ⟨b.val, by omega⟩]{fullShare} f : sProp 𝕄)) = bigSep Finset.univ (homeP c f) :=
    bigSep_congr fun b _ => congrArg (fun S : Finset S8192x32000.Idx => (((c : Thread nD τ).loc main_arg2) ↦[S]{fullShare} f : sProp 𝕄)) (aPart_grp b)
  have e0 : (((c : Thread nD τ).loc main_arg2) ↦[aPart 32]{fullShare} f : sProp 𝕄) = thome0 c f :=
    congrArg (fun S : Finset S8192x32000.Idx => (((c : Thread nD τ).loc main_arg2) ↦[S]{fullShare} f : sProp 𝕄)) aPart_tsrc0
  have e1 : (((c : Thread nD τ).loc main_arg2) ↦[aPart 33]{fullShare} f : sProp 𝕄) = thome1 c f :=
    congrArg (fun S : Finset S8192x32000.Idx => (((c : Thread nD τ).loc main_arg2) ↦[S]{fullShare} f : sProp 𝕄)) aPart_tsrc1
  have e2 : (((c : Thread nD τ).loc main_arg2) ↦[aPart 34]{fullShare} f : sProp 𝕄) = thome2 c f :=
    congrArg (fun S : Finset S8192x32000.Idx => (((c : Thread nD τ).loc main_arg2) ↦[S]{fullShare} f : sProp 𝕄)) aPart_tsrc2
  have e3 : (((c : Thread nD τ).loc main_arg2) ↦[aPart 35]{fullShare} f : sProp 𝕄) = thome3 c f :=
    congrArg (fun S : Finset S8192x32000.Idx => (((c : Thread nD τ).loc main_arg2) ↦[S]{fullShare} f : sProp 𝕄)) aPart_tsrc3
  have e4 : (((c : Thread nD τ).loc main_arg2) ↦[aPart 36]{fullShare} f : sProp 𝕄) = thome4 c f :=
    congrArg (fun S : Finset S8192x32000.Idx => (((c : Thread nD τ).loc main_arg2) ↦[S]{fullShare} f : sProp 𝕄)) aPart_tsrc4
  have e5 : (((c : Thread nD τ).loc main_arg2) ↦[aPart 37]{fullShare} f : sProp 𝕄) = thome5 c f :=
    congrArg (fun S : Finset S8192x32000.Idx => (((c : Thread nD τ).loc main_arg2) ↦[S]{fullShare} f : sProp 𝕄)) aPart_tsrc5
  rw [Ring.pointsTo_blocks (ℓ := (c : Thread nD τ).loc main_arg2) aPart aPart_disj aPart_cover, bigSep_38, e, e0, e1, e2, e3, e4, e5]
/-- Blocks 0 to 3 apart from the rest. -/
theorem homes_zero (XA : Buf (Elt F) (aW.view.loc (c : Thread nD τ))) :
    bigSep Finset.univ (homeP c XA) = iprop(homeP c XA 0 ∗ homeP c XA 1 ∗ homeP c XA 2 ∗ homeP c XA 3 ∗ bigSep (Ring.homeSet 4 0) (homeP c XA)) := by
  have e : (Finset.univ : Finset (Fin 32)) = insert 0 (insert 1 (insert 2 (insert 3 (Ring.homeSet (NB := 32) 4 0)))) := by decide
  rw [e, bigSep_insert (by decide), bigSep_insert (by decide), bigSep_insert (by decide), bigSep_insert (by decide)]; rfl
theorem rslot_eq (s : Fin 4) (f : Buf (Elt F) ((c : Thread nD τ).loc cc0_scratch0)) :
    (((c : Thread nD τ).loc cc0_scratch0) ↦[rPart s]{fullShare} f : sProp 𝕄) = slotP c s f :=
  congrArg (fun S : Finset S4x256x29952.Idx => (((c : Thread nD τ).loc cc0_scratch0) ↦[S]{fullShare} f : sProp 𝕄)) (rPart_rslot s)
theorem tslot_eq0 (f : Buf (Elt F) ((c : Thread nD τ).loc cc0_scratch1)) :
    (((c : Thread nD τ).loc cc0_scratch1) ↦[tPart 0]{fullShare} f : sProp 𝕄) = tslot0 c f :=
  congrArg (fun S : Finset S8192x2048.Idx => (((c : Thread nD τ).loc cc0_scratch1) ↦[S]{fullShare} f : sProp 𝕄)) tPart_tdst0
theorem tslot_eq1 (f : Buf (Elt F) ((c : Thread nD τ).loc cc0_scratch1)) :
    (((c : Thread nD τ).loc cc0_scratch1) ↦[tPart 1]{fullShare} f : sProp 𝕄) = tslot1 c f :=
  congrArg (fun S : Finset S8192x2048.Idx => (((c : Thread nD τ).loc cc0_scratch1) ↦[S]{fullShare} f : sProp 𝕄)) tPart_tdst1
theorem tslot_eq2 (f : Buf (Elt F) ((c : Thread nD τ).loc cc0_scratch1)) :
    (((c : Thread nD τ).loc cc0_scratch1) ↦[tPart 2]{fullShare} f : sProp 𝕄) = tslot2 c f :=
  congrArg (fun S : Finset S8192x2048.Idx => (((c : Thread nD τ).loc cc0_scratch1) ↦[S]{fullShare} f : sProp 𝕄)) tPart_tdst2
theorem tslot_eq3 (f : Buf (Elt F) ((c : Thread nD τ).loc cc0_scratch1)) :
    (((c : Thread nD τ).loc cc0_scratch1) ↦[tPart 3]{fullShare} f : sProp 𝕄) = tslot3 c f :=
  congrArg (fun S : Finset S8192x2048.Idx => (((c : Thread nD τ).loc cc0_scratch1) ↦[S]{fullShare} f : sProp 𝕄)) tPart_tdst3
theorem tslot_eq4 (f : Buf (Elt F) ((c : Thread nD τ).loc cc0_scratch1)) :
    (((c : Thread nD τ).loc cc0_scratch1) ↦[tPart 4]{fullShare} f : sProp 𝕄) = tslot4 c f :=
  congrArg (fun S : Finset S8192x2048.Idx => (((c : Thread nD τ).loc cc0_scratch1) ↦[S]{fullShare} f : sProp 𝕄)) tPart_tdst4
theorem tslot_eq5 (f : Buf (Elt F) ((c : Thread nD τ).loc cc0_scratch1)) :
    (((c : Thread nD τ).loc cc0_scratch1) ↦[tPart 5]{fullShare} f : sProp 𝕄) = tslot5 c f :=
  congrArg (fun S : Finset S8192x2048.Idx => (((c : Thread nD τ).loc cc0_scratch1) ↦[S]{fullShare} f : sProp 𝕄)) tPart_tdst5
/-- The ring's buffer whole is its parts, and back. -/
theorem ring_split (f : Buf (Elt F) ((c : Thread nD τ).loc cc0_scratch0)) :
    (((c : Thread nD τ).loc cc0_scratch0) ↦{fullShare} f : sProp 𝕄) = iprop(slotP c 0 f ∗ slotP c 1 f ∗ slotP c 2 f ∗ slotP c 3 f) := by
  rw [Ring.pointsTo_blocks (ℓ := (c : Thread nD τ).loc cc0_scratch0) rPart rPart_disj rPart_cover f, bigSep_4, rslot_eq c 0 f, rslot_eq c 1 f, rslot_eq c 2 f, rslot_eq c 3 f]
theorem ring_join (d : Buf (Elt F) ((c : Thread nD τ).loc cc0_scratch0)) :
    iprop((∃ f, slotP c 0 f) ∗ (∃ f, slotP c 1 f) ∗ (∃ f, slotP c 2 f) ∗ (∃ f, slotP c 3 f))
      ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Name := ℕ) (U := UU) (Lvl := ℕ) (q := fullShare) (ℓ := (c : Thread nD τ).loc cc0_scratch0) rPart rPart_disj rPart_cover d
  rw [bigSep_4] at h
  have e0 : iprop(∃ f : Buf (Elt F) ((c : Thread nD τ).loc cc0_scratch0), ((c : Thread nD τ).loc cc0_scratch0) ↦[rPart 0]{fullShare} f) = (iprop(∃ f, slotP c 0 f) : sProp 𝕄) :=
    congrArg (fun P : Buf (Elt F) ((c : Thread nD τ).loc cc0_scratch0) → sProp 𝕄 => iprop(∃ f, P f)) (funext fun f => rslot_eq c 0 f)
  have e1 : iprop(∃ f : Buf (Elt F) ((c : Thread nD τ).loc cc0_scratch0), ((c : Thread nD τ).loc cc0_scratch0) ↦[rPart 1]{fullShare} f) = (iprop(∃ f, slotP c 1 f) : sProp 𝕄) :=
    congrArg (fun P : Buf (Elt F) ((c : Thread nD τ).loc cc0_scratch0) → sProp 𝕄 => iprop(∃ f, P f)) (funext fun f => rslot_eq c 1 f)
  have e2 : iprop(∃ f : Buf (Elt F) ((c : Thread nD τ).loc cc0_scratch0), ((c : Thread nD τ).loc cc0_scratch0) ↦[rPart 2]{fullShare} f) = (iprop(∃ f, slotP c 2 f) : sProp 𝕄) :=
    congrArg (fun P : Buf (Elt F) ((c : Thread nD τ).loc cc0_scratch0) → sProp 𝕄 => iprop(∃ f, P f)) (funext fun f => rslot_eq c 2 f)
  have e3 : iprop(∃ f : Buf (Elt F) ((c : Thread nD τ).loc cc0_scratch0), ((c : Thread nD τ).loc cc0_scratch0) ↦[rPart 3]{fullShare} f) = (iprop(∃ f, slotP c 3 f) : sProp 𝕄) :=
    congrArg (fun P : Buf (Elt F) ((c : Thread nD τ).loc cc0_scratch0) → sProp 𝕄 => iprop(∃ f, P f)) (funext fun f => rslot_eq c 3 f)
  rw [e0, e1, e2, e3] at h
  exact h
/-- The tail's buffer whole is its parts, and back. -/
theorem tail_split (f : Buf (Elt F) ((c : Thread nD τ).loc cc0_scratch1)) :
    (((c : Thread nD τ).loc cc0_scratch1) ↦{fullShare} f : sProp 𝕄) = iprop(tslot0 c f ∗ tslot1 c f ∗ tslot2 c f ∗ tslot3 c f ∗ tslot4 c f ∗ tslot5 c f) := by
  rw [Ring.pointsTo_blocks (ℓ := (c : Thread nD τ).loc cc0_scratch1) tPart tPart_disj tPart_cover f, bigSep_6, tslot_eq0 c f, tslot_eq1 c f, tslot_eq2 c f, tslot_eq3 c f, tslot_eq4 c f, tslot_eq5 c f]
theorem tail_join (d : Buf (Elt F) ((c : Thread nD τ).loc cc0_scratch1)) :
    iprop((∃ f, tslot0 c f) ∗ (∃ f, tslot1 c f) ∗ (∃ f, tslot2 c f) ∗ (∃ f, tslot3 c f) ∗ (∃ f, tslot4 c f) ∗ (∃ f, tslot5 c f))
      ⊢ (iprop(∃ f : Buf (Elt F) ((c : Thread nD τ).loc cc0_scratch1), ((c : Thread nD τ).loc cc0_scratch1) ↦{fullShare} f) : sProp 𝕄) := by
  have h := Ring.pointsTo_blocks_join_exists (Ix := Unit) (Name := ℕ) (U := UU) (Lvl := ℕ) (q := fullShare) (ℓ := (c : Thread nD τ).loc cc0_scratch1) tPart tPart_disj tPart_cover d
  rw [bigSep_6] at h
  have e0 : iprop(∃ f : Buf (Elt F) ((c : Thread nD τ).loc cc0_scratch1), ((c : Thread nD τ).loc cc0_scratch1) ↦[tPart 0]{fullShare} f) = (iprop(∃ f, tslot0 c f) : sProp 𝕄) :=
    congrArg (fun P : Buf (Elt F) ((c : Thread nD τ).loc cc0_scratch1) → sProp 𝕄 => iprop(∃ f, P f)) (funext fun f => tslot_eq0 c f)
  have e1 : iprop(∃ f : Buf (Elt F) ((c : Thread nD τ).loc cc0_scratch1), ((c : Thread nD τ).loc cc0_scratch1) ↦[tPart 1]{fullShare} f) = (iprop(∃ f, tslot1 c f) : sProp 𝕄) :=
    congrArg (fun P : Buf (Elt F) ((c : Thread nD τ).loc cc0_scratch1) → sProp 𝕄 => iprop(∃ f, P f)) (funext fun f => tslot_eq1 c f)
  have e2 : iprop(∃ f : Buf (Elt F) ((c : Thread nD τ).loc cc0_scratch1), ((c : Thread nD τ).loc cc0_scratch1) ↦[tPart 2]{fullShare} f) = (iprop(∃ f, tslot2 c f) : sProp 𝕄) :=
    congrArg (fun P : Buf (Elt F) ((c : Thread nD τ).loc cc0_scratch1) → sProp 𝕄 => iprop(∃ f, P f)) (funext fun f => tslot_eq2 c f)
  have e3 : iprop(∃ f : Buf (Elt F) ((c : Thread nD τ).loc cc0_scratch1), ((c : Thread nD τ).loc cc0_scratch1) ↦[tPart 3]{fullShare} f) = (iprop(∃ f, tslot3 c f) : sProp 𝕄) :=
    congrArg (fun P : Buf (Elt F) ((c : Thread nD τ).loc cc0_scratch1) → sProp 𝕄 => iprop(∃ f, P f)) (funext fun f => tslot_eq3 c f)
  have e4 : iprop(∃ f : Buf (Elt F) ((c : Thread nD τ).loc cc0_scratch1), ((c : Thread nD τ).loc cc0_scratch1) ↦[tPart 4]{fullShare} f) = (iprop(∃ f, tslot4 c f) : sProp 𝕄) :=
    congrArg (fun P : Buf (Elt F) ((c : Thread nD τ).loc cc0_scratch1) → sProp 𝕄 => iprop(∃ f, P f)) (funext fun f => tslot_eq4 c f)
  have e5 : iprop(∃ f : Buf (Elt F) ((c : Thread nD τ).loc cc0_scratch1), ((c : Thread nD τ).loc cc0_scratch1) ↦[tPart 5]{fullShare} f) = (iprop(∃ f, tslot5 c f) : sProp 𝕄) :=
    congrArg (fun P : Buf (Elt F) ((c : Thread nD τ).loc cc0_scratch1) → sProp 𝕄 => iprop(∃ f, P f)) (funext fun f => tslot_eq5 c f)
  rw [e0, e1, e2, e3, e4, e5] at h
  exact h
end Cut
end Cert.Proof.KernelIdeal
end
-- ==== Proof.KernelIdeal.Launch.lean ====
/- The launch: the kernel's one region run from any memory whose ids are in range.

   `dats` is what the region's invariant holds before and after; `body_obligation` discharges the body by
   `bodyRun`; `run_main` is the whole program's run, its arguments unchanged and its results named. -/
module

public import proofs.«01_k».proof.Proof.KernelIdeal.Blocks
public import proofs.«01_k».proof.Proof.Gen.KernelIdeal.Frame
public import Idealize.ShloMosaic.Lib.Pipeline.FrameSuffixV

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-- The ids the body checks are in range, on every core. -/
structure IdsOK : Prop where
  bid : ∀ c : Dev nD, BidOK c (V m c main_arg10)
  cand : ∀ c : Dev nD, CandOK c (V m c main_v1)

variable (h : IdsOK m)

/-- The body's run on core `c`, on what the region finds. -/
abbrev runAt (c : Dev nD) :=
  bodyRun c (V m c main_arg2) (V m c main_arg0) (V m c main_arg1) (V m c main_v0) (V m c main_arg4) (V m c main_arg5) (V m c main_arg6) (V m c main_arg7) (V m c main_arg8) (V m c main_v1) (V m c main_arg10) (V m c main_arg11) (h.bid c) (h.cand c).1 (h.cand c).2.1 (h.cand c).2.2.1 (h.cand c).2.2.2.1 (h.cand c).2.2.2.2.1 (h.cand c).2.2.2.2.2.1 (h.cand c).2.2.2.2.2.2.1 (h.cand c).2.2.2.2.2.2.2.1 (h.cand c).2.2.2.2.2.2.2.2.1 (h.cand c).2.2.2.2.2.2.2.2.2.1 (h.cand c).2.2.2.2.2.2.2.2.2.2.1 (h.cand c).2.2.2.2.2.2.2.2.2.2.2.1 (h.cand c).2.2.2.2.2.2.2.2.2.2.2.2.1 (h.cand c).2.2.2.2.2.2.2.2.2.2.2.2.2.1 (h.cand c).2.2.2.2.2.2.2.2.2.2.2.2.2.2.1 (h.cand c).2.2.2.2.2.2.2.2.2.2.2.2.2.2.2.1 (h.cand c).2.2.2.2.2.2.2.2.2.2.2.2.2.2.2.2.1 (h.cand c).2.2.2.2.2.2.2.2.2.2.2.2.2.2.2.2.2.1 (h.cand c).2.2.2.2.2.2.2.2.2.2.2.2.2.2.2.2.2.2.1 (h.cand c).2.2.2.2.2.2.2.2.2.2.2.2.2.2.2.2.2.2.2.1 (h.cand c).2.2.2.2.2.2.2.2.2.2.2.2.2.2.2.2.2.2.2.2.1 (h.cand c).2.2.2.2.2.2.2.2.2.2.2.2.2.2.2.2.2.2.2.2.2.1 (h.cand c).2.2.2.2.2.2.2.2.2.2.2.2.2.2.2.2.2.2.2.2.2.2.1 (h.cand c).2.2.2.2.2.2.2.2.2.2.2.2.2.2.2.2.2.2.2.2.2.2.2

/-- What the region leaves: the three outputs at the body's, every other buffer as found. -/
def G (c : Dev nD) : (b : Ref sig .tc) → Buf (Elt F) ((c : Thread nD τ).loc b) :=
  Function.update (Function.update (Function.update (V m c) main_v2_0 (runAt m h c).1) main_v2_1 (runAt m h c).2.1) main_v2_2 (runAt m h c).2.2.1
theorem G_0 (c : Dev nD) : G m h c main_v2_0 = (runAt m h c).1 := by
  unfold G; rw [Function.update_of_ne (by decide), Function.update_of_ne (by decide), Function.update_self]
theorem G_1 (c : Dev nD) : G m h c main_v2_1 = (runAt m h c).2.1 := by
  unfold G; rw [Function.update_of_ne (by decide), Function.update_self]
theorem G_2 (c : Dev nD) : G m h c main_v2_2 = (runAt m h c).2.2.1 := by
  unfold G; rw [Function.update_self]

/-- The buffers the body reads and the buffers it writes. -/
abbrev Hl : List (Ref sig .tc) := [main_arg0, main_arg1, main_arg2, main_v0, main_arg4, main_arg5, main_arg6, main_arg7, main_arg8, main_v1, main_arg10, main_arg11]
abbrev Rl : List (Ref sig .tc) := [main_v2_0, main_v2_1, main_v2_2]
abbrev HH : Finset (Ref sig .tc) := Hl.toFinset
abbrev RR : Finset (Ref sig .tc) := Rl.toFinset

/-- The kernel's own semaphores. -/
abbrev osem : Fin 25 → SemLoc sig := fun s => .dma ⟨s.val, s.isLt⟩
theorem ownSemFacts : Pipeline.OwnSemFacts (cfgs 0).spec osem := by decide

theorem ownSems0_eq (c : Dev nD) : (Pipeline.ownSems0 (Ix := Unit) (Name := ℕ) (U := UU) (Lvl := ℕ) (Val := Elt F) (τ := τ) osem c : sProp 𝕄)
    = iprop(cellP c 0 ∗ cellP c 1 ∗ cellP c 2 ∗ cellP c 3 ∗ tcell0 c ∗ tcell1 c ∗ tcell2 c ∗ tcell3 c ∗ tcell4 c ∗ tcell5 c ∗ icell0 c ∗ icell1 c ∗ icell2 c ∗ icell3 c ∗ icell4 c ∗ icell5 c ∗ icell6 c ∗ icell7 c ∗ icell8 c ∗ icell9 c ∗ icell10 c ∗ ocell0 c ∗ ocell1 c ∗ ocell2 c ∗ ocell3 c) := by
  unfold Pipeline.ownSems0
  rw [BI.bigSep_univ_eq_bigSepL [(0 : Fin 25), (1 : Fin 25), (2 : Fin 25), (3 : Fin 25), (4 : Fin 25), (5 : Fin 25), (6 : Fin 25), (7 : Fin 25), (8 : Fin 25), (9 : Fin 25), (10 : Fin 25), (11 : Fin 25), (12 : Fin 25), (13 : Fin 25), (14 : Fin 25), (15 : Fin 25), (16 : Fin 25), (17 : Fin 25), (18 : Fin 25), (19 : Fin 25), (20 : Fin 25), (21 : Fin 25), (22 : Fin 25), (23 : Fin 25), (24 : Fin 25)] (by decide) (by decide)]
  rfl
theorem reads_eq (c : Dev nD) (W : (b : Ref sig .tc) → Buf (Elt F) ((c : Thread nD τ).loc b)) :
    (bigSep HH fun b => ((c : Thread nD τ).loc b) ↦{fullShare} W b : sProp 𝕄)
      = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_v0) ↦{fullShare} W main_v0) ∗ (((c : Thread nD τ).loc main_arg4) ↦{fullShare} W main_arg4) ∗ (((c : Thread nD τ).loc main_arg5) ↦{fullShare} W main_arg5) ∗ (((c : Thread nD τ).loc main_arg6) ↦{fullShare} W main_arg6) ∗ (((c : Thread nD τ).loc main_arg7) ↦{fullShare} W main_arg7) ∗ (((c : Thread nD τ).loc main_arg8) ↦{fullShare} W main_arg8) ∗ (((c : Thread nD τ).loc main_v1) ↦{fullShare} W main_v1) ∗ (((c : Thread nD τ).loc main_arg10) ↦{fullShare} W main_arg10) ∗ (((c : Thread nD τ).loc main_arg11) ↦{fullShare} W main_arg11)) := by
  rw [BI.bigSep_eq_bigSepL Hl (by decide)]; rfl
theorem writes_eq (c : Dev nD) (W : (b : Ref sig .tc) → Buf (Elt F) ((c : Thread nD τ).loc b)) :
    (bigSep RR fun b => ((c : Thread nD τ).loc b) ↦{fullShare} W b : sProp 𝕄)
      = iprop((((c : Thread nD τ).loc main_v2_0) ↦{fullShare} W main_v2_0) ∗ (((c : Thread nD τ).loc main_v2_1) ↦{fullShare} W main_v2_1) ∗ (((c : Thread nD τ).loc main_v2_2) ↦{fullShare} W main_v2_2)) := by
  rw [BI.bigSep_eq_bigSepL Rl (by decide)]; rfl

/-- A whole buffer, as the launch and as the body hold it. -/
theorem whole_pt (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) :=
  congrArg (fun S : Finset (Idx ((c : Thread nD τ).loc b)) => (((c : Thread nD τ).loc b) ↦[S]{fullShare} f : sProp 𝕄)) (View.set_whole b).symm

/-- The region's invariant at contents `g` of the written buffers. -/
abbrev inv (g : (c : Dev nD) → (b : Ref sig .tc) → Buf (Elt F) ((c : Thread nD τ).loc b)) (c : Dev nD) : sProp 𝕄 :=
  Pipeline.ΦDRV osem (cfgs 0).spec HH RR (V m) g c

set_option maxHeartbeats 4000000 in
theorem enter (c : Dev nD) : iprop(inv m (V m) c ∗ ∃ W, owes (c : Thread nD τ) 0 W) ⊢ PRE c (V m c main_arg2) (V m c main_arg0) (V m c main_arg1) (V m c main_v0) (V m c main_arg4) (V m c main_arg5) (V m c main_arg6) (V m c main_arg7) (V m c main_arg8) (V m c main_v1) (V m c main_arg10) (V m c main_arg11) := by
  unfold inv Pipeline.ΦDRV
  rw [show Pipeline.scopedRest (Ix := Unit) (Name := ℕ) (U := UU) (Lvl := ℕ) (Val := Elt F) (τ := τ) (cfg0.spec) c = _ from scopedRest0_eq c, ownSems0_eq, reads_eq, writes_eq, a_eq, homes_zero]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s15, HS15⟩, ⟨%s16, HS16⟩, ⟨%s17, HS17⟩, ⟨%s18, HS18⟩⟩, ⟨HC0, HC1, HC2, HC3, HC4, HC5, HC6, HC7, HC8, HC9, HC10, HC11, HC12, HC13, HC14, HC15, HC16, HC17, HC18, HC19, HC20, HC21, HC22, HC23, HC24⟩, ⟨HI0, HI1, ⟨⟨Hg0, Hg1, Hg2, Hg3, Hh⟩, ⟨Ht0, Ht1, Ht2, Ht3, Ht4, Ht5⟩⟩, HI3, HI4, HI5, HI6, HI7, HI8, HI9, HI10, HI11⟩, ⟨HO0, HO1, HO2⟩⟩, HW⟩
  ihave HR := (Entails.of_eq (ring_split c _)) $$ [HS0]
  · iexact HS0
  icases HR with ⟨Hs0, Hs1, Hs2, Hs3⟩
  ihave HT := (Entails.of_eq (tail_split c _)) $$ [HS1]
  · iexact HS1
  icases HT with ⟨Hu0, Hu1, Hu2, Hu3, Hu4, Hu5⟩
  isplitl [HI0]; · iapply (Entails.of_eq (whole_pt c main_arg0 _)); iexact HI0
  isplitl [HI1]; · iapply (Entails.of_eq (whole_pt c main_arg1 _)); iexact HI1
  isplitl [HI3]; · iapply (Entails.of_eq (whole_pt c main_v0 _)); iexact HI3
  isplitl [HI4]; · iapply (Entails.of_eq (whole_pt c main_arg4 _)); iexact HI4
  isplitl [HI5]; · iapply (Entails.of_eq (whole_pt c main_arg5 _)); iexact HI5
  isplitl [HI6]; · iapply (Entails.of_eq (whole_pt c main_arg6 _)); iexact HI6
  isplitl [HI7]; · iapply (Entails.of_eq (whole_pt c main_arg7 _)); iexact HI7
  isplitl [HI8]; · iapply (Entails.of_eq (whole_pt c main_arg8 _)); iexact HI8
  isplitl [HI9]; · iapply (Entails.of_eq (whole_pt c main_v1 _)); iexact HI9
  isplitl [HI10]; · iapply (Entails.of_eq (whole_pt c main_arg10 _)); iexact HI10
  isplitl [HI11]; · iapply (Entails.of_eq (whole_pt c main_arg11 _)); iexact HI11
  isplitl [HO0]; · iexists _; iapply (Entails.of_eq (whole_pt c main_v2_0 _)); iexact HO0
  isplitl [HO1]; · iexists _; iapply (Entails.of_eq (whole_pt c main_v2_1 _)); iexact HO1
  isplitl [HO2]; · iexists _; iapply (Entails.of_eq (whole_pt c main_v2_2 _)); iexact HO2
  isplitl [HS2]; · iexists _; iapply (Entails.of_eq (whole_pt c cc0_scratch2 _)); iexact HS2
  isplitl [HS9]; · iexists _; iapply (Entails.of_eq (whole_pt c cc0_scratch9 _)); iexact HS9
  isplitl [HS10]; · iexists _; iapply (Entails.of_eq (whole_pt c cc0_scratch10 _)); iexact HS10
  isplitl [HS11]; · iexists _; iapply (Entails.of_eq (whole_pt c cc0_scratch11 _)); iexact HS11
  isplitl [HS13]; · iexists _; iapply (Entails.of_eq (whole_pt c cc0_scratch13 _)); iexact HS13
  isplitl [HS14]; · iexists _; iapply (Entails.of_eq (whole_pt c cc0_scratch14 _)); iexact HS14
  isplitl [HS15]; · iexists _; iapply (Entails.of_eq (whole_pt c cc0_scratch15 _)); iexact HS15
  isplitl [HS16]; · iexists _; iapply (Entails.of_eq (whole_pt c cc0_scratch16 _)); iexact HS16
  isplitl [HS4]; · iexists _; iapply (Entails.of_eq (whole_pt c cc0_scratch4 _)); iexact HS4
  isplitl [HS5]; · iexists _; iapply (Entails.of_eq (whole_pt c cc0_scratch5 _)); iexact HS5
  isplitl [HS6]; · iexists _; iapply (Entails.of_eq (whole_pt c cc0_scratch6 _)); iexact HS6
  isplitl [HS7]; · iexists _; iapply (Entails.of_eq (whole_pt c cc0_scratch7 _)); iexact HS7
  isplitl [HS12]; · iexists _; iapply (Entails.of_eq (whole_pt c cc0_scratch12 _)); iexact HS12
  isplitl [HS17]; · iexists _; iapply (Entails.of_eq (whole_pt c cc0_scratch17 _)); iexact HS17
  isplitl [HS18]; · iexists _; iapply (Entails.of_eq (whole_pt c cc0_scratch18 _)); iexact HS18
  isplitl [HS3]; · iexists _; iapply (Entails.of_eq (whole_pt c cc0_scratch3 _)); iexact HS3
  isplitl [HS8]; · iexists _; iapply (Entails.of_eq (whole_pt c cc0_scratch8 _)); iexact HS8
  isplitl [HC10]; · iexact HC10
  isplitl [HC11]; · iexact HC11
  isplitl [HC12]; · iexact HC12
  isplitl [HC13]; · iexact HC13
  isplitl [HC14]; · iexact HC14
  isplitl [HC15]; · iexact HC15
  isplitl [HC16]; · iexact HC16
  isplitl [HC17]; · iexact HC17
  isplitl [HC18]; · iexact HC18
  isplitl [HC19]; · iexact HC19
  isplitl [HC20]; · iexact HC20
  isplitl [HC21]; · iexact HC21
  isplitl [HC22]; · iexact HC22
  isplitl [HC23]; · iexact HC23
  isplitl [HC24]; · iexact HC24
  isplitl [HW]; · iexact HW
  isplitl [Hh]; · iexact Hh
  isplitl [Hg0]; · iexact Hg0
  isplitl [Hg1]; · iexact Hg1
  isplitl [Hg2]; · iexact Hg2
  isplitl [Hg3]; · iexact Hg3
  isplitl [Hs0]; · iexists _; iexact Hs0
  isplitl [Hs1]; · iexists _; iexact Hs1
  isplitl [Hs2]; · iexists _; iexact Hs2
  isplitl [Hs3]; · iexists _; iexact Hs3
  isplitl [HC0]; · iexact HC0
  isplitl [HC1]; · iexact HC1
  isplitl [HC2]; · iexact HC2
  isplitl [HC3]; · iexact HC3
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hu0]; · iexists _; iexact Hu0
  isplitl [Hu1]; · iexists _; iexact Hu1
  isplitl [Hu2]; · iexists _; iexact Hu2
  isplitl [Hu3]; · iexists _; iexact Hu3
  isplitl [Hu4]; · iexists _; iexact Hu4
  isplitl [Hu5]; · iexists _; iexact Hu5
  isplitl [HC4]; · iexact HC4
  isplitl [HC5]; · iexact HC5
  isplitl [HC6]; · iexact HC6
  isplitl [HC7]; · iexact HC7
  isplitl [HC8]; · iexact HC8
  iexact HC9
set_option maxHeartbeats 4000000 in
theorem leave (c : Dev nD) : POST c (V m c main_arg2) (V m c main_arg0) (V m c main_arg1) (V m c main_v0) (V m c main_arg4) (V m c main_arg5) (V m c main_arg6) (V m c main_arg7) (V m c main_arg8) (V m c main_v1) (V m c main_arg10) (V m c main_arg11) (runAt m h c).1 (runAt m h c).2.1 (runAt m h c).2.2.1
    ⊢ iprop(inv m (G m h) c ∗ ∃ W, owes (c : Thread nD τ) 0 W) := by
  unfold inv Pipeline.ΦDRV
  rw [show Pipeline.scopedRest (Ix := Unit) (Name := ℕ) (U := UU) (Lvl := ℕ) (Val := Elt F) (τ := τ) (cfg0.spec) c = _ from scopedRest0_eq c, ownSems0_eq, reads_eq, writes_eq, a_eq, G_0, G_1, G_2]
  iintro ⟨HI0, HI1, HI3, HI4, HI5, HI6, HI7, HI8, HI9, HI10, HI11, HO0, HO1, HO2, ⟨%f2, HS2⟩, ⟨%f9, HS9⟩, ⟨%f10, HS10⟩, ⟨%f11, HS11⟩, ⟨%f13, HS13⟩, ⟨%f14, HS14⟩, ⟨%f15, HS15⟩, ⟨%f16, HS16⟩, ⟨%f4, HS4⟩, ⟨%f5, HS5⟩, ⟨%f6, HS6⟩, ⟨%f7, HS7⟩, ⟨%f12, HS12⟩, ⟨%f17, HS17⟩, ⟨%f18, HS18⟩, ⟨%f3, HS3⟩, ⟨%f8, HS8⟩, HC10, HC11, HC12, HC13, HC14, HC15, HC16, HC17, HC18, HC19, HC20, HC21, HC22, HC23, HC24, HW, Hh, ⟨%g0, Hs0⟩, ⟨%g1, Hs1⟩, ⟨%g2, Hs2⟩, ⟨%g3, Hs3⟩, HC0, HC1, HC2, HC3, Ht0, Ht1, Ht2, Ht3, Ht4, Ht5, ⟨%u0, Hu0⟩, ⟨%u1, Hu1⟩, ⟨%u2, Hu2⟩, ⟨%u3, Hu3⟩, ⟨%u4, Hu4⟩, ⟨%u5, Hu5⟩, HC4, HC5, HC6, HC7, HC8, HC9⟩
  isplitr [HW]
  · isplitl [HS2 HS3 HS4 HS5 HS6 HS7 HS8 HS9 HS10 HS11 HS12 HS13 HS14 HS15 HS16 HS17 HS18 Hs0 Hs1 Hs2 Hs3 Hu0 Hu1 Hu2 Hu3 Hu4 Hu5]
    · isplitl [Hs0 Hs1 Hs2 Hs3]
      · iapply (ring_join c g0)
        isplitl [Hs0]; · iexists _; iexact Hs0
        isplitl [Hs1]; · iexists _; iexact Hs1
        isplitl [Hs2]; · iexists _; iexact Hs2
        iexists _; iexact Hs3
      isplitl [Hu0 Hu1 Hu2 Hu3 Hu4 Hu5]
      · iapply (tail_join c u0)
        isplitl [Hu0]; · iexists _; iexact Hu0
        isplitl [Hu1]; · iexists _; iexact Hu1
        isplitl [Hu2]; · iexists _; iexact Hu2
        isplitl [Hu3]; · iexists _; iexact Hu3
        isplitl [Hu4]; · iexists _; iexact Hu4
        iexists _; iexact Hu5
      isplitl [HS2]; · iexists _; iapply (Entails.of_eq (whole_pt c cc0_scratch2 _).symm); iexact HS2
      isplitl [HS3]; · iexists _; iapply (Entails.of_eq (whole_pt c cc0_scratch3 _).symm); iexact HS3
      isplitl [HS4]; · iexists _; iapply (Entails.of_eq (whole_pt c cc0_scratch4 _).symm); iexact HS4
      isplitl [HS5]; · iexists _; iapply (Entails.of_eq (whole_pt c cc0_scratch5 _).symm); iexact HS5
      isplitl [HS6]; · iexists _; iapply (Entails.of_eq (whole_pt c cc0_scratch6 _).symm); iexact HS6
      isplitl [HS7]; · iexists _; iapply (Entails.of_eq (whole_pt c cc0_scratch7 _).symm); iexact HS7
      isplitl [HS8]; · iexists _; iapply (Entails.of_eq (whole_pt c cc0_scratch8 _).symm); iexact HS8
      isplitl [HS9]; · iexists _; iapply (Entails.of_eq (whole_pt c cc0_scratch9 _).symm); iexact HS9
      isplitl [HS10]; · iexists _; iapply (Entails.of_eq (whole_pt c cc0_scratch10 _).symm); iexact HS10
      isplitl [HS11]; · iexists _; iapply (Entails.of_eq (whole_pt c cc0_scratch11 _).symm); iexact HS11
      isplitl [HS12]; · iexists _; iapply (Entails.of_eq (whole_pt c cc0_scratch12 _).symm); iexact HS12
      isplitl [HS13]; · iexists _; iapply (Entails.of_eq (whole_pt c cc0_scratch13 _).symm); iexact HS13
      isplitl [HS14]; · iexists _; iapply (Entails.of_eq (whole_pt c cc0_scratch14 _).symm); iexact HS14
      isplitl [HS15]; · iexists _; iapply (Entails.of_eq (whole_pt c cc0_scratch15 _).symm); iexact HS15
      isplitl [HS16]; · iexists _; iapply (Entails.of_eq (whole_pt c cc0_scratch16 _).symm); iexact HS16
      isplitl [HS17]; · iexists _; iapply (Entails.of_eq (whole_pt c cc0_scratch17 _).symm); iexact HS17
      iexists _; iapply (Entails.of_eq (whole_pt c cc0_scratch18 _).symm); iexact HS18
    isplitl [HC0 HC1 HC2 HC3 HC4 HC5 HC6 HC7 HC8 HC9 HC10 HC11 HC12 HC13 HC14 HC15 HC16 HC17 HC18 HC19 HC20 HC21 HC22 HC23 HC24]
    · isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      isplitl [HC7]; · iexact HC7
      isplitl [HC8]; · iexact HC8
      isplitl [HC9]; · iexact HC9
      isplitl [HC10]; · iexact HC10
      isplitl [HC11]; · iexact HC11
      isplitl [HC12]; · iexact HC12
      isplitl [HC13]; · iexact HC13
      isplitl [HC14]; · iexact HC14
      isplitl [HC15]; · iexact HC15
      isplitl [HC16]; · iexact HC16
      isplitl [HC17]; · iexact HC17
      isplitl [HC18]; · iexact HC18
      isplitl [HC19]; · iexact HC19
      isplitl [HC20]; · iexact HC20
      isplitl [HC21]; · iexact HC21
      isplitl [HC22]; · iexact HC22
      isplitl [HC23]; · iexact HC23
      iexact HC24
    isplitl [HI0 HI1 HI3 HI4 HI5 HI6 HI7 HI8 HI9 HI10 HI11 Hh Ht0 Ht1 Ht2 Ht3 Ht4 Ht5]
    · isplitl [HI0]; · iapply (Entails.of_eq (whole_pt c main_arg0 _).symm); iexact HI0
      isplitl [HI1]; · iapply (Entails.of_eq (whole_pt c main_arg1 _).symm); iexact HI1
      isplitl [Hh Ht0 Ht1 Ht2 Ht3 Ht4 Ht5]
      · isplitl [Hh]; · iexact Hh
        isplitl [Ht0]; · iexact Ht0
        isplitl [Ht1]; · iexact Ht1
        isplitl [Ht2]; · iexact Ht2
        isplitl [Ht3]; · iexact Ht3
        isplitl [Ht4]; · iexact Ht4
        iexact Ht5
      isplitl [HI3]; · iapply (Entails.of_eq (whole_pt c main_v0 _).symm); iexact HI3
      isplitl [HI4]; · iapply (Entails.of_eq (whole_pt c main_arg4 _).symm); iexact HI4
      isplitl [HI5]; · iapply (Entails.of_eq (whole_pt c main_arg5 _).symm); iexact HI5
      isplitl [HI6]; · iapply (Entails.of_eq (whole_pt c main_arg6 _).symm); iexact HI6
      isplitl [HI7]; · iapply (Entails.of_eq (whole_pt c main_arg7 _).symm); iexact HI7
      isplitl [HI8]; · iapply (Entails.of_eq (whole_pt c main_arg8 _).symm); iexact HI8
      isplitl [HI9]; · iapply (Entails.of_eq (whole_pt c main_v1 _).symm); iexact HI9
      isplitl [HI10]; · iapply (Entails.of_eq (whole_pt c main_arg10 _).symm); iexact HI10
      iapply (Entails.of_eq (whole_pt c main_arg11 _).symm); iexact HI11
    isplitl [HO0]; · iapply (Entails.of_eq (whole_pt c main_v2_0 _).symm); iexact HO0
    isplitl [HO1]; · iapply (Entails.of_eq (whole_pt c main_v2_1 _).symm); iexact HO1
    iapply (Entails.of_eq (whole_pt c main_v2_2 _).symm); iexact HO2
  iexact HW

/-- The region's proof data. -/
def dats (_ : Fin 1) (c : Dev nD) : Dat τ (Elt F) Unit ℕ UU ℕ cfg0 c where
  A w := w.elim0
  after w _ := w.elim0
  Φ k := if k.val = 0 then inv m (V m) c else inv m (G m h) c
  q _ := fullShare
  owed _ := 0

theorem Φ_eq (c : Dev nD) (k) : (dats m h 0 c).Φ k = if k.val = 0 then inv m (V m) c else inv m (G m h) c := rfl
theorem Φ_zero (c : Dev nD) : (dats m h 0 c).Φ 0 = inv m (V m) c := (Φ_eq m h c _).trans (if_pos rfl)
theorem Φ_last (c : Dev nD) : (dats m h 0 c).Φ (Fin.last cfg0.N) = inv m (G m h) c := (Φ_eq m h c _).trans (if_neg (Nat.one_ne_zero))

theorem defs_tc : (defs₀ (F := F)) .tc cfg0.body = fun a => bodyAt0 (F := F) ⟨0, by decide⟩ := rfl
theorem prog_eq (t : Fin cfg0.N) : (defs₀ (F := F)) .tc cfg0.body (cfg0.bodyArgs t (cfg0.slots t)) = bodyAt0 (F := F) ⟨0, by decide⟩ :=
  (congrFun defs_tc _).trans rfl

set_option backward.isDefEq.respectTransparency.types false in
theorem body_obligation (c : Dev nD) : BodyObligationLoose (dats m h 0 c) (defs₀ (F := F)) 𝒱₀ () Set.univ := fun t => by
  have ht : t.val = 0 := by have := t.isLt; have e : cfg0.N = 1 := rfl; omega
  rw [show (dats m h 0 c).Φ t.castSucc = inv m (V m) c from (Φ_eq m h c _).trans (if_pos ht), show (dats m h 0 c).Φ t.succ = inv m (G m h) c from (Φ_eq m h c _).trans (if_neg (Nat.succ_ne_zero _))]
  unfold Dat.owesAt Pipeline.owesWithin
  rw [show (dats m h 0 c).owed t.castSucc = 0 from rfl, show (dats m h 0 c).owed t.succ = 0 from rfl]
  iintro ⟨HΦ, ⟨%W, -, HW⟩, HB⟩
  sl_rw [prog_eq t]
  iapply ((runAt m h c).2.2.2 _)
  isplitl [HΦ HW]
  · iapply (enter m c)
    isplitl [HΦ]; · iexact HΦ
    iexists W; iexact HW
  iintro HP
  ihave HL := (leave m h c) $$ [HP]
  · iexact HP
  icases HL with ⟨HI, ⟨%W', HW'⟩⟩
  isplitl [HI]; · iexact HI
  isplitl [HW']
  · iexists W'; isplitr; · ipureintro; exact fun _ _ => Or.inl trivial
    iexact HW'
  rw [show (Finset.univ : Finset (Fin cfg0.W)) = ∅ from rfl]
  iapply (Entails.of_eq (BI.bigSep_empty (Φ := _)).symm)
  iempintro

set_option maxHeartbeats 800000 in
theorem hmainD : Pipeline.HMainK (Ix := Unit) (Name := ℕ) (U := UU) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer holds at the end. -/
abbrev atEnd (c : Dev nD) (b : Ref sig .tc) : Buf (Elt F) ((c : Thread nD τ).loc b) :=
  StableHlo.after (List.flatten [hostOps1]) (Pipeline.withArrays cfg0.spec c (Pipeline.withR (V0 m c) RR c (G m h c)) fun w => (dats m h 0 c).arrAt w cfg0.N) (Proc.devRef .tc b)

/-- The program's run: every buffer the kernel does not scope ends at `atEnd`, every semaphore at zero. -/
theorem run_rest : θ_run defs (onTc (τ := τ) (main (F := F))) (s₀ m ρ)
    (fun r => (∀ c : Dev nD, ∀ b ∈ Pipeline.restRefs sig cfg0.spec, r.2.mem ((c : Thread nD τ).loc b) = atEnd m h c b) ∧ r.2.sem = fun _ => 0) :=
  Pipeline.θ_run_frame_dmaR_aroundV cfgs (dats m h) 0 launch0 osem defs₀ 𝒱₀ ownSemFacts HH RR (by decide) (by decide) m ρ main
    (hbody := body_obligation m h) (hshare := fun c w => w.elim0) (howed := fun _ _ => rfl)
    (V₀ := V0 m) (opss := [hostOps1]) (hsub := sfx_sub) (hfresh := sfx_fresh) (hkeep := sfx_keeps) (G := G m h)
    (hmain := hmainD m) (hA := fun c w => w.elim0)
    (hin := fun c => Entails.of_eq (Φ_zero m h c).symm)
    (hout := fun c => Entails.of_eq (Φ_last m h c))
    (Q' := fun r => (∀ c : Dev nD, ∀ b ∈ Pipeline.restRefs sig cfg0.spec, r.2.mem ((c : Thread nD τ).loc b) = atEnd m h c b) ∧ r.2.sem = fun _ => 0)
    (hQ' := fun r hr => ⟨fun c b hb => (hr.1 c).2 b hb, hr.2⟩)

/-- A buffer neither the host lines after the region nor the region writes ends as the region found it. -/
theorem atEnd_of (c : Dev nD) (b : Ref sig .tc) (hb : b ∉ RR) (h3 : b ≠ main_v3) (h4 : b ≠ main_v4) : atEnd m h c b = V m c b := by
  unfold atEnd
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne h3, StableHlo.devRef_ne_of_ne h4⟩)),
    Pipeline.withArrays_of_ne _ c _ _ b (fun w => w.elim0), Pipeline.withR_of_not_mem _ _ _ _ b hb]
theorem atEnd_arg0 (c : Dev nD) : atEnd m h c main_arg0 = m ((c : Thread nD τ).loc main_arg0) :=
  (atEnd_of m h c main_arg0 (by decide) (by decide) (by decide)).trans (V_main_arg0 m c)
theorem atEnd_arg1 (c : Dev nD) : atEnd m h c main_arg1 = m ((c : Thread nD τ).loc main_arg1) :=
  (atEnd_of m h c main_arg1 (by decide) (by decide) (by decide)).trans (V_main_arg1 m c)
theorem atEnd_arg2 (c : Dev nD) : atEnd m h c main_arg2 = m ((c : Thread nD τ).loc main_arg2) :=
  (atEnd_of m h c main_arg2 (by decide) (by decide) (by decide)).trans (V_main_arg2 m c)
theorem atEnd_arg3 (c : Dev nD) : atEnd m h c main_arg3 = m ((c : Thread nD τ).loc main_arg3) :=
  (atEnd_of m h c main_arg3 (by decide) (by decide) (by decide)).trans (V_main_arg3 m c)
theorem atEnd_arg4 (c : Dev nD) : atEnd m h c main_arg4 = m ((c : Thread nD τ).loc main_arg4) :=
  (atEnd_of m h c main_arg4 (by decide) (by decide) (by decide)).trans (V_main_arg4 m c)
theorem atEnd_arg5 (c : Dev nD) : atEnd m h c main_arg5 = m ((c : Thread nD τ).loc main_arg5) :=
  (atEnd_of m h c main_arg5 (by decide) (by decide) (by decide)).trans (V_main_arg5 m c)
theorem atEnd_arg6 (c : Dev nD) : atEnd m h c main_arg6 = m ((c : Thread nD τ).loc main_arg6) :=
  (atEnd_of m h c main_arg6 (by decide) (by decide) (by decide)).trans (V_main_arg6 m c)
theorem atEnd_arg7 (c : Dev nD) : atEnd m h c main_arg7 = m ((c : Thread nD τ).loc main_arg7) :=
  (atEnd_of m h c main_arg7 (by decide) (by decide) (by decide)).trans (V_main_arg7 m c)
theorem atEnd_arg8 (c : Dev nD) : atEnd m h c main_arg8 = m ((c : Thread nD τ).loc main_arg8) :=
  (atEnd_of m h c main_arg8 (by decide) (by decide) (by decide)).trans (V_main_arg8 m c)
theorem atEnd_arg9 (c : Dev nD) : atEnd m h c main_arg9 = m ((c : Thread nD τ).loc main_arg9) :=
  (atEnd_of m h c main_arg9 (by decide) (by decide) (by decide)).trans (V_main_arg9 m c)
theorem atEnd_arg10 (c : Dev nD) : atEnd m h c main_arg10 = m ((c : Thread nD τ).loc main_arg10) :=
  (atEnd_of m h c main_arg10 (by decide) (by decide) (by decide)).trans (V_main_arg10 m c)
theorem atEnd_arg11 (c : Dev nD) : atEnd m h c main_arg11 = m ((c : Thread nD τ).loc main_arg11) :=
  (atEnd_of m h c main_arg11 (by decide) (by decide) (by decide)).trans (V_main_arg11 m c)
/-- The logits end as the body left them. -/
theorem atEnd_z (c : Dev nD) : atEnd m h c main_v2_2 = (runAt m h c).2.2.1 := by
  unfold atEnd
  rw [StableHlo.after_of_forall_not_mem (b := Proc.devRef .tc main_v2_2) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne (by decide), StableHlo.devRef_ne_of_ne (by decide)⟩)),
    Pipeline.withArrays_of_ne _ c _ _ main_v2_2 (fun w => w.elim0), Pipeline.withR_of_mem _ _ _ _ main_v2_2 (by decide)]
  exact G_2 m h c

/-- The program's run: the arguments unchanged, the results named, every semaphore at zero. -/
theorem run_main : θ_run defs (onTc (τ := τ) (main (F := F))) ⟨m, fun _ => 0, ρ⟩ (fun r => (∀ c : Dev nD,
      (r.2.mem ((c.tc : Thread nD τ).loc main_v3) = atEnd m h c main_v3
      ∧ r.2.mem ((c.tc : Thread nD τ).loc main_v4) = atEnd m h c main_v4
      ∧ r.2.mem ((c.tc : Thread nD τ).loc main_v2_2) = (runAt m h c).2.2.1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r hr => ⟨fun c => ⟨⟨hr.1 c main_v3 (Pipeline.mem_restRefs_of main_v3 (by decide) (by decide)), hr.1 c main_v4 (Pipeline.mem_restRefs_of main_v4 (by decide) (by decide)),
      (hr.1 c main_v2_2 (Pipeline.mem_restRefs_of main_v2_2 (by decide) (by decide))).trans (atEnd_z m h c)⟩,
      (hr.1 c main_arg0 (Pipeline.mem_restRefs_of main_arg0 (by decide) (by decide))).trans (atEnd_arg0 m h c),
      (hr.1 c main_arg1 (Pipeline.mem_restRefs_of main_arg1 (by decide) (by decide))).trans (atEnd_arg1 m h c),
      (hr.1 c main_arg2 (Pipeline.mem_restRefs_of main_arg2 (by decide) (by decide))).trans (atEnd_arg2 m h c),
      (hr.1 c main_arg3 (Pipeline.mem_restRefs_of main_arg3 (by decide) (by decide))).trans (atEnd_arg3 m h c),
      (hr.1 c main_arg4 (Pipeline.mem_restRefs_of main_arg4 (by decide) (by decide))).trans (atEnd_arg4 m h c),
      (hr.1 c main_arg5 (Pipeline.mem_restRefs_of main_arg5 (by decide) (by decide))).trans (atEnd_arg5 m h c),
      (hr.1 c main_arg6 (Pipeline.mem_restRefs_of main_arg6 (by decide) (by decide))).trans (atEnd_arg6 m h c),
      (hr.1 c main_arg7 (Pipeline.mem_restRefs_of main_arg7 (by decide) (by decide))).trans (atEnd_arg7 m h c),
      (hr.1 c main_arg8 (Pipeline.mem_restRefs_of main_arg8 (by decide) (by decide))).trans (atEnd_arg8 m h c),
      (hr.1 c main_arg9 (Pipeline.mem_restRefs_of main_arg9 (by decide) (by decide))).trans (atEnd_arg9 m h c),
      (hr.1 c main_arg10 (Pipeline.mem_restRefs_of main_arg10 (by decide) (by decide))).trans (atEnd_arg10 m h c),
      (hr.1 c main_arg11 (Pipeline.mem_restRefs_of main_arg11 (by decide) (by decide))).trans (atEnd_arg11 m h c)⟩, hr.2⟩) (run_rest m ρ h)

end Cert.Proof.KernelIdeal
end
-- ==== Proof.KernelIdeal.Ids.lean ====
/- The ids the kernel checks, from the ids in range.

   The kernel divides an id by 128 for the block of the vocabulary it lies in: a candidate id below 32000 names a
   block of the logits, a bias id below 32768 a row of the table of 256 blocks. -/
module

public import proofs.«01_k».proof.Proof.KernelIdeal.Launch
public import Idealize.ShloMosaic.Lib.WordCmp
public import Idealize.ShloMosaic.Lib.Pipeline.Value

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

variable {F : FTy → Type} [FloatOps F]

/-- The block of an id. -/
theorem shift7 (v : BitVec 32) (h : v.toNat < 32768) : (Scalar.shrsi v 7#32).toNat = v.toNat / 128 := by
  have hm : v.msb = false := by
    rw [BitVec.msb_eq_decide]; simp only [decide_eq_false_iff_not]; omega
  show (IntOp.shrsi _ v 7#32).toNat = _
  unfold IntOp.shrsi
  simp [BitVec.sshiftRight_eq_of_msb_false hm, Nat.shiftRight_eq_div_pow]
theorem blockCol (v : BitVec 32) (h : v.toNat < 32000) : (Scalar.muli (Scalar.shrsi v 7#32) 128#32).toNat = v.toNat / 128 * 128 := by
  show (Scalar.shrsi v 7#32 * 128#32).toNat = _
  rw [BitVec.toNat_mul, shift7 v (by omega), show (128#32).toNat = 128 from rfl]; omega
theorem blockRow (v : BitVec 32) (h : v.toNat < 32768) : (Scalar.muli (Scalar.shrsi v 7#32) 8#32).toNat = v.toNat / 128 * 8 := by
  show (Scalar.shrsi v 7#32 * 8#32).toNat = _
  rw [BitVec.toNat_mul, shift7 v h, show (8#32).toNat = 8 from rfl]; omega
theorem blockRowAdd (v : BitVec 32) (h : v.toNat < 32768) (r : ℕ) (hr : r < 8) :
    (Scalar.addi (Scalar.muli (Scalar.shrsi v 7#32) 8#32) (BitVec.ofNat 32 r)).toNat = v.toNat / 128 * 8 + r := by
  show (Scalar.muli (Scalar.shrsi v 7#32) 8#32 + BitVec.ofNat 32 r).toNat = _
  rw [BitVec.toNat_add, blockRow v h, BitVec.toNat_ofNat]; omega
theorem chk7 (v : BitVec 32) (h : v.toNat < 32000) : k0_chk7 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk8 (v : BitVec 32) (h : v.toNat < 32000) : k0_chk8 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk9 (v : BitVec 32) (h : v.toNat < 32000) : k0_chk9 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk10 (v : BitVec 32) (h : v.toNat < 32000) : k0_chk10 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk11 (v : BitVec 32) (h : v.toNat < 32000) : k0_chk11 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk12 (v : BitVec 32) (h : v.toNat < 32000) : k0_chk12 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk13 (v : BitVec 32) (h : v.toNat < 32000) : k0_chk13 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk14 (v : BitVec 32) (h : v.toNat < 32000) : k0_chk14 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk15 (v : BitVec 32) (h : v.toNat < 32000) : k0_chk15 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk16 (v : BitVec 32) (h : v.toNat < 32000) : k0_chk16 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk17 (v : BitVec 32) (h : v.toNat < 32000) : k0_chk17 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk18 (v : BitVec 32) (h : v.toNat < 32000) : k0_chk18 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk19 (v : BitVec 32) (h : v.toNat < 32000) : k0_chk19 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk20 (v : BitVec 32) (h : v.toNat < 32000) : k0_chk20 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk21 (v : BitVec 32) (h : v.toNat < 32000) : k0_chk21 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk22 (v : BitVec 32) (h : v.toNat < 32000) : k0_chk22 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk23 (v : BitVec 32) (h : v.toNat < 32000) : k0_chk23 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk24 (v : BitVec 32) (h : v.toNat < 32000) : k0_chk24 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk25 (v : BitVec 32) (h : v.toNat < 32000) : k0_chk25 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk26 (v : BitVec 32) (h : v.toNat < 32000) : k0_chk26 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk27 (v : BitVec 32) (h : v.toNat < 32000) : k0_chk27 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk28 (v : BitVec 32) (h : v.toNat < 32000) : k0_chk28 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk29 (v : BitVec 32) (h : v.toNat < 32000) : k0_chk29 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk30 (v : BitVec 32) (h : v.toNat < 32000) : k0_chk30 v := by
  have e := blockCol v h
  refine ⟨?_, ?_⟩
  · show 128 ∣ (Scalar.muli (Scalar.shrsi v 7#32) 128#32).toNat; rw [e]; exact Dvd.intro_left _ rfl
  · intro a
    match a with
    | 0 => exact Nat.le_refl 6
    | 1 => show (Scalar.muli (Scalar.shrsi v 7#32) 128#32).toNat + 128 ≤ 32000; rw [e]; omega
theorem chk1 (v : BitVec 32) (h : v.toNat < 32768) : k0_chk1 v := by
  have e := blockRowAdd v h 0 (by decide)
  refine ⟨?_, ?_⟩
  · intro a
    match a with
    | 0 => show (Scalar.addi (Scalar.muli (Scalar.shrsi v 7#32) 8#32) (BitVec.ofNat 32 0)).toNat + 1 ≤ 2048; rw [e]; omega
    | 1 => exact Nat.le_refl 128
  · intro a
    match a with
    | 0 => show (Scalar.addi (Scalar.muli (Scalar.shrsi v 7#32) 8#32) (BitVec.ofNat 32 0)).toNat + 1 ≤ 2048; rw [e]; omega
    | 1 => exact Nat.le_refl 128
theorem chk2 (v : BitVec 32) (h : v.toNat < 32768) : k0_chk2 v := by
  have e := blockRowAdd v h 1 (by decide)
  refine ⟨?_, ?_⟩
  · intro a
    match a with
    | 0 => show (Scalar.addi (Scalar.muli (Scalar.shrsi v 7#32) 8#32) (BitVec.ofNat 32 1)).toNat + 1 ≤ 2048; rw [e]; omega
    | 1 => exact Nat.le_refl 128
  · intro a
    match a with
    | 0 => show (Scalar.addi (Scalar.muli (Scalar.shrsi v 7#32) 8#32) (BitVec.ofNat 32 1)).toNat + 1 ≤ 2048; rw [e]; omega
    | 1 => exact Nat.le_refl 128
theorem chk3 (v : BitVec 32) (h : v.toNat < 32768) : k0_chk3 v := by
  have e := blockRowAdd v h 2 (by decide)
  refine ⟨?_, ?_⟩
  · intro a
    match a with
    | 0 => show (Scalar.addi (Scalar.muli (Scalar.shrsi v 7#32) 8#32) (BitVec.ofNat 32 2)).toNat + 1 ≤ 2048; rw [e]; omega
    | 1 => exact Nat.le_refl 128
  · intro a
    match a with
    | 0 => show (Scalar.addi (Scalar.muli (Scalar.shrsi v 7#32) 8#32) (BitVec.ofNat 32 2)).toNat + 1 ≤ 2048; rw [e]; omega
    | 1 => exact Nat.le_refl 128
theorem chk4 (v : BitVec 32) (h : v.toNat < 32768) : k0_chk4 v := by
  have e := blockRowAdd v h 3 (by decide)
  refine ⟨?_, ?_⟩
  · intro a
    match a with
    | 0 => show (Scalar.addi (Scalar.muli (Scalar.shrsi v 7#32) 8#32) (BitVec.ofNat 32 3)).toNat + 1 ≤ 2048; rw [e]; omega
    | 1 => exact Nat.le_refl 128
  · intro a
    match a with
    | 0 => show (Scalar.addi (Scalar.muli (Scalar.shrsi v 7#32) 8#32) (BitVec.ofNat 32 3)).toNat + 1 ≤ 2048; rw [e]; omega
    | 1 => exact Nat.le_refl 128
theorem chk5 (v : BitVec 32) (h : v.toNat < 32768) : k0_chk5 v := by
  have e := blockRowAdd v h 4 (by decide)
  refine ⟨?_, ?_⟩
  · intro a
    match a with
    | 0 => show (Scalar.addi (Scalar.muli (Scalar.shrsi v 7#32) 8#32) (BitVec.ofNat 32 4)).toNat + 1 ≤ 2048; rw [e]; omega
    | 1 => exact Nat.le_refl 128
  · intro a
    match a with
    | 0 => show (Scalar.addi (Scalar.muli (Scalar.shrsi v 7#32) 8#32) (BitVec.ofNat 32 4)).toNat + 1 ≤ 2048; rw [e]; omega
    | 1 => exact Nat.le_refl 128
theorem chk6 (v : BitVec 32) (h : v.toNat < 32768) : k0_chk6 v := by
  have e := blockRowAdd v h 5 (by decide)
  · intro a
    match a with
    | 0 => show (Scalar.addi (Scalar.muli (Scalar.shrsi v 7#32) 8#32) (BitVec.ofNat 32 5)).toNat + 1 ≤ 2048; rw [e]; omega
    | 1 => exact Nat.le_refl 128

variable (m : (ℓ : Loc nD τ sig) → Buf (Elt F) ℓ)

theorem V_cands (c : Dev nD) : (V m c main_v1 : S4x6.Idx → BitVec 32)
    = transpose S4x6 [1, 0] (m ((c : Thread nD τ).loc main_arg9) : S6x4.Idx → BitVec 32) transposes_S6x4_S4x6_1_0 := by
  unfold V V0; rfl

/-- Ids in range, on every core, pass every check. -/
theorem idsOK (h9 : ∀ c : Dev nD, ∀ i : S6x4.Idx, ((m ((c : Thread nD τ).loc main_arg9) : S6x4.Idx → BitVec 32) i).toNat < 32000)
    (h10 : ∀ c : Dev nD, ∀ i : S6x36.Idx, ((m ((c : Thread nD τ).loc main_arg10) : S6x36.Idx → BitVec 32) i).toNat < 32768) : IdsOK m where
  bid c k := by
    have h : ∀ i, ((V m c main_arg10 : S6x36.Idx → BitVec 32) i).toNat < 32768 := fun i => by rw [V_main_arg10]; exact h10 c i
    exact ⟨chk1 _ (h _), chk2 _ (h _), chk3 _ (h _), chk4 _ (h _), chk5 _ (h _), chk6 _ (h _)⟩
  cand c := by
    have h : ∀ i, ((V m c main_v1 : S4x6.Idx → BitVec 32) i).toNat < 32000 := fun i => by rw [V_cands]; exact h9 c _
    exact ⟨chk7 _ (h _), chk8 _ (h _), chk9 _ (h _), chk10 _ (h _), chk11 _ (h _), chk12 _ (h _), chk13 _ (h _), chk14 _ (h _), chk15 _ (h _), chk16 _ (h _), chk17 _ (h _), chk18 _ (h _), chk19 _ (h _), chk20 _ (h _), chk21 _ (h _), chk22 _ (h _), chk23 _ (h _), chk24 _ (h _), chk25 _ (h _), chk26 _ (h _), chk27 _ (h _), chk28 _ (h _), chk29 _ (h _), chk30 _ (h _)⟩

end Cert.Proof.KernelIdeal
end
-- ==== Proof.Value.Products.lean ====
/- The ring's products, over the reals: after the 32 trips the first 29952 columns hold the whole product of the
   activations with the weights, summed block by block. -/
module

public import proofs.«01_k».proof.Proof.KernelIdeal.Ring
public import Idealize.ShloMosaic.Lib.WritesUnit
public import Idealize.ShloMosaic.Lib.VecWindow
public import Idealize.ShloMosaic.Lib.Pointwise
public import Idealize.ShloMosaic.Lib.Pipeline.Value
public import Idealize.ShloMosaic.PureOps.Ideal.Laws

@[expose] public section

set_option maxRecDepth 16384

noncomputable section

namespace Cert.Proof.Value

open Cert.KernelIdeal Cert.KernelIdeal.Gen Cert.Proof.KernelIdeal
open Idealize.ShloMosaic
open Idealize.ShloMosaic.TcCoe
open Idealize.SL Idealize.SL.Sem

variable (c : Dev nD)

/-- One block's product, at a column: what the column held plus the sum over the block's 256 rows. -/
theorem pay92_apply (a : Vec Ideal S32x256 .fp8e4m3) (z : Vec Ideal S6x29952 .f32) (w : Vec Ideal S1x256x29952 .fp8e4m3)
    (r : Fin 6) (n : Fin 29952) :
    k0_pay92 a z w (ix2 r n : S6x29952.Idx)
      = (z (ix2 r n : S6x29952.Idx) : EReal) + ∑ k : Fin 256, (a (ix2 ⟨r.val, by omega⟩ k : S32x256.Idx) : EReal) * (w (ix3 0 k n : S1x256x29952.Idx) : EReal) := by
  pointwise [k0_pay92]

theorem trips3 : k0_t3_loop.trips = 32 := by decide
theorem trip3_lt (k : Fin k0_t3_loop.trips) : k.val < 32 := Nat.lt_of_lt_of_eq k.isLt trips3

theorem bk_val (k : ℕ) (h : k < 32) : (Ring.bk 32 k).val = k := by
  show k % 32 = k; omega

/-- What trip `k` reads of its slot is block `k` of the weights. -/
theorem slotRd_apply (XA : Buf (Elt Ideal) (aW.view.loc (c : Thread nD τ))) (k : Fin k0_t3_loop.trips) (i : Fin 256) (n : Fin 29952) :
    slotRd c XA k (ix3 0 i n : S1x256x29952.Idx)
      = XA (ix2 (⟨256 * k.val + i.val, by have := trip3_lt k; omega⟩ : Fin 8192) (⟨n.val, by omega⟩ : Fin 32000) : S8192x32000.Idx) := by
  have hk : k.val < 32 := trip3_lt k
  have h := View.read_writes_cons_emb (rslot (Ring.sl 4 k.val)).view (rslot (Ring.sl 4 k.val)).view.junk (Rect.whole S256x29952)
    (payload c XA (Ring.bk 32 k.val)) [] (ix2 i n : S256x29952.Idx)
  have hq : Shape.reshapeEquiv (s := S1x256x29952) (s' := S256x29952) squeezes_S1x256x29952_S256x29952.numel_eq (ix2 i n : S256x29952.Idx)
      = (ix3 0 i n : S1x256x29952.Idx) := Shape.reshapeEquiv_eq_of_rowMajor _ (by
        rw [Shape.rowMajor_val_three, Shape.rowMajor_val_two]; simp [ix3, ix2])
  unfold slotRd
  generalize hg : (rslot (Ring.sl 4 k.val)).view.writes (Elt Ideal) (rslot (Ring.sl 4 k.val)).view.junk
    [⟨Rect.whole S256x29952, payload c XA (Ring.bk 32 k.val)⟩] = g at h ⊢
  refine Eq.trans (b := (g (ix3 (Ring.sl 4 k.val) i n : S4x256x29952.Idx) : EReal)) ?_ (Eq.trans ?_ (h.trans ?_))
  · refine congrArg g (funext fun a => Fin.ext ?_)
    have e := congrFun (off31_eq k)
    match a with
    | 0 => show k0_off31 k 0 + 1 * 0 = (Ring.sl 4 k.val).val; rw [e 0]; rfl
    | 1 => show k0_off31 k 1 + 1 * i.val = i.val; rw [e 1]; show 0 + 1 * i.val = i.val; omega
    | 2 => show k0_off31 k 2 + 1 * n.val = n.val; rw [e 2]; show 0 + 1 * n.val = n.val; omega
  · have hw : (Rect.whole S256x29952).emb (ix2 i n : S256x29952.Idx) = (ix2 i n : S256x29952.Idx) := funext fun a => Fin.ext (by
      show 0 + 1 * _ = _; omega)
    rw [hw]
    refine congrArg g (funext fun a => Fin.ext ?_)
    show _ = slotOff (Ring.sl 4 k.val) a + 1 * (Shape.reshapeEquiv (s := S1x256x29952) (s' := S256x29952) squeezes_S1x256x29952_S256x29952.numel_eq (ix2 i n : S256x29952.Idx) a).val
    rw [hq]
    match a with
    | 0 => show (Ring.sl 4 k.val).val = (Ring.sl 4 k.val).val + 1 * 0; omega
    | 1 => show i.val = 0 + 1 * i.val; omega
    | 2 => show n.val = 0 + 1 * n.val; omega
  · show XA _ = XA _
    refine congrArg XA (funext fun (a : Fin 2) => Fin.ext ?_)
    have e := bk_val k.val hk
    match a with
    | 0 => show 256 * (Ring.bk 32 k.val).val + 1 * i.val = 256 * k.val + i.val; rw [e]; omega
    | 1 => show 0 + 1 * n.val = n.val; omega

/-- One entry of the activations' buffer, and one of the weights. -/
abbrev xEnt (fx : Buf (Elt Ideal) (xbufM.view.loc (c : Thread nD τ))) (r : Fin 6) (k : Fin 8192) : EReal :=
  fx (ix2 (⟨r.val, by omega⟩ : Fin 32) k : S32x8192.Idx)
abbrev wEnt (XA : Buf (Elt Ideal) (aW.view.loc (c : Thread nD τ))) (k : Fin 8192) (n : Fin 32000) : EReal :=
  XA (ix2 k n : S8192x32000.Idx)

/-- One entry of the logits' buffer. -/
abbrev zEnt (fz : Buf (Elt Ideal) (zbufM.view.loc (c : Thread nD τ))) (r : Fin 6) (n : Fin 32000) : EReal :=
  fz (ix2 r n : S6x32000.Idx)

theorem read_zbuf (f : Buf (Elt Ideal) (zbufM.view.loc (c : Thread nD τ))) (r : Fin 6) (n : Fin 32000) :
    View.read (Elt Ideal) zbufM.view f (ix2 r n : S6x32000.Idx) = zEnt c f r n := rfl

/-- The columns a trip stores, at a column. -/
theorem stepW_apply (XA : Buf (Elt Ideal) (aW.view.loc (c : Thread nD τ))) (fx : Buf (Elt Ideal) (xbufM.view.loc (c : Thread nD τ)))
    (k : Fin k0_t3_loop.trips) (fz : Buf (Elt Ideal) (zbufM.view.loc (c : Thread nD τ))) (r : Fin 6) (n : Fin 29952) :
    stepW c XA fx k fz (ix2 r n : S6x29952.Idx)
      = zEnt c fz r ⟨n.val, by omega⟩
        + ∑ i : Fin 256, xEnt c fx r ⟨256 * k.val + i.val, by have := trip3_lt k; omega⟩ * wEnt c XA ⟨256 * k.val + i.val, by have := trip3_lt k; omega⟩ ⟨n.val, by omega⟩ := by
  unfold stepW
  refine (pay92_apply _ _ _ r n).trans (congrArg₂ (fun a b : EReal => a + b) ?_ ?_)
  · refine congrArg fz (funext fun a => Fin.ext ?_)
    match a with
    | 0 => show 0 + 1 * r.val = r.val; omega
    | 1 => show 0 + 1 * n.val = n.val; omega
  · refine Finset.sum_congr rfl fun i _ => congrArg₂ (fun a b : EReal => a * b) ?_ ?_
    · refine congrArg fx (funext fun a => Fin.ext ?_)
      have e := congrFun (k0_off30_eq k)
      match a with
      | 0 => show k0_off30 k 0 + 1 * r.val = r.val; rw [e 0]; show 0 + 1 * r.val = r.val; omega
      | 1 => show k0_off30 k 1 + 1 * i.val = 256 * k.val + i.val; rw [e 1]; show 256 * k.val + 1 * i.val = 256 * k.val + i.val; omega
    · exact slotRd_apply c XA k i n

/-- The first 29952 columns before trip `j`: what they held at the loop's entry and the products of the first `j` blocks. -/
theorem zAt_apply (XA : Buf (Elt Ideal) (aW.view.loc (c : Thread nD τ))) (fx : Buf (Elt Ideal) (xbufM.view.loc (c : Thread nD τ)))
    (z0 : Buf (Elt Ideal) (zbufM.view.loc (c : Thread nD τ))) (r : Fin 6) (n : Fin 32000) (hn : n.val < 29952) (j : ℕ) (hj : j ≤ 32) :
    zEnt c (zAt c XA fx z0 j) r n
      = zEnt c z0 r n
        + ∑ k : Fin j, ∑ i : Fin 256, xEnt c fx r ⟨256 * k.val + i.val, by omega⟩ * wEnt c XA ⟨256 * k.val + i.val, by omega⟩ n := by
  induction j with
  | zero => rw [Finset.univ_eq_empty, Finset.sum_empty, add_zero]; rfl
  | succ j ih =>
    have hT : j < k0_t3_loop.trips := by rw [trips3]; omega
    have hs : zAt c XA fx z0 (j + 1) = zbufM.view.writes (Elt Ideal) (zAt c XA fx z0 j) [⟨RZ, stepW c XA fx ⟨j, hT⟩ (zAt c XA fx z0 j)⟩] := dif_pos hT
    rw [hs, ← read_zbuf]
    have H := View.read_writes_cons_unit_of_mem (Val := Elt Ideal) zbufM.view (zAt c XA fx z0 j) (off' := ![0, 0]) inb_S6x32000_S6x29952_0_0 (stepW c XA fx ⟨j, hT⟩ (zAt c XA fx z0 j)) [] (ix2 r n : S6x32000.Idx)
      (ix2 r (⟨n.val, hn⟩ : Fin 29952) : S6x29952.Idx) rfl (fun a => by
        match a with
        | 0 => show r.val = 0 + r.val; omega
        | 1 => show n.val = 0 + n.val; omega)
    refine Eq.trans (b := (stepW c XA fx ⟨j, hT⟩ (zAt c XA fx z0 j) (ix2 r (⟨n.val, hn⟩ : Fin 29952) : S6x29952.Idx) : EReal)) H ?_
    · refine (stepW_apply c XA fx ⟨j, hT⟩ _ r ⟨n.val, hn⟩).trans ?_
      rw [Fin.sum_univ_castSucc (n := j), ← add_assoc]
      exact congrArg₂ (fun a b : EReal => a + b) (ih (by omega)) rfl

/-- After the loop, from zeros: the whole product. -/
theorem zAt_all (XA : Buf (Elt Ideal) (aW.view.loc (c : Thread nD τ))) (fx : Buf (Elt Ideal) (xbufM.view.loc (c : Thread nD τ)))
    (z0 : Buf (Elt Ideal) (zbufM.view.loc (c : Thread nD τ))) (hz : ∀ r n, zEnt c z0 r n = 0) (r : Fin 6) (n : Fin 32000) (hn : n.val < 29952) :
    zEnt c (zAt c XA fx z0 32) r n = ∑ k : Fin 8192, xEnt c fx r k * wEnt c XA k n := by
  rw [zAt_apply c XA fx z0 r n hn 32 le_rfl, hz, zero_add, ← Fintype.sum_prod_type']
  refine Fintype.sum_equiv (finProdFinEquiv (m := 32) (n := 256)) _ _ fun p => ?_
  have e : ((finProdFinEquiv (m := 32) (n := 256) p : Fin 8192)) = ⟨256 * p.1.val + p.2.val, by omega⟩ := Fin.ext (by
    show p.2.val + 256 * p.1.val = 256 * p.1.val + p.2.val; omega)
  rw [e]

end Cert.Proof.Value
-- ==== Proof.Value.Counts.lean ====
/- What the counting loop leaves in its table: of each row and column, the entries of the history that count for it. -/
module

public import proofs.«01_k».proof.Proof.KernelIdeal.Loops
public import Idealize.ShloMosaic.Lib.Writes
public import Idealize.ShloMosaic.Lib.Pointwise

@[expose] public section
set_option maxRecDepth 16384
noncomputable section
namespace Cert.Proof.Value
open Cert.KernelIdeal Cert.KernelIdeal.Gen Cert.Proof.KernelIdeal
open Idealize.ShloMosaic
open Idealize.ShloMosaic.TcCoe
open Idealize.SL Idealize.SL.Sem
variable (c : Dev nD)

theorem toInt_ofNat_small (m : ℕ) (h : m < 4096) : (BitVec.ofNat 32 m).toInt = (m : ℤ) := by
  rw [BitVec.toInt_eq_toNat_of_lt (by rw [BitVec.toNat_ofNat]; omega), BitVec.toNat_ofNat, Nat.mod_eq_of_lt (by omega)]

/-- A word's float, met with a small offset from a constant, is the word met with the sum. -/
theorem meet (w : BitVec 32) (m p : ℕ) (hm : m < 4096) (b : BitVec 16) (hb : Ideal.ofBits .bf16 b = ((p : ℝ) : EReal)) :
    ((FloatOps.sitofp (F := Ideal) .f32 w : EReal) = (FloatOps.sitofp (F := Ideal) .f32 (BitVec.ofNat 32 m) : EReal) + Ideal.ofBits .bf16 b)
      ↔ w.toInt = (m : ℤ) + (p : ℤ) := by
  rw [hb]
  show (((w.toInt : ℝ) : EReal) = (((BitVec.ofNat 32 m).toInt : ℝ) : EReal) + ((p : ℝ) : EReal)) ↔ _
  rw [toInt_ofNat_small m hm, ← EReal.coe_add, EReal.coe_eq_coe_iff]
  norm_cast

theorem meet0 (w : BitVec 32) (m : ℕ) (hm : m < 4096) :
    ((FloatOps.sitofp (F := Ideal) .f32 w : EReal) = (FloatOps.sitofp (F := Ideal) .f32 (BitVec.ofNat 32 m) : EReal))
      ↔ w.toInt = (m : ℤ) := by
  show (((w.toInt : ℝ) : EReal) = (((BitVec.ofNat 32 m).toInt : ℝ) : EReal)) ↔ _
  rw [toInt_ofNat_small m hm, EReal.coe_eq_coe_iff]
  norm_cast

theorem bits_16 : Ideal.ofBits .bf16 16768#16 = (((16 : ℕ) : ℝ) : EReal) := by
  simp [Ideal.ofBits, Ideal.ieee, -EReal.coe_mul] <;> norm_num
theorem bits_32 : Ideal.ofBits .bf16 16896#16 = (((32 : ℕ) : ℝ) : EReal) := by
  simp [Ideal.ofBits, Ideal.ieee, -EReal.coe_mul] <;> norm_num
theorem bits_48 : Ideal.ofBits .bf16 16960#16 = (((48 : ℕ) : ℝ) : EReal) := by
  simp [Ideal.ofBits, Ideal.ieee, -EReal.coe_mul] <;> norm_num
theorem bits_64 : Ideal.ofBits .bf16 17024#16 = (((64 : ℕ) : ℝ) : EReal) := by
  simp [Ideal.ofBits, Ideal.ieee, -EReal.coe_mul] <;> norm_num
theorem bits_80 : Ideal.ofBits .bf16 17056#16 = (((80 : ℕ) : ℝ) : EReal) := by
  simp [Ideal.ofBits, Ideal.ieee, -EReal.coe_mul] <;> norm_num
theorem bits_96 : Ideal.ofBits .bf16 17088#16 = (((96 : ℕ) : ℝ) : EReal) := by
  simp [Ideal.ofBits, Ideal.ieee, -EReal.coe_mul] <;> norm_num
theorem bits_112 : Ideal.ofBits .bf16 17120#16 = (((112 : ℕ) : ℝ) : EReal) := by
  simp [Ideal.ofBits, Ideal.ieee, -EReal.coe_mul] <;> norm_num
theorem bits_128 : Ideal.ofBits .bf16 17152#16 = (((128 : ℕ) : ℝ) : EReal) := by
  simp [Ideal.ofBits, Ideal.ieee, -EReal.coe_mul] <;> norm_num
theorem bits_144 : Ideal.ofBits .bf16 17168#16 = (((144 : ℕ) : ℝ) : EReal) := by
  simp [Ideal.ofBits, Ideal.ieee, -EReal.coe_mul] <;> norm_num
theorem bits_160 : Ideal.ofBits .bf16 17184#16 = (((160 : ℕ) : ℝ) : EReal) := by
  simp [Ideal.ofBits, Ideal.ieee, -EReal.coe_mul] <;> norm_num
theorem bits_176 : Ideal.ofBits .bf16 17200#16 = (((176 : ℕ) : ℝ) : EReal) := by
  simp [Ideal.ofBits, Ideal.ieee, -EReal.coe_mul] <;> norm_num
theorem bits_192 : Ideal.ofBits .bf16 17216#16 = (((192 : ℕ) : ℝ) : EReal) := by
  simp [Ideal.ofBits, Ideal.ieee, -EReal.coe_mul] <;> norm_num
theorem bits_208 : Ideal.ofBits .bf16 17232#16 = (((208 : ℕ) : ℝ) : EReal) := by
  simp [Ideal.ofBits, Ideal.ieee, -EReal.coe_mul] <;> norm_num
theorem bits_224 : Ideal.ofBits .bf16 17248#16 = (((224 : ℕ) : ℝ) : EReal) := by
  simp [Ideal.ofBits, Ideal.ieee, -EReal.coe_mul] <;> norm_num
theorem bits_240 : Ideal.ofBits .bf16 17264#16 = (((240 : ℕ) : ℝ) : EReal) := by
  simp [Ideal.ofBits, Ideal.ieee, -EReal.coe_mul] <;> norm_num

theorem dite_both {α : Type} {P : Prop} [Decidable P] {a : P → α} {b : ¬P → α} {x : α} (h1 : ∀ h, a h = x) (h2 : ∀ h, b h = x) : dite P a b = x := by
  by_cases h : P
  · rw [dif_pos h]; exact h1 h
  · rw [dif_neg h]; exact h2 h

/-- The block a history entry counts for: its id's, or none past the history's length. -/
abbrev hiWord (XH : Buf (Elt Ideal) (histM.view.loc (c : Thread nD τ))) (XL : Buf (Elt Ideal) (hlenM.view.loc (c : Thread nD τ)))
    (k : Fin k0_t1_loop.trips) (n : Fin 4096) : BitVec 32 :=
  Scalar.select (IntOp.cmpi .slt (BitVec.ofNat 32 n.val) (countTrip.sl.r (F := Ideal) c XL k)) (IntOp.shrsi .vector (countTrip.sl.r_1 (F := Ideal) c XH k (ix2 0 n : S1x4096.Idx)) 7#32) 4294967295#32

set_option maxHeartbeats 1000000 in
theorem hi_apply (XH : Buf (Elt Ideal) (histM.view.loc (c : Thread nD τ))) (XL : Buf (Elt Ideal) (hlenM.view.loc (c : Thread nD τ))) (k) (g : Fin 256) (n : Fin 4096) :
    countTrip.sl.r_11 (F := Ideal) c XH XL k (ix2 g n : S256x4096.Idx) = (if (hiWord c XH XL k n).toInt = (g.val : ℤ) then 1 else 0 : EReal) := by
  have hg := g.isLt
  generalize hw : hiWord c XH XL k n = w
  unfold hiWord at hw
  unfold countTrip.sl.r_11 countTrip.sl.r_2 countTrip.sl.r_3  countTrip.sl.r_4 countTrip.sl.r_5 countTrip.sl.r_6 countTrip.sl.r_7 countTrip.sl.r_8 countTrip.sl.r_9 countTrip.sl.r_10 countTrip.sl.cst_528
  generalize hH : countTrip.sl.r_1 (F := Ideal) c XH k = H at hw
  unfold countTrip.sl.r_1 at hH
  rw [hH]
  generalize countTrip.sl.r (F := Ideal) c XL k = L at hw ⊢
  pointwise [k0_pay1, k0_pay2, k0_pay3, k0_pay4, k0_pay5, k0_pay6, k0_pay7, k0_pay8, k0_pay9, k0_pay10, k0_pay87, k0_pay88, k0_pay89]
  generalize hv : Scalar.select _ _ _ = v
  have e : v = w := hv.symm.trans hw
  subst e
  refine dite_both (fun _ => if_congr ((meet0 v _ (by omega)).trans (by omega)) rfl rfl) fun _ => ?_
  refine dite_both (fun _ => if_congr ((meet v _ 16 (by omega) _ bits_16).trans (by omega)) rfl rfl) fun _ => ?_
  refine dite_both (fun _ => if_congr ((meet v _ 32 (by omega) _ bits_32).trans (by omega)) rfl rfl) fun _ => ?_
  refine dite_both (fun _ => if_congr ((meet v _ 48 (by omega) _ bits_48).trans (by omega)) rfl rfl) fun _ => ?_
  refine dite_both (fun _ => if_congr ((meet v _ 64 (by omega) _ bits_64).trans (by omega)) rfl rfl) fun _ => ?_
  refine dite_both (fun _ => if_congr ((meet v _ 80 (by omega) _ bits_80).trans (by omega)) rfl rfl) fun _ => ?_
  refine dite_both (fun _ => if_congr ((meet v _ 96 (by omega) _ bits_96).trans (by omega)) rfl rfl) fun _ => ?_
  refine dite_both (fun _ => if_congr ((meet v _ 112 (by omega) _ bits_112).trans (by omega)) rfl rfl) fun _ => ?_
  refine dite_both (fun _ => if_congr ((meet v _ 128 (by omega) _ bits_128).trans (by omega)) rfl rfl) fun _ => ?_
  refine dite_both (fun _ => if_congr ((meet v _ 144 (by omega) _ bits_144).trans (by omega)) rfl rfl) fun _ => ?_
  refine dite_both (fun _ => if_congr ((meet v _ 160 (by omega) _ bits_160).trans (by omega)) rfl rfl) fun _ => ?_
  refine dite_both (fun _ => if_congr ((meet v _ 176 (by omega) _ bits_176).trans (by omega)) rfl rfl) fun _ => ?_
  refine dite_both (fun _ => if_congr ((meet v _ 192 (by omega) _ bits_192).trans (by omega)) rfl rfl) fun _ => ?_
  refine dite_both (fun _ => if_congr ((meet v _ 208 (by omega) _ bits_208).trans (by omega)) rfl rfl) fun _ => ?_
  refine dite_both (fun _ => if_congr ((meet v _ 224 (by omega) _ bits_224).trans (by omega)) rfl rfl) fun _ => ?_
  exact if_congr ((meet v _ 240 (by omega) _ bits_240).trans (by omega)) rfl rfl

/-- The lane a history entry counts for. -/
abbrev loWord (XH : Buf (Elt Ideal) (histM.view.loc (c : Thread nD τ))) (k : Fin k0_t1_loop.trips) (n : Fin 4096) : BitVec 32 :=
  IntOp.andi (countTrip.sl.r_1 (F := Ideal) c XH k (ix2 0 n : S1x4096.Idx)) 127#32

set_option maxHeartbeats 1000000 in
theorem pay90_apply (XH : Buf (Elt Ideal) (histM.view.loc (c : Thread nD τ))) (k) (h : FVec Ideal S256x4096 .bf16) (g : Fin 256) (l : Fin 128) :
    k0_pay90 h (countTrip.sl.r_12 (F := Ideal) c XH k) (countTrip.sl.r_13 (F := Ideal) c XH k) (countTrip.sl.r_14 (F := Ideal) c XH k) (countTrip.sl.r_15 (F := Ideal)) (ix2 g l : S256x128.Idx)
      = ∑ n : Fin 4096, (h (ix2 g n : S256x4096.Idx) : EReal) * (if (loWord c XH k n).toInt = (l.val : ℤ) then 1 else 0 : EReal) := by
  have hl := l.isLt
  unfold loWord countTrip.sl.r_12 countTrip.sl.r_13 countTrip.sl.r_14 countTrip.sl.r_15
  generalize countTrip.sl.r_1 (F := Ideal) c XH k = H
  pointwise [k0_pay90, k0_pay87, k0_pay88, k0_pay89, k0_pay11, k0_pay12, k0_pay13, k0_pay14]
  refine Finset.sum_congr rfl fun n _ => congrArg (fun y : EReal => (h (ix2 g n : S256x4096.Idx) : EReal) * y) ?_
  generalize IntOp.andi (H (ix2 0 n : S1x4096.Idx)) 127#32 = v
  refine dite_both (fun _ => if_congr ((meet0 v _ (by omega)).trans (by omega)) rfl rfl) fun _ => ?_
  refine dite_both (fun _ => if_congr ((meet v _ 16 (by omega) _ bits_16).trans (by omega)) rfl rfl) fun _ => ?_
  refine dite_both (fun _ => if_congr ((meet v _ 32 (by omega) _ bits_32).trans (by omega)) rfl rfl) fun _ => ?_
  refine dite_both (fun _ => if_congr ((meet v _ 48 (by omega) _ bits_48).trans (by omega)) rfl rfl) fun _ => ?_
  refine dite_both (fun _ => if_congr ((meet v _ 64 (by omega) _ bits_64).trans (by omega)) rfl rfl) fun _ => ?_
  refine dite_both (fun _ => if_congr ((meet v _ 80 (by omega) _ bits_80).trans (by omega)) rfl rfl) fun _ => ?_
  refine dite_both (fun _ => if_congr ((meet v _ 96 (by omega) _ bits_96).trans (by omega)) rfl rfl) fun _ => ?_
  exact if_congr ((meet v _ 112 (by omega) _ bits_112).trans (by omega)) rfl rfl

/-- What trip `k` of the counts stores, at a block and a lane: the entries that name them. -/
theorem countTrip_apply (v87 : FVec Ideal S6x8192 .fp8e4m3) (XH : Buf (Elt Ideal) (histM.view.loc (c : Thread nD τ))) (XL : Buf (Elt Ideal) (hlenM.view.loc (c : Thread nD τ))) (k) (g : Fin 256) (l : Fin 128) :
    (countTrip c v87 XH XL k).1 (ix2 g l : S256x128.Idx)
      = ∑ n : Fin 4096, (if (hiWord c XH XL k n).toInt = (g.val : ℤ) then 1 else 0 : EReal) * (if (loWord c XH k n).toInt = (l.val : ℤ) then 1 else 0 : EReal) := by
  refine (pay90_apply c XH k (countTrip.sl.r_11 (F := Ideal) c XH XL k) g l).trans ?_
  exact Finset.sum_congr rfl fun n _ => congrArg (fun y : EReal => y * _) (hi_apply c XH XL k g n)

/-- One entry of the counts' buffer. -/
abbrev cEnt (f : Buf (Elt Ideal) (cntM.view.loc (c : Thread nD τ))) (R : Fin 2048) (l : Fin 128) : EReal :=
  f (ix2 R l : S2048x128.Idx)

theorem read_cnt (f : Buf (Elt Ideal) (cntM.view.loc (c : Thread nD τ))) (R : Fin 2048) (l : Fin 128) :
    View.read (Elt Ideal) cntM.view f (ix2 R l : S2048x128.Idx) = cEnt c f R l := rfl

theorem trips1 : k0_t1_loop.trips = 6 := by decide

/-- Row `8 g + b` of the counts, once trip `b` has run. -/
theorem cntAt_row (v87 : FVec Ideal S6x8192 .fp8e4m3) (XH : Buf (Elt Ideal) (histM.view.loc (c : Thread nD τ))) (XL : Buf (Elt Ideal) (hlenM.view.loc (c : Thread nD τ)))
    (f0 : Buf (Elt Ideal) (cntM.view.loc (c : Thread nD τ))) (b : Fin k0_t1_loop.trips) (g : Fin 256) (l : Fin 128) (j : ℕ) (hj : j ≤ 6) (hb : b.val < j) :
    cEnt c (cntAt c v87 XH XL f0 j) (⟨8 * g.val + b.val, by have := b.isLt; have := trips1; omega⟩ : Fin 2048) l
      = (countTrip c v87 XH XL b).1 (ix2 g l : S256x128.Idx) := by
  have h6 := trips1
  induction j with
  | zero => omega
  | succ j ih =>
    have hT : j < k0_t1_loop.trips := by omega
    have hs : cntAt c v87 XH XL f0 (j + 1) = cntM.view.writes (Elt Ideal) (cntAt c v87 XH XL f0 j) [⟨RC ⟨j, hT⟩, (countTrip c v87 XH XL ⟨j, hT⟩).1⟩] := dif_pos hT
    have e := congrFun (k0_off3_eq ⟨j, hT⟩)
    rw [hs, ← read_cnt]
    by_cases hbj : b.val = j
    · have hbe : b = ⟨j, hT⟩ := Fin.ext hbj
      subst hbe
      exact View.read_writes_cons_hit_of_coords cntM.view (cntAt c v87 XH XL f0 j) (RC ⟨j, hT⟩) (countTrip c v87 XH XL ⟨j, hT⟩).1 [] (ix2 g l : S256x128.Idx) _ (fun (a : Fin 2) => by
        match a with
        | 0 => show 8 * g.val + j = k0_off3 ⟨j, hT⟩ 0 + 8 * g.val; rw [e 0]; show 8 * g.val + j = j + 8 * g.val; omega
        | 1 => show l.val = k0_off3 ⟨j, hT⟩ 1 + 1 * l.val; rw [e 1]; show l.val = 0 + 1 * l.val; omega)
    · have hm : (ix2 (⟨8 * g.val + b.val, by omega⟩ : Fin 2048) l : S2048x128.Idx) ∉ (RC ⟨j, hT⟩).set := by
        intro hin
        obtain ⟨x, hx⟩ := (RC ⟨j, hT⟩).exists_idx_of_mem hin
        have h0 := congrArg (fun i : S2048x128.Idx => (i 0).val) hx
        have h1 : k0_off3 ⟨j, hT⟩ 0 + 8 * (x 0).val = 8 * g.val + b.val := h0
        rw [e 0] at h1
        have h2 : j + 8 * (x 0).val = 8 * g.val + b.val := h1
        omega
      exact (View.read_writes_cons_miss cntM.view (cntAt c v87 XH XL f0 j) ⟨RC ⟨j, hT⟩, (countTrip c v87 XH XL ⟨j, hT⟩).1⟩ [] _ hm).trans (ih (by omega) (by omega))

/-- An id's block and lane, as integers. -/
theorem hi_toInt (x : BitVec 32) : (IntOp.shrsi .vector x 7#32).toInt = x.toInt / 128 := by
  have e : IntOp.shrsi .vector x 7#32 = x.sshiftRight' 7#32 := if_pos (by decide)
  rw [e, BitVec.toInt_sshiftRight', Int.shiftRight_eq_div_pow]
  rfl

theorem lo_toInt (x : BitVec 32) : (IntOp.andi x 127#32).toInt = x.toInt % 128 := by
  have e : (IntOp.andi x 127#32).toNat = x.toNat % 128 := by
    show (x &&& 127#32).toNat = _
    rw [BitVec.toNat_and]
    exact Nat.and_two_pow_sub_one_eq_mod x.toNat 7
  have h1 := BitVec.toInt_eq_toNat_cond x
  have h2 := BitVec.toInt_eq_toNat_cond (IntOp.andi x 127#32)
  rw [e] at h2
  have := x.isLt
  split at h1 <;> split at h2 <;> omega

/-- One id of the history, and one row's length. -/
abbrev hEnt (XH : Buf (Elt Ideal) (histM.view.loc (c : Thread nD τ))) (b : Fin 6) (n : Fin 4096) : BitVec 32 :=
  XH (ix2 b n : S6x4096.Idx)
abbrev lEnt (XL : Buf (Elt Ideal) (hlenM.view.loc (c : Thread nD τ))) (b : Fin 6) : BitVec 32 :=
  XL (ix1 b : S6.Idx)

/-- The counts after the loop: of row `b`, column `128 g + l`, the history's valid entries of that id. -/
theorem cntAt_all (v87 : FVec Ideal S6x8192 .fp8e4m3) (XH : Buf (Elt Ideal) (histM.view.loc (c : Thread nD τ))) (XL : Buf (Elt Ideal) (hlenM.view.loc (c : Thread nD τ)))
    (f0 : Buf (Elt Ideal) (cntM.view.loc (c : Thread nD τ))) (b : Fin 6) (g : Fin 256) (l : Fin 128) :
    cEnt c (cntAt c v87 XH XL f0 k0_t1_loop.trips) (⟨8 * g.val + b.val, by omega⟩ : Fin 2048) l
      = ∑ n : Fin 4096, (if IntOp.cmpi .slt (BitVec.ofNat 32 n.val) (lEnt c XL b) = 1#1 ∧ (hEnt c XH b n).toInt = 128 * (g.val : ℤ) + (l.val : ℤ) then 1 else 0 : EReal) := by
  rw [trips1]
  refine (cntAt_row c v87 XH XL f0 ⟨b.val, by rw [trips1]; exact b.isLt⟩ g l 6 le_rfl b.isLt).trans ?_
  refine (countTrip_apply c v87 XH XL _ g l).trans (Finset.sum_congr rfl fun n _ => ?_)
  have eL : countTrip.sl.r (F := Ideal) c XL ⟨b.val, by rw [trips1]; exact b.isLt⟩ = lEnt c XL b := by
    refine congrArg XL (funext fun (a : Fin 1) => Fin.ext ?_)
    have e := congrFun (k0_off2_eq ⟨b.val, by rw [trips1]; exact b.isLt⟩)
    match a with
    | 0 => show k0_off2 ⟨b.val, by rw [trips1]; exact b.isLt⟩ 0 + 1 * 0 = b.val; rw [e 0]; show b.val + 1 * 0 = b.val; omega
  have eH : countTrip.sl.r_1 (F := Ideal) c XH ⟨b.val, by rw [trips1]; exact b.isLt⟩ (ix2 0 n : S1x4096.Idx) = hEnt c XH b n := by
    refine congrArg XH (funext fun (a : Fin 2) => Fin.ext ?_)
    have e := congrFun (k0_off1_eq ⟨b.val, by rw [trips1]; exact b.isLt⟩)
    match a with
    | 0 => show k0_off1 ⟨b.val, by rw [trips1]; exact b.isLt⟩ 0 + 1 * 0 = b.val; rw [e 0]; show b.val + 1 * 0 = b.val; omega
    | 1 => show k0_off1 ⟨b.val, by rw [trips1]; exact b.isLt⟩ 1 + 1 * n.val = n.val; rw [e 1]; show 0 + 1 * n.val = n.val; omega
  unfold hiWord loWord
  rw [eL, eH, lo_toInt]
  by_cases hv : IntOp.cmpi .slt (BitVec.ofNat 32 n.val) (lEnt c XL b) = 1#1
  · rw [hv, show (Scalar.select 1#1 (IntOp.shrsi .vector (hEnt c XH b n) 7#32) 4294967295#32) = IntOp.shrsi .vector (hEnt c XH b n) 7#32 from rfl, hi_toInt]
    have hg := g.isLt
    have hl := l.isLt
    by_cases h1 : (hEnt c XH b n).toInt / 128 = (g.val : ℤ)
    · rw [if_pos h1, one_mul]
      exact if_congr ⟨fun h => ⟨rfl, by omega⟩, fun h => by omega⟩ rfl rfl
    · rw [if_neg h1, zero_mul, if_neg (by omega)]
  · rw [show Scalar.select (IntOp.cmpi .slt (BitVec.ofNat 32 n.val) (lEnt c XL b)) (IntOp.shrsi .vector (hEnt c XH b n) 7#32) 4294967295#32 = 4294967295#32 from if_neg hv,
      if_neg (show ¬ (4294967295#32 : BitVec 32).toInt = (g.val : ℤ) from by
        rw [show (4294967295#32 : BitVec 32).toInt = -1 from by decide]; omega), zero_mul, if_neg (fun h => hv h.1)]

end Cert.Proof.Value
-- ==== Proof.Value.Finish.lean ====
/- The finish of the logits' first 29952 columns, over the reals: each element scaled, capped, penalised by its count and
   shifted by its bias. -/
module

public import proofs.«01_k».proof.Proof.Value.Products
public import proofs.«01_k».proof.Proof.Value.Counts
public import Idealize.ShloMosaic.Lib.Writes
public import Idealize.ShloMosaic.Lib.Pointwise

@[expose] public section

set_option maxRecDepth 16384

noncomputable section

namespace Cert.Proof.Value

open Cert.KernelIdeal Cert.KernelIdeal.Gen Cert.Proof.KernelIdeal
open Idealize.ShloMosaic
open Idealize.ShloMosaic.TcCoe
open Idealize.SL Idealize.SL.Sem

variable (c : Dev nD)

/-- The capped logit: `30 tanh (z xs w / 30)`. -/
def cap (xs z w : EReal) : EReal :=
  Ideal.ofBits FTy.f32 1106247680#32 * Ideal.tanh (Ideal.div (z * xs * w) (Ideal.ofBits FTy.f32 1106247680#32))

/-- The finished logit, from the product `z`, the scales `xs` and `w`, the penalties, the count and the bias. -/
def epi (xs pr fr rp z w ct bi : EReal) : EReal :=
  ((if 0 < ct then if 0 < cap xs z w then Ideal.div (cap xs z w) rp else cap xs z w * rp else cap xs z w) - ct * fr
    - if 0 < ct then pr else 0) + bi

/-! ### One group of 128 columns, as each of the eighteen places of a trip writes it -/

section Groups
variable (v125 v152 v179 P : FVec Ideal S6x128 .f32) (z : Vec Ideal S6x128 .f32) (w : Vec Ideal S1x128 .f32) (ct bi : Vec Ideal S6x128 .f32) (r : Fin 6) (l : Fin 128)

/-- The finished logit at an element of a group. -/
abbrev epiG : EReal :=
  epi (v125 (ix2 r l : S6x128.Idx)) (v152 (ix2 r l : S6x128.Idx)) (v179 (ix2 r l : S6x128.Idx)) (P (ix2 r l : S6x128.Idx)) (z (ix2 r l : S6x128.Idx)) (w (ix2 0 l : S1x128.Idx)) (ct (ix2 r l : S6x128.Idx)) (bi (ix2 r l : S6x128.Idx))

theorem group0 : (k0_pay28 v152 (k0_pay25 ct) (k0_pay26 v125 v179 P z w ct) bi) (ix2 r l : S6x128.Idx) = epiG v125 v152 v179 P z w ct bi r l := by
  unfold epiG epi cap
  pointwise [k0_pay28, k0_pay25, k0_pay26, k0_pay27]

theorem group1 : (k0_pay30 (k0_pay29 v125 v152 v179 P z w ct bi)) (ix2 r l : S6x128.Idx) = epiG v125 v152 v179 P z w ct bi r l := by
  unfold epiG epi cap
  pointwise [k0_pay30, k0_pay29]

theorem group2 : (k0_pay32 v125 v152 v179 P z w ct bi) (ix2 r l : S6x128.Idx) = epiG v125 v152 v179 P z w ct bi r l := by
  unfold epiG epi cap
  pointwise [k0_pay32, k0_pay31]

theorem group3 : (k0_pay35 v152 v179 P (k0_pay33 v125 z) w ct bi) (ix2 r l : S6x128.Idx) = epiG v125 v152 v179 P z w ct bi r l := by
  unfold epiG epi cap
  pointwise [k0_pay35, k0_pay34, k0_pay33]

theorem group4 : (k0_pay38 v152 v179 P (k0_pay36 v125 z w) (finTrip.sl.cst_617 (F := Ideal)) ct bi) (ix2 r l : S6x128.Idx) = epiG v125 v152 v179 P z w ct bi r l := by
  unfold epiG epi cap
  pointwise [k0_pay38, k0_pay37, k0_pay36, finTrip.sl.cst_617]

theorem group5 : (k0_pay42 v152 v179 P (k0_pay39 v125 z w) ct k0_pay40 bi) (ix2 r l : S6x128.Idx) = epiG v125 v152 v179 P z w ct bi r l := by
  unfold epiG epi cap
  pointwise [k0_pay42, k0_pay41, k0_pay40, k0_pay39]

theorem group6 : (k0_pay46 v152 (k0_pay43 ct) (k0_pay44 v125 v179 P z w ct) bi) (ix2 r l : S6x128.Idx) = epiG v125 v152 v179 P z w ct bi r l := by
  unfold epiG epi cap
  pointwise [k0_pay46, k0_pay43, k0_pay44, k0_pay45]

theorem group7 : (k0_pay48 (k0_pay47 v125 v152 v179 P z w ct bi)) (ix2 r l : S6x128.Idx) = epiG v125 v152 v179 P z w ct bi r l := by
  unfold epiG epi cap
  pointwise [k0_pay48, k0_pay47]

theorem group8 : (k0_pay50 v125 v152 v179 P z w ct bi) (ix2 r l : S6x128.Idx) = epiG v125 v152 v179 P z w ct bi r l := by
  unfold epiG epi cap
  pointwise [k0_pay50, k0_pay49]

theorem group9 : (k0_pay53 v152 v179 P (k0_pay51 v125 z) w ct bi) (ix2 r l : S6x128.Idx) = epiG v125 v152 v179 P z w ct bi r l := by
  unfold epiG epi cap
  pointwise [k0_pay53, k0_pay52, k0_pay51]

theorem group10 : (k0_pay56 v152 v179 P (k0_pay54 v125 z w) (finTrip.sl.cst_617 (F := Ideal)) ct bi) (ix2 r l : S6x128.Idx) = epiG v125 v152 v179 P z w ct bi r l := by
  unfold epiG epi cap
  pointwise [k0_pay56, k0_pay55, k0_pay54, finTrip.sl.cst_617]

theorem group11 : (k0_pay60 v152 v179 P (k0_pay57 v125 z w) ct k0_pay58 bi) (ix2 r l : S6x128.Idx) = epiG v125 v152 v179 P z w ct bi r l := by
  unfold epiG epi cap
  pointwise [k0_pay60, k0_pay59, k0_pay58, k0_pay57]

theorem group12 : (k0_pay64 v152 (k0_pay61 ct) (k0_pay62 v125 v179 P z w ct) bi) (ix2 r l : S6x128.Idx) = epiG v125 v152 v179 P z w ct bi r l := by
  unfold epiG epi cap
  pointwise [k0_pay64, k0_pay61, k0_pay62, k0_pay63]

theorem group13 : (k0_pay66 (k0_pay65 v125 v152 v179 P z w ct bi)) (ix2 r l : S6x128.Idx) = epiG v125 v152 v179 P z w ct bi r l := by
  unfold epiG epi cap
  pointwise [k0_pay66, k0_pay65]

theorem group14 : (k0_pay68 v125 v152 v179 P z w ct bi) (ix2 r l : S6x128.Idx) = epiG v125 v152 v179 P z w ct bi r l := by
  unfold epiG epi cap
  pointwise [k0_pay68, k0_pay67]

theorem group15 : (k0_pay71 v152 v179 P (k0_pay69 v125 z) w ct bi) (ix2 r l : S6x128.Idx) = epiG v125 v152 v179 P z w ct bi r l := by
  unfold epiG epi cap
  pointwise [k0_pay71, k0_pay70, k0_pay69]

theorem group16 : (k0_pay74 v152 v179 P (k0_pay72 v125 z w) (finTrip.sl.cst_617 (F := Ideal)) ct bi) (ix2 r l : S6x128.Idx) = epiG v125 v152 v179 P z w ct bi r l := by
  unfold epiG epi cap
  pointwise [k0_pay74, k0_pay73, k0_pay72, finTrip.sl.cst_617]

theorem group17 : (k0_pay78 v152 v179 P (k0_pay75 v125 z w) ct k0_pay76 bi) (ix2 r l : S6x128.Idx) = epiG v125 v152 v179 P z w ct bi r l := by
  unfold epiG epi cap
  pointwise [k0_pay78, k0_pay77, k0_pay76, k0_pay75]

end Groups

/-! ### What a trip reads -/

abbrev wsEnt (XS : Buf (Elt Ideal) (wsM.view.loc (c : Thread nD τ))) (B : Fin 250) (l : Fin 128) : EReal := XS (ix2 B l : S250x128.Idx)
abbrev bEnt (XI : Buf (Elt Ideal) (biasM.view.loc (c : Thread nD τ))) (R : Fin 2048) (l : Fin 128) : EReal := XI (ix2 R l : S2048x128.Idx)

theorem trips4 : k0_t4_loop.trips = 13 := by decide
theorem trip4_lt (k : Fin k0_t4_loop.trips) : k.val < 13 := Nat.lt_of_lt_of_eq k.isLt trips4

/-- The group of 128 columns the place `q` of trip `k` finishes. -/
abbrev grp (k : Fin k0_t4_loop.trips) (q : Fin 18) : Fin 250 := ⟨18 * k.val + q.val, by have := trip4_lt k; omega⟩
/-- Its columns, and its rows of the counts and of the bias. -/
abbrev colOf (B : Fin 250) (l : Fin 128) : Fin 32000 := ⟨128 * B.val + l.val, by omega⟩
abbrev rowOf (B : Fin 250) (r : Fin 6) : Fin 2048 := ⟨8 * B.val + r.val, by omega⟩

theorem z_read (f : Buf (Elt Ideal) (zbufM.view.loc (c : Thread nD τ))) (k : Fin k0_t4_loop.trips) (q : Fin 18) (r : Fin 6) (l : Fin 128) :
    View.readAt (Elt Ideal) zbufM.view (Rect.unit (s := S6x32000) (k0_off35 k (BitVec.ofNat 32 q.val)) S6x128.size (k0_off35_inb k q)).toLoadRect f (ix2 r l : S6x128.Idx)
      = zEnt c f r (colOf (grp k q) l) := by
  refine congrArg f (funext fun (a : Fin 2) => Fin.ext ?_)
  have e := congrFun (k0_off35_eq k q)
  match a with
  | 0 => show k0_off35 k (BitVec.ofNat 32 q.val) 0 + 1 * r.val = r.val; rw [e 0]; show 0 + 1 * r.val = r.val; omega
  | 1 => show k0_off35 k (BitVec.ofNat 32 q.val) 1 + 1 * l.val = 128 * (18 * k.val + q.val) + l.val; rw [e 1]; show 2304 * k.val + 128 * q.val + 1 * l.val = 128 * (18 * k.val + q.val) + l.val; omega

theorem ws_read (f : Buf (Elt Ideal) (wsM.view.loc (c : Thread nD τ))) (k : Fin k0_t4_loop.trips) (q : Fin 18) (l : Fin 128) :
    View.readAt (Elt Ideal) wsM.view (Rect.unit (s := S250x128) (k0_off36 k (BitVec.ofNat 32 q.val)) S1x128.size (k0_off36_inb k q)).toLoadRect f (ix2 0 l : S1x128.Idx)
      = wsEnt c f (grp k q) l := by
  refine congrArg f (funext fun (a : Fin 2) => Fin.ext ?_)
  have e := congrFun (k0_off36_eq k q)
  match a with
  | 0 => show k0_off36 k (BitVec.ofNat 32 q.val) 0 + 1 * 0 = 18 * k.val + q.val; rw [e 0]; show 18 * k.val + q.val + 1 * 0 = 18 * k.val + q.val; omega
  | 1 => show k0_off36 k (BitVec.ofNat 32 q.val) 1 + 1 * l.val = l.val; rw [e 1]; show 0 + 1 * l.val = l.val; omega

theorem cnt_read (f : Buf (Elt Ideal) (cntM.view.loc (c : Thread nD τ))) (k : Fin k0_t4_loop.trips) (q : Fin 18) (r : Fin 6) (l : Fin 128) :
    View.readAt (Elt Ideal) cntM.view (Rect.unit (s := S2048x128) (k0_off37 k (BitVec.ofNat 32 q.val)) S6x128.size (k0_off37_inb k q)).toLoadRect f (ix2 r l : S6x128.Idx)
      = cEnt c f (rowOf (grp k q) r) l := by
  refine congrArg f (funext fun (a : Fin 2) => Fin.ext ?_)
  have e := congrFun (k0_off37_eq k q)
  match a with
  | 0 => show k0_off37 k (BitVec.ofNat 32 q.val) 0 + 1 * r.val = 8 * (18 * k.val + q.val) + r.val; rw [e 0]; show 144 * k.val + 8 * q.val + 1 * r.val = 8 * (18 * k.val + q.val) + r.val; omega
  | 1 => show k0_off37 k (BitVec.ofNat 32 q.val) 1 + 1 * l.val = l.val; rw [e 1]; show 0 + 1 * l.val = l.val; omega

theorem bias_read (f : Buf (Elt Ideal) (biasM.view.loc (c : Thread nD τ))) (k : Fin k0_t4_loop.trips) (q : Fin 18) (r : Fin 6) (l : Fin 128) :
    View.readAt (Elt Ideal) biasM.view (Rect.unit (s := S2048x128) (k0_off37 k (BitVec.ofNat 32 q.val)) S6x128.size (k0_off37_inb k q)).toLoadRect f (ix2 r l : S6x128.Idx)
      = bEnt c f (rowOf (grp k q) r) l := by
  refine congrArg f (funext fun (a : Fin 2) => Fin.ext ?_)
  have e := congrFun (k0_off37_eq k q)
  match a with
  | 0 => show k0_off37 k (BitVec.ofNat 32 q.val) 0 + 1 * r.val = 8 * (18 * k.val + q.val) + r.val; rw [e 0]; show 144 * k.val + 8 * q.val + 1 * r.val = 8 * (18 * k.val + q.val) + r.val; omega
  | 1 => show k0_off37 k (BitVec.ofNat 32 q.val) 1 + 1 * l.val = l.val; rw [e 1]; show 0 + 1 * l.val = l.val; omega

section Trip
variable (v125 v152 v179 v201 : FVec Ideal S6x128 .f32) (v203 : IVec S6x128 1) (v205 : FVec Ideal S6x128 .f32)
  (XS : Buf (Elt Ideal) (wsM.view.loc (c : Thread nD τ))) (XC : Buf (Elt Ideal) (cntM.view.loc (c : Thread nD τ))) (XI : Buf (Elt Ideal) (biasM.view.loc (c : Thread nD τ)))

/-- The finished logit at row `r`, lane `l` of group `B`, from the products a buffer holds. -/
def finG (f : Buf (Elt Ideal) (zbufM.view.loc (c : Thread nD τ))) (r : Fin 6) (B : Fin 250) (l : Fin 128) : EReal :=
  epi (v125 (ix2 r l : S6x128.Idx)) (v152 (ix2 r l : S6x128.Idx)) (v179 (ix2 r l : S6x128.Idx)) (k0_pay102 v201 v203 v205 (ix2 r l : S6x128.Idx))
    (zEnt c f r (colOf B l)) (wsEnt c XS B l) (cEnt c XC (rowOf B r) l) (bEnt c XI (rowOf B r) l)

/-- A group's payload is the finished logits of the group. -/
theorem group_eq (f : Buf (Elt Ideal) (zbufM.view.loc (c : Thread nD τ))) (k : Fin k0_t4_loop.trips) (q : Fin 18) (r : Fin 6) (l : Fin 128) :
    epiG v125 v152 v179 (k0_pay102 v201 v203 v205)
      (View.readAt (Elt Ideal) zbufM.view (Rect.unit (s := S6x32000) (k0_off35 k (BitVec.ofNat 32 q.val)) S6x128.size (k0_off35_inb k q)).toLoadRect f)
      (View.readAt (Elt Ideal) wsM.view (Rect.unit (s := S250x128) (k0_off36 k (BitVec.ofNat 32 q.val)) S1x128.size (k0_off36_inb k q)).toLoadRect XS)
      (View.readAt (Elt Ideal) cntM.view (Rect.unit (s := S2048x128) (k0_off37 k (BitVec.ofNat 32 q.val)) S6x128.size (k0_off37_inb k q)).toLoadRect XC)
      (View.readAt (Elt Ideal) biasM.view (Rect.unit (s := S2048x128) (k0_off37 k (BitVec.ofNat 32 q.val)) S6x128.size (k0_off37_inb k q)).toLoadRect XI) r l
      = finG c v125 v152 v179 v201 v203 v205 XS XC XI f r (grp k q) l := by
  unfold epiG finG
  rw [z_read c f k q r l, ws_read c XS k q l, cnt_read c XC k q r l, bias_read c XI k q r l]

/-- The finished logits, as one array. -/
def finA (f : Buf (Elt Ideal) (zbufM.view.loc (c : Thread nD τ))) (i : S6x32000.Idx) : Elt Ideal .f32 :=
  finG c v125 v152 v179 v201 v203 v205 XS XC XI f (i 0) ⟨(i 1).val / 128, by have := (i 1).isLt; have : (i 1).val < 32000 := this; omega⟩ ⟨(i 1).val % 128, by omega⟩

theorem finA_emb (f : Buf (Elt Ideal) (zbufM.view.loc (c : Thread nD τ))) (k : Fin k0_t4_loop.trips) (q : Fin 18)
    (w : S6x128.Idx → Elt Ideal .f32) (hw : ∀ r l, w (ix2 r l : S6x128.Idx) = finG c v125 v152 v179 v201 v203 v205 XS XC XI f r (grp k q) l) (x : S6x128.Idx) :
    w x = finA c v125 v152 v179 v201 v203 v205 XS XC XI f ((Rect.unit (s := S6x32000) (k0_off35 k (BitVec.ofNat 32 q.val)) S6x128.size (k0_off35_inb k q)).emb x) := by
  obtain ⟨r, l, rfl⟩ : ∃ (r : Fin 6) (l : Fin 128), x = (ix2 r l : S6x128.Idx) := ⟨x 0, x 1, (funext fun (a : Fin 2) => by
    match a with
    | 0 => rfl
    | 1 => rfl)⟩
  rw [hw]
  have e := congrFun (k0_off35_eq k q)
  have e0 : k0_off35 k (BitVec.ofNat 32 q.val) 0 + 1 * r.val = r.val := by rw [e 0]; show 0 + 1 * r.val = r.val; omega
  have e1 : k0_off35 k (BitVec.ofNat 32 q.val) 1 + 1 * l.val = 128 * (18 * k.val + q.val) + l.val := by
    rw [e 1]; show 2304 * k.val + 128 * q.val + 1 * l.val = 128 * (18 * k.val + q.val) + l.val; omega
  unfold finA
  congr 1
  · exact Fin.ext e0.symm
  · exact Fin.ext (by show 18 * k.val + q.val = (k0_off35 k (BitVec.ofNat 32 q.val) 1 + 1 * l.val) / 128; rw [e1]; omega)
  · exact Fin.ext (by show l.val = (k0_off35 k (BitVec.ofNat 32 q.val) 1 + 1 * l.val) % 128; rw [e1]; omega)

set_option maxHeartbeats 2000000 in
/-- Every piece of a trip is a part of the finished logits; -/
theorem finTrip_pieces (k : Fin k0_t4_loop.trips) (acc) (f : Buf (Elt Ideal) (zbufM.view.loc (c : Thread nD τ))) :
    ∀ p ∈ (finTrip (F := Ideal) c v125 v152 v179 v201 v203 v205 XS XC XI k).2.1 acc f, ∀ x : p.1.shape.Idx,
      p.2 x = finA c v125 v152 v179 v201 v203 v205 XS XC XI f (p.1.emb x) := by
  unfold finTrip
  dsimp only

  refine List.forall_mem_cons.mpr ⟨finA_emb c v125 v152 v179 v201 v203 v205 XS XC XI f k 17 _ fun r l => (group17 _ _ _ _ _ _ _ _ r l).trans (group_eq c v125 v152 v179 v201 v203 v205 XS XC XI f k 17 r l), ?_⟩
  refine List.forall_mem_cons.mpr ⟨finA_emb c v125 v152 v179 v201 v203 v205 XS XC XI f k 16 _ fun r l => (group16 _ _ _ _ _ _ _ _ r l).trans (group_eq c v125 v152 v179 v201 v203 v205 XS XC XI f k 16 r l), ?_⟩
  refine List.forall_mem_cons.mpr ⟨finA_emb c v125 v152 v179 v201 v203 v205 XS XC XI f k 15 _ fun r l => (group15 _ _ _ _ _ _ _ _ r l).trans (group_eq c v125 v152 v179 v201 v203 v205 XS XC XI f k 15 r l), ?_⟩
  refine List.forall_mem_cons.mpr ⟨finA_emb c v125 v152 v179 v201 v203 v205 XS XC XI f k 14 _ fun r l => (group14 _ _ _ _ _ _ _ _ r l).trans (group_eq c v125 v152 v179 v201 v203 v205 XS XC XI f k 14 r l), ?_⟩
  refine List.forall_mem_cons.mpr ⟨finA_emb c v125 v152 v179 v201 v203 v205 XS XC XI f k 13 _ fun r l => (group13 _ _ _ _ _ _ _ _ r l).trans (group_eq c v125 v152 v179 v201 v203 v205 XS XC XI f k 13 r l), ?_⟩
  refine List.forall_mem_cons.mpr ⟨finA_emb c v125 v152 v179 v201 v203 v205 XS XC XI f k 12 _ fun r l => (group12 _ _ _ _ _ _ _ _ r l).trans (group_eq c v125 v152 v179 v201 v203 v205 XS XC XI f k 12 r l), ?_⟩
  refine List.forall_mem_cons.mpr ⟨finA_emb c v125 v152 v179 v201 v203 v205 XS XC XI f k 11 _ fun r l => (group11 _ _ _ _ _ _ _ _ r l).trans (group_eq c v125 v152 v179 v201 v203 v205 XS XC XI f k 11 r l), ?_⟩
  refine List.forall_mem_cons.mpr ⟨finA_emb c v125 v152 v179 v201 v203 v205 XS XC XI f k 10 _ fun r l => (group10 _ _ _ _ _ _ _ _ r l).trans (group_eq c v125 v152 v179 v201 v203 v205 XS XC XI f k 10 r l), ?_⟩
  refine List.forall_mem_cons.mpr ⟨finA_emb c v125 v152 v179 v201 v203 v205 XS XC XI f k 9 _ fun r l => (group9 _ _ _ _ _ _ _ _ r l).trans (group_eq c v125 v152 v179 v201 v203 v205 XS XC XI f k 9 r l), ?_⟩
  refine List.forall_mem_cons.mpr ⟨finA_emb c v125 v152 v179 v201 v203 v205 XS XC XI f k 8 _ fun r l => (group8 _ _ _ _ _ _ _ _ r l).trans (group_eq c v125 v152 v179 v201 v203 v205 XS XC XI f k 8 r l), ?_⟩
  refine List.forall_mem_cons.mpr ⟨finA_emb c v125 v152 v179 v201 v203 v205 XS XC XI f k 7 _ fun r l => (group7 _ _ _ _ _ _ _ _ r l).trans (group_eq c v125 v152 v179 v201 v203 v205 XS XC XI f k 7 r l), ?_⟩
  refine List.forall_mem_cons.mpr ⟨finA_emb c v125 v152 v179 v201 v203 v205 XS XC XI f k 6 _ fun r l => (group6 _ _ _ _ _ _ _ _ r l).trans (group_eq c v125 v152 v179 v201 v203 v205 XS XC XI f k 6 r l), ?_⟩
  refine List.forall_mem_cons.mpr ⟨finA_emb c v125 v152 v179 v201 v203 v205 XS XC XI f k 5 _ fun r l => (group5 _ _ _ _ _ _ _ _ r l).trans (group_eq c v125 v152 v179 v201 v203 v205 XS XC XI f k 5 r l), ?_⟩
  refine List.forall_mem_cons.mpr ⟨finA_emb c v125 v152 v179 v201 v203 v205 XS XC XI f k 4 _ fun r l => (group4 _ _ _ _ _ _ _ _ r l).trans (group_eq c v125 v152 v179 v201 v203 v205 XS XC XI f k 4 r l), ?_⟩
  refine List.forall_mem_cons.mpr ⟨finA_emb c v125 v152 v179 v201 v203 v205 XS XC XI f k 3 _ fun r l => (group3 _ _ _ _ _ _ _ _ r l).trans (group_eq c v125 v152 v179 v201 v203 v205 XS XC XI f k 3 r l), ?_⟩
  refine List.forall_mem_cons.mpr ⟨finA_emb c v125 v152 v179 v201 v203 v205 XS XC XI f k 2 _ fun r l => (group2 _ _ _ _ _ _ _ _ r l).trans (group_eq c v125 v152 v179 v201 v203 v205 XS XC XI f k 2 r l), ?_⟩
  refine List.forall_mem_cons.mpr ⟨finA_emb c v125 v152 v179 v201 v203 v205 XS XC XI f k 1 _ fun r l => (group1 _ _ _ _ _ _ _ _ r l).trans (group_eq c v125 v152 v179 v201 v203 v205 XS XC XI f k 1 r l), ?_⟩
  refine List.forall_mem_cons.mpr ⟨finA_emb c v125 v152 v179 v201 v203 v205 XS XC XI f k 0 _ fun r l => (group0 _ _ _ _ _ _ _ _ r l).trans (group_eq c v125 v152 v179 v201 v203 v205 XS XC XI f k 0 r l), ?_⟩
  exact fun p hp => absurd hp List.not_mem_nil

/-- The columns place `q` of trip `k` writes. -/
abbrev rectQ (k : Fin k0_t4_loop.trips) (q : Fin 18) : Rect S6x32000 :=
  Rect.unit (s := S6x32000) (k0_off35 k (BitVec.ofNat 32 q.val)) S6x128.size (k0_off35_inb k q)

/-- and they are the trip's eighteen groups. -/
theorem finTrip_rects (k : Fin k0_t4_loop.trips) (acc) (f : Buf (Elt Ideal) (zbufM.view.loc (c : Thread nD τ))) :
    ((finTrip (F := Ideal) c v125 v152 v179 v201 v203 v205 XS XC XI k).2.1 acc f).map (fun p => p.1)
      = [rectQ k 17, rectQ k 16, rectQ k 15, rectQ k 14, rectQ k 13, rectQ k 12, rectQ k 11, rectQ k 10, rectQ k 9, rectQ k 8, rectQ k 7, rectQ k 6, rectQ k 5, rectQ k 4, rectQ k 3, rectQ k 2, rectQ k 1, rectQ k 0] := rfl

theorem mem_rectQ (k : Fin k0_t4_loop.trips) (q : Fin 18) (r : Fin 6) (l : Fin 128) (n : Fin 32000) (hn : n.val = 128 * (18 * k.val + q.val) + l.val) :
    (ix2 r n : S6x32000.Idx) ∈ (rectQ k q).set := by
  have e := congrFun (k0_off35_eq k q)
  have h : (rectQ k q).emb (ix2 r l : S6x128.Idx) = (ix2 r n : S6x32000.Idx) := funext fun (a : Fin 2) => Fin.ext (by
    match a with
    | 0 => show k0_off35 k (BitVec.ofNat 32 q.val) 0 + 1 * r.val = r.val; rw [e 0]; show 0 + 1 * r.val = r.val; omega
    | 1 => show k0_off35 k (BitVec.ofNat 32 q.val) 1 + 1 * l.val = n.val; rw [e 1, hn]; show 2304 * k.val + 128 * q.val + 1 * l.val = 128 * (18 * k.val + q.val) + l.val; omega)
  rw [← h, ← Rect.map_emb_univ]
  exact Finset.mem_map_of_mem _ (Finset.mem_univ _)

theorem not_mem_rectQ (k : Fin k0_t4_loop.trips) (q : Fin 18) (r : Fin 6) (n : Fin 32000) (hn : n.val < 2304 * k.val ∨ 2304 * k.val + 2304 ≤ n.val) :
    (ix2 r n : S6x32000.Idx) ∉ (rectQ k q).set := by
  have e := congrFun (k0_off35_eq k q)
  exact Rect.not_mem_set_of_axis (rectQ k q) _ (1 : Fin 2) (2304 * k.val + 128 * q.val) 128 (e 1) rfl rfl (by
    show n.val < _ ∨ _ ≤ n.val
    have := q.isLt
    omega)

/-- A trip finishes its own columns -/
theorem finTrip_hit (k : Fin k0_t4_loop.trips) (acc) (f : Buf (Elt Ideal) (zbufM.view.loc (c : Thread nD τ))) (r : Fin 6) (q : Fin 18) (l : Fin 128) :
    zEnt c (zbufM.view.writes (Elt Ideal) f ((finTrip (F := Ideal) c v125 v152 v179 v201 v203 v205 XS XC XI k).2.1 acc f)) r (colOf (grp k q) l)
      = finG c v125 v152 v179 v201 v203 v205 XS XC XI f r (grp k q) l := by
  have hP := finTrip_pieces c v125 v152 v179 v201 v203 v205 XS XC XI k acc f
  have hR := finTrip_rects c v125 v152 v179 v201 v203 v205 XS XC XI k acc f
  generalize (finTrip (F := Ideal) c v125 v152 v179 v201 v203 v205 XS XC XI k).2.1 acc f = L at hP hR ⊢
  have hm : rectQ k q ∈ L.map (fun p => p.1) := by
    rw [hR]
    fin_cases q <;> simp
  obtain ⟨p, hp, hpq⟩ := List.mem_map.mp hm
  rw [← read_zbuf]
  refine (View.read_writes_apply_of_pieces zbufM.view f (finA c v125 v152 v179 v201 v203 v205 XS XC XI f) L hP (ix2 r (colOf (grp k q) l) : S6x32000.Idx)
    ⟨p, hp, by rw [hpq]; exact mem_rectQ k q r l _ rfl⟩).trans ?_
  have h1 : (128 * (18 * k.val + q.val) + l.val) / 128 = 18 * k.val + q.val := by omega
  have h2 : (128 * (18 * k.val + q.val) + l.val) % 128 = l.val := by omega
  show finG c v125 v152 v179 v201 v203 v205 XS XC XI f r ⟨(128 * (18 * k.val + q.val) + l.val) / 128, _⟩ ⟨(128 * (18 * k.val + q.val) + l.val) % 128, _⟩ = _
  congr 1
  · exact Fin.ext h1
  · exact Fin.ext h2

/-- and no other. -/
theorem finTrip_miss (k : Fin k0_t4_loop.trips) (acc) (f : Buf (Elt Ideal) (zbufM.view.loc (c : Thread nD τ))) (r : Fin 6) (n : Fin 32000)
    (hn : n.val < 2304 * k.val ∨ 2304 * k.val + 2304 ≤ n.val) :
    zEnt c (zbufM.view.writes (Elt Ideal) f ((finTrip (F := Ideal) c v125 v152 v179 v201 v203 v205 XS XC XI k).2.1 acc f)) r n = zEnt c f r n := by
  have hR := finTrip_rects c v125 v152 v179 v201 v203 v205 XS XC XI k acc f
  generalize (finTrip (F := Ideal) c v125 v152 v179 v201 v203 v205 XS XC XI k).2.1 acc f = L at hR ⊢
  rw [← read_zbuf, ← read_zbuf]
  refine View.read_writes_apply_of_forall_not_mem zbufM.view f (ix2 r n : S6x32000.Idx) L fun p hp => ?_
  have hm : p.1 ∈ L.map (fun p => p.1) := List.mem_map_of_mem hp
  rw [hR] at hm
  simp only [List.mem_cons, List.not_mem_nil, or_false] at hm
  rcases hm with h | h | h | h | h | h | h | h | h | h | h | h | h | h | h | h | h | h <;> (rw [h]; exact not_mem_rectQ k _ r n hn)

/-- The logits' buffer before trip `j`: finished below column `2304 j`, as it was from there on. -/
theorem finAt_apply (a0) (f0 : Buf (Elt Ideal) (zbufM.view.loc (c : Thread nD τ))) (r : Fin 6) (j : ℕ) (hj : j ≤ 13) :
    (∀ (B : Fin 250) (l : Fin 128), B.val < 18 * j →
      zEnt c (finAt c v125 v152 v179 v201 v203 v205 XS XC XI a0 f0 j).2 r (colOf B l) = finG c v125 v152 v179 v201 v203 v205 XS XC XI f0 r B l)
    ∧ ∀ n : Fin 32000, 2304 * j ≤ n.val → zEnt c (finAt c v125 v152 v179 v201 v203 v205 XS XC XI a0 f0 j).2 r n = zEnt c f0 r n := by
  induction j with
  | zero => exact ⟨fun B l h => by omega, fun n _ => rfl⟩
  | succ j ih =>
    have hT : j < k0_t4_loop.trips := by rw [trips4]; omega
    obtain ⟨ih1, ih2⟩ := ih (by omega)
    rw [show finAt c v125 v152 v179 v201 v203 v205 XS XC XI a0 f0 (j + 1) = _ from finAt_succ c v125 v152 v179 v201 v203 v205 XS XC XI a0 f0 ⟨j, hT⟩]
    dsimp only
    refine ⟨fun B l hB => ?_, fun n hn => ?_⟩
    · by_cases hBj : B.val < 18 * j
      · exact (finTrip_miss c v125 v152 v179 v201 v203 v205 XS XC XI ⟨j, hT⟩ _ _ r (colOf B l) (Or.inl (by show 128 * B.val + l.val < 2304 * j; omega))).trans (ih1 B l hBj)
      · obtain ⟨q, rfl⟩ : ∃ q : Fin 18, B = grp ⟨j, hT⟩ q := ⟨⟨B.val - 18 * j, by omega⟩, Fin.ext (by show B.val = 18 * j + (B.val - 18 * j); omega)⟩
        refine (finTrip_hit c v125 v152 v179 v201 v203 v205 XS XC XI ⟨j, hT⟩ _ _ r q l).trans ?_
        unfold finG
        rw [ih2 (colOf (grp ⟨j, hT⟩ q) l) (by show 2304 * j ≤ 128 * (18 * j + q.val) + l.val; omega)]
    · exact (finTrip_miss c v125 v152 v179 v201 v203 v205 XS XC XI ⟨j, hT⟩ _ _ r n (Or.inr (by show 2304 * j + 2304 ≤ n.val; omega))).trans (ih2 n (by omega))

end Trip

end Cert.Proof.Value
-- ==== Proof.Value.Start.lean ====
/- What the body holds before its loops: each row's scalars spread over the lanes, the activations, and the buffers of zeros. -/
module

public import proofs.«01_k».proof.Proof.KernelIdeal.Body
public import proofs.«01_k».proof.Proof.Value.Finish

@[expose] public section
set_option maxRecDepth 16384
noncomputable section
namespace Cert.Proof.Value
open Cert.KernelIdeal Cert.KernelIdeal.Gen Cert.Proof.KernelIdeal
open Idealize.ShloMosaic
open Idealize.ShloMosaic.TcCoe
open Idealize.SL Idealize.SL.Sem
variable (c : Dev nD)

/-- Every lane of a row holds the row's scale. -/
theorem v125_apply (X : Buf (Elt Ideal) (a1M.view.loc (c : Thread nD τ))) (r : Fin 6) (l : Fin 128) :
    (bodyRun.sl.v125 (F := Ideal) c X (ix2 r l : S6x128.Idx) : EReal) = X (ix1 r : S6.Idx) := by
  fin_cases r <;> exact congrArg X (funext fun (a : Fin 1) => by match a with | 0 => rfl)

/-- Every lane of a row holds the row's presence penalty. -/
theorem v152_apply (X : Buf (Elt Ideal) (a6M.view.loc (c : Thread nD τ))) (r : Fin 6) (l : Fin 128) :
    (bodyRun.sl.v152 (F := Ideal) c X (ix2 r l : S6x128.Idx) : EReal) = X (ix1 r : S6.Idx) := by
  fin_cases r <;> exact congrArg X (funext fun (a : Fin 1) => by match a with | 0 => rfl)

/-- Every lane of a row holds the row's frequency penalty. -/
theorem v179_apply (X : Buf (Elt Ideal) (a7M.view.loc (c : Thread nD τ))) (r : Fin 6) (l : Fin 128) :
    (bodyRun.sl.v179 (F := Ideal) c X (ix2 r l : S6x128.Idx) : EReal) = X (ix1 r : S6.Idx) := by
  fin_cases r <;> exact congrArg X (funext fun (a : Fin 1) => by match a with | 0 => rfl)

/-- Every lane of a row holds the row's repetition penalty. -/
theorem rep_apply (X : Buf (Elt Ideal) (a8M.view.loc (c : Thread nD τ))) (r : Fin 6) (l : Fin 128) :
    (k0_pay102 (bodyRun.sl.v201 (F := Ideal) c X) (cmpi .eq bodyRun.sl.v97 bodyRun.sl.v121) (bodyRun.sl.v205 (F := Ideal) c X) (ix2 r l : S6x128.Idx) : EReal) = X (ix1 r : S6.Idx) := by
  fin_cases r <;> exact congrArg X (funext fun (a : Fin 1) => by match a with | 0 => rfl)

/-- A block written whole reads as what was written. -/
theorem whole_read {κ : Kind} {sp : Space} {s : Shape} {e : EltTy} (v : View sig κ sp s e) (w : s.Idx → Elt Ideal e) {off : Fin s.rank → ℕ} (h : off = fun _ => 0)
    (inb : ∀ a, off a + s.size a ≤ s.size a) :
    v.readCov (Val := Elt Ideal) [⟨Rect.whole s, w⟩] (Rect.unit off s.size inb).toLoadRect = w := by
  subst h
  exact View.readCov_cons_toLoadRect v (Rect.whole s) w []

/-- A copied-in block reads as what was copied. -/
theorem x6_read (w : S6x8192.Idx → Elt Ideal .fp8e4m3) :
    x6M.view.readCov (Val := Elt Ideal) [⟨Rect.whole S6x8192, w⟩] (Rect.unit (s := S6x8192) ![0, 0] S6x8192.size inb_S6x8192_S6x8192_0_0).toLoadRect = w :=
  whole_read x6M.view w (funext fun (a : Fin 2) => by match a with | 0 => rfl | 1 => rfl) _

theorem pay86_apply (v : Vec Ideal S6x8192 .fp8e4m3) (r : Fin 6) (k : Fin 8192) :
    k0_pay86 v (ix2 r k : S6x8192.Idx) = v (ix2 r k : S6x8192.Idx) := by
  pointwise [k0_pay86]

/-- Six rows put over eight: the rows put. -/
theorem over_apply (old : S8x8192.Idx → Elt Ideal .fp8e4m3) (upd : S6x8192.Idx → Elt Ideal .fp8e4m3) (r : Fin 6) (k : Fin 8192) :
    updateSlice old upd ![0, 0] slices_S8x8192_S6x8192_0_0 (ix2 (⟨r.val, by omega⟩ : Fin 8) k : S8x8192.Idx) = upd (ix2 r k : S6x8192.Idx) := by
  have hr := r.isLt
  have hk := k.isLt
  refine Eq.trans (dif_pos (fun (a : Fin 2) => ?_)) ?_
  · match a with
    | 0 => exact ⟨Nat.zero_le _, by show r.val < 0 + 6; omega⟩
    | 1 => exact ⟨Nat.zero_le _, by show k.val < 0 + 8192; omega⟩
  · exact congrArg upd (funext fun (a : Fin 2) => by match a with | 0 => rfl | 1 => rfl)

theorem read_xbuf (f : Buf (Elt Ideal) (xbufM.view.loc (c : Thread nD τ))) (r : Fin 6) (k : Fin 8192) :
    View.read (Elt Ideal) xbufM.view f (ix2 (⟨r.val, by omega⟩ : Fin 32) k : S32x8192.Idx) = xEnt c f r k := rfl

theorem xbuf_read (f : Buf (Elt Ideal) (xbufM.view.loc (c : Thread nD τ))) (w : S8x8192.Idx → Elt Ideal .fp8e4m3) (L : List (View.Piece (Elt Ideal) S32x8192 .fp8e4m3)) (r : Fin 6) (k : Fin 8192) :
    xEnt c (xbufM.view.writes (Elt Ideal) f (⟨Rect.unit (s := S32x8192) ![0, 0] S8x8192.size inb_S32x8192_S8x8192_0_0, w⟩ :: L)) r k
      = w (ix2 (⟨r.val, by omega⟩ : Fin 8) k : S8x8192.Idx) := by
  rw [← read_xbuf]
  exact View.read_writes_cons_hit_of_coords (Val := Elt Ideal) xbufM.view f (Rect.unit (s := S32x8192) ![0, 0] S8x8192.size inb_S32x8192_S8x8192_0_0)
    w L (ix2 (⟨r.val, by omega⟩ : Fin 8) k : S8x8192.Idx) (ix2 (⟨r.val, by omega⟩ : Fin 32) k : S32x8192.Idx) (fun (a : Fin 2) => by
      match a with
      | 0 => show r.val = 0 + 1 * r.val; omega
      | 1 => show k.val = 0 + 1 * k.val; omega)

/-- The activations, as the products read them. -/
theorem x_apply (X0 : Buf (Elt Ideal) (a0M.view.loc (c : Thread nD τ))) (r : Fin 6) (k : Fin 8192) :
    xEnt c (xbufM.view.writes (Elt Ideal) xbufM.view.junk (bodyRun.sl.Hxbuf_2 (F := Ideal) c X0)) r k = X0 (ix2 r k : S6x8192.Idx) :=
  (xbuf_read c _ _ _ r k).trans ((over_apply _ _ r k).trans ((pay86_apply _ r k).trans (congrFun (x6_read _) (ix2 r k))))

/-- The logits' buffer starts at zero. -/
theorem z_zero (r : Fin 6) (n : Fin 32000) :
    zEnt c (zbufM.view.writes (Elt Ideal) zbufM.view.junk [⟨Rect.unit (s := S6x32000) ![0, 0] S6x32000.size inb_S6x32000_S6x32000_0_0, k0_pay84 (F := Ideal)⟩]) r n = 0 := by
  rw [← read_zbuf]
  refine Eq.trans (View.read_writes_cons_hit_of_coords (Val := Elt Ideal) zbufM.view zbufM.view.junk (Rect.unit (s := S6x32000) ![0, 0] S6x32000.size inb_S6x32000_S6x32000_0_0)
    (k0_pay84 (F := Ideal)) [] (ix2 r n : S6x32000.Idx) (ix2 r n : S6x32000.Idx) (fun (a : Fin 2) => by
      match a with
      | 0 => show r.val = 0 + 1 * r.val; omega
      | 1 => show n.val = 0 + 1 * n.val; omega)) ?_
  pointwise [k0_pay84]

theorem read_bias (f : Buf (Elt Ideal) (biasM.view.loc (c : Thread nD τ))) (R : Fin 2048) (l : Fin 128) :
    View.read (Elt Ideal) biasM.view f (ix2 R l : S2048x128.Idx) = bEnt c f R l := rfl

/-- The bias' table starts at zero. -/
theorem b_zero (f : Buf (Elt Ideal) (biasM.view.loc (c : Thread nD τ))) (R : Fin 2048) (l : Fin 128) :
    bEnt c (View.write (Elt Ideal) (biasM.view.slice (Rect.unit (s := S2048x128) ![0, 0] ![2048, 128] inb_S2048x128_S2048x128_0_0)) f (k0_pay83 (F := Ideal)) Finset.univ) R l = 0 := by
  have e := View.read_writes_cons_hit_of_coords (Val := Elt Ideal) biasM.view f (Rect.unit (s := S2048x128) ![0, 0] S2048x128.size inb_S2048x128_S2048x128_0_0)
    (k0_pay83 (F := Ideal)) [] (ix2 R l : S2048x128.Idx) (ix2 R l : S2048x128.Idx) (fun (a : Fin 2) => by
      match a with
      | 0 => show R.val = 0 + 1 * R.val; omega
      | 1 => show l.val = 0 + 1 * l.val; omega)
  rw [read_bias] at e
  refine Eq.trans e ?_
  pointwise [k0_pay83]

end Cert.Proof.Value
-- ==== Proof.Value.Bias.lean ====
/- The bias' table, entry by entry: of every row of the batch and every column, the sum of the values whose ids name it. -/
module

public import proofs.«01_k».proof.Proof.KernelIdeal.Ids
public import proofs.«01_k».proof.Proof.Value.Counts
public import proofs.«01_k».proof.Proof.Value.Finish

@[expose] public section
set_option maxRecDepth 16384
noncomputable section
namespace Cert.Proof.Value
open Cert.KernelIdeal Cert.KernelIdeal.Gen Cert.Proof.KernelIdeal
open Idealize.ShloMosaic
open Idealize.ShloMosaic.TcCoe
open Idealize.SL Idealize.SL.Sem
variable (c : Dev nD)

abbrev BBuf : Type := Buf (Elt Ideal) (biasM.view.loc (c : Thread nD τ))

theorem read_biasB (f : BBuf c) (R : Fin 2048) (l : Fin 128) :
    View.read (Elt Ideal) biasM.view f (ix2 R l : S2048x128.Idx) = bEnt c f R l := rfl

/-- One row written, read at that row. -/
theorem row_hit (f : BBuf c) (off : Fin 2 → ℕ) (inb : ∀ a, off a + S1x128.size a ≤ S2048x128.size a) (w : S1x128.Idx → Elt Ideal .f32)
    (L : List (View.Piece (Elt Ideal) S2048x128 .f32)) (R : Fin 2048) (l : Fin 128) (h0 : off 0 = R.val) (h1 : off 1 = 0) :
    View.read (Elt Ideal) biasM.view (biasM.view.writes (Elt Ideal) f (⟨Rect.unit (s := S2048x128) off S1x128.size inb, w⟩ :: L)) (ix2 R l : S2048x128.Idx)
      = w (ix2 0 l : S1x128.Idx) :=
  View.read_writes_cons_hit_of_coords (Val := Elt Ideal) biasM.view f (Rect.unit (s := S2048x128) off S1x128.size inb) w L (ix2 0 l : S1x128.Idx) (ix2 R l : S2048x128.Idx)
    (fun (a : Fin 2) => by
      match a with
      | 0 => show R.val = off 0 + 1 * 0; omega
      | 1 => show l.val = off 1 + 1 * l.val; omega)

/-- One row written, read at another. -/
theorem row_miss (f : BBuf c) (off : Fin 2 → ℕ) (inb : ∀ a, off a + S1x128.size a ≤ S2048x128.size a) (w : S1x128.Idx → Elt Ideal .f32)
    (L : List (View.Piece (Elt Ideal) S2048x128 .f32)) (R : Fin 2048) (l : Fin 128) (h0 : off 0 ≠ R.val) :
    View.read (Elt Ideal) biasM.view (biasM.view.writes (Elt Ideal) f (⟨Rect.unit (s := S2048x128) off S1x128.size inb, w⟩ :: L)) (ix2 R l : S2048x128.Idx)
      = View.read (Elt Ideal) biasM.view (biasM.view.writes (Elt Ideal) f L) (ix2 R l : S2048x128.Idx) :=
  View.read_writes_cons_miss_of_axis (Val := Elt Ideal) biasM.view f ⟨Rect.unit (s := S2048x128) off S1x128.size inb, w⟩ L (ix2 R l : S2048x128.Idx) 0 (off 0) 1 rfl rfl rfl
    (by show R.val < off 0 ∨ off 0 + 1 ≤ R.val; omega)

/-- One row read from the table. -/
theorem row_read (f : BBuf c) (off : Fin 2 → ℕ) (inb : ∀ a, off a + S1x128.size a ≤ S2048x128.size a) (R : Fin 2048) (l : Fin 128) (h0 : off 0 = R.val) (h1 : off 1 = 0) :
    (View.readAt (Elt Ideal) biasM.view (Rect.unit (s := S2048x128) off S1x128.size inb).toLoadRect f (ix2 0 l : S1x128.Idx) : EReal) = bEnt c f R l :=
  congrArg f (funext fun (a : Fin 2) => Fin.ext (by
    match a with
    | 0 => show off 0 + 1 * 0 = R.val; omega
    | 1 => show off 1 + 1 * l.val = l.val; omega))

/-- The lane numbers of one row. -/
abbrev lanes : IVec S1x128 32 := bodyRun.sl.v94

theorem lane_meets (id : BitVec 32) (l : Fin 128) : (BitVec.ofNat 32 l.val = IntOp.andi id 127#32) ↔ id.toInt % 128 = (l.val : ℤ) := by
  rw [← lo_toInt id]
  refine ⟨fun h => by rw [← h]; exact toInt_ofNat_small _ (by omega), fun h => BitVec.eq_of_toInt_eq (by rw [h]; exact toInt_ofNat_small _ (by omega))⟩

theorem cmpi_eq_one (x y : BitVec 32) : IntOp.cmpi .eq x y = 1 ↔ x = y := by
  by_cases h : x = y
  · subst h; simp [IntOp.cmpi]
  · have e : (x == y) = false := by simpa using h
    refine ⟨fun h1 => absurd h1 ?_, fun h1 => absurd h1 h⟩
    show ¬ BitVec.ofBool (x == y) = 1
    rw [e]; decide

/-- What one id adds to a lane. -/
abbrev addOf (id : BitVec 32) (v : EReal) (l : Fin 128) : EReal := if id.toInt % 128 = (l.val : ℤ) then v else 0

theorem added0 (id : BitVec 32) (row : Vec Ideal S1x128 .f32) (v : Elt Ideal .f32) (l : Fin 128) :
    (k0_pay20 (k0_pay15 lanes id row v) (ix2 0 l : S1x128.Idx) : EReal) = (row (ix2 0 l : S1x128.Idx) : EReal) + addOf id v l := by
  unfold lanes bodyRun.sl.v94
  pointwise [k0_pay15, k0_pay20]
  refine congrArg (fun y : EReal => (row (ix2 0 l : S1x128.Idx) : EReal) + y) ?_
  exact if_congr ((cmpi_eq_one _ _).trans (lane_meets id l)) rfl rfl

theorem added1 (id : BitVec 32) (row : Vec Ideal S1x128 .f32) (v : Elt Ideal .f32) (l : Fin 128) :
    (k0_pay21 (k0_pay16 lanes id row v) (ix2 0 l : S1x128.Idx) : EReal) = (row (ix2 0 l : S1x128.Idx) : EReal) + addOf id v l := by
  unfold lanes bodyRun.sl.v94
  pointwise [k0_pay16, k0_pay21]
  refine congrArg (fun y : EReal => (row (ix2 0 l : S1x128.Idx) : EReal) + y) ?_
  exact if_congr ((cmpi_eq_one _ _).trans (lane_meets id l)) rfl rfl

theorem added2 (id : BitVec 32) (row : Vec Ideal S1x128 .f32) (v : Elt Ideal .f32) (l : Fin 128) :
    (k0_pay22 (k0_pay17 lanes id row v) (ix2 0 l : S1x128.Idx) : EReal) = (row (ix2 0 l : S1x128.Idx) : EReal) + addOf id v l := by
  unfold lanes bodyRun.sl.v94
  pointwise [k0_pay17, k0_pay22]
  refine congrArg (fun y : EReal => (row (ix2 0 l : S1x128.Idx) : EReal) + y) ?_
  exact if_congr ((cmpi_eq_one _ _).trans (lane_meets id l)) rfl rfl

theorem added3 (id : BitVec 32) (row : Vec Ideal S1x128 .f32) (v : Elt Ideal .f32) (l : Fin 128) :
    (k0_pay23 row (k0_pay18 lanes id v) (ix2 0 l : S1x128.Idx) : EReal) = (row (ix2 0 l : S1x128.Idx) : EReal) + addOf id v l := by
  unfold lanes bodyRun.sl.v94
  pointwise [k0_pay18, k0_pay23]
  refine congrArg (fun y : EReal => (row (ix2 0 l : S1x128.Idx) : EReal) + y) ?_
  exact if_congr ((cmpi_eq_one _ _).trans (lane_meets id l)) rfl rfl

theorem added4 (id : BitVec 32) (row : Vec Ideal S1x128 .f32) (v : Elt Ideal .f32) (l : Fin 128) :
    (k0_pay24 lanes id row v (ix2 0 l : S1x128.Idx) : EReal) = (row (ix2 0 l : S1x128.Idx) : EReal) + addOf id v l := by
  unfold lanes bodyRun.sl.v94
  pointwise [k0_pay24]
  refine congrArg (fun y : EReal => (row (ix2 0 l : S1x128.Idx) : EReal) + y) ?_
  exact if_congr ((cmpi_eq_one _ _).trans (lane_meets id l)) rfl rfl

theorem added5 (id : BitVec 32) (row : Vec Ideal S1x128 .f32) (v : Elt Ideal .f32) (l : Fin 128) :
    (k0_pay91 (k0_pay19 lanes id row v) (ix2 0 l : S1x128.Idx) : EReal) = (row (ix2 0 l : S1x128.Idx) : EReal) + addOf id v l := by
  unfold lanes bodyRun.sl.v94
  pointwise [k0_pay19, k0_pay91]
  refine congrArg (fun y : EReal => (row (ix2 0 l : S1x128.Idx) : EReal) + y) ?_
  exact if_congr ((cmpi_eq_one _ _).trans (lane_meets id l)) rfl rfl

/-- One bias id and one bias value. -/
abbrev idB (XB : Buf (Elt Ideal) (bidM.view.loc (c : Thread nD τ))) (b : Fin 6) (k : Fin 36) : BitVec 32 := XB (ix2 b k : S6x36.Idx)
abbrev valB (XV : Buf (Elt Ideal) (bvalM.view.loc (c : Thread nD τ))) (b : Fin 6) (k : Fin 36) : EReal := XV (ix2 b k : S6x36.Idx)

theorem trips2 : k0_t2_loop.trips = 36 := by decide

section Trip
variable (v87 : FVec Ideal S6x8192 .fp8e4m3) (XB : Buf (Elt Ideal) (bidM.view.loc (c : Thread nD τ))) (XV : Buf (Elt Ideal) (bvalM.view.loc (c : Thread nD τ)))
  (hB : BidOK c XB) (k : Fin k0_t2_loop.trips)

abbrev kB (k : Fin k0_t2_loop.trips) : Fin 36 := ⟨k.val, Nat.lt_of_lt_of_eq k.isLt trips2⟩

theorem id_read0 : biasTrip.sl.r (F := Ideal) c XB k = idB c XB 0 (kB k) := by
  refine congrArg XB (funext fun (a : Fin 2) => Fin.ext ?_)
  have e := congrFun (k0_off4_eq k)
  match a with
  | 0 => show k0_off4 k 0 + 1 * 0 = 0; rw [e 0]; rfl
  | 1 => show k0_off4 k 1 + 1 * 0 = k.val; rw [e 1]; show k.val + 1 * 0 = k.val; omega

theorem val_read0 : biasTrip.sl.r_6 (F := Ideal) c XV k = valB c XV 0 (kB k) := by
  refine congrArg XV (funext fun (a : Fin 2) => Fin.ext ?_)
  have e := congrFun (k0_off11_eq k)
  match a with
  | 0 => show k0_off11 k 0 + 1 * 0 = 0; rw [e 0]; rfl
  | 1 => show k0_off11 k 1 + 1 * 0 = k.val; rw [e 1]; show k.val + 1 * 0 = k.val; omega

theorem id_read1 : biasTrip.sl.r_1 (F := Ideal) c XB k = idB c XB 1 (kB k) := by
  refine congrArg XB (funext fun (a : Fin 2) => Fin.ext ?_)
  have e := congrFun (k0_off5_eq k)
  match a with
  | 0 => show k0_off5 k 0 + 1 * 0 = 1; rw [e 0]; rfl
  | 1 => show k0_off5 k 1 + 1 * 0 = k.val; rw [e 1]; show k.val + 1 * 0 = k.val; omega

theorem val_read1 : biasTrip.sl.r_7 (F := Ideal) c XV k = valB c XV 1 (kB k) := by
  refine congrArg XV (funext fun (a : Fin 2) => Fin.ext ?_)
  have e := congrFun (k0_off13_eq k)
  match a with
  | 0 => show k0_off13 k 0 + 1 * 0 = 1; rw [e 0]; rfl
  | 1 => show k0_off13 k 1 + 1 * 0 = k.val; rw [e 1]; show k.val + 1 * 0 = k.val; omega

theorem id_read2 : biasTrip.sl.r_2 (F := Ideal) c XB k = idB c XB 2 (kB k) := by
  refine congrArg XB (funext fun (a : Fin 2) => Fin.ext ?_)
  have e := congrFun (k0_off6_eq k)
  match a with
  | 0 => show k0_off6 k 0 + 1 * 0 = 2; rw [e 0]; rfl
  | 1 => show k0_off6 k 1 + 1 * 0 = k.val; rw [e 1]; show k.val + 1 * 0 = k.val; omega

theorem val_read2 : biasTrip.sl.r_8 (F := Ideal) c XV k = valB c XV 2 (kB k) := by
  refine congrArg XV (funext fun (a : Fin 2) => Fin.ext ?_)
  have e := congrFun (k0_off15_eq k)
  match a with
  | 0 => show k0_off15 k 0 + 1 * 0 = 2; rw [e 0]; rfl
  | 1 => show k0_off15 k 1 + 1 * 0 = k.val; rw [e 1]; show k.val + 1 * 0 = k.val; omega

theorem id_read3 : biasTrip.sl.r_3 (F := Ideal) c XB k = idB c XB 3 (kB k) := by
  refine congrArg XB (funext fun (a : Fin 2) => Fin.ext ?_)
  have e := congrFun (k0_off7_eq k)
  match a with
  | 0 => show k0_off7 k 0 + 1 * 0 = 3; rw [e 0]; rfl
  | 1 => show k0_off7 k 1 + 1 * 0 = k.val; rw [e 1]; show k.val + 1 * 0 = k.val; omega

theorem val_read3 : biasTrip.sl.r_9 (F := Ideal) c XV k = valB c XV 3 (kB k) := by
  refine congrArg XV (funext fun (a : Fin 2) => Fin.ext ?_)
  have e := congrFun (k0_off17_eq k)
  match a with
  | 0 => show k0_off17 k 0 + 1 * 0 = 3; rw [e 0]; rfl
  | 1 => show k0_off17 k 1 + 1 * 0 = k.val; rw [e 1]; show k.val + 1 * 0 = k.val; omega

theorem id_read4 : biasTrip.sl.r_4 (F := Ideal) c XB k = idB c XB 4 (kB k) := by
  refine congrArg XB (funext fun (a : Fin 2) => Fin.ext ?_)
  have e := congrFun (k0_off8_eq k)
  match a with
  | 0 => show k0_off8 k 0 + 1 * 0 = 4; rw [e 0]; rfl
  | 1 => show k0_off8 k 1 + 1 * 0 = k.val; rw [e 1]; show k.val + 1 * 0 = k.val; omega

theorem val_read4 : biasTrip.sl.r_15 (F := Ideal) c XV k = valB c XV 4 (kB k) := by
  refine congrArg XV (funext fun (a : Fin 2) => Fin.ext ?_)
  have e := congrFun (k0_off19_eq k)
  match a with
  | 0 => show k0_off19 k 0 + 1 * 0 = 4; rw [e 0]; rfl
  | 1 => show k0_off19 k 1 + 1 * 0 = k.val; rw [e 1]; show k.val + 1 * 0 = k.val; omega

theorem id_read5 : biasTrip.sl.r_5 (F := Ideal) c XB k = idB c XB 5 (kB k) := by
  refine congrArg XB (funext fun (a : Fin 2) => Fin.ext ?_)
  have e := congrFun (k0_off9_eq k)
  match a with
  | 0 => show k0_off9 k 0 + 1 * 0 = 5; rw [e 0]; rfl
  | 1 => show k0_off9 k 1 + 1 * 0 = k.val; rw [e 1]; show k.val + 1 * 0 = k.val; omega

theorem val_read5 : biasTrip.sl.r_16 (F := Ideal) c XV k = valB c XV 5 (kB k) := by
  refine congrArg XV (funext fun (a : Fin 2) => Fin.ext ?_)
  have e := congrFun (k0_off21_eq k)
  match a with
  | 0 => show k0_off21 k 0 + 1 * 0 = 5; rw [e 0]; rfl
  | 1 => show k0_off21 k 1 + 1 * 0 = k.val; rw [e 1]; show k.val + 1 * 0 = k.val; omega

theorem off10_row (v : BitVec 32) (h : v.toNat < 32768) : k0_off10 v 0 = v.toNat / 128 * 8 + 0 := blockRowAdd v h 0 (by decide)
theorem off10_col (v : BitVec 32) : k0_off10 v 1 = 0 := rfl
theorem off22_row (v : BitVec 32) (h : v.toNat < 32768) : k0_off22 v 0 = v.toNat / 128 * 8 + 0 := blockRowAdd v h 0 (by decide)
theorem off22_col (v : BitVec 32) : k0_off22 v 1 = 0 := rfl
theorem off12_row (v : BitVec 32) (h : v.toNat < 32768) : k0_off12 v 0 = v.toNat / 128 * 8 + 1 := blockRowAdd v h 1 (by decide)
theorem off12_col (v : BitVec 32) : k0_off12 v 1 = 0 := rfl
theorem off23_row (v : BitVec 32) (h : v.toNat < 32768) : k0_off23 v 0 = v.toNat / 128 * 8 + 1 := blockRowAdd v h 1 (by decide)
theorem off23_col (v : BitVec 32) : k0_off23 v 1 = 0 := rfl
theorem off14_row (v : BitVec 32) (h : v.toNat < 32768) : k0_off14 v 0 = v.toNat / 128 * 8 + 2 := blockRowAdd v h 2 (by decide)
theorem off14_col (v : BitVec 32) : k0_off14 v 1 = 0 := rfl
theorem off24_row (v : BitVec 32) (h : v.toNat < 32768) : k0_off24 v 0 = v.toNat / 128 * 8 + 2 := blockRowAdd v h 2 (by decide)
theorem off24_col (v : BitVec 32) : k0_off24 v 1 = 0 := rfl
theorem off16_row (v : BitVec 32) (h : v.toNat < 32768) : k0_off16 v 0 = v.toNat / 128 * 8 + 3 := blockRowAdd v h 3 (by decide)
theorem off16_col (v : BitVec 32) : k0_off16 v 1 = 0 := rfl
theorem off25_row (v : BitVec 32) (h : v.toNat < 32768) : k0_off25 v 0 = v.toNat / 128 * 8 + 3 := blockRowAdd v h 3 (by decide)
theorem off25_col (v : BitVec 32) : k0_off25 v 1 = 0 := rfl
theorem off18_row (v : BitVec 32) (h : v.toNat < 32768) : k0_off18 v 0 = v.toNat / 128 * 8 + 4 := blockRowAdd v h 4 (by decide)
theorem off18_col (v : BitVec 32) : k0_off18 v 1 = 0 := rfl
theorem off26_row (v : BitVec 32) (h : v.toNat < 32768) : k0_off26 v 0 = v.toNat / 128 * 8 + 4 := blockRowAdd v h 4 (by decide)
theorem off26_col (v : BitVec 32) : k0_off26 v 1 = 0 := rfl
theorem off20_row (v : BitVec 32) (h : v.toNat < 32768) : k0_off20 v 0 = v.toNat / 128 * 8 + 5 := blockRowAdd v h 5 (by decide)
theorem off20_col (v : BitVec 32) : k0_off20 v 1 = 0 := rfl

/-- The six rows that trip `k` writes, the newest first. -/
theorem biasTrip_pieces (f : BBuf c) : (biasTrip (F := Ideal) c v87 lanes XB XV hB k).1 f
    = [⟨Rect.unit (s := S2048x128) (k0_off20 (biasTrip.sl.r_5 (F := Ideal) c XB k)) S1x128.size ((hB k).2.2.2.2.2), k0_pay91 (biasTrip.sl.r_17 (F := Ideal) c lanes XB XV k (hB k).2.2.2.2.2 f)⟩,
      ⟨Rect.unit (s := S2048x128) (k0_off26 (biasTrip.sl.r_4 (F := Ideal) c XB k)) S1x128.size ((hB k).2.2.2.2.1.2), biasTrip.sl.r_18 (F := Ideal) c lanes XB XV k (hB k).2.2.2.2.1 f⟩,
      ⟨Rect.unit (s := S2048x128) (k0_off25 (biasTrip.sl.r_3 (F := Ideal) c XB k)) S1x128.size ((hB k).2.2.2.1.2), k0_pay23 (biasTrip.sl.r_13 (F := Ideal) c XB k (hB k).2.2.2.1 f) (biasTrip.sl.r_14 (F := Ideal) c lanes XB XV k)⟩,
      ⟨Rect.unit (s := S2048x128) (k0_off24 (biasTrip.sl.r_2 (F := Ideal) c XB k)) S1x128.size ((hB k).2.2.1.2), k0_pay22 (biasTrip.sl.r_12 (F := Ideal) c lanes XB XV k (hB k).2.2.1 f)⟩,
      ⟨Rect.unit (s := S2048x128) (k0_off23 (biasTrip.sl.r_1 (F := Ideal) c XB k)) S1x128.size ((hB k).2.1.2), k0_pay21 (biasTrip.sl.r_11 (F := Ideal) c lanes XB XV k (hB k).2.1 f)⟩,
      ⟨Rect.unit (s := S2048x128) (k0_off22 (biasTrip.sl.r (F := Ideal) c XB k)) S1x128.size ((hB k).1.2), k0_pay20 (biasTrip.sl.r_10 (F := Ideal) c lanes XB XV k (hB k).1 f)⟩] := by
  unfold biasTrip
  generalize hB k = h
  obtain ⟨h1, h2, h3, h4, h5, h6⟩ := h
  rfl

variable (hid : ∀ b i, (idB c XB b i).toNat < 32768)

/-- An id that is small names its block and lane, or not both. -/
theorem addOf_block (id : BitVec 32) (h : id.toNat < 32768) (v : EReal) (B : ℕ) (l : Fin 128) :
    (if id.toNat / 128 = B then addOf id v l else 0) = if id.toInt = 128 * (B : ℤ) + (l.val : ℤ) then v else 0 := by
  have hl := l.isLt
  have e : id.toInt = (id.toNat : ℤ) := BitVec.toInt_eq_toNat_of_lt (by omega)
  unfold addOf
  rw [e]
  by_cases h1 : id.toNat / 128 = B
  · rw [if_pos h1]; exact if_congr (by omega) rfl rfl
  · rw [if_neg h1, if_neg (by omega)]

include hid

theorem trip_row0 (f : BBuf c) (B : Fin 256) (l : Fin 128) :
    View.read (Elt Ideal) biasM.view (biasM.view.writes (Elt Ideal) f ((biasTrip (F := Ideal) c v87 lanes XB XV hB k).1 f)) (ix2 (⟨8 * B.val + 0, by omega⟩ : Fin 2048) l : S2048x128.Idx)
      = bEnt c f (⟨8 * B.val + 0, by omega⟩ : Fin 2048) l + (if (idB c XB 0 (kB k)).toInt = 128 * (B.val : ℤ) + (l.val : ℤ) then valB c XV 0 (kB k) else 0) := by
  have hi0 := hid 0 (kB k)
  rw [← id_read0 c XB k] at hi0
  have hi1 := hid 1 (kB k)
  rw [← id_read1 c XB k] at hi1
  have hi2 := hid 2 (kB k)
  rw [← id_read2 c XB k] at hi2
  have hi3 := hid 3 (kB k)
  rw [← id_read3 c XB k] at hi3
  have hi4 := hid 4 (kB k)
  rw [← id_read4 c XB k] at hi4
  have hi5 := hid 5 (kB k)
  rw [← id_read5 c XB k] at hi5
  rw [← addOf_block _ (hid 0 (kB k)) (valB c XV 0 (kB k)) B.val l, ← id_read0 c XB k, ← val_read0 c XV k]
  refine (congrArg (fun L => View.read (Elt Ideal) biasM.view (biasM.view.writes (Elt Ideal) f L) (ix2 (⟨8 * B.val + 0, by omega⟩ : Fin 2048) l : S2048x128.Idx)) (biasTrip_pieces c v87 XB XV hB k f)).trans ?_
  refine (row_miss c f _ _ _ _ _ l (by rw [off20_row _ hi5]; show _ ≠ 8 * B.val + 0; omega)).trans ?_
  refine (row_miss c f _ _ _ _ _ l (by rw [off26_row _ hi4]; show _ ≠ 8 * B.val + 0; omega)).trans ?_
  refine (row_miss c f _ _ _ _ _ l (by rw [off25_row _ hi3]; show _ ≠ 8 * B.val + 0; omega)).trans ?_
  refine (row_miss c f _ _ _ _ _ l (by rw [off24_row _ hi2]; show _ ≠ 8 * B.val + 0; omega)).trans ?_
  refine (row_miss c f _ _ _ _ _ l (by rw [off23_row _ hi1]; show _ ≠ 8 * B.val + 0; omega)).trans ?_
  by_cases hq : (biasTrip.sl.r (F := Ideal) c XB k).toNat / 128 = B.val
  · rw [if_pos hq]
    refine (row_hit c f _ _ _ _ _ l (by rw [off22_row _ hi0]; show _ = 8 * B.val + 0; omega) (off22_col _)).trans ?_
    refine (added0 _ _ _ l).trans (congrArg (fun y : EReal => y + _) ?_)
    exact row_read c f _ _ _ l (by rw [off10_row _ hi0]; show _ = 8 * B.val + 0; omega) (off10_col _)
  · rw [if_neg hq]
    refine Eq.trans ?_ (add_zero _).symm
    refine (row_miss c f _ _ _ _ _ l (by rw [off22_row _ hi0]; show _ ≠ 8 * B.val + 0; omega)).trans ?_
    rfl

theorem trip_row1 (f : BBuf c) (B : Fin 256) (l : Fin 128) :
    View.read (Elt Ideal) biasM.view (biasM.view.writes (Elt Ideal) f ((biasTrip (F := Ideal) c v87 lanes XB XV hB k).1 f)) (ix2 (⟨8 * B.val + 1, by omega⟩ : Fin 2048) l : S2048x128.Idx)
      = bEnt c f (⟨8 * B.val + 1, by omega⟩ : Fin 2048) l + (if (idB c XB 1 (kB k)).toInt = 128 * (B.val : ℤ) + (l.val : ℤ) then valB c XV 1 (kB k) else 0) := by
  have hi0 := hid 0 (kB k)
  rw [← id_read0 c XB k] at hi0
  have hi1 := hid 1 (kB k)
  rw [← id_read1 c XB k] at hi1
  have hi2 := hid 2 (kB k)
  rw [← id_read2 c XB k] at hi2
  have hi3 := hid 3 (kB k)
  rw [← id_read3 c XB k] at hi3
  have hi4 := hid 4 (kB k)
  rw [← id_read4 c XB k] at hi4
  have hi5 := hid 5 (kB k)
  rw [← id_read5 c XB k] at hi5
  rw [← addOf_block _ (hid 1 (kB k)) (valB c XV 1 (kB k)) B.val l, ← id_read1 c XB k, ← val_read1 c XV k]
  refine (congrArg (fun L => View.read (Elt Ideal) biasM.view (biasM.view.writes (Elt Ideal) f L) (ix2 (⟨8 * B.val + 1, by omega⟩ : Fin 2048) l : S2048x128.Idx)) (biasTrip_pieces c v87 XB XV hB k f)).trans ?_
  refine (row_miss c f _ _ _ _ _ l (by rw [off20_row _ hi5]; show _ ≠ 8 * B.val + 1; omega)).trans ?_
  refine (row_miss c f _ _ _ _ _ l (by rw [off26_row _ hi4]; show _ ≠ 8 * B.val + 1; omega)).trans ?_
  refine (row_miss c f _ _ _ _ _ l (by rw [off25_row _ hi3]; show _ ≠ 8 * B.val + 1; omega)).trans ?_
  refine (row_miss c f _ _ _ _ _ l (by rw [off24_row _ hi2]; show _ ≠ 8 * B.val + 1; omega)).trans ?_
  by_cases hq : (biasTrip.sl.r_1 (F := Ideal) c XB k).toNat / 128 = B.val
  · rw [if_pos hq]
    refine (row_hit c f _ _ _ _ _ l (by rw [off23_row _ hi1]; show _ = 8 * B.val + 1; omega) (off23_col _)).trans ?_
    refine (added1 _ _ _ l).trans (congrArg (fun y : EReal => y + _) ?_)
    exact row_read c f _ _ _ l (by rw [off12_row _ hi1]; show _ = 8 * B.val + 1; omega) (off12_col _)
  · rw [if_neg hq]
    refine Eq.trans ?_ (add_zero _).symm
    refine (row_miss c f _ _ _ _ _ l (by rw [off23_row _ hi1]; show _ ≠ 8 * B.val + 1; omega)).trans ?_
    refine (row_miss c f _ _ _ _ _ l (by rw [off22_row _ hi0]; show _ ≠ 8 * B.val + 1; omega)).trans ?_
    rfl

theorem trip_row2 (f : BBuf c) (B : Fin 256) (l : Fin 128) :
    View.read (Elt Ideal) biasM.view (biasM.view.writes (Elt Ideal) f ((biasTrip (F := Ideal) c v87 lanes XB XV hB k).1 f)) (ix2 (⟨8 * B.val + 2, by omega⟩ : Fin 2048) l : S2048x128.Idx)
      = bEnt c f (⟨8 * B.val + 2, by omega⟩ : Fin 2048) l + (if (idB c XB 2 (kB k)).toInt = 128 * (B.val : ℤ) + (l.val : ℤ) then valB c XV 2 (kB k) else 0) := by
  have hi0 := hid 0 (kB k)
  rw [← id_read0 c XB k] at hi0
  have hi1 := hid 1 (kB k)
  rw [← id_read1 c XB k] at hi1
  have hi2 := hid 2 (kB k)
  rw [← id_read2 c XB k] at hi2
  have hi3 := hid 3 (kB k)
  rw [← id_read3 c XB k] at hi3
  have hi4 := hid 4 (kB k)
  rw [← id_read4 c XB k] at hi4
  have hi5 := hid 5 (kB k)
  rw [← id_read5 c XB k] at hi5
  rw [← addOf_block _ (hid 2 (kB k)) (valB c XV 2 (kB k)) B.val l, ← id_read2 c XB k, ← val_read2 c XV k]
  refine (congrArg (fun L => View.read (Elt Ideal) biasM.view (biasM.view.writes (Elt Ideal) f L) (ix2 (⟨8 * B.val + 2, by omega⟩ : Fin 2048) l : S2048x128.Idx)) (biasTrip_pieces c v87 XB XV hB k f)).trans ?_
  refine (row_miss c f _ _ _ _ _ l (by rw [off20_row _ hi5]; show _ ≠ 8 * B.val + 2; omega)).trans ?_
  refine (row_miss c f _ _ _ _ _ l (by rw [off26_row _ hi4]; show _ ≠ 8 * B.val + 2; omega)).trans ?_
  refine (row_miss c f _ _ _ _ _ l (by rw [off25_row _ hi3]; show _ ≠ 8 * B.val + 2; omega)).trans ?_
  by_cases hq : (biasTrip.sl.r_2 (F := Ideal) c XB k).toNat / 128 = B.val
  · rw [if_pos hq]
    refine (row_hit c f _ _ _ _ _ l (by rw [off24_row _ hi2]; show _ = 8 * B.val + 2; omega) (off24_col _)).trans ?_
    refine (added2 _ _ _ l).trans (congrArg (fun y : EReal => y + _) ?_)
    exact row_read c f _ _ _ l (by rw [off14_row _ hi2]; show _ = 8 * B.val + 2; omega) (off14_col _)
  · rw [if_neg hq]
    refine Eq.trans ?_ (add_zero _).symm
    refine (row_miss c f _ _ _ _ _ l (by rw [off24_row _ hi2]; show _ ≠ 8 * B.val + 2; omega)).trans ?_
    refine (row_miss c f _ _ _ _ _ l (by rw [off23_row _ hi1]; show _ ≠ 8 * B.val + 2; omega)).trans ?_
    refine (row_miss c f _ _ _ _ _ l (by rw [off22_row _ hi0]; show _ ≠ 8 * B.val + 2; omega)).trans ?_
    rfl

theorem trip_row3 (f : BBuf c) (B : Fin 256) (l : Fin 128) :
    View.read (Elt Ideal) biasM.view (biasM.view.writes (Elt Ideal) f ((biasTrip (F := Ideal) c v87 lanes XB XV hB k).1 f)) (ix2 (⟨8 * B.val + 3, by omega⟩ : Fin 2048) l : S2048x128.Idx)
      = bEnt c f (⟨8 * B.val + 3, by omega⟩ : Fin 2048) l + (if (idB c XB 3 (kB k)).toInt = 128 * (B.val : ℤ) + (l.val : ℤ) then valB c XV 3 (kB k) else 0) := by
  have hi0 := hid 0 (kB k)
  rw [← id_read0 c XB k] at hi0
  have hi1 := hid 1 (kB k)
  rw [← id_read1 c XB k] at hi1
  have hi2 := hid 2 (kB k)
  rw [← id_read2 c XB k] at hi2
  have hi3 := hid 3 (kB k)
  rw [← id_read3 c XB k] at hi3
  have hi4 := hid 4 (kB k)
  rw [← id_read4 c XB k] at hi4
  have hi5 := hid 5 (kB k)
  rw [← id_read5 c XB k] at hi5
  rw [← addOf_block _ (hid 3 (kB k)) (valB c XV 3 (kB k)) B.val l, ← id_read3 c XB k, ← val_read3 c XV k]
  refine (congrArg (fun L => View.read (Elt Ideal) biasM.view (biasM.view.writes (Elt Ideal) f L) (ix2 (⟨8 * B.val + 3, by omega⟩ : Fin 2048) l : S2048x128.Idx)) (biasTrip_pieces c v87 XB XV hB k f)).trans ?_
  refine (row_miss c f _ _ _ _ _ l (by rw [off20_row _ hi5]; show _ ≠ 8 * B.val + 3; omega)).trans ?_
  refine (row_miss c f _ _ _ _ _ l (by rw [off26_row _ hi4]; show _ ≠ 8 * B.val + 3; omega)).trans ?_
  by_cases hq : (biasTrip.sl.r_3 (F := Ideal) c XB k).toNat / 128 = B.val
  · rw [if_pos hq]
    refine (row_hit c f _ _ _ _ _ l (by rw [off25_row _ hi3]; show _ = 8 * B.val + 3; omega) (off25_col _)).trans ?_
    refine (added3 _ _ _ l).trans (congrArg (fun y : EReal => y + _) ?_)
    exact row_read c f _ _ _ l (by rw [off16_row _ hi3]; show _ = 8 * B.val + 3; omega) (off16_col _)
  · rw [if_neg hq]
    refine Eq.trans ?_ (add_zero _).symm
    refine (row_miss c f _ _ _ _ _ l (by rw [off25_row _ hi3]; show _ ≠ 8 * B.val + 3; omega)).trans ?_
    refine (row_miss c f _ _ _ _ _ l (by rw [off24_row _ hi2]; show _ ≠ 8 * B.val + 3; omega)).trans ?_
    refine (row_miss c f _ _ _ _ _ l (by rw [off23_row _ hi1]; show _ ≠ 8 * B.val + 3; omega)).trans ?_
    refine (row_miss c f _ _ _ _ _ l (by rw [off22_row _ hi0]; show _ ≠ 8 * B.val + 3; omega)).trans ?_
    rfl

theorem trip_row4 (f : BBuf c) (B : Fin 256) (l : Fin 128) :
    View.read (Elt Ideal) biasM.view (biasM.view.writes (Elt Ideal) f ((biasTrip (F := Ideal) c v87 lanes XB XV hB k).1 f)) (ix2 (⟨8 * B.val + 4, by omega⟩ : Fin 2048) l : S2048x128.Idx)
      = bEnt c f (⟨8 * B.val + 4, by omega⟩ : Fin 2048) l + (if (idB c XB 4 (kB k)).toInt = 128 * (B.val : ℤ) + (l.val : ℤ) then valB c XV 4 (kB k) else 0) := by
  have hi0 := hid 0 (kB k)
  rw [← id_read0 c XB k] at hi0
  have hi1 := hid 1 (kB k)
  rw [← id_read1 c XB k] at hi1
  have hi2 := hid 2 (kB k)
  rw [← id_read2 c XB k] at hi2
  have hi3 := hid 3 (kB k)
  rw [← id_read3 c XB k] at hi3
  have hi4 := hid 4 (kB k)
  rw [← id_read4 c XB k] at hi4
  have hi5 := hid 5 (kB k)
  rw [← id_read5 c XB k] at hi5
  rw [← addOf_block _ (hid 4 (kB k)) (valB c XV 4 (kB k)) B.val l, ← id_read4 c XB k, ← val_read4 c XV k]
  refine (congrArg (fun L => View.read (Elt Ideal) biasM.view (biasM.view.writes (Elt Ideal) f L) (ix2 (⟨8 * B.val + 4, by omega⟩ : Fin 2048) l : S2048x128.Idx)) (biasTrip_pieces c v87 XB XV hB k f)).trans ?_
  refine (row_miss c f _ _ _ _ _ l (by rw [off20_row _ hi5]; show _ ≠ 8 * B.val + 4; omega)).trans ?_
  by_cases hq : (biasTrip.sl.r_4 (F := Ideal) c XB k).toNat / 128 = B.val
  · rw [if_pos hq]
    refine (row_hit c f _ _ _ _ _ l (by rw [off26_row _ hi4]; show _ = 8 * B.val + 4; omega) (off26_col _)).trans ?_
    refine (added4 _ _ _ l).trans (congrArg (fun y : EReal => y + _) ?_)
    exact row_read c f _ _ _ l (by rw [off18_row _ hi4]; show _ = 8 * B.val + 4; omega) (off18_col _)
  · rw [if_neg hq]
    refine Eq.trans ?_ (add_zero _).symm
    refine (row_miss c f _ _ _ _ _ l (by rw [off26_row _ hi4]; show _ ≠ 8 * B.val + 4; omega)).trans ?_
    refine (row_miss c f _ _ _ _ _ l (by rw [off25_row _ hi3]; show _ ≠ 8 * B.val + 4; omega)).trans ?_
    refine (row_miss c f _ _ _ _ _ l (by rw [off24_row _ hi2]; show _ ≠ 8 * B.val + 4; omega)).trans ?_
    refine (row_miss c f _ _ _ _ _ l (by rw [off23_row _ hi1]; show _ ≠ 8 * B.val + 4; omega)).trans ?_
    refine (row_miss c f _ _ _ _ _ l (by rw [off22_row _ hi0]; show _ ≠ 8 * B.val + 4; omega)).trans ?_
    rfl

theorem trip_row5 (f : BBuf c) (B : Fin 256) (l : Fin 128) :
    View.read (Elt Ideal) biasM.view (biasM.view.writes (Elt Ideal) f ((biasTrip (F := Ideal) c v87 lanes XB XV hB k).1 f)) (ix2 (⟨8 * B.val + 5, by omega⟩ : Fin 2048) l : S2048x128.Idx)
      = bEnt c f (⟨8 * B.val + 5, by omega⟩ : Fin 2048) l + (if (idB c XB 5 (kB k)).toInt = 128 * (B.val : ℤ) + (l.val : ℤ) then valB c XV 5 (kB k) else 0) := by
  have hi0 := hid 0 (kB k)
  rw [← id_read0 c XB k] at hi0
  have hi1 := hid 1 (kB k)
  rw [← id_read1 c XB k] at hi1
  have hi2 := hid 2 (kB k)
  rw [← id_read2 c XB k] at hi2
  have hi3 := hid 3 (kB k)
  rw [← id_read3 c XB k] at hi3
  have hi4 := hid 4 (kB k)
  rw [← id_read4 c XB k] at hi4
  have hi5 := hid 5 (kB k)
  rw [← id_read5 c XB k] at hi5
  rw [← addOf_block _ (hid 5 (kB k)) (valB c XV 5 (kB k)) B.val l, ← id_read5 c XB k, ← val_read5 c XV k]
  refine (congrArg (fun L => View.read (Elt Ideal) biasM.view (biasM.view.writes (Elt Ideal) f L) (ix2 (⟨8 * B.val + 5, by omega⟩ : Fin 2048) l : S2048x128.Idx)) (biasTrip_pieces c v87 XB XV hB k f)).trans ?_
  by_cases hq : (biasTrip.sl.r_5 (F := Ideal) c XB k).toNat / 128 = B.val
  · rw [if_pos hq]
    refine (row_hit c f _ _ _ _ _ l (by rw [off20_row _ hi5]; show _ = 8 * B.val + 5; omega) (off20_col _)).trans ?_
    refine (added5 _ _ _ l).trans (congrArg (fun y : EReal => y + _) ?_)
    exact row_read c f _ _ _ l (by rw [off20_row _ hi5]; show _ = 8 * B.val + 5; omega) (off20_col _)
  · rw [if_neg hq]
    refine Eq.trans ?_ (add_zero _).symm
    refine (row_miss c f _ _ _ _ _ l (by rw [off20_row _ hi5]; show _ ≠ 8 * B.val + 5; omega)).trans ?_
    refine (row_miss c f _ _ _ _ _ l (by rw [off26_row _ hi4]; show _ ≠ 8 * B.val + 5; omega)).trans ?_
    refine (row_miss c f _ _ _ _ _ l (by rw [off25_row _ hi3]; show _ ≠ 8 * B.val + 5; omega)).trans ?_
    refine (row_miss c f _ _ _ _ _ l (by rw [off24_row _ hi2]; show _ ≠ 8 * B.val + 5; omega)).trans ?_
    refine (row_miss c f _ _ _ _ _ l (by rw [off23_row _ hi1]; show _ ≠ 8 * B.val + 5; omega)).trans ?_
    refine (row_miss c f _ _ _ _ _ l (by rw [off22_row _ hi0]; show _ ≠ 8 * B.val + 5; omega)).trans ?_
    rfl

/-- One trip, at any row. -/
theorem trip_row (f : BBuf c) (b : Fin 6) (B : Fin 256) (l : Fin 128) :
    bEnt c (biasM.view.writes (Elt Ideal) f ((biasTrip (F := Ideal) c v87 lanes XB XV hB k).1 f)) (⟨8 * B.val + b.val, by omega⟩ : Fin 2048) l
      = bEnt c f (⟨8 * B.val + b.val, by omega⟩ : Fin 2048) l + (if (idB c XB b (kB k)).toInt = 128 * (B.val : ℤ) + (l.val : ℤ) then valB c XV b (kB k) else 0) := by
  rw [← read_biasB]
  fin_cases b
  · exact trip_row0 c v87 XB XV hB k hid f B l
  · exact trip_row1 c v87 XB XV hB k hid f B l
  · exact trip_row2 c v87 XB XV hB k hid f B l
  · exact trip_row3 c v87 XB XV hB k hid f B l
  · exact trip_row4 c v87 XB XV hB k hid f B l
  · exact trip_row5 c v87 XB XV hB k hid f B l

end Trip

/-- The table after the loop: of row `b`, column `128 B + l`, the values whose ids name it. -/
theorem biasAt_all (v87 : FVec Ideal S6x8192 .fp8e4m3) (XB : Buf (Elt Ideal) (bidM.view.loc (c : Thread nD τ))) (XV : Buf (Elt Ideal) (bvalM.view.loc (c : Thread nD τ)))
    (hB : BidOK c XB) (hid : ∀ b i, (idB c XB b i).toNat < 32768) (f0 : BBuf c) (hf : ∀ R l, bEnt c f0 R l = 0) (b : Fin 6) (B : Fin 256) (l : Fin 128) :
    bEnt c (biasAt (F := Ideal) c v87 lanes XB XV hB f0 k0_t2_loop.trips) (⟨8 * B.val + b.val, by omega⟩ : Fin 2048) l
      = ∑ i : Fin 36, (if (idB c XB b i).toInt = 128 * (B.val : ℤ) + (l.val : ℤ) then valB c XV b i else 0 : EReal) := by
  have key : ∀ j (hj : j ≤ 36), bEnt c (biasAt (F := Ideal) c v87 lanes XB XV hB f0 j) (⟨8 * B.val + b.val, by omega⟩ : Fin 2048) l
      = ∑ i : Fin j, (if (idB c XB b ⟨i.val, by omega⟩).toInt = 128 * (B.val : ℤ) + (l.val : ℤ) then valB c XV b ⟨i.val, by omega⟩ else 0 : EReal) := by
    intro j
    induction j with
    | zero => intro _; exact (hf _ _).trans rfl
    | succ j ih =>
      intro hj
      have hT : j < k0_t2_loop.trips := by rw [trips2]; omega
      rw [Fin.sum_univ_castSucc]
      have hs : biasAt (F := Ideal) c v87 lanes XB XV hB f0 (j + 1) = biasM.view.writes (Elt Ideal) (biasAt (F := Ideal) c v87 lanes XB XV hB f0 j) ((biasTrip (F := Ideal) c v87 lanes XB XV hB ⟨j, hT⟩).1 (biasAt (F := Ideal) c v87 lanes XB XV hB f0 j)) := dif_pos hT
      rw [hs]
      refine (trip_row c v87 XB XV hB ⟨j, hT⟩ hid _ b B l).trans ?_
      exact congrArg (fun y : EReal => y + _) (ih (by omega))
  rw [trips2]
  exact key 36 le_rfl

end Cert.Proof.Value
-- ==== Proof.Value.Out.lean ====
/- The kernel's logits at their first 29952 columns, over the reals, from the arguments. -/
module

public import proofs.«01_k».proof.Proof.KernelIdeal.Ids
public import proofs.«01_k».proof.Proof.Value.Start
public import proofs.«01_k».proof.Proof.Value.Bias
public import Idealize.ShloMosaic.Lib.StableHlo.ReadAt

@[expose] public section
set_option maxRecDepth 16384
noncomputable section
namespace Cert.Proof.Value
open Cert.KernelIdeal Cert.KernelIdeal.Gen Cert.Proof.KernelIdeal
open Idealize.ShloMosaic
open Idealize.ShloMosaic.TcCoe
open Idealize.SL Idealize.SL.Sem

/-- How often a row's counted history names a column. -/
def countOf (XH : S6x4096.Idx → BitVec 32) (XL : S6.Idx → BitVec 32) (r : Fin 6) (n : ℕ) : EReal :=
  ∑ j : Fin 4096, (if IntOp.cmpi .slt (BitVec.ofNat 32 j.val) (XL (ix1 r)) = 1#1 ∧ (XH (ix2 r j)).toInt = (n : ℤ) then 1 else 0)

/-- What a row's bias pairs add to a column. -/
def biasOf (XB : S6x36.Idx → BitVec 32) (XV : S6x36.Idx → EReal) (r : Fin 6) (n : ℕ) : EReal :=
  ∑ i : Fin 36, (if (XB (ix2 r i)).toInt = (n : ℤ) then XV (ix2 r i) else 0)

/-- The product's element. -/
def dotOf (X0 : S6x8192.Idx → EReal) (X2 : S8192x32000.Idx → EReal) (r : Fin 6) (n : Fin 32000) : EReal :=
  ∑ k : Fin 8192, X0 (ix2 r k) * X2 (ix2 k n)

section Sums
variable (c : Dev nD)
/-- The product from a buffer that starts at zero. -/
theorem z_sum (XA : Buf (Elt Ideal) (aW.view.loc (c : Thread nD τ))) (fx : Buf (Elt Ideal) (xbufM.view.loc (c : Thread nD τ)))
    (z0 : Buf (Elt Ideal) (zbufM.view.loc (c : Thread nD τ))) (hz : ∀ r n, zEnt c z0 r n = 0) (X0 : S6x8192.Idx → EReal)
    (hx : ∀ r k, xEnt c fx r k = X0 (ix2 r k)) (r : Fin 6) (n : Fin 32000) (hn : n.val < 29952) :
    zEnt c (zAt c XA fx z0 32) r n = dotOf X0 XA r n := by
  rw [zAt_all c XA fx z0 hz r n hn]
  unfold dotOf
  refine Finset.sum_congr rfl fun k _ => ?_
  rw [hx]

/-- The counts the table holds. -/
theorem cnt_sum (T : ℕ) (hT : T = k0_t1_loop.trips) (v87 : FVec Ideal S6x8192 .fp8e4m3) (XH : Buf (Elt Ideal) (histM.view.loc (c : Thread nD τ))) (XL : Buf (Elt Ideal) (hlenM.view.loc (c : Thread nD τ)))
    (f0 : Buf (Elt Ideal) (cntM.view.loc (c : Thread nD τ))) (r : Fin 6) (B : Fin 250) (l : Fin 128) :
    cEnt c (cntAt c v87 XH XL f0 T) (rowOf B r) l = countOf XH XL r (128 * B.val + l.val) := by
  subst hT
  refine (cntAt_all c v87 XH XL f0 r ⟨B.val, by omega⟩ l).trans ?_
  unfold countOf
  refine Finset.sum_congr rfl fun j _ => ?_
  rw [show ((128 * B.val + l.val : ℕ) : ℤ) = 128 * (B.val : ℤ) + (l.val : ℤ) by push_cast; rfl]

/-- The biases the table holds. -/
theorem bias_sum (T : ℕ) (hT : T = k0_t2_loop.trips) (v87 : FVec Ideal S6x8192 .fp8e4m3) (v94 : IVec S1x128 32) (hv : v94 = lanes) (XB : Buf (Elt Ideal) (bidM.view.loc (c : Thread nD τ))) (XV : Buf (Elt Ideal) (bvalM.view.loc (c : Thread nD τ)))
    (hB : BidOK c XB) (hid : ∀ b i, (idB c XB b i).toNat < 32768) (f0 : BBuf c) (hf : ∀ R l, bEnt c f0 R l = 0) (r : Fin 6) (B : Fin 250) (l : Fin 128) :
    bEnt c (biasAt (F := Ideal) c v87 v94 XB XV hB f0 T) (rowOf B r) l = biasOf XB XV r (128 * B.val + l.val) := by
  subst hT hv
  refine (biasAt_all c v87 XB XV hB hid f0 hf r ⟨B.val, by omega⟩ l).trans ?_
  unfold biasOf
  refine Finset.sum_congr rfl fun j _ => ?_
  rw [show ((128 * B.val + l.val : ℕ) : ℤ) = 128 * (B.val : ℤ) + (l.val : ℤ) by push_cast; rfl]

end Sums

theorem epi_congr {xs pr fr rp z w ct bi xs' pr' fr' rp' z' w' ct' bi' : EReal} (h1 : xs = xs') (h2 : pr = pr') (h3 : fr = fr') (h4 : rp = rp')
    (h5 : z = z') (h6 : w = w') (h7 : ct = ct') (h8 : bi = bi') : epi xs pr fr rp z w ct bi = epi xs' pr' fr' rp' z' w' ct' bi' := by
  subst h1 h2 h3 h4 h5 h6 h7 h8; rfl

variable (m : (ℓ : Loc nD τ sig) → Buf (Elt Ideal) ℓ) (h : IdsOK m) (c : Dev nD)

theorem ws_apply (B : Fin 250) (l : Fin 128) :
    ((V m c main_v0 : S250x128.Idx → EReal) (ix2 B l)) = (m ((c : Thread nD τ).loc main_arg3) : S32000.Idx → EReal) (ix1 (colOf B l)) := by
  unfold V V0
  after_reads_at
  refine congrArg (m ((c : Thread nD τ).loc main_arg3) : S32000.Idx → EReal) (funext fun (a : Fin 1) => ?_)
  match a with
  | 0 => exact Fin.ext (show B.val * 128 + l.val = 128 * B.val + l.val by omega)

set_option maxHeartbeats 400000 in
theorem out_apply (hid : ∀ b i, ((V m c main_arg10 : S6x36.Idx → BitVec 32) (ix2 b i)).toNat < 32768) (r : Fin 6) (B : Fin 250) (l : Fin 128) (hB : B.val < 234) :
    ((runAt m h c).2.2.1 (ix2 r (colOf B l) : S6x32000.Idx) : EReal)
      = epi ((V m c main_arg1 : S6.Idx → EReal) (ix1 r)) ((V m c main_arg6 : S6.Idx → EReal) (ix1 r)) ((V m c main_arg7 : S6.Idx → EReal) (ix1 r)) ((V m c main_arg8 : S6.Idx → EReal) (ix1 r))
        (dotOf (V m c main_arg0) (V m c main_arg2) r (colOf B l)) ((V m c main_v0 : S250x128.Idx → EReal) (ix2 B l))
        (countOf (V m c main_arg4) (V m c main_arg5) r (128 * B.val + l.val)) (biasOf (V m c main_arg10) (V m c main_arg11) r (128 * B.val + l.val)) := by
  unfold runAt bodyRun
  dsimp only
  refine (twoParts_lt _ _ _ (show (colOf B l).val < 29952 by have := l.isLt; show 128 * B.val + l.val < 29952; omega)).symm.trans ?_
  refine ((finAt_apply c _ _ _ _ _ _ _ _ _ _ _ r 13 le_rfl).1 B l hB).trans ?_
  unfold finG
  refine epi_congr ?a ?b ?c ?d ?e rfl ?f ?g
  · exact v125_apply c (V m c main_arg1) r l
  · exact v152_apply c (V m c main_arg6) r l
  · exact v179_apply c (V m c main_arg7) r l
  · exact rep_apply c (V m c main_arg8) r l
  · exact z_sum c _ _ _ (fun r n => z_zero c r n) _ (fun r k => x_apply c _ r k) r (colOf B l) (by have := l.isLt; show 128 * B.val + l.val < 29952; omega)
  · exact cnt_sum c _ rfl _ _ _ _ r B l
  · exact bias_sum c _ rfl _ _ rfl _ _ _ hid _ (fun R l => b_zero c _ R l) r B l
end Cert.Proof.Value
-- ==== Proof.Value.Ref.lean ====
/- The reference's logits, entry by entry, from what its product leaves. -/
module

public import proofs.«01_k».proof.Proof.Gen.ReferenceIdeal.Frame
public import proofs.«01_k».proof.Proof.Value.Finish
public import Idealize.ShloMosaic.Lib.StableHlo.RunRead
public import Idealize.ShloMosaic.Lib.StableHlo.ReadAt
public import Idealize.ShloMosaic.Lib.Pointwise
public import Idealize.ShloMosaic.Lib.Routing.OpsPair

@[expose] public section
set_option maxRecDepth 16384
noncomputable section
namespace Cert.Proof.Ref
open Cert.ReferenceIdeal Cert.ReferenceIdeal.Gen
open Idealize.ShloMosaic
open Idealize.ShloMosaic.TcCoe
open Idealize.SL Idealize.SL.Sem

variable (V : Valuation τ sig (Elt Ideal))

/-- The contents after the first stretch of operations, the second, the third and the fourth. -/
abbrev V1 : Valuation τ sig (Elt Ideal) := StableHlo.after (hostOps1 (F := Ideal)) V
abbrev V2 : Valuation τ sig (Elt Ideal) := StableHlo.after (hostOps1_1 (F := Ideal)) (V1 V)
abbrev V3 : Valuation τ sig (Elt Ideal) := StableHlo.after (hostOps1_2 (F := Ideal)) (V2 V)
abbrev V4 : Valuation τ sig (Elt Ideal) := StableHlo.after (hostOps1_3 (F := Ideal)) (V3 V)

/-- The buffer of the scattered ids, of the counts' operation, and of the counted bits. -/
def idxH : S6x4096x2.Idx → BitVec 32 := V1 V (Proc.devRef .tc main_v35)
def updH : S6x4096.Idx → EReal := V1 V (Proc.devRef .tc main_v21)
def cntH : S6x32000.Idx → EReal := V1 V (Proc.devRef .tc main_v36)
def idxB : S6x36x2.Idx → BitVec 32 := V4 V (Proc.devRef .tc main_v73)
def addB : S6x32000.Idx → EReal := V4 V (Proc.devRef .tc main_v74)

/-- A bit as a number. -/
theorem uitofp_bit (x : BitVec 1) : (FloatOps.uitofp (F := Ideal) FTy.f32 x : EReal) = if x = 1#1 then 1 else 0 := by
  show ((x.toNat : ℝ) : EReal) = _
  by_cases h : x = 1#1
  · subst h; simp
  · have : x = 0#1 := by
      have := x.isLt
      apply BitVec.eq_of_toNat_eq
      have h1 : x.toNat ≠ 1 := fun e => h (BitVec.eq_of_toNat_eq e)
      show x.toNat = 0
      omega
    subst this; simp

/-- A nonnegative id is not counted from the end. -/
theorem wrap_of_nonneg (x y : BitVec 32) (h : 0 ≤ x.toInt) : Scalar.select (IntOp.cmpi .slt x 0#32) (IntOp.addi x y) x = x := by
  have e : IntOp.cmpi .slt x 0#32 = 0#1 := by
    show BitVec.ofBool (x.slt 0#32) = 0#1
    rw [show x.slt 0#32 = false by rw [BitVec.slt_eq_decide]; simpa using h]; rfl
  rw [e]; rfl

theorem zero_bits : (Ideal.ofBits FTy.f32 0#32 : EReal) = 0 := by
  simp [Ideal.ofBits, Ideal.ieee]

theorem updH_apply (b : Fin 6) (j : Fin 4096) : updH V (ix2 b j)
    = if IntOp.cmpi .slt (BitVec.ofNat 32 j.val) ((V (Proc.devRef .tc main_arg5) : S6.Idx → BitVec 32) (ix1 b)) = 1#1 then 1 else 0 := by
  unfold updH V1
  after_reads_at
  exact uitofp_bit _

theorem idxH_row (b : Fin 6) (j : Fin 4096) : (idxH V (ix3 b j 0)).toInt = b.val := by
  have e : idxH V (ix3 b j 0) = Scalar.select (IntOp.cmpi .slt (BitVec.ofNat 32 b.val) 0#32) (IntOp.addi (BitVec.ofNat 32 b.val) 6#32) (BitVec.ofNat 32 b.val) := by
    unfold idxH V1
    after_reads_at
  rw [e]; fin_cases b <;> rfl
theorem idxH_col (b : Fin 6) (j : Fin 4096) (h : 0 ≤ ((V (Proc.devRef .tc main_arg4) : S6x4096.Idx → BitVec 32) (ix2 b j)).toInt) :
    idxH V (ix3 b j 1) = (V (Proc.devRef .tc main_arg4) : S6x4096.Idx → BitVec 32) (ix2 b j) := by
  refine Eq.trans ?_ (wrap_of_nonneg _ 32000#32 h)
  unfold idxH V1
  after_reads_at
theorem idxB_row (b : Fin 6) (j : Fin 36) : (idxB V (ix3 b j 0)).toInt = b.val := by
  have e : idxB V (ix3 b j 0) = Scalar.select (IntOp.cmpi .slt (BitVec.ofNat 32 b.val) 0#32) (IntOp.addi (BitVec.ofNat 32 b.val) 6#32) (BitVec.ofNat 32 b.val) := by
    unfold idxB V4
    after_reads_at
  rw [e]; fin_cases b <;> rfl
theorem idxB_col (b : Fin 6) (j : Fin 36) (h : 0 ≤ ((V (Proc.devRef .tc main_arg10) : S6x36.Idx → BitVec 32) (ix2 b j)).toInt) :
    idxB V (ix3 b j 1) = (V (Proc.devRef .tc main_arg10) : S6x36.Idx → BitVec 32) (ix2 b j) := by
  refine Eq.trans ?_ (wrap_of_nonneg _ 32000#32 h)
  unfold idxB V4
  after_reads_at

theorem cntH_eq : cntH V = Host.scatterAdd (F := Ideal) scatter_S6x32000_S6x4096x2_S6x4096_n_01_01_2
      (broadcastInDim S6x32000 ![] bcast_S_S6x32000 (constant (F := Ideal) S_ FTy.f32 0#32)) (idxH V) (updH V : FVec Ideal S6x4096 .f32) := by
  unfold cntH idxH updH V1
  after_reads_simp
theorem addB_eq : addB V = Host.scatterAdd (F := Ideal) scatter_S6x32000_S6x36x2_S6x36_n_01_01_2
      (broadcastInDim S6x32000 ![] bcast_S_S6x32000 (constant (F := Ideal) S_ FTy.f32 0#32)) (idxB V) (V (Proc.devRef .tc main_arg11)) := by
  unfold addB idxB V4
  after_reads_simp

/-- Sums over pairs that land in one row: the row's pairs. -/
theorem sum_row {N : ℕ} (f : (⟨2, ![6, N]⟩ : Shape).Idx → EReal) (P : (⟨2, ![6, N]⟩ : Shape).Idx → Prop) [DecidablePred P] (r : Fin 6) (Q : Fin N → Prop) [DecidablePred Q]
    (h : ∀ (b : Fin 6) (j : Fin N), f (ix2 b j) ≠ 0 → (P (ix2 b j) ↔ b = r ∧ Q j)) :
    ∑ i ∈ Finset.univ.filter P, f i = ∑ j : Fin N, if Q j then f (ix2 r j) else 0 := by
  rw [Finset.sum_filter]
  let e : Fin 6 × Fin N ≃ (⟨2, ![6, N]⟩ : Shape).Idx :=
    ⟨fun p => ix2 p.1 p.2, fun i => (i 0, i 1), fun p => rfl, fun i => ix2_eta i⟩
  rw [← e.sum_comp, Fintype.sum_prod_type, Finset.sum_eq_single r]
  · refine Finset.sum_congr rfl fun j _ => ?_
    show (if P (ix2 r j) then f (ix2 r j) else 0) = _
    by_cases h0 : f (ix2 r j) = 0
    · rw [h0, ite_self, ite_self]
    · exact if_congr ((h r j h0).trans ⟨fun x => x.2, fun x => ⟨rfl, x⟩⟩) rfl rfl
  · intro b _ hb
    refine Finset.sum_eq_zero fun j _ => ?_
    show (if P (ix2 b j) then f (ix2 b j) else 0) = 0
    by_cases h0 : f (ix2 b j) = 0
    · rw [h0, ite_self]
    · exact if_neg fun x => hb ((h b j h0).mp x).1
  · exact fun x => absurd (Finset.mem_univ r) x

/-- The reference's table of counts: how often a row's counted history names a column. -/
theorem cntH_apply (XH : S6x4096.Idx → BitVec 32) (XL : S6.Idx → BitVec 32) (hH : V (Proc.devRef .tc main_arg4) = XH) (hL : V (Proc.devRef .tc main_arg5) = XL)
    (hpos : ∀ (b : Fin 6) (j : Fin 4096), IntOp.cmpi .slt (BitVec.ofNat 32 j.val) (XL (ix1 b)) = 1#1 → 0 ≤ (XH (ix2 b j)).toInt) (r : Fin 6) (n : Fin 32000) :
    cntH V (ix2 r n) = ∑ j : Fin 4096, (if IntOp.cmpi .slt (BitVec.ofNat 32 j.val) (XL (ix1 r)) = 1#1 ∧ (XH (ix2 r j)).toInt = ((n.val : ℕ) : ℤ) then 1 else 0) := by
  rw [cntH_eq]
  show Ideal.ofBits FTy.f32 0#32 + ∑ j ∈ Finset.univ.filter (fun j => scatter_S6x32000_S6x4096x2_S6x4096_n_01_01_2.resultIdx? j (idxH V) = some (ix2 r n)), updH V j = _
  rw [zero_bits, zero_add, sum_row (N := 4096) (updH V) _ r (fun j => (idxH V (ix3 r j 1)).toInt = n.val)]
  · refine Finset.sum_congr rfl fun j _ => ?_
    rw [updH_apply, hL]
    by_cases hc : IntOp.cmpi .slt (BitVec.ofNat 32 j.val) (XL (ix1 r)) = 1#1
    · have h0 := hpos r j hc
      rw [idxH_col V r j (by rw [hH]; exact h0), hH]
      simp only [hc, true_and, if_true]
    · simp only [hc, false_and, if_false, ite_self]
  · intro b j _
    refine (Routing.scatter_lands2 scatter_S6x32000_S6x4096x2_S6x4096_n_01_01_2 rfl rfl rfl (idxH V) b j r n).trans ?_
    show (idxH V (ix3 b j 0)).toInt = ((r.val : ℕ) : ℤ) ∧ (idxH V (ix3 b j 1)).toInt = ((n.val : ℕ) : ℤ) ↔ b = r ∧ (idxH V (ix3 r j 1)).toInt = ((n.val : ℕ) : ℤ)
    rw [idxH_row]
    constructor
    · rintro ⟨h1, h2⟩
      have hb : b = r := Fin.ext (by exact_mod_cast h1)
      subst hb; exact ⟨rfl, h2⟩
    · rintro ⟨rfl, h2⟩; exact ⟨rfl, h2⟩

/-- The reference's table of biases: what a row's pairs add to a column. -/
theorem addB_apply (XB : S6x36.Idx → BitVec 32) (XV : S6x36.Idx → EReal) (hB : V (Proc.devRef .tc main_arg10) = XB) (hV : V (Proc.devRef .tc main_arg11) = XV)
    (hpos : ∀ (b : Fin 6) (j : Fin 36), 0 ≤ (XB (ix2 b j)).toInt) (r : Fin 6) (n : Fin 32000) :
    addB V (ix2 r n) = ∑ j : Fin 36, (if (XB (ix2 r j)).toInt = ((n.val : ℕ) : ℤ) then XV (ix2 r j) else 0) := by
  rw [addB_eq, hV]
  show Ideal.ofBits FTy.f32 0#32 + ∑ j ∈ Finset.univ.filter (fun j => scatter_S6x32000_S6x36x2_S6x36_n_01_01_2.resultIdx? j (idxB V) = some (ix2 r n)), XV j = _
  rw [zero_bits, zero_add, sum_row (N := 36) XV _ r (fun j => (idxB V (ix3 r j 1)).toInt = n.val)]
  · refine Finset.sum_congr rfl fun j _ => ?_
    rw [idxB_col V r j (by rw [hB]; exact hpos r j), hB]
  · intro b j _
    refine (Routing.scatter_lands2 scatter_S6x32000_S6x36x2_S6x36_n_01_01_2 rfl rfl rfl (idxB V) b j r n).trans ?_
    show (idxB V (ix3 b j 0)).toInt = ((r.val : ℕ) : ℤ) ∧ (idxB V (ix3 b j 1)).toInt = ((n.val : ℕ) : ℤ) ↔ b = r ∧ (idxB V (ix3 r j 1)).toInt = ((n.val : ℕ) : ℤ)
    rw [idxB_row]
    constructor
    · rintro ⟨h1, h2⟩
      have hb : b = r := Fin.ext (by exact_mod_cast h1)
      subst hb; exact ⟨rfl, h2⟩
    · rintro ⟨rfl, h2⟩; exact ⟨rfl, h2⟩

/-- The reference's logits from its product, its counts and its biases. -/
theorem z_apply (r : Fin 6) (n : Fin 32000) : ((V4 V (Proc.devRef .tc main_v75) : S6x32000.Idx → EReal) (ix2 r n) : EReal)
    = Cert.Proof.Value.epi ((V (Proc.devRef .tc main_arg1) : S6.Idx → EReal) (ix1 r)) ((V (Proc.devRef .tc main_arg6) : S6.Idx → EReal) (ix1 r))
      ((V (Proc.devRef .tc main_arg7) : S6.Idx → EReal) (ix1 r)) ((V (Proc.devRef .tc main_arg8) : S6.Idx → EReal) (ix1 r))
      ((V (Proc.devRef .tc main_v0) : S6x32000.Idx → EReal) (ix2 r n)) ((V (Proc.devRef .tc main_arg3) : S32000.Idx → EReal) (ix1 n))
      (cntH V (ix2 r n)) (addB V (ix2 r n)) := by
  unfold cntH addB V4 V1
  after_reads_simp
  simp -implicitDefEqProofs only [StableHlo.TRef.toBuf, StableHlo.TRef.ofBuf, cast_cast, cast_eq]
  generalize Host.scatterAdd (F := Ideal) scatter_S6x32000_S6x4096x2_S6x4096_n_01_01_2 _ _ _ = C
  generalize Host.scatterAdd (F := Ideal) scatter_S6x32000_S6x36x2_S6x36_n_01_01_2 _ _ _ = A
  clean_types
  unfold Cert.Proof.Value.epi Cert.Proof.Value.cap
  pointwise
  have e : ∀ (q : Prop) [Decidable q] (p : EReal), (FloatOps.uitofp (F := Ideal) FTy.f32 (BitVec.ofBool (decide q)) : EReal) * p = if q then p else 0 := by
    intro q _ p
    rw [uitofp_bit]
    by_cases h : q <;> simp [h]
  rw [e]
end Cert.Proof.Ref
-- ==== Proof.Value.RefEnd.lean ====
/- The reference's logits at the end of its run, entry by entry, from its arguments. -/
module

public import proofs.«01_k».proof.Proof.Value.Ref
public import Idealize.ShloMosaic.Lib.Pipeline.ValueKit

@[expose] public section
set_option maxRecDepth 16384
noncomputable section
namespace Cert.Proof.Ref
open Cert.ReferenceIdeal Cert.ReferenceIdeal.Gen
open Idealize.ShloMosaic
open Idealize.ShloMosaic.TcCoe
open Idealize.SL Idealize.SL.Sem

variable (m : (ℓ : Loc nD τ sig) → Buf (Elt Ideal) ℓ) (c : Dev nD)

/-- The product's element. -/
def dot (X0 : S6x8192.Idx → EReal) (X2 : S8192x32000.Idx → EReal) (r : Fin 6) (n : Fin 32000) : EReal :=
  ∑ k : Fin 8192, X0 (ix2 r k) * X2 (ix2 k n)

def dotArr (X0 : S6x8192.Idx → EReal) (X2 : S8192x32000.Idx → EReal) : S6x32000.Idx → EReal := fun i => dot X0 X2 (i 0) (i 1)

theorem pay_apply (v0 : Vec Ideal S6x8192 .fp8e4m3) (v1 : Vec Ideal S8192x32000 .fp8e4m3) (r : Fin 6) (n : Fin 32000) :
    (k0_pay1 v0 v1 (ix2 r n : S6x32000.Idx) : EReal) = dot v0 v1 r n := by
  unfold dot
  pointwise [k0_pay1]

theorem blk0 (t : Fin cfg0.N) : iblk m c 0 t = (V m c main_arg0 : S6x8192.Idx → EReal) := by
  have ht : t = ⟨0, by decide⟩ := Fin.ext (by have := t.isLt; have e : cfg0.N = 1 := rfl; omega)
  subst ht
  funext x
  refine congrArg (V m c main_arg0 : S6x8192.Idx → EReal) (funext fun (a : Fin 2) => Fin.ext ?_)
  match a with
  | 0 => show 0 + 1 * (x 0).val = (x 0).val; omega
  | 1 => show 0 + 1 * (x 1).val = (x 1).val; omega
theorem blk1 (t : Fin cfg0.N) : iblk m c 1 t = (V m c main_arg2 : S8192x32000.Idx → EReal) := by
  have ht : t = ⟨0, by decide⟩ := Fin.ext (by have := t.isLt; have e : cfg0.N = 1 := rfl; omega)
  subst ht
  funext x
  refine congrArg (V m c main_arg2 : S8192x32000.Idx → EReal) (funext fun (a : Fin 2) => Fin.ext ?_)
  match a with
  | 0 => show 0 + 1 * (x 0).val = (x 0).val; omega
  | 1 => show 0 + 1 * (x 1).val = (x 1).val; omega
theorem blk2 (t : Fin cfg0.N) (y : S6x32000.Idx) : ((View.whole main_v0).slice (win0_2.rect t)).emb y = y := by
  have ht : t = ⟨0, by decide⟩ := Fin.ext (by have := t.isLt; have e : cfg0.N = 1 := rfl; omega)
  subst ht
  funext (a : Fin 2)
  refine Fin.ext ?_
  match a with
  | 0 => show 0 + 1 * (y 0).val = (y 0).val; omega
  | 1 => show 0 + 1 * (y 1).val = (y 1).val; omega

theorem arr_v0 : (dats m 0 c).arrAt 2 cfg0.N = dotArr (V m c main_arg0) (V m c main_arg2) := by
  refine (dats m 0 c).arrAt_eq_of_covers 2 _ (by decide +kernel) fun t hf y => ?_
  blk_simp
  rw [after0_2]
  frame_out
  refine Eq.trans ?_ (congrArg (dotArr (V m c main_arg0) (V m c main_arg2)) (blk2 t y)).symm
  rw [blk0, blk1]
  exact (congrArg (k0_pay1 (F := Ideal) _ _) (eq_ix2 (n0 := 6) (n1 := 32000) y)).trans (pay_apply _ _ (y 0) (y 1))

/-- The contents the region leaves. -/
abbrev VR : Valuation τ sig (Elt Ideal) :=
  Pipeline.withArrays (cfgs 0).spec c (V0 m c) fun w => ((dats m) 0 c).arrAt w (cfgs 0).N

theorem end_eq : Pipeline.afterTail₀ cfgs (dats m) 0 (V0 m) [hostOps1, hostOps1_1, hostOps1_2, hostOps1_3, hostOps1_4, hostOps1_5, hostOps1_6, hostOps1_7] c main_v75
    = V4 (VR m c) (Proc.devRef .tc main_v75) := by
  unfold Pipeline.afterTail₀
  rw [List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append,
    StableHlo.after_of_writes_sub (r := main_v75) hostOps1_7 _ hostOps1_7_writes (by decide +kernel),
    StableHlo.after_of_writes_sub (r := main_v75) hostOps1_6 _ hostOps1_6_writes (by decide +kernel),
    StableHlo.after_of_writes_sub (r := main_v75) hostOps1_5 _ hostOps1_5_writes (by decide +kernel),
    StableHlo.after_of_writes_sub (r := main_v75) hostOps1_4 _ hostOps1_4_writes (by decide +kernel)]

theorem VR_of (b : Ref sig .tc) (hb : ∀ w, Pipeline.arrRef spec0 w ≠ b) : VR m c (Proc.devRef .tc b) = m (c, Proc.devRef .tc b) :=
  Pipeline.withArrays_of_ne _ c (V0 m c) _ b hb

theorem VR_v0 : VR m c (Proc.devRef .tc main_v0) = dotArr (V m c main_arg0) (V m c main_arg2) :=
  (Pipeline.withArrays_arr spec0 launch0.win.arr_inj c (V0 m c) _ 2).trans (arr_v0 m c)

/-- The reference's logits: the finish of the product by the row's scalars, counts and biases. -/
theorem end_apply (hH : ∀ (b : Fin 6) (j : Fin 4096), IntOp.cmpi .slt (BitVec.ofNat 32 j.val) ((m ((c : Thread nD τ).loc main_arg5) : S6.Idx → BitVec 32) (ix1 b)) = 1#1
      → 0 ≤ ((m ((c : Thread nD τ).loc main_arg4) : S6x4096.Idx → BitVec 32) (ix2 b j)).toInt)
    (hB : ∀ (b : Fin 6) (j : Fin 36), 0 ≤ ((m ((c : Thread nD τ).loc main_arg10) : S6x36.Idx → BitVec 32) (ix2 b j)).toInt) (r : Fin 6) (n : Fin 32000) :
    ((Pipeline.afterTail₀ cfgs (dats m) 0 (V0 m) [hostOps1, hostOps1_1, hostOps1_2, hostOps1_3, hostOps1_4, hostOps1_5, hostOps1_6, hostOps1_7] c main_v75 : S6x32000.Idx → EReal) (ix2 r n) : EReal)
    = Cert.Proof.Value.epi ((m ((c : Thread nD τ).loc main_arg1) : S6.Idx → EReal) (ix1 r)) ((m ((c : Thread nD τ).loc main_arg6) : S6.Idx → EReal) (ix1 r))
      ((m ((c : Thread nD τ).loc main_arg7) : S6.Idx → EReal) (ix1 r)) ((m ((c : Thread nD τ).loc main_arg8) : S6.Idx → EReal) (ix1 r))
      (dot (m ((c : Thread nD τ).loc main_arg0)) (m ((c : Thread nD τ).loc main_arg2)) r n) ((m ((c : Thread nD τ).loc main_arg3) : S32000.Idx → EReal) (ix1 n))
      (∑ j : Fin 4096, (if IntOp.cmpi .slt (BitVec.ofNat 32 j.val) ((m ((c : Thread nD τ).loc main_arg5) : S6.Idx → BitVec 32) (ix1 r)) = 1#1
          ∧ ((m ((c : Thread nD τ).loc main_arg4) : S6x4096.Idx → BitVec 32) (ix2 r j)).toInt = ((n.val : ℕ) : ℤ) then 1 else 0))
      (∑ j : Fin 36, (if ((m ((c : Thread nD τ).loc main_arg10) : S6x36.Idx → BitVec 32) (ix2 r j)).toInt = ((n.val : ℕ) : ℤ)
          then (m ((c : Thread nD τ).loc main_arg11) : S6x36.Idx → EReal) (ix2 r j) else 0)) := by
  rw [end_eq]
  refine (z_apply (VR m c) r n).trans ?_
  rw [cntH_apply (VR m c) _ _ (VR_of m c main_arg4 (by decide)) (VR_of m c main_arg5 (by decide)) hH r n,
    addB_apply (VR m c) _ _ (VR_of m c main_arg10 (by decide)) (VR_of m c main_arg11 (by decide)) hB r n,
    VR_of m c main_arg1 (by decide), VR_of m c main_arg6 (by decide), VR_of m c main_arg7 (by decide), VR_of m c main_arg8 (by decide), VR_of m c main_arg3 (by decide), VR_v0]
  rfl

end Cert.Proof.Ref
-- ==== Proof.Value.Equal.lean ====
/- Kernel and reference leave the same logits at the first 29952 columns. -/
module

public import proofs.«01_k».proof.Proof.Value.Out
public import proofs.«01_k».proof.Proof.Value.RefEnd

@[expose] public section
set_option maxRecDepth 16384
noncomputable section
namespace Cert.Proof.Value
open Idealize.ShloMosaic
open Idealize.ShloMosaic.TcCoe
open Idealize.SL Idealize.SL.Sem

variable (m : (ℓ : Loc Cert.KernelIdeal.nD Cert.KernelIdeal.τ Cert.KernelIdeal.sig) → Buf (Elt Ideal) ℓ) (h : Cert.Proof.KernelIdeal.IdsOK m)
  (c : Dev Cert.KernelIdeal.nD)

/-- The kernel's logits at a column below 29952, from the arguments. -/
theorem kernel_apply (hid : ∀ b i, ((m ((c : Thread Cert.KernelIdeal.nD Cert.KernelIdeal.τ).loc Cert.KernelIdeal.main_arg10) : Cert.KernelIdeal.S6x36.Idx → BitVec 32) (ix2 b i)).toNat < 32768)
    (r : Fin 6) (n : Fin 32000) (hn : n.val < 29952) :
    ((Cert.Proof.KernelIdeal.runAt m h c).2.2.1 (ix2 r n : Cert.KernelIdeal.S6x32000.Idx) : EReal)
      = epi ((m ((c : Thread Cert.KernelIdeal.nD Cert.KernelIdeal.τ).loc Cert.KernelIdeal.main_arg1) : Cert.KernelIdeal.S6.Idx → EReal) (ix1 r))
        ((m ((c : Thread Cert.KernelIdeal.nD Cert.KernelIdeal.τ).loc Cert.KernelIdeal.main_arg6) : Cert.KernelIdeal.S6.Idx → EReal) (ix1 r))
        ((m ((c : Thread Cert.KernelIdeal.nD Cert.KernelIdeal.τ).loc Cert.KernelIdeal.main_arg7) : Cert.KernelIdeal.S6.Idx → EReal) (ix1 r))
        ((m ((c : Thread Cert.KernelIdeal.nD Cert.KernelIdeal.τ).loc Cert.KernelIdeal.main_arg8) : Cert.KernelIdeal.S6.Idx → EReal) (ix1 r))
        (dotOf (m ((c : Thread Cert.KernelIdeal.nD Cert.KernelIdeal.τ).loc Cert.KernelIdeal.main_arg0)) (m ((c : Thread Cert.KernelIdeal.nD Cert.KernelIdeal.τ).loc Cert.KernelIdeal.main_arg2)) r n)
        ((m ((c : Thread Cert.KernelIdeal.nD Cert.KernelIdeal.τ).loc Cert.KernelIdeal.main_arg3) : Cert.KernelIdeal.S32000.Idx → EReal) (ix1 n))
        (countOf (m ((c : Thread Cert.KernelIdeal.nD Cert.KernelIdeal.τ).loc Cert.KernelIdeal.main_arg4)) (m ((c : Thread Cert.KernelIdeal.nD Cert.KernelIdeal.τ).loc Cert.KernelIdeal.main_arg5)) r n.val)
        (biasOf (m ((c : Thread Cert.KernelIdeal.nD Cert.KernelIdeal.τ).loc Cert.KernelIdeal.main_arg10)) (m ((c : Thread Cert.KernelIdeal.nD Cert.KernelIdeal.τ).loc Cert.KernelIdeal.main_arg11)) r n.val) := by
  have e : colOf (⟨n.val / 128, by omega⟩ : Fin 250) (⟨n.val % 128, by omega⟩ : Fin 128) = n := Fin.ext (by show 128 * (n.val / 128) + n.val % 128 = n.val; omega)
  have e' : 128 * (n.val / 128) + n.val % 128 = n.val := by omega
  have k := out_apply m h c (by rw [Cert.KernelIdeal.Gen.V_main_arg10]; exact hid) r (⟨n.val / 128, by omega⟩ : Fin 250) (⟨n.val % 128, by omega⟩ : Fin 128) (by show n.val / 128 < 234; omega)
  rw [ws_apply, e] at k
  refine k.trans ?_
  rw [Cert.KernelIdeal.Gen.V_main_arg0, Cert.KernelIdeal.Gen.V_main_arg1, Cert.KernelIdeal.Gen.V_main_arg2, Cert.KernelIdeal.Gen.V_main_arg4, Cert.KernelIdeal.Gen.V_main_arg5,
    Cert.KernelIdeal.Gen.V_main_arg6, Cert.KernelIdeal.Gen.V_main_arg7, Cert.KernelIdeal.Gen.V_main_arg8, Cert.KernelIdeal.Gen.V_main_arg10, Cert.KernelIdeal.Gen.V_main_arg11]
  dsimp only
  rw [e']

variable (m' : (ℓ : Loc Cert.ReferenceIdeal.nD Cert.ReferenceIdeal.τ Cert.ReferenceIdeal.sig) → Buf (Elt Ideal) ℓ)

open Cert.ReferenceIdeal Cert.ReferenceIdeal.Gen in
/-- On equal arguments the two logits agree below column 29952. -/
theorem same (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (e2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (e3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (e4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (e5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (e6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (e7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (e8 : m' ((c : Thread Cert.ReferenceIdeal.nD Cert.ReferenceIdeal.τ).loc Cert.ReferenceIdeal.main_arg8) = m ((c : Thread Cert.KernelIdeal.nD Cert.KernelIdeal.τ).loc Cert.KernelIdeal.main_arg8))
    (e10 : m' ((c : Thread Cert.ReferenceIdeal.nD Cert.ReferenceIdeal.τ).loc Cert.ReferenceIdeal.main_arg10) = m ((c : Thread Cert.KernelIdeal.nD Cert.KernelIdeal.τ).loc Cert.KernelIdeal.main_arg10))
    (e11 : m' ((c : Thread Cert.ReferenceIdeal.nD Cert.ReferenceIdeal.τ).loc Cert.ReferenceIdeal.main_arg11) = m ((c : Thread Cert.KernelIdeal.nD Cert.KernelIdeal.τ).loc Cert.KernelIdeal.main_arg11))
    (hid : ∀ i : Cert.KernelIdeal.S6x36.Idx, ((m ((c : Thread Cert.KernelIdeal.nD Cert.KernelIdeal.τ).loc Cert.KernelIdeal.main_arg10) : Cert.KernelIdeal.S6x36.Idx → BitVec 32) i).toNat < 32768)
    (hH : ∀ (b : Fin 6) (j : Fin 4096), IntOp.cmpi .slt (BitVec.ofNat 32 j.val) ((m ((c : Thread Cert.KernelIdeal.nD Cert.KernelIdeal.τ).loc Cert.KernelIdeal.main_arg5) : Cert.KernelIdeal.S6.Idx → BitVec 32) (ix1 b)) = 1#1
      → 0 ≤ ((m ((c : Thread Cert.KernelIdeal.nD Cert.KernelIdeal.τ).loc Cert.KernelIdeal.main_arg4) : Cert.KernelIdeal.S6x4096.Idx → BitVec 32) (ix2 b j)).toInt)
    (r : Fin 6) (n : Fin 32000) (hn : n.val < 29952) :
    ((Pipeline.afterTail₀ cfgs (dats m') 0 (V0 m') [hostOps1, hostOps1_1, hostOps1_2, hostOps1_3, hostOps1_4, hostOps1_5, hostOps1_6, hostOps1_7] c Cert.ReferenceIdeal.main_v75 : Cert.ReferenceIdeal.S6x32000.Idx → EReal) (ix2 r n) : EReal)
      = (Cert.Proof.KernelIdeal.runAt m h c).2.2.1 (ix2 r n : Cert.KernelIdeal.S6x32000.Idx) := by
  refine Eq.trans ?_ (kernel_apply m h c (fun b i => hid _) r n hn).symm
  refine (Cert.Proof.Ref.end_apply m' c (by rw [e4, e5]; exact hH) (fun b j => ?_) r n).trans ?_
  · rw [e10]
    rw [BitVec.toInt_eq_toNat_of_lt (by have := hid (ix2 b j); omega)]
    exact Int.natCast_nonneg _
  · rw [e0, e1, e2, e3, e4, e5, e6, e7, e8, e10, e11]
    rfl

end Cert.Proof.Value
-- ==== Proof.lean ====
module

public import proofs.«01_k».proof.Defs
public import proofs.«01_k».proof.Proof.Pre
public import proofs.«01_k».proof.Proof.Kernel.Ids
public import proofs.«01_k».proof.Proof.KernelIdeal.Ids
public import proofs.«01_k».proof.Proof.Value.Equal
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Points
public import proofs.«01_k».proof.Proof.Gen.ReferenceIdeal.Frame

@[expose] public section

noncomputable section

namespace Cert.Proof

open Idealize.ShloMosaic Idealize.ShloMosaic.TcCoe Idealize.SL.Sem

theorem frame_Kernel : quiescent_Kernel (hKernel := Cert.Kernel.Gen.facts) (hPre_ids_named := facts_ids) := fun m g hp =>
  (θ_run Cert.Kernel.defs _ _).mono (fun r hr => ⟨fun c => (hr.1 c).2, hr.2⟩)
    (Kernel.run_main m g (Kernel.idsOK m (fun c => @named_cand _ _ facts_ids _ _ _ _ _ _ _ _ _ _ _ _ (hp c).1)
      (fun c => @named_bias _ _ facts_ids _ _ _ _ _ _ _ _ _ _ _ _ (hp c).2)))

theorem frame_KernelIdeal : quiescent_KernelIdeal (hKernelIdeal := Cert.KernelIdeal.Gen.facts) (hPre_ids_named := facts_ids) := fun m g hp =>
  (θ_run Cert.KernelIdeal.defs _ _).mono (fun r hr => ⟨fun c => (hr.1 c).2, hr.2⟩)
    (KernelIdeal.run_main m g (KernelIdeal.idsOK m (fun c => @named_cand _ _ facts_ids _ _ _ _ _ _ _ _ _ _ _ _ (hp c).1)
      (fun c => @named_bias _ _ facts_ids _ _ _ _ _ _ _ _ _ _ _ _ (hp c).2)))

theorem frame_ReferenceIdeal : quiescent_ReferenceIdeal (hReferenceIdeal := Cert.ReferenceIdeal.Gen.facts) := fun m g _ =>
  Cert.ReferenceIdeal.Gen.frame m g

/-- The stronger precondition is enough for the idealized kernel's frame too. -/
theorem frame_KernelIdeal_hist : quiescent_KernelIdeal_pre_ids_named_hist (hKernelIdeal := Cert.KernelIdeal.Gen.facts) (hPre_ids_named_hist := facts_hist) := fun m g hp =>
  (θ_run Cert.KernelIdeal.defs _ _).mono (fun r hr => ⟨fun c => (hr.1 c).2, hr.2⟩)
    (KernelIdeal.run_main m g (KernelIdeal.idsOK m (fun c => @hist_cand _ _ facts_hist _ _ _ _ _ _ _ _ _ _ _ _ (hp c).1)
      (fun c => @hist_bias _ _ facts_hist _ _ _ _ _ _ _ _ _ _ _ _ (hp c).2.1)))

theorem frame_ReferenceIdeal_hist : quiescent_ReferenceIdeal_pre_ids_named_hist (hReferenceIdeal := Cert.ReferenceIdeal.Gen.facts) (hPre_ids_named_hist := facts_hist) := fun m g _ =>
  Cert.ReferenceIdeal.Gen.frame m g

/-- The logits agree at every column below 29952. -/
theorem algebraic : algebraic_KernelIdeal_ReferenceIdeal_on_finished_pre_ids_named_hist (hKernelIdeal := Cert.KernelIdeal.Gen.facts)
    (hReferenceIdeal := Cert.ReferenceIdeal.Gen.facts) (hPre_ids_named_hist := facts_hist) (hOn_finished := facts_on) := by
  intro m g m' g' hp ha
  have h : KernelIdeal.IdsOK m := KernelIdeal.idsOK m (fun c => @hist_cand _ _ facts_hist _ _ _ _ _ _ _ _ _ _ _ _ (hp c).1)
    (fun c => @hist_bias _ _ facts_hist _ _ _ _ _ _ _ _ _ _ _ _ (hp c).2.1)
  refine ⟨fun c => KernelIdeal.atEnd m h c Cert.KernelIdeal.main_v3, fun c => KernelIdeal.atEnd m h c Cert.KernelIdeal.main_v4, fun c => (KernelIdeal.runAt m h c).2.2.1, ?_, ?_⟩
  · exact (θ_run Cert.KernelIdeal.defs _ _).mono (fun r hr c => ⟨fun i _ => congrFun (hr.1 c).1.1 i, fun i _ => congrFun (hr.1 c).1.2.1 i,
      fun i _ => congrFun (hr.1 c).1.2.2 i, (hr.1 c).2⟩) (KernelIdeal.run_main m g h)
  · refine (θ_run Cert.ReferenceIdeal.defs _ _).mono (fun r hr c => ⟨fun i hi => absurd hi (@on_first _ _ facts_on _ _ _ _ _ _ _ _ _ _ _ _ i),
      fun i hi => absurd hi (@on_second _ _ facts_on _ _ _ _ _ _ _ _ _ _ _ _ i), fun i hi => ?_, hr.1 c⟩)
      (θ_run_and (Cert.ReferenceIdeal.Gen.unchanged m' g') (Cert.ReferenceIdeal.Gen.run_main m' g'))
    obtain ⟨E0, E1, E2, E3, E4, E5, E6, E7, E8, E9, E10, E11⟩ := ha c
    obtain ⟨a, b, rfl⟩ : ∃ (a : Fin 6) (b : Fin 32000), i = ix2 a b := ⟨i 0, i 1, eq_ix2 i⟩
    refine (congrFun ((hr.2 c).2 Cert.ReferenceIdeal.main_v75 (Pipeline.mem_restRefs_of Cert.ReferenceIdeal.main_v75 (by decide) (by decide))) (ix2 a b)).trans ?_
    exact Value.same m h c m' E0 E1 E2 E3 E4 E5 E6 E7 E8 E10 E11 (fun i => @hist_bias _ _ facts_hist _ _ _ _ _ _ _ _ _ _ _ _ (hp c).2.1 i)
      (fun b j hc => @hist_pos _ _ facts_hist _ _ _ _ _ _ _ _ _ _ _ _ (hp c).2.2 b j hc) a b (@on_third _ _ facts_on _ _ _ _ _ _ _ _ _ _ _ _ a b hi)

theorem claim : Cert.Claim :=
  ⟨Cert.Kernel.Gen.facts, Cert.KernelIdeal.Gen.facts, Cert.ReferenceIdeal.Gen.facts, facts_ids, facts_hist, facts_on,
    frame_Kernel, frame_KernelIdeal, frame_KernelIdeal_hist, frame_ReferenceIdeal, frame_ReferenceIdeal_hist, trivial, algebraic⟩

end Cert.Proof

end
